-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_steps_finite [hPre_steps_finite : Cert.Pre_steps_finite.Facts] (m : (ℓ : Loc Cert.KernelIdeal.nD Cert.KernelIdeal.τ Cert.KernelIdeal.sig) → Buf (Elt Ideal) ℓ) : Prop :=
  ∀ c : Dev Cert.KernelIdeal.nD,
    (Cert.Pre_steps_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_steps_finite [hPre_steps_finite : Cert.Pre_steps_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_steps_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 [hPre_experts_named : Cert.Pre_experts_named.Facts] (m : (ℓ : Loc Cert.Kernel6.nD Cert.Kernel6.τ Cert.Kernel6.sig) → Buf (Elt Bits) ℓ) : Prop :=
  ∀ c : Dev Cert.Kernel6.nD,
    (Cert.Pre_experts_named.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4)) (m ((c.tc : Thread Cert.Kernel6.nD Cert.Kernel6.τ).loc Cert.Kernel6.main_arg5))) = (fun _ => 1#1)

def Pre_Kernel6Ideal [hPre_experts_named : Cert.Pre_experts_named.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_experts_named.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_experts_named [hPre_experts_named : Cert.Pre_experts_named.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_experts_named.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_sample_steps_finite [hPre_sample_steps_finite : Cert.Pre_sample_steps_finite.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_sample_steps_finite.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5)) (m ((c.tc : Thread Cert.Kernel15Ideal.nD Cert.Kernel15Ideal.τ).loc Cert.Kernel15Ideal.main_arg6)) (m ((c.tc : Thread Cert.Kernel15Ideal.nD Cert.Kernel15Ideal.τ).loc Cert.Kernel15Ideal.main_arg7)) (m ((c.tc : Thread Cert.Kernel15Ideal.nD Cert.Kernel15Ideal.τ).loc Cert.Kernel15Ideal.main_arg8)) (m ((c.tc : Thread Cert.Kernel15Ideal.nD Cert.Kernel15Ideal.τ).loc Cert.Kernel15Ideal.main_arg9)) (m ((c.tc : Thread Cert.Kernel15Ideal.nD Cert.Kernel15Ideal.τ).loc Cert.Kernel15Ideal.main_arg10))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_sample_steps_finite [hPre_sample_steps_finite : Cert.Pre_sample_steps_finite.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_sample_steps_finite.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4)) (m ((c.tc : Thread Cert.Reference15Ideal.nD Cert.Reference15Ideal.τ).loc Cert.Reference15Ideal.main_arg5)) (m ((c.tc : Thread Cert.Reference15Ideal.nD Cert.Reference15Ideal.τ).loc Cert.Reference15Ideal.main_arg6)) (m ((c.tc : Thread Cert.Reference15Ideal.nD Cert.Reference15Ideal.τ).loc Cert.Reference15Ideal.main_arg7)) (m ((c.tc : Thread Cert.Reference15Ideal.nD Cert.Reference15Ideal.τ).loc Cert.Reference15Ideal.main_arg8)) (m ((c.tc : Thread Cert.Reference15Ideal.nD Cert.Reference15Ideal.τ).loc Cert.Reference15Ideal.main_arg9)) (m ((c.tc : Thread Cert.Reference15Ideal.nD Cert.Reference15Ideal.τ).loc Cert.Reference15Ideal.main_arg10))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_steps_finite [hKernelIdeal : Cert.KernelIdeal.Facts] [hPre_steps_finite : Cert.Pre_steps_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_steps_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_steps_finite [hReferenceIdeal : Cert.ReferenceIdeal.Facts] [hPre_steps_finite : Cert.Pre_steps_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_steps_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] [hPre_experts_named : Cert.Pre_experts_named.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] [hPre_experts_named : Cert.Pre_experts_named.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_experts_named [hReference6Ideal : Cert.Reference6Ideal.Facts] [hPre_experts_named : Cert.Pre_experts_named.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_experts_named m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8)
      ∧ r.2.mem ((c.tc : Thread Cert.Kernel15.nD Cert.Kernel15.τ).loc Cert.Kernel15.main_arg9) = m ((c.tc : Thread Cert.Kernel15.nD Cert.Kernel15.τ).loc Cert.Kernel15.main_arg9)
      ∧ r.2.mem ((c.tc : Thread Cert.Kernel15.nD Cert.Kernel15.τ).loc Cert.Kernel15.main_arg10) = m ((c.tc : Thread Cert.Kernel15.nD Cert.Kernel15.τ).loc Cert.Kernel15.main_arg10))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
      ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
      ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10))
      ∧ r.2.sem = fun _ => 0)

def quiescent_Kernel15Ideal_pre_sample_steps_finite [hKernel15Ideal : Cert.Kernel15Ideal.Facts] [hPre_sample_steps_finite : Cert.Pre_sample_steps_finite.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_sample_steps_finite m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
      ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
      ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8)
      ∧ r.2.mem ((c.tc : Thread Cert.Reference15Ideal.nD Cert.Reference15Ideal.τ).loc Cert.Reference15Ideal.main_arg9) = m ((c.tc : Thread Cert.Reference15Ideal.nD Cert.Reference15Ideal.τ).loc Cert.Reference15Ideal.main_arg9)
      ∧ r.2.mem ((c.tc : Thread Cert.Reference15Ideal.nD Cert.Reference15Ideal.τ).loc Cert.Reference15Ideal.main_arg10) = m ((c.tc : Thread Cert.Reference15Ideal.nD Cert.Reference15Ideal.τ).loc Cert.Reference15Ideal.main_arg10))
      ∧ r.2.sem = fun _ => 0)

def quiescent_Reference15Ideal_pre_sample_steps_finite [hReference15Ideal : Cert.Reference15Ideal.Facts] [hPre_sample_steps_finite : Cert.Pre_sample_steps_finite.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_sample_steps_finite m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8)
      ∧ r.2.mem ((c.tc : Thread Cert.Reference15Ideal.nD Cert.Reference15Ideal.τ).loc Cert.Reference15Ideal.main_arg9) = m ((c.tc : Thread Cert.Reference15Ideal.nD Cert.Reference15Ideal.τ).loc Cert.Reference15Ideal.main_arg9)
      ∧ r.2.mem ((c.tc : Thread Cert.Reference15Ideal.nD Cert.Reference15Ideal.τ).loc Cert.Reference15Ideal.main_arg10) = m ((c.tc : Thread Cert.Reference15Ideal.nD Cert.Reference15Ideal.τ).loc Cert.Reference15Ideal.main_arg10))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def preserves_Kernel_KernelIdeal : Prop :=
  True

def algebraic_KernelIdeal_ReferenceIdeal_pre_steps_finite [hKernelIdeal : Cert.KernelIdeal.Facts] [hReferenceIdeal : Cert.ReferenceIdeal.Facts] [hPre_steps_finite : Cert.Pre_steps_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_steps_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v28_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v28_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v267) = v0 c
          ∧ r.2.mem ((c.tc : Thread Cert.ReferenceIdeal.nD Cert.ReferenceIdeal.τ).loc Cert.ReferenceIdeal.main_v268) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_v42) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] [hPre_experts_named : Cert.Pre_experts_named.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v36) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v27) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal_pre_sample_steps_finite [hKernel15Ideal : Cert.Kernel15Ideal.Facts] [hReference15Ideal : Cert.Reference15Ideal.Facts] [hPre_sample_steps_finite : Cert.Pre_sample_steps_finite.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_sample_steps_finite m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)
      ∧ m' ((c.tc : Thread Cert.Reference15Ideal.nD Cert.Reference15Ideal.τ).loc Cert.Reference15Ideal.main_arg9) = m ((c.tc : Thread Cert.Kernel15Ideal.nD Cert.Kernel15Ideal.τ).loc Cert.Kernel15Ideal.main_arg9)
      ∧ m' ((c.tc : Thread Cert.Reference15Ideal.nD Cert.Reference15Ideal.τ).loc Cert.Reference15Ideal.main_arg10) = m ((c.tc : Thread Cert.Kernel15Ideal.nD Cert.Kernel15Ideal.τ).loc Cert.Kernel15Ideal.main_arg10)) →
    ∃ (v0 : (c : Dev Cert.Kernel15Ideal.nD) → Buf (Elt Ideal) ((c.tc : Thread Cert.Kernel15Ideal.nD Cert.Kernel15Ideal.τ).loc Cert.Kernel15Ideal.main_v28_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v28_1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
          ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
          ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v70) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8)
          ∧ r.2.mem ((c.tc : Thread Cert.Reference15Ideal.nD Cert.Reference15Ideal.τ).loc Cert.Reference15Ideal.main_arg9) = m' ((c.tc : Thread Cert.Reference15Ideal.nD Cert.Reference15Ideal.τ).loc Cert.Reference15Ideal.main_arg9)
          ∧ r.2.mem ((c.tc : Thread Cert.Reference15Ideal.nD Cert.Reference15Ideal.τ).loc Cert.Reference15Ideal.main_arg10) = m' ((c.tc : Thread Cert.Reference15Ideal.nD Cert.Reference15Ideal.τ).loc Cert.Reference15Ideal.main_arg10))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v4)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v10) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_steps_finite : Cert.Pre_steps_finite.Facts) (hPre_experts_named : Cert.Pre_experts_named.Facts) (hPre_sample_steps_finite : Cert.Pre_sample_steps_finite.Facts),
    quiescent_Kernel (hKernel := hKernel)
    ∧ quiescent_KernelIdeal (hKernelIdeal := hKernelIdeal)
    ∧ quiescent_KernelIdeal_pre_steps_finite (hKernelIdeal := hKernelIdeal) (hPre_steps_finite := hPre_steps_finite)
    ∧ quiescent_ReferenceIdeal (hReferenceIdeal := hReferenceIdeal)
    ∧ quiescent_ReferenceIdeal_pre_steps_finite (hReferenceIdeal := hReferenceIdeal) (hPre_steps_finite := hPre_steps_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6) (hPre_experts_named := hPre_experts_named)
    ∧ quiescent_Kernel6Ideal (hKernel6Ideal := hKernel6Ideal) (hPre_experts_named := hPre_experts_named)
    ∧ quiescent_Reference6Ideal (hReference6Ideal := hReference6Ideal)
    ∧ quiescent_Reference6Ideal_pre_experts_named (hReference6Ideal := hReference6Ideal) (hPre_experts_named := hPre_experts_named)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_sample_steps_finite (hKernel15Ideal := hKernel15Ideal) (hPre_sample_steps_finite := hPre_sample_steps_finite)
    ∧ quiescent_Reference15Ideal (hReference15Ideal := hReference15Ideal)
    ∧ quiescent_Reference15Ideal_pre_sample_steps_finite (hReference15Ideal := hReference15Ideal) (hPre_sample_steps_finite := hPre_sample_steps_finite)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_steps_finite (hKernelIdeal := hKernelIdeal) (hReferenceIdeal := hReferenceIdeal) (hPre_steps_finite := hPre_steps_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal) (hPre_experts_named := hPre_experts_named)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_sample_steps_finite (hKernel15Ideal := hKernel15Ideal) (hReference15Ideal := hReference15Ideal) (hPre_sample_steps_finite := hPre_sample_steps_finite)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_experts_named.lean ====
abbrev S37376x1024 : Shape := ⟨2, ![37376, 1024]⟩
abbrev S73 : Shape := ⟨1, ![73]⟩
abbrev S1 : Shape := ⟨1, ![1]⟩
abbrev S8x1024x2816 : Shape := ⟨3, ![8, 1024, 2816]⟩
abbrev S8x2816x1024 : Shape := ⟨3, ![8, 2816, 1024]⟩
abbrev S_ : Shape := ⟨0, ![]⟩

class Facts : Prop where
  bcast_S_S73 : S_.BroadcastsInDim S73 (![] : Fin 0 → Fin S73.rank)

variable [Facts]

def fn {F : FTy → Type} [FloatOps F] (main_arg0 : FVec F S37376x1024 .f32) (main_arg1 : IVec S73 32) (main_arg2 : IVec S1 32) (main_arg3 : FVec F S8x1024x2816 .bf16) (main_arg4 : FVec F S8x1024x2816 .bf16) (main_arg5 : FVec F S8x2816x1024 .bf16) : IVec S73 1 :=
  let main_c : IVec S_ 32 := constantI S_ 32 0#32
  let main_v0 : IVec S73 32 := broadcastInDim S73 ![] bcast_S_S73 main_c
  let main_v1 : IVec S73 1 := cmpi .sge main_arg1 main_v0
  let main_c_0 : IVec S_ 32 := constantI S_ 32 8#32
  let main_v2 : IVec S73 32 := broadcastInDim S73 ![] bcast_S_S73 main_c_0
  let main_v3 : IVec S73 1 := cmpi .slt main_arg1 main_v2
  let main_v4 : IVec S73 1 := andi main_v1 main_v3
  main_v4
-- ==== Pre_sample_steps_finite.lean ====
abbrev S256x3072 : Shape := ⟨2, ![256, 3072]⟩
abbrev S256x2048 : Shape := ⟨2, ![256, 2048]⟩
abbrev S256x128 : Shape := ⟨2, ![256, 128]⟩
abbrev S32x3x3072 : Shape := ⟨3, ![32, 3, 3072]⟩
abbrev S32x32x64x128 : Shape := ⟨4, ![32, 32, 64, 128]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S256x32 : Shape := ⟨2, ![256, 32]⟩
abbrev S1x32 : Shape := ⟨2, ![1, 32]⟩
abbrev S_ : Shape := ⟨0, ![]⟩

class Facts : Prop where
  slices_S256x128_S256x32_0_0 : S256x128.Slices ![0, 0] S256x32
  bcast_S32_S1x32_1 : S32.BroadcastsInDim S1x32 (![1] : Fin 1 → Fin S1x32.rank)
  bcast_S1x32_S256x32_0_1 : S1x32.BroadcastsInDim S256x32 (![0, 1] : Fin 2 → Fin S256x32.rank)
  bcast_S_S256x32 : S_.BroadcastsInDim S256x32 (![] : Fin 0 → Fin S256x32.rank)

variable [Facts]

def fn {F : FTy → Type} [FloatOps F] (main_arg0 : FVec F S256x3072 .f32) (main_arg1 : FVec F S256x2048 .f32) (main_arg2 : FVec F S256x128 .f32) (main_arg3 : FVec F S32x3x3072 .f32) (main_arg4 : FVec F S32x32x64x128 .f32) (main_arg5 : FVec F S4x3072 .f32) (main_arg6 : FVec F S3072 .f32) (main_arg7 : FVec F S32 .f32) (main_arg8 : FVec F S32 .f32) (main_arg9 : FVec F S32 .f32) (main_arg10 : FVec F S2048 .f32) : IVec S256x32 1 :=
  let main_v0 : FVec F S256x32 .f32 := (extractStridedSlice S256x32 ![0, 0] · slices_S256x128_S256x32_0_0) main_arg2
  let main_v1 : FVec F S1x32 .f32 := broadcastInDim S1x32 ![1] bcast_S32_S1x32_1 main_arg7
  let main_v2 : FVec F S256x32 .f32 := broadcastInDim S256x32 ![0, 1] bcast_S1x32_S256x32_0_1 main_v1
  let main_v3 : FVec F S256x32 .f32 := addf main_v0 main_v2
  let main_cst : FVec F S_ .f32 := constant S_ .f32 0x7F800000#32
  let main_v4 : FVec F S256x32 .f32 := broadcastInDim S256x32 ![] bcast_S_S256x32 main_cst
  let main_v5 : IVec S256x32 1 := cmpf .olt main_v3 main_v4
  main_v5
-- ==== Pre_steps_finite.lean ====
abbrev S16384x3072 : Shape := ⟨2, ![16384, 3072]⟩
abbrev S16384x2048 : Shape := ⟨2, ![16384, 2048]⟩
abbrev S16384x128 : Shape := ⟨2, ![16384, 128]⟩
abbrev S8x3x3072 : Shape := ⟨3, ![8, 3, 3072]⟩
abbrev S8x32x64x128 : Shape := ⟨4, ![8, 32, 64, 128]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S16384x32 : Shape := ⟨2, ![16384, 32]⟩
abbrev S1x32 : Shape := ⟨2, ![1, 32]⟩
abbrev S_ : Shape := ⟨0, ![]⟩

class Facts : Prop where
  slices_S16384x128_S16384x32_0_0 : S16384x128.Slices ![0, 0] S16384x32
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)

variable [Facts]

def fn {F : FTy → Type} [FloatOps F] (main_arg0 : FVec F S16384x3072 .f32) (main_arg1 : FVec F S16384x2048 .f32) (main_arg2 : FVec F S16384x128 .f32) (main_arg3 : FVec F S8x3x3072 .f32) (main_arg4 : FVec F S8x32x64x128 .f32) (main_arg5 : FVec F S4x3072 .f32) (main_arg6 : FVec F S3072 .f32) (main_arg7 : FVec F S32 .f32) (main_arg8 : FVec F S32 .f32) (main_arg9 : FVec F S32 .f32) (main_arg10 : FVec F S2048 .f32) : IVec S16384x32 1 :=
  let main_v0 : FVec F S16384x32 .f32 := (extractStridedSlice S16384x32 ![0, 0] · slices_S16384x128_S16384x32_0_0) main_arg2
  let main_v1 : FVec F S1x32 .f32 := broadcastInDim S1x32 ![1] bcast_S32_S1x32_1 main_arg7
  let main_v2 : FVec F S16384x32 .f32 := broadcastInDim S16384x32 ![0, 1] bcast_S1x32_S16384x32_0_1 main_v1
  let main_v3 : FVec F S16384x32 .f32 := addf main_v0 main_v2
  let main_cst : FVec F S_ .f32 := constant S_ .f32 0x7F800000#32
  let main_v4 : FVec F S16384x32 .f32 := broadcastInDim S16384x32 ![] bcast_S_S16384x32 main_cst
  let main_v5 : IVec S16384x32 1 := cmpf .olt main_v3 main_v4
  main_v5
-- ==== Kernel.lean ====
abbrev S16384x3072 : Shape := ⟨2, ![16384, 3072]⟩
abbrev S16384x2048 : Shape := ⟨2, ![16384, 2048]⟩
abbrev S16384x128 : Shape := ⟨2, ![16384, 128]⟩
abbrev S8x3x3072 : Shape := ⟨3, ![8, 3, 3072]⟩
abbrev S8x32x64x128 : Shape := ⟨4, ![8, 32, 64, 128]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S1x2048 : Shape := ⟨2, ![1, 2048]⟩
abbrev S_ : Shape := ⟨0, ![]⟩
abbrev S128 : Shape := ⟨1, ![128]⟩
abbrev S128x1 : Shape := ⟨2, ![128, 1]⟩
abbrev S128x2048 : Shape := ⟨2, ![128, 2048]⟩
abbrev S1x128 : Shape := ⟨2, ![1, 128]⟩
abbrev S128x128 : Shape := ⟨2, ![128, 128]⟩
abbrev S8x8x3072 : Shape := ⟨3, ![8, 8, 3072]⟩
abbrev S8x2048x128 : Shape := ⟨3, ![8, 2048, 128]⟩
abbrev S1x3072 : Shape := ⟨2, ![1, 3072]⟩
abbrev S32x64 : Shape := ⟨2, ![32, 64]⟩
abbrev S128x3072 : Shape := ⟨2, ![128, 3072]⟩
abbrev S1x8x3072 : Shape := ⟨3, ![1, 8, 3072]⟩
abbrev S1x2048x128 : Shape := ⟨3, ![1, 2048, 128]⟩
abbrev S136x3072 : Shape := ⟨2, ![136, 3072]⟩
abbrev S8x3072 : Shape := ⟨2, ![8, 3072]⟩
abbrev S2048x128 : Shape := ⟨2, ![2048, 128]⟩
abbrev S1x512x128 : Shape := ⟨3, ![1, 512, 128]⟩
abbrev S512x128 : Shape := ⟨2, ![512, 128]⟩
abbrev S128x512 : Shape := ⟨2, ![128, 512]⟩
abbrev S256x128 : Shape := ⟨2, ![256, 128]⟩
abbrev S128x256 : Shape := ⟨2, ![128, 256]⟩
abbrev S1x64x128 : Shape := ⟨3, ![1, 64, 128]⟩
abbrev S64x128 : Shape := ⟨2, ![64, 128]⟩
abbrev S1x512 : Shape := ⟨2, ![1, 512]⟩

abbrev nBuf : Space → Nat
  | .hbm => 64
  | .vmem => 25
  | .smem => 0
  | _ => 0

abbrev bufTy : (tb : Table) → Fin (tcTables nBuf tb) → BufTy
  | .hbm, ⟨0, _⟩ => ⟨S16384x3072, .f32⟩
  | .hbm, ⟨1, _⟩ => ⟨S16384x2048, .f32⟩
  | .hbm, ⟨2, _⟩ => ⟨S16384x128, .f32⟩
  | .hbm, ⟨3, _⟩ => ⟨S8x3x3072, .f32⟩
  | .hbm, ⟨4, _⟩ => ⟨S8x32x64x128, .f32⟩
  | .hbm, ⟨5, _⟩ => ⟨S4x3072, .f32⟩
  | .hbm, ⟨6, _⟩ => ⟨S3072, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S2048, .f32⟩
  | .hbm, ⟨11, _⟩ => ⟨S2048, .i32⟩
  | .hbm, ⟨12, _⟩ => ⟨S1x2048, .i32⟩
  | .hbm, ⟨13, _⟩ => ⟨S_, .i32⟩
  | .hbm, ⟨14, _⟩ => ⟨S_, .i32⟩
  | .hbm, ⟨15, _⟩ => ⟨S1x2048, .i32⟩
  | .hbm, ⟨16, _⟩ => ⟨S1x2048, .i32⟩
  | .hbm, ⟨17, _⟩ => ⟨S1x2048, .i32⟩
  | .hbm, ⟨18, _⟩ => ⟨S_, .i32⟩
  | .hbm, ⟨19, _⟩ => ⟨S1x2048, .i32⟩
  | .hbm, ⟨20, _⟩ => ⟨S1x2048, .i1⟩
  | .hbm, ⟨21, _⟩ => ⟨S1x2048, .i32⟩
  | .hbm, ⟨22, _⟩ => ⟨S1x2048, .i32⟩
  | .hbm, ⟨23, _⟩ => ⟨S_, .i32⟩
  | .hbm, ⟨24, _⟩ => ⟨S1x2048, .i32⟩
  | .hbm, ⟨25, _⟩ => ⟨S1x2048, .i1⟩
  | .hbm, ⟨26, _⟩ => ⟨S1x2048, .i1⟩
  | .hbm, ⟨27, _⟩ => ⟨S_, .i32⟩
  | .hbm, ⟨28, _⟩ => ⟨S1x2048, .i32⟩
  | .hbm, ⟨29, _⟩ => ⟨S1x2048, .i32⟩
  | .hbm, ⟨30, _⟩ => ⟨S1x2048, .i32⟩
  | .hbm, ⟨31, _⟩ => ⟨S128, .i32⟩
  | .hbm, ⟨32, _⟩ => ⟨S128x1, .i32⟩
  | .hbm, ⟨33, _⟩ => ⟨S128x2048, .i32⟩
  | .hbm, ⟨34, _⟩ => ⟨S128x2048, .i32⟩
  | .hbm, ⟨35, _⟩ => ⟨S128x2048, .i1⟩
  | .hbm, ⟨36, _⟩ => ⟨S128x2048, .bf16⟩
  | .hbm, ⟨37, _⟩ => ⟨S128, .i32⟩
  | .hbm, ⟨38, _⟩ => ⟨S128x1, .i32⟩
  | .hbm, ⟨39, _⟩ => ⟨S128, .i32⟩
  | .hbm, ⟨40, _⟩ => ⟨S1x128, .i32⟩
  | .hbm, ⟨41, _⟩ => ⟨S128x128, .i32⟩
  | .hbm, ⟨42, _⟩ => ⟨S128x128, .i32⟩
  | .hbm, ⟨43, _⟩ => ⟨S128x128, .i1⟩
  | .hbm, ⟨44, _⟩ => ⟨S128x128, .bf16⟩
  | .hbm, ⟨45, _⟩ => ⟨S_, .i32⟩
  | .hbm, ⟨46, _⟩ => ⟨S_, .f32⟩
  | .hbm, ⟨47, _⟩ => ⟨S8x8x3072, .f32⟩
  | .hbm, ⟨48, _⟩ => ⟨S8x2048x128, .f32⟩
  | .hbm, ⟨49, _⟩ => ⟨S1x3072, .f32⟩
  | .hbm, ⟨50, _⟩ => ⟨S_, .i32⟩
  | .hbm, ⟨51, _⟩ => ⟨S_, .f32⟩
  | .hbm, ⟨52, _⟩ => ⟨S128, .f32⟩
  | .hbm, ⟨53, _⟩ => ⟨S1x128, .f32⟩
  | .hbm, ⟨54, _⟩ => ⟨S_, .i32⟩
  | .hbm, ⟨55, _⟩ => ⟨S_, .f32⟩
  | .hbm, ⟨56, _⟩ => ⟨S128, .f32⟩
  | .hbm, ⟨57, _⟩ => ⟨S1x128, .f32⟩
  | .hbm, ⟨58, _⟩ => ⟨S32x64, .f32⟩
  | .hbm, ⟨59, _⟩ => ⟨S2048, .f32⟩
  | .hbm, ⟨60, _⟩ => ⟨S1x2048, .f32⟩
  | .hbm, ⟨61, _⟩ => ⟨S1x2048, .f32⟩
  | .hbm, ⟨62, _⟩ => ⟨S16384x2048, .bf16⟩
  | .hbm, ⟨63, _⟩ => ⟨S8x2048x128, .f32⟩
  | .local _ .vmem, ⟨0, _⟩ => ⟨S128x3072, .f32⟩
  | .local _ .vmem, ⟨1, _⟩ => ⟨S128x3072, .f32⟩
  | .local _ .vmem, ⟨2, _⟩ => ⟨S128x2048, .f32⟩
  | .local _ .vmem, ⟨3, _⟩ => ⟨S128x2048, .f32⟩
  | .local _ .vmem, ⟨4, _⟩ => ⟨S128x128, .f32⟩
  | .local _ .vmem, ⟨5, _⟩ => ⟨S128x128, .f32⟩
  | .local _ .vmem, ⟨6, _⟩ => ⟨S1x8x3072, .f32⟩
  | .local _ .vmem, ⟨7, _⟩ => ⟨S1x8x3072, .f32⟩
  | .local _ .vmem, ⟨8, _⟩ => ⟨S1x2048x128, .f32⟩
  | .local _ .vmem, ⟨9, _⟩ => ⟨S1x2048x128, .f32⟩
  | .local _ .vmem, ⟨10, _⟩ => ⟨S4x3072, .f32⟩
  | .local _ .vmem, ⟨11, _⟩ => ⟨S1x3072, .f32⟩
  | .local _ .vmem, ⟨12, _⟩ => ⟨S1x128, .f32⟩
  | .local _ .vmem, ⟨13, _⟩ => ⟨S1x128, .f32⟩
  | .local _ .vmem, ⟨14, _⟩ => ⟨S1x2048, .f32⟩
  | .local _ .vmem, ⟨15, _⟩ => ⟨S1x2048, .f32⟩
  | .local _ .vmem, ⟨16, _⟩ => ⟨S128x2048, .bf16⟩
  | .local _ .vmem, ⟨17, _⟩ => ⟨S128x128, .bf16⟩
  | .local _ .vmem, ⟨18, _⟩ => ⟨S128x2048, .bf16⟩
  | .local _ .vmem, ⟨19, _⟩ => ⟨S128x2048, .bf16⟩
  | .local _ .vmem, ⟨20, _⟩ => ⟨S1x2048x128, .f32⟩
  | .local _ .vmem, ⟨21, _⟩ => ⟨S1x2048x128, .f32⟩
  | .local _ .vmem, ⟨22, _⟩ => ⟨S136x3072, .f32⟩
  | .local _ .vmem, ⟨23, _⟩ => ⟨S128x128, .f32⟩
  | .local _ .vmem, ⟨24, _⟩ => ⟨S128x2048, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_0 : Ref sig .tc := ⟨.hbm, 45, rfl⟩
abbrev main_call1_v0 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_c_1 : Ref sig .tc := ⟨.hbm, 50, rfl⟩
abbrev main_call2_v0 : Ref sig .tc := ⟨.hbm, 51, rfl⟩
abbrev main_v20 : Ref sig .tc := ⟨.hbm, 52, rfl⟩
abbrev main_v21 : Ref sig .tc := ⟨.hbm, 53, rfl⟩
abbrev main_c_2 : Ref sig .tc := ⟨.hbm, 54, rfl⟩
abbrev main_call3_v0 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28_0 : Ref sig .tc := ⟨.hbm, 62, rfl⟩
abbrev main_v28_1 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S128x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x2048x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== ReferenceIdeal.lean ====
abbrev S16384x3072 : Shape := ⟨2, ![16384, 3072]⟩
abbrev S16384x2048 : Shape := ⟨2, ![16384, 2048]⟩
abbrev S16384x128 : Shape := ⟨2, ![16384, 128]⟩
abbrev S8x3x3072 : Shape := ⟨3, ![8, 3, 3072]⟩
abbrev S8x32x64x128 : Shape := ⟨4, ![8, 32, 64, 128]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S8x2048x3072 : Shape := ⟨3, ![8, 2048, 3072]⟩
abbrev S8x2051x3072 : Shape := ⟨3, ![8, 2051, 3072]⟩
abbrev S1x3072 : Shape := ⟨2, ![1, 3072]⟩
abbrev S1x1x3072 : Shape := ⟨3, ![1, 1, 3072]⟩
abbrev S_ : Shape := ⟨0, ![]⟩
abbrev S8x2048x2048 : Shape := ⟨3, ![8, 2048, 2048]⟩
abbrev S8x2048x512 : Shape := ⟨3, ![8, 2048, 512]⟩
abbrev S16384x32 : Shape := ⟨2, ![16384, 32]⟩
abbrev S8x2048x32 : Shape := ⟨3, ![8, 2048, 32]⟩
abbrev S1x1x32 : Shape := ⟨3, ![1, 1, 32]⟩
abbrev S8x2048x32x64 : Shape := ⟨4, ![8, 2048, 32, 64]⟩
abbrev S8x2048x32x1 : Shape := ⟨4, ![8, 2048, 32, 1]⟩
abbrev S8x16x128x4x8x64 : Shape := ⟨6, ![8, 16, 128, 4, 8, 64]⟩
abbrev S8x16x128x4x8 : Shape := ⟨5, ![8, 16, 128, 4, 8]⟩
abbrev S8x16x128x4x128 : Shape := ⟨5, ![8, 16, 128, 4, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x1x128x128x1x1 : Shape := ⟨6, ![1, 1, 128, 128, 1, 1]⟩
abbrev S8x16x128x1x4x8 : Shape := ⟨6, ![8, 16, 128, 1, 4, 8]⟩
abbrev S8x16x1x128x4x8 : Shape := ⟨6, ![8, 16, 1, 128, 4, 8]⟩
abbrev S8x16x128x128x4x8 : Shape := ⟨6, ![8, 16, 128, 128, 4, 8]⟩
abbrev S8x16x4x128x128 : Shape := ⟨5, ![8, 16, 4, 128, 128]⟩
abbrev S8x16x128x128x4 : Shape := ⟨5, ![8, 16, 128, 128, 4]⟩
abbrev S8x16x128x128x4x1 : Shape := ⟨6, ![8, 16, 128, 128, 4, 1]⟩
abbrev S8x16x4x8x64x128 : Shape := ⟨6, ![8, 16, 4, 8, 64, 128]⟩
abbrev S8x16x1x4x8 : Shape := ⟨5, ![8, 16, 1, 4, 8]⟩
abbrev S8x16x128x4x8x1 : Shape := ⟨6, ![8, 16, 128, 4, 8, 1]⟩
abbrev S8x16x4x8 : Shape := ⟨4, ![8, 16, 4, 8]⟩
abbrev S8x4x8x64x128 : Shape := ⟨5, ![8, 4, 8, 64, 128]⟩
abbrev S8x1x4x8 : Shape := ⟨4, ![8, 1, 4, 8]⟩
abbrev S8x4x8 : Shape := ⟨3, ![8, 4, 8]⟩
abbrev S8x4x8x1x1 : Shape := ⟨5, ![8, 4, 8, 1, 1]⟩
abbrev S8x1x4x8x64x128 : Shape := ⟨6, ![8, 1, 4, 8, 64, 128]⟩
abbrev S32x1 : Shape := ⟨2, ![32, 1]⟩
abbrev S1x1x32x1 : Shape := ⟨4, ![1, 1, 32, 1]⟩
abbrev S8x2048x4x512 : Shape := ⟨4, ![8, 2048, 4, 512]⟩
abbrev S8x2048x4 : Shape := ⟨3, ![8, 2048, 4]⟩
abbrev S8x2048x4x1 : Shape := ⟨4, ![8, 2048, 4, 1]⟩
abbrev S1x1x2048 : Shape := ⟨3, ![1, 1, 2048]⟩
abbrev S8x2048x128 : Shape := ⟨3, ![8, 2048, 128]⟩

abbrev nBuf : Space → Nat
  | .hbm => 318
  | .vmem => 0
  | .smem => 0
  | _ => 0

abbrev hbmTy0_0 (i : Nat) : BufTy := match i % 128 with
  | 0 => ⟨S16384x3072, .f32⟩
  | 1 => ⟨S16384x2048, .f32⟩
  | 2 => ⟨S16384x128, .f32⟩
  | 3 => ⟨S8x3x3072, .f32⟩
  | 4 => ⟨S8x32x64x128, .f32⟩
  | 5 => ⟨S4x3072, .f32⟩
  | 6 => ⟨S3072, .f32⟩
  | 7 => ⟨S32, .f32⟩
  | 8 => ⟨S32, .f32⟩
  | 9 => ⟨S32, .f32⟩
  | 10 => ⟨S2048, .f32⟩
  | 11 => ⟨S8x2048x3072, .f32⟩
  | 12 => ⟨S8x2051x3072, .f32⟩
  | 13 => ⟨S8x2048x3072, .f32⟩
  | 14 => ⟨S1x3072, .f32⟩
  | 15 => ⟨S3072, .f32⟩
  | 16 => ⟨S1x1x3072, .f32⟩
  | 17 => ⟨S8x2048x3072, .f32⟩
  | 18 => ⟨S8x2048x3072, .f32⟩
  | 19 => ⟨S1x1x3072, .f32⟩
  | 20 => ⟨S8x2048x3072, .f32⟩
  | 21 => ⟨S8x2048x3072, .f32⟩
  | 22 => ⟨S8x2048x3072, .f32⟩
  | 23 => ⟨S1x3072, .f32⟩
  | 24 => ⟨S3072, .f32⟩
  | 25 => ⟨S1x1x3072, .f32⟩
  | 26 => ⟨S8x2048x3072, .f32⟩
  | 27 => ⟨S8x2048x3072, .f32⟩
  | 28 => ⟨S8x2048x3072, .f32⟩
  | 29 => ⟨S8x2048x3072, .f32⟩
  | 30 => ⟨S1x3072, .f32⟩
  | 31 => ⟨S3072, .f32⟩
  | 32 => ⟨S1x1x3072, .f32⟩
  | 33 => ⟨S8x2048x3072, .f32⟩
  | 34 => ⟨S8x2048x3072, .f32⟩
  | 35 => ⟨S8x2048x3072, .f32⟩
  | 36 => ⟨S8x2048x3072, .f32⟩
  | 37 => ⟨S1x3072, .f32⟩
  | 38 => ⟨S3072, .f32⟩
  | 39 => ⟨S1x1x3072, .f32⟩
  | 40 => ⟨S8x2048x3072, .f32⟩
  | 41 => ⟨S8x2048x3072, .f32⟩
  | 42 => ⟨S8x2048x3072, .f32⟩
  | 43 => ⟨S8x2048x3072, .f32⟩
  | 44 => ⟨S8x2048x3072, .f32⟩
  | 45 => ⟨S_, .f32⟩
  | 46 => ⟨S8x2048x3072, .f32⟩
  | 47 => ⟨S8x2048x3072, .f32⟩
  | 48 => ⟨S_, .f32⟩
  | 49 => ⟨S8x2048x3072, .f32⟩
  | 50 => ⟨S8x2048x3072, .f32⟩
  | 51 => ⟨S8x2048x3072, .f32⟩
  | 52 => ⟨S8x2048x2048, .f32⟩
  | 53 => ⟨S8x2048x512, .f32⟩
  | 54 => ⟨S8x2048x512, .f32⟩
  | 55 => ⟨S16384x32, .f32⟩
  | 56 => ⟨S8x2048x32, .f32⟩
  | 57 => ⟨S1x1x32, .f32⟩
  | 58 => ⟨S8x2048x32, .f32⟩
  | 59 => ⟨S8x2048x32, .f32⟩
  | 60 => ⟨S_, .f32⟩
  | 61 => ⟨S8x2048x32, .f32⟩
  | 62 => ⟨S8x2048x32, .f32⟩
  | 63 => ⟨S8x2048x32, .f32⟩
  | 64 => ⟨S8x2048x32, .f32⟩
  | 65 => ⟨S8x2048x32, .i1⟩
  | 66 => ⟨S8x2048x32, .f32⟩
  | 67 => ⟨S8x2048x32, .f32⟩
  | 68 => ⟨S8x2048x32, .f32⟩
  | 69 => ⟨S8x2048x32, .f32⟩
  | 70 => ⟨S8x2048x32, .f32⟩
  | 71 => ⟨S8x2048x32, .f32⟩
  | 72 => ⟨S8x2048x32, .f32⟩
  | 73 => ⟨S8x2048x32, .f32⟩
  | 74 => ⟨S32, .f32⟩
  | 75 => ⟨S32, .f32⟩
  | 76 => ⟨S8x2048x32x64, .f32⟩
  | 77 => ⟨S8x2048x32x1, .f32⟩
  | 78 => ⟨S8x2048x32x64, .f32⟩
  | 79 => ⟨S8x2048x32x64, .f32⟩
  | 80 => ⟨S8x16x128x4x8x64, .f32⟩
  | 81 => ⟨S1x1x32, .f32⟩
  | 82 => ⟨S8x2048x32, .f32⟩
  | 83 => ⟨S8x2048x32, .f32⟩
  | 84 => ⟨S8x16x128x4x8, .f32⟩
  | 85 => ⟨S8x16x128x4x128, .f32⟩
  | 86 => ⟨S8x16x128x4x128, .f32⟩
  | 87 => ⟨S_, .f32⟩
  | 88 => ⟨S_, .f32⟩
  | 89 => ⟨S8x16x128x4x8, .f32⟩
  | 90 => ⟨S128, .i32⟩
  | 91 => ⟨S128x1, .i32⟩
  | 92 => ⟨S1x128, .i32⟩
  | 93 => ⟨S128x128, .i32⟩
  | 94 => ⟨S128x128, .i32⟩
  | 95 => ⟨S128x128, .i1⟩
  | 96 => ⟨S1x1x128x128x1x1, .i1⟩
  | 97 => ⟨S8x16x128x1x4x8, .f32⟩
  | 98 => ⟨S8x16x1x128x4x8, .f32⟩
  | 99 => ⟨S8x16x128x128x4x8, .f32⟩
  | 100 => ⟨S8x16x128x128x4x8, .f32⟩
  | 101 => ⟨S8x16x128x128x4x8, .f32⟩
  | 102 => ⟨S_, .f32⟩
  | 103 => ⟨S_, .f32⟩
  | 104 => ⟨S8x16x128x128x4x8, .i1⟩
  | 105 => ⟨S8x16x128x128x4x8, .f32⟩
  | 106 => ⟨S8x16x128x128x4x8, .f32⟩
  | 107 => ⟨S8x16x128x128x4x8, .f32⟩
  | 108 => ⟨S8x16x4x128x128, .f32⟩
  | 109 => ⟨S8x16x128x128x4, .f32⟩
  | 110 => ⟨S8x16x128x128x4x1, .f32⟩
  | 111 => ⟨S8x16x128x128x4x8, .f32⟩
  | 112 => ⟨S8x16x128x128x4x8, .f32⟩
  | 113 => ⟨S8x16x4x8x64x128, .f32⟩
  | 114 => ⟨S8x16x128x4x8x64, .f32⟩
  | 115 => ⟨S8x16x1x4x8, .f32⟩
  | 116 => ⟨S8x16x128x4x8, .f32⟩
  | 117 => ⟨S8x16x128x4x8, .f32⟩
  | 118 => ⟨S8x16x128x4x8, .f32⟩
  | 119 => ⟨S8x16x128x4x8x1, .f32⟩
  | 120 => ⟨S8x16x128x4x8x64, .f32⟩
  | 121 => ⟨S8x16x128x4x8x64, .f32⟩
  | 122 => ⟨S8x16x4x8x64x128, .f32⟩
  | 123 => ⟨S8x16x1x4x8, .f32⟩
  | 124 => ⟨S8x16x4x8, .f32⟩
  | 125 => ⟨S8x16x4x8, .f32⟩
  | 126 => ⟨S8x4x8x64x128, .f32⟩
  | 127 => ⟨S8x1x4x8, .f32⟩
  | _ => ⟨S16384x3072, .f32⟩

abbrev hbmTy0_1 (i : Nat) : BufTy := match i % 128 with
  | 0 => ⟨S8x4x8, .f32⟩
  | 1 => ⟨S8x4x8x1x1, .f32⟩
  | 2 => ⟨S8x4x8x64x128, .f32⟩
  | 3 => ⟨S8x4x8x64x128, .f32⟩
  | 4 => ⟨S8x1x4x8x64x128, .f32⟩
  | 5 => ⟨S8x4x8x64x128, .f32⟩
  | 6 => ⟨S8x4x8x64x128, .f32⟩
  | 7 => ⟨S8x1x4x8, .f32⟩
  | 8 => ⟨S8x4x8, .f32⟩
  | 9 => ⟨S8x4x8x1x1, .f32⟩
  | 10 => ⟨S8x4x8x64x128, .f32⟩
  | 11 => ⟨S8x4x8x64x128, .f32⟩
  | 12 => ⟨S8x1x4x8x64x128, .f32⟩
  | 13 => ⟨S8x4x8x64x128, .f32⟩
  | 14 => ⟨S8x4x8x64x128, .f32⟩
  | 15 => ⟨S8x1x4x8, .f32⟩
  | 16 => ⟨S8x4x8, .f32⟩
  | 17 => ⟨S8x4x8x1x1, .f32⟩
  | 18 => ⟨S8x4x8x64x128, .f32⟩
  | 19 => ⟨S8x4x8x64x128, .f32⟩
  | 20 => ⟨S8x1x4x8x64x128, .f32⟩
  | 21 => ⟨S8x4x8x64x128, .f32⟩
  | 22 => ⟨S8x4x8x64x128, .f32⟩
  | 23 => ⟨S8x1x4x8, .f32⟩
  | 24 => ⟨S8x4x8, .f32⟩
  | 25 => ⟨S8x4x8x1x1, .f32⟩
  | 26 => ⟨S8x4x8x64x128, .f32⟩
  | 27 => ⟨S8x4x8x64x128, .f32⟩
  | 28 => ⟨S8x1x4x8x64x128, .f32⟩
  | 29 => ⟨S8x4x8x64x128, .f32⟩
  | 30 => ⟨S8x4x8x64x128, .f32⟩
  | 31 => ⟨S8x1x4x8, .f32⟩
  | 32 => ⟨S8x4x8, .f32⟩
  | 33 => ⟨S8x4x8x1x1, .f32⟩
  | 34 => ⟨S8x4x8x64x128, .f32⟩
  | 35 => ⟨S8x4x8x64x128, .f32⟩
  | 36 => ⟨S8x1x4x8x64x128, .f32⟩
  | 37 => ⟨S8x4x8x64x128, .f32⟩
  | 38 => ⟨S8x4x8x64x128, .f32⟩
  | 39 => ⟨S8x1x4x8, .f32⟩
  | 40 => ⟨S8x4x8, .f32⟩
  | 41 => ⟨S8x4x8x1x1, .f32⟩
  | 42 => ⟨S8x4x8x64x128, .f32⟩
  | 43 => ⟨S8x4x8x64x128, .f32⟩
  | 44 => ⟨S8x1x4x8x64x128, .f32⟩
  | 45 => ⟨S8x4x8x64x128, .f32⟩
  | 46 => ⟨S8x4x8x64x128, .f32⟩
  | 47 => ⟨S8x1x4x8, .f32⟩
  | 48 => ⟨S8x4x8, .f32⟩
  | 49 => ⟨S8x4x8x1x1, .f32⟩
  | 50 => ⟨S8x4x8x64x128, .f32⟩
  | 51 => ⟨S8x4x8x64x128, .f32⟩
  | 52 => ⟨S8x1x4x8x64x128, .f32⟩
  | 53 => ⟨S8x4x8x64x128, .f32⟩
  | 54 => ⟨S8x4x8x64x128, .f32⟩
  | 55 => ⟨S8x1x4x8, .f32⟩
  | 56 => ⟨S8x4x8, .f32⟩
  | 57 => ⟨S8x4x8x1x1, .f32⟩
  | 58 => ⟨S8x4x8x64x128, .f32⟩
  | 59 => ⟨S8x4x8x64x128, .f32⟩
  | 60 => ⟨S8x1x4x8x64x128, .f32⟩
  | 61 => ⟨S8x4x8x64x128, .f32⟩
  | 62 => ⟨S8x4x8x64x128, .f32⟩
  | 63 => ⟨S8x1x4x8, .f32⟩
  | 64 => ⟨S8x4x8, .f32⟩
  | 65 => ⟨S8x4x8x1x1, .f32⟩
  | 66 => ⟨S8x4x8x64x128, .f32⟩
  | 67 => ⟨S8x4x8x64x128, .f32⟩
  | 68 => ⟨S8x1x4x8x64x128, .f32⟩
  | 69 => ⟨S8x4x8x64x128, .f32⟩
  | 70 => ⟨S8x4x8x64x128, .f32⟩
  | 71 => ⟨S8x1x4x8, .f32⟩
  | 72 => ⟨S8x4x8, .f32⟩
  | 73 => ⟨S8x4x8x1x1, .f32⟩
  | 74 => ⟨S8x4x8x64x128, .f32⟩
  | 75 => ⟨S8x4x8x64x128, .f32⟩
  | 76 => ⟨S8x1x4x8x64x128, .f32⟩
  | 77 => ⟨S8x4x8x64x128, .f32⟩
  | 78 => ⟨S8x4x8x64x128, .f32⟩
  | 79 => ⟨S8x1x4x8, .f32⟩
  | 80 => ⟨S8x4x8, .f32⟩
  | 81 => ⟨S8x4x8x1x1, .f32⟩
  | 82 => ⟨S8x4x8x64x128, .f32⟩
  | 83 => ⟨S8x4x8x64x128, .f32⟩
  | 84 => ⟨S8x1x4x8x64x128, .f32⟩
  | 85 => ⟨S8x4x8x64x128, .f32⟩
  | 86 => ⟨S8x4x8x64x128, .f32⟩
  | 87 => ⟨S8x1x4x8, .f32⟩
  | 88 => ⟨S8x4x8, .f32⟩
  | 89 => ⟨S8x4x8x1x1, .f32⟩
  | 90 => ⟨S8x4x8x64x128, .f32⟩
  | 91 => ⟨S8x4x8x64x128, .f32⟩
  | 92 => ⟨S8x1x4x8x64x128, .f32⟩
  | 93 => ⟨S8x4x8x64x128, .f32⟩
  | 94 => ⟨S8x4x8x64x128, .f32⟩
  | 95 => ⟨S8x1x4x8, .f32⟩
  | 96 => ⟨S8x4x8, .f32⟩
  | 97 => ⟨S8x4x8x1x1, .f32⟩
  | 98 => ⟨S8x4x8x64x128, .f32⟩
  | 99 => ⟨S8x4x8x64x128, .f32⟩
  | 100 => ⟨S8x1x4x8x64x128, .f32⟩
  | 101 => ⟨S8x4x8x64x128, .f32⟩
  | 102 => ⟨S8x4x8x64x128, .f32⟩
  | 103 => ⟨S8x1x4x8, .f32⟩
  | 104 => ⟨S8x4x8, .f32⟩
  | 105 => ⟨S8x4x8x1x1, .f32⟩
  | 106 => ⟨S8x4x8x64x128, .f32⟩
  | 107 => ⟨S8x4x8x64x128, .f32⟩
  | 108 => ⟨S8x1x4x8x64x128, .f32⟩
  | 109 => ⟨S8x4x8x64x128, .f32⟩
  | 110 => ⟨S8x4x8x64x128, .f32⟩
  | 111 => ⟨S8x1x4x8, .f32⟩
  | 112 => ⟨S8x4x8, .f32⟩
  | 113 => ⟨S8x4x8x1x1, .f32⟩
  | 114 => ⟨S8x4x8x64x128, .f32⟩
  | 115 => ⟨S8x4x8x64x128, .f32⟩
  | 116 => ⟨S8x1x4x8x64x128, .f32⟩
  | 117 => ⟨S8x4x8x64x128, .f32⟩
  | 118 => ⟨S8x4x8x64x128, .f32⟩
  | 119 => ⟨S8x1x4x8, .f32⟩
  | 120 => ⟨S8x4x8, .f32⟩
  | 121 => ⟨S8x4x8x1x1, .f32⟩
  | 122 => ⟨S8x4x8x64x128, .f32⟩
  | 123 => ⟨S8x4x8x64x128, .f32⟩
  | 124 => ⟨S8x1x4x8x64x128, .f32⟩
  | 125 => ⟨S8x4x8x64x128, .f32⟩
  | 126 => ⟨S8x4x8x64x128, .f32⟩
  | 127 => ⟨S8x1x4x8x64x128, .f32⟩
  | _ => ⟨S16384x3072, .f32⟩

abbrev hbmTy0_2 (i : Nat) : BufTy := match i % 128 with
  | 0 => ⟨S8x1x4x8x64x128, .f32⟩
  | 1 => ⟨S8x1x4x8x64x128, .f32⟩
  | 2 => ⟨S8x1x4x8x64x128, .f32⟩
  | 3 => ⟨S8x1x4x8x64x128, .f32⟩
  | 4 => ⟨S8x1x4x8x64x128, .f32⟩
  | 5 => ⟨S8x1x4x8x64x128, .f32⟩
  | 6 => ⟨S8x1x4x8x64x128, .f32⟩
  | 7 => ⟨S8x1x4x8x64x128, .f32⟩
  | 8 => ⟨S8x1x4x8x64x128, .f32⟩
  | 9 => ⟨S8x1x4x8x64x128, .f32⟩
  | 10 => ⟨S8x1x4x8x64x128, .f32⟩
  | 11 => ⟨S8x1x4x8x64x128, .f32⟩
  | 12 => ⟨S8x1x4x8x64x128, .f32⟩
  | 13 => ⟨S8x1x4x8x64x128, .f32⟩
  | 14 => ⟨S8x1x4x8x64x128, .f32⟩
  | 15 => ⟨S8x16x4x8x64x128, .f32⟩
  | 16 => ⟨S8x16x4x8x64x128, .f32⟩
  | 17 => ⟨S8x16x128x4x8x64, .f32⟩
  | 18 => ⟨S8x16x128x4x8, .f32⟩
  | 19 => ⟨S8x16x128x4x8x1, .f32⟩
  | 20 => ⟨S8x16x128x4x8x64, .f32⟩
  | 21 => ⟨S8x16x128x4x8x64, .f32⟩
  | 22 => ⟨S8x16x128x4x8x64, .f32⟩
  | 23 => ⟨S8x2048x32x64, .f32⟩
  | 24 => ⟨S32x1, .f32⟩
  | 25 => ⟨S1x1x32x1, .f32⟩
  | 26 => ⟨S8x2048x32x64, .f32⟩
  | 27 => ⟨S8x2048x32x64, .f32⟩
  | 28 => ⟨S8x2048x32x64, .f32⟩
  | 29 => ⟨S8x2048x2048, .f32⟩
  | 30 => ⟨S8x2048x2048, .f32⟩
  | 31 => ⟨S8x2048x2048, .f32⟩
  | 32 => ⟨S8x2048x2048, .f32⟩
  | 33 => ⟨S_, .f32⟩
  | 34 => ⟨S8x2048x2048, .f32⟩
  | 35 => ⟨S8x2048x2048, .f32⟩
  | 36 => ⟨S_, .f32⟩
  | 37 => ⟨S8x2048x2048, .f32⟩
  | 38 => ⟨S8x2048x2048, .f32⟩
  | 39 => ⟨S8x2048x2048, .f32⟩
  | 40 => ⟨S8x2048x2048, .f32⟩
  | 41 => ⟨S8x2048x4x512, .f32⟩
  | 42 => ⟨S8x2048x4x512, .f32⟩
  | 43 => ⟨S_, .f32⟩
  | 44 => ⟨S8x2048x4, .f32⟩
  | 45 => ⟨S8x2048x4x1, .f32⟩
  | 46 => ⟨S_, .f32⟩
  | 47 => ⟨S8x2048x4x1, .f32⟩
  | 48 => ⟨S8x2048x4x1, .f32⟩
  | 49 => ⟨S_, .f32⟩
  | 50 => ⟨S8x2048x4x1, .f32⟩
  | 51 => ⟨S8x2048x4x1, .f32⟩
  | 52 => ⟨S8x2048x4x1, .f32⟩
  | 53 => ⟨S8x2048x4x512, .f32⟩
  | 54 => ⟨S8x2048x4x512, .f32⟩
  | 55 => ⟨S8x2048x2048, .f32⟩
  | 56 => ⟨S1x1x2048, .f32⟩
  | 57 => ⟨S8x2048x2048, .f32⟩
  | 58 => ⟨S8x2048x2048, .f32⟩
  | 59 => ⟨S16384x2048, .f32⟩
  | 60 => ⟨S16384x2048, .bf16⟩
  | 61 => ⟨S8x2048x128, .f32⟩
  | _ => ⟨S16384x3072, .f32⟩

abbrev hbmTy (i : Nat) : BufTy := match i / 128 with
  | 0 => hbmTy0_0 i
  | 1 => hbmTy0_1 i
  | 2 => hbmTy0_2 i
  | _ => ⟨S16384x3072, .f32⟩

abbrev bufTy : (tb : Table) → Fin (tcTables nBuf tb) → BufTy
  | .hbm, ⟨i, _⟩ => hbmTy i
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_call1_cst : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_call2_call0_cst : Ref sig .tc := ⟨.hbm, 87, rfl⟩
abbrev main_call2_call0_v0 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst : Ref sig .tc := ⟨.hbm, 102, rfl⟩
abbrev main_call3_v0 : Ref sig .tc := ⟨.hbm, 103, rfl⟩
abbrev main_call3_v1 : Ref sig .tc := ⟨.hbm, 104, rfl⟩
abbrev main_call3_v2 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩
abbrev main_v204 : Ref sig .tc := ⟨.hbm, 242, rfl⟩
abbrev main_v205 : Ref sig .tc := ⟨.hbm, 243, rfl⟩
abbrev main_v206 : Ref sig .tc := ⟨.hbm, 244, rfl⟩
abbrev main_v207 : Ref sig .tc := ⟨.hbm, 245, rfl⟩
abbrev main_v208 : Ref sig .tc := ⟨.hbm, 246, rfl⟩
abbrev main_v209 : Ref sig .tc := ⟨.hbm, 247, rfl⟩
abbrev main_v210 : Ref sig .tc := ⟨.hbm, 248, rfl⟩
abbrev main_v211 : Ref sig .tc := ⟨.hbm, 249, rfl⟩
abbrev main_v212 : Ref sig .tc := ⟨.hbm, 250, rfl⟩
abbrev main_v213 : Ref sig .tc := ⟨.hbm, 251, rfl⟩
abbrev main_v214 : Ref sig .tc := ⟨.hbm, 252, rfl⟩
abbrev main_v215 : Ref sig .tc := ⟨.hbm, 253, rfl⟩
abbrev main_v216 : Ref sig .tc := ⟨.hbm, 254, rfl⟩
abbrev main_v217 : Ref sig .tc := ⟨.hbm, 255, rfl⟩
abbrev main_v218 : Ref sig .tc := ⟨.hbm, 256, rfl⟩
abbrev main_v219 : Ref sig .tc := ⟨.hbm, 257, rfl⟩
abbrev main_v220 : Ref sig .tc := ⟨.hbm, 258, rfl⟩
abbrev main_v221 : Ref sig .tc := ⟨.hbm, 259, rfl⟩
abbrev main_v222 : Ref sig .tc := ⟨.hbm, 260, rfl⟩
abbrev main_v223 : Ref sig .tc := ⟨.hbm, 261, rfl⟩
abbrev main_v224 : Ref sig .tc := ⟨.hbm, 262, rfl⟩
abbrev main_v225 : Ref sig .tc := ⟨.hbm, 263, rfl⟩
abbrev main_v226 : Ref sig .tc := ⟨.hbm, 264, rfl⟩
abbrev main_v227 : Ref sig .tc := ⟨.hbm, 265, rfl⟩
abbrev main_v228 : Ref sig .tc := ⟨.hbm, 266, rfl⟩
abbrev main_v229 : Ref sig .tc := ⟨.hbm, 267, rfl⟩
abbrev main_v230 : Ref sig .tc := ⟨.hbm, 268, rfl⟩
abbrev main_v231 : Ref sig .tc := ⟨.hbm, 269, rfl⟩
abbrev main_v232 : Ref sig .tc := ⟨.hbm, 270, rfl⟩
abbrev main_v233 : Ref sig .tc := ⟨.hbm, 271, rfl⟩
abbrev main_v234 : Ref sig .tc := ⟨.hbm, 272, rfl⟩
abbrev main_v235 : Ref sig .tc := ⟨.hbm, 273, rfl⟩
abbrev main_v236 : Ref sig .tc := ⟨.hbm, 274, rfl⟩
abbrev main_v237 : Ref sig .tc := ⟨.hbm, 275, rfl⟩
abbrev main_v238 : Ref sig .tc := ⟨.hbm, 276, rfl⟩
abbrev main_v239 : Ref sig .tc := ⟨.hbm, 277, rfl⟩
abbrev main_v240 : Ref sig .tc := ⟨.hbm, 278, rfl⟩
abbrev main_v241 : Ref sig .tc := ⟨.hbm, 279, rfl⟩
abbrev main_v242 : Ref sig .tc := ⟨.hbm, 280, rfl⟩
abbrev main_v243 : Ref sig .tc := ⟨.hbm, 281, rfl⟩
abbrev main_v244 : Ref sig .tc := ⟨.hbm, 282, rfl⟩
abbrev main_v245 : Ref sig .tc := ⟨.hbm, 283, rfl⟩
abbrev main_v246 : Ref sig .tc := ⟨.hbm, 284, rfl⟩
abbrev main_v247 : Ref sig .tc := ⟨.hbm, 285, rfl⟩
abbrev main_v248 : Ref sig .tc := ⟨.hbm, 286, rfl⟩
abbrev main_call4_v0 : Ref sig .tc := ⟨.hbm, 287, rfl⟩
abbrev main_call4_v1 : Ref sig .tc := ⟨.hbm, 288, rfl⟩
abbrev main_call4_cst : Ref sig .tc := ⟨.hbm, 289, rfl⟩
abbrev main_call4_v2 : Ref sig .tc := ⟨.hbm, 290, rfl⟩
abbrev main_call4_v3 : Ref sig .tc := ⟨.hbm, 291, rfl⟩
abbrev main_call4_cst_0 : Ref sig .tc := ⟨.hbm, 292, rfl⟩
abbrev main_call4_v4 : Ref sig .tc := ⟨.hbm, 293, rfl⟩
abbrev main_call4_v5 : Ref sig .tc := ⟨.hbm, 294, rfl⟩
abbrev main_v249 : Ref sig .tc := ⟨.hbm, 295, rfl⟩
abbrev main_v250 : Ref sig .tc := ⟨.hbm, 296, rfl⟩
abbrev main_v251 : Ref sig .tc := ⟨.hbm, 297, rfl⟩
abbrev main_v252 : Ref sig .tc := ⟨.hbm, 298, rfl⟩
abbrev main_cst_0 : Ref sig .tc := ⟨.hbm, 299, rfl⟩
abbrev main_v253 : Ref sig .tc := ⟨.hbm, 300, rfl⟩
abbrev main_v254 : Ref sig .tc := ⟨.hbm, 301, rfl⟩
abbrev main_cst_1 : Ref sig .tc := ⟨.hbm, 302, rfl⟩
abbrev main_v255 : Ref sig .tc := ⟨.hbm, 303, rfl⟩
abbrev main_v256 : Ref sig .tc := ⟨.hbm, 304, rfl⟩
abbrev main_cst_2 : Ref sig .tc := ⟨.hbm, 305, rfl⟩
abbrev main_v257 : Ref sig .tc := ⟨.hbm, 306, rfl⟩
abbrev main_v258 : Ref sig .tc := ⟨.hbm, 307, rfl⟩
abbrev main_v259 : Ref sig .tc := ⟨.hbm, 308, rfl⟩
abbrev main_v260 : Ref sig .tc := ⟨.hbm, 309, rfl⟩
abbrev main_v261 : Ref sig .tc := ⟨.hbm, 310, rfl⟩
abbrev main_v262 : Ref sig .tc := ⟨.hbm, 311, rfl⟩
abbrev main_v263 : Ref sig .tc := ⟨.hbm, 312, rfl⟩
abbrev main_v264 : Ref sig .tc := ⟨.hbm, 313, rfl⟩
abbrev main_v265 : Ref sig .tc := ⟨.hbm, 314, rfl⟩
abbrev main_v266 : Ref sig .tc := ⟨.hbm, 315, rfl⟩
abbrev main_v267 : Ref sig .tc := ⟨.hbm, 316, rfl⟩
abbrev main_v268 : Ref sig .tc := ⟨.hbm, 317, rfl⟩

abbrev nD : Nat := 1
abbrev τ : Topo := Topo.v7x

variable {F : FTy → Type} [FloatOps F]
-- ==== Kernel2.lean ====
abbrev S16384x1024 : Shape := ⟨2, ![16384, 1024]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S1024x1024 : Shape := ⟨2, ![1024, 1024]⟩
abbrev S1024x256 : Shape := ⟨2, ![1024, 256]⟩
abbrev S256x1024 : Shape := ⟨2, ![256, 1024]⟩
abbrev S1024x1 : Shape := ⟨2, ![1024, 1]⟩

abbrev nBuf : Space → Nat
  | .hbm => 12
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S256x1024, .bf16⟩
  | .local _ .vmem, ⟨7, _⟩ => ⟨S256x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S16384x1024 : Shape := ⟨2, ![16384, 1024]⟩
abbrev S1024x2816 : Shape := ⟨2, ![1024, 2816]⟩
abbrev S2816x1024 : Shape := ⟨2, ![2816, 1024]⟩
abbrev S1024 : Shape := ⟨1, ![1024]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S16384x2816, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S16384x1024, .f32⟩
  | .hbm, ⟨45, _⟩ => ⟨S16384x1024, .f32⟩
  | .hbm, ⟨46, _⟩ => ⟨S1x1024, .f32⟩
  | .hbm, ⟨47, _⟩ => ⟨S16384x1024, .f32⟩
  | .hbm, ⟨48, _⟩ => ⟨S16384x1024, .f32⟩
  | .hbm, ⟨49, _⟩ => ⟨S1x1024, .f32⟩
  | .hbm, ⟨50, _⟩ => ⟨S16384x1024, .f32⟩
  | .hbm, ⟨51, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== Kernel3.lean ====
abbrev S16384x1024 : Shape := ⟨2, ![16384, 1024]⟩
abbrev S1024x5152 : Shape := ⟨2, ![1024, 5152]⟩
abbrev S1024x3072 : Shape := ⟨2, ![1024, 3072]⟩
abbrev S_ : Shape := ⟨0, ![]⟩
abbrev S1x3072 : Shape := ⟨2, ![1, 3072]⟩
abbrev S16384x3072 : Shape := ⟨2, ![16384, 3072]⟩
abbrev S1024x1024 : Shape := ⟨2, ![1024, 1024]⟩
abbrev S1x1024 : Shape := ⟨2, ![1, 1024]⟩

abbrev nBuf : Space → Nat
  | .hbm => 7
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024x5152, .f32⟩
  | .hbm, ⟨2, _⟩ => ⟨S1024x3072, .f32⟩
  | .hbm, ⟨3, _⟩ => ⟨S1024x3072, .bf16⟩
  | .hbm, ⟨4, _⟩ => ⟨S_, .f32⟩
  | .hbm, ⟨5, _⟩ => ⟨S1x3072, .f32⟩
  | .hbm, ⟨6, _⟩ => ⟨S16384x3072, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16384x1024 : Shape := ⟨2, ![16384, 1024]⟩
abbrev S1024x5152 : Shape := ⟨2, ![1024, 5152]⟩
abbrev S16384x5152 : Shape := ⟨2, ![16384, 5152]⟩
abbrev S16384x2048 : Shape := ⟨2, ![16384, 2048]⟩
abbrev S16384x3072 : Shape := ⟨2, ![16384, 3072]⟩
abbrev S16384x32 : Shape := ⟨2, ![16384, 32]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5152, .f32⟩
  | .hbm, ⟨2, _⟩ => ⟨S16384x5152, .f32⟩
  | .hbm, ⟨3, _⟩ => ⟨S16384x2048, .f32⟩
  | .hbm, ⟨4, _⟩ => ⟨S16384x3072, .f32⟩
  | .hbm, ⟨5, _⟩ => ⟨S16384x32, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel4.lean ====
abbrev S16384x2048 : Shape := ⟨2, ![16384, 2048]⟩
abbrev S16384x1024 : Shape := ⟨2, ![16384, 1024]⟩
abbrev S2048x1024 : Shape := ⟨2, ![2048, 1024]⟩
abbrev S1024 : Shape := ⟨1, ![1024]⟩
abbrev S1x1024 : Shape := ⟨2, ![1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .f32⟩
  | .hbm, ⟨2, _⟩ => ⟨S2048x1024, .f32⟩
  | .hbm, ⟨3, _⟩ => ⟨S1024, .f32⟩
  | .hbm, ⟨4, _⟩ => ⟨S1024, .f32⟩
  | .hbm, ⟨5, _⟩ => ⟨S2048x1024, .bf16⟩
  | .hbm, ⟨6, _⟩ => ⟨S1x1024, .f32⟩
  | .hbm, ⟨7, _⟩ => ⟨S1x1024, .f32⟩
  | .hbm, ⟨8, _⟩ => ⟨S16384x1024, .f32⟩
  | .local _ .vmem, ⟨0, _⟩ => ⟨S512x2048, .bf16⟩
  | .local _ .vmem, ⟨1, _⟩ => ⟨S512x2048, .bf16⟩
  | .local _ .vmem, ⟨2, _⟩ => ⟨S512x1024, .f32⟩
  | .local _ .vmem, ⟨3, _⟩ => ⟨S512x1024, .f32⟩
  | .local _ .vmem, ⟨4, _⟩ => ⟨S2048x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S16384x2048 : Shape := ⟨2, ![16384, 2048]⟩
abbrev S16384x1024 : Shape := ⟨2, ![16384, 1024]⟩
abbrev S2048x1024 : Shape := ⟨2, ![2048, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .f32⟩
  | .hbm, ⟨2, _⟩ => ⟨S2048x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x2048, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S1x1024, .f32⟩
  | .hbm, ⟨38, _⟩ => ⟨S16384x1024, .f32⟩
  | .hbm, ⟨39, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel5.lean ====
abbrev S256x1024 : Shape := ⟨2, ![256, 1024]⟩
abbrev S1024x2048 : Shape := ⟨2, ![1024, 2048]⟩
abbrev S2048 : Shape := ⟨1, ![2048]⟩
abbrev S1024 : Shape := ⟨1, ![1024]⟩
abbrev S1x2048 : Shape := ⟨2, ![1, 2048]⟩
abbrev S1x1024 : Shape := ⟨2, ![1, 1024]⟩
abbrev S256x2048 : Shape := ⟨2, ![256, 2048]⟩
abbrev S256 : Shape := ⟨1, ![256]⟩
abbrev S256x1 : Shape := ⟨2, ![256, 1]⟩

abbrev nBuf : Space → Nat
  | .hbm => 11
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S1024x2048, .f32⟩
  | .hbm, ⟨2, _⟩ => ⟨S2048, .f32⟩
  | .hbm, ⟨3, _⟩ => ⟨S1024, .f32⟩
  | .hbm, ⟨4, _⟩ => ⟨S1024, .f32⟩
  | .hbm, ⟨5, _⟩ => ⟨S1024x2048, .bf16⟩
  | .hbm, ⟨6, _⟩ => ⟨S1x2048, .f32⟩
  | .hbm, ⟨7, _⟩ => ⟨S1x1024, .f32⟩
  | .hbm, ⟨8, _⟩ => ⟨S1x1024, .f32⟩
  | .hbm, ⟨9, _⟩ => ⟨S256x1024, .f32⟩
  | .hbm, ⟨10, _⟩ => ⟨S256x1024, .f32⟩
  | .local _ .vmem, ⟨0, _⟩ => ⟨S256x1024, .f32⟩
  | .local _ .vmem, ⟨1, _⟩ => ⟨S1024x2048, .bf16⟩
  | .local _ .vmem, ⟨2, _⟩ => ⟨S1x2048, .f32⟩
  | .local _ .vmem, ⟨3, _⟩ => ⟨S1x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference5Ideal.lean ====
abbrev S256x1024 : Shape := ⟨2, ![256, 1024]⟩
abbrev S1024x2048 : Shape := ⟨2, ![1024, 2048]⟩
abbrev S2048 : Shape := ⟨1, ![2048]⟩
abbrev S1024 : Shape := ⟨1, ![1024]⟩
abbrev S256x2048 : Shape := ⟨2, ![256, 2048]⟩
abbrev S1x2048 : Shape := ⟨2, ![1, 2048]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x2048, .f32⟩
  | .hbm, ⟨2, _⟩ => ⟨S2048, .f32⟩
  | .hbm, ⟨3, _⟩ => ⟨S1024, .f32⟩
  | .hbm, ⟨4, _⟩ => ⟨S1024, .f32⟩
  | .hbm, ⟨5, _⟩ => ⟨S256x2048, .f32⟩
  | .hbm, ⟨6, _⟩ => ⟨S1x2048, .f32⟩
  | .hbm, ⟨7, _⟩ => ⟨S256x2048, .f32⟩
  | .hbm, ⟨8, _⟩ => ⟨S256x2048, .f32⟩
  | .hbm, ⟨9, _⟩ => ⟨S256x2048, .f32⟩
  | .hbm, ⟨10, _⟩ => ⟨S256x2048, .f32⟩
  | .hbm, ⟨11, _⟩ => ⟨S_, .f32⟩
  | .hbm, ⟨12, _⟩ => ⟨S256x2048, .f32⟩
  | .hbm, ⟨13, _⟩ => ⟨S256x2048, .f32⟩
  | .hbm, ⟨14, _⟩ => ⟨S256x2048, .f32⟩
  | .hbm, ⟨15, _⟩ => ⟨S_, .f32⟩
  | .hbm, ⟨16, _⟩ => ⟨S256x2048, .f32⟩
  | .hbm, ⟨17, _⟩ => ⟨S256x2048, .f32⟩
  | .hbm, ⟨18, _⟩ => ⟨S256x2048, .f32⟩
  | .hbm, ⟨19, _⟩ => ⟨S_, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S256x2048, .f32⟩
  | .hbm, ⟨26, _⟩ => ⟨S256x1024, .f32⟩
  | .hbm, ⟨27, _⟩ => ⟨S256x1024, .f32⟩
  | .hbm, ⟨28, _⟩ => ⟨S_, .f32⟩
  | .hbm, ⟨29, _⟩ => ⟨S256, .f32⟩
  | .hbm, ⟨30, _⟩ => ⟨S256x1, .f32⟩
  | .hbm, ⟨31, _⟩ => ⟨S_, .f32⟩
  | .hbm, ⟨32, _⟩ => ⟨S256x1, .f32⟩
  | .hbm, ⟨33, _⟩ => ⟨S256x1, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256, .f32⟩
  | .hbm, ⟨39, _⟩ => ⟨S256x1, .f32⟩
  | .hbm, ⟨40, _⟩ => ⟨S_, .f32⟩
  | .hbm, ⟨41, _⟩ => ⟨S256x1, .f32⟩
  | .hbm, ⟨42, _⟩ => ⟨S256x1, .f32⟩
  | .hbm, ⟨43, _⟩ => ⟨S256x1024, .f32⟩
  | .hbm, ⟨44, _⟩ => ⟨S256x1024, .f32⟩
  | .hbm, ⟨45, _⟩ => ⟨S_, .f32⟩
  | .hbm, ⟨46, _⟩ => ⟨S256x1, .f32⟩
  | .hbm, ⟨47, _⟩ => ⟨S256x1, .f32⟩
  | .hbm, ⟨48, _⟩ => ⟨S256x1, .f32⟩
  | .hbm, ⟨49, _⟩ => ⟨S256x1024, .f32⟩
  | .hbm, ⟨50, _⟩ => ⟨S256x1024, .f32⟩
  | .hbm, ⟨51, _⟩ => ⟨S1x1024, .f32⟩
  | .hbm, ⟨52, _⟩ => ⟨S256x1024, .f32⟩
  | .hbm, ⟨53, _⟩ => ⟨S256x1024, .f32⟩
  | .hbm, ⟨54, _⟩ => ⟨S1x1024, .f32⟩
  | .hbm, ⟨55, _⟩ => ⟨S256x1024, .f32⟩
  | .hbm, ⟨56, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel6.lean ====
abbrev S37376x1024 : Shape := ⟨2, ![37376, 1024]⟩
abbrev S73 : Shape := ⟨1, ![73]⟩
abbrev S1 : Shape := ⟨1, ![1]⟩
abbrev S8x1024x2816 : Shape := ⟨3, ![8, 1024, 2816]⟩
abbrev S8x2816x1024 : Shape := ⟨3, ![8, 2816, 1024]⟩
abbrev S512x1024 : Shape := ⟨2, ![512, 1024]⟩
abbrev S1x1024x256 : Shape := ⟨3, ![1, 1024, 256]⟩
abbrev S1x256x1024 : Shape := ⟨3, ![1, 256, 1024]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 5
  | .vmem => 12
  | .smem => 2
  | _ => 0

abbrev bufTy : (tb : Table) → Fin (tcTables nBuf tb) → BufTy
  | .hbm, ⟨0, _⟩ => ⟨S37376x1024, .f32⟩
  | .hbm, ⟨1, _⟩ => ⟨S8x1024x2816, .bf16⟩
  | .hbm, ⟨2, _⟩ => ⟨S8x1024x2816, .bf16⟩
  | .hbm, ⟨3, _⟩ => ⟨S8x2816x1024, .bf16⟩
  | .hbm, ⟨4, _⟩ => ⟨S37376x1024, .f32⟩
  | .local _ .vmem, ⟨0, _⟩ => ⟨S512x1024, .f32⟩
  | .local _ .vmem, ⟨1, _⟩ => ⟨S512x1024, .f32⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x256x1024, .bf16⟩
  | .local _ .vmem, ⟨7, _⟩ => ⟨S1x256x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .smem, ⟨0, _⟩ => ⟨S73, .i32⟩
  | .local _ .smem, ⟨1, _⟩ => ⟨S1, .i32⟩
  | _, _ => ⟨S37376x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![73, 11], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) (v0 : BitVec 32) : BitVec 1 :=
  let arg0 : BitVec 32 := BitVec.ofNat 32 (i 0).val
  let v1 : BitVec 1 := Scalar.cmpi .slt arg0 v0
  let arg1 : BitVec 32 := BitVec.ofNat 32 (i 1).val
  let c10_i32 : BitVec 32 := 10#32
  let v8 : BitVec 1 := Scalar.cmpi .eq arg1 c10_i32
  let v9 : BitVec 1 := Scalar.andi v1 v8
  let v10 : BitVec 32 := Scalar.extui v9
  let c0_i32_2 : BitVec 32 := 0#32
  let v11 : BitVec 1 := Scalar.cmpi .ne v10 c0_i32_2
  v11

def k0_cond4 (i : grid0.Coords) (v0 : BitVec 32) : BitVec 1 :=
  let arg0 : BitVec 32 := BitVec.ofNat 32 (i 0).val
  let v1 : BitVec 1 := Scalar.cmpi .slt arg0 v0
  let v_true : BitVec 1 := 1#1
  let v12 : BitVec 1 := Scalar.xori v1 v_true
  let arg1 : BitVec 32 := BitVec.ofNat 32 (i 1).val
  let c10_i32_3 : BitVec 32 := 10#32
  let v13 : BitVec 1 := Scalar.cmpi .eq arg1 c10_i32_3
  let v14 : BitVec 1 := Scalar.andi v12 v13
  let v15 : BitVec 32 := Scalar.extui v14
  let c0_i32_4 : BitVec 32 := 0#32
  let v16 : BitVec 1 := Scalar.cmpi .ne v15 c0_i32_4
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S73.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S73) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S73.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S73) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S73.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S73) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference6Ideal.lean ====
abbrev S37376x1024 : Shape := ⟨2, ![37376, 1024]⟩
abbrev S73 : Shape := ⟨1, ![73]⟩
abbrev S1 : Shape := ⟨1, ![1]⟩
abbrev S8x1024x2816 : Shape := ⟨3, ![8, 1024, 2816]⟩
abbrev S8x2816x1024 : Shape := ⟨3, ![8, 2816, 1024]⟩
abbrev S73x512x1024 : Shape := ⟨3, ![73, 512, 1024]⟩
abbrev S_ : Shape := ⟨0, ![]⟩
abbrev S73x1 : Shape := ⟨2, ![73, 1]⟩
abbrev S73x1024x2816 : Shape := ⟨3, ![73, 1024, 2816]⟩
abbrev S73x2816x1024 : Shape := ⟨3, ![73, 2816, 1024]⟩
abbrev S73x512x2816 : Shape := ⟨3, ![73, 512, 2816]⟩
abbrev S73x1x1 : Shape := ⟨3, ![73, 1, 1]⟩

abbrev nBuf : Space → Nat
  | .hbm => 61
  | .vmem => 0
  | .smem => 0
  | _ => 0

abbrev bufTy : (tb : Table) → Fin (tcTables nBuf tb) → BufTy
  | .hbm, ⟨0, _⟩ => ⟨S37376x1024, .f32⟩
  | .hbm, ⟨1, _⟩ => ⟨S73, .i32⟩
  | .hbm, ⟨2, _⟩ => ⟨S1, .i32⟩
  | .hbm, ⟨3, _⟩ => ⟨S8x1024x2816, .bf16⟩
  | .hbm, ⟨4, _⟩ => ⟨S8x1024x2816, .bf16⟩
  | .hbm, ⟨5, _⟩ => ⟨S8x2816x1024, .bf16⟩
  | .hbm, ⟨6, _⟩ => ⟨S73x512x1024, .f32⟩
  | .hbm, ⟨7, _⟩ => ⟨S_, .i32⟩
  | .hbm, ⟨8, _⟩ => ⟨S73, .i32⟩
  | .hbm, ⟨9, _⟩ => ⟨S73, .i1⟩
  | .hbm, ⟨10, _⟩ => ⟨S_, .i32⟩
  | .hbm, ⟨11, _⟩ => ⟨S73, .i32⟩
  | .hbm, ⟨12, _⟩ => ⟨S73, .i32⟩
  | .hbm, ⟨13, _⟩ => ⟨S73, .i32⟩
  | .hbm, ⟨14, _⟩ => ⟨S73x1, .i32⟩
  | .hbm, ⟨15, _⟩ => ⟨S73x1024x2816, .bf16⟩
  | .hbm, ⟨16, _⟩ => ⟨S73x1024x2816, .f32⟩
  | .hbm, ⟨17, _⟩ => ⟨S_, .i32⟩
  | .hbm, ⟨18, _⟩ => ⟨S73, .i32⟩
  | .hbm, ⟨19, _⟩ => ⟨S73, .i1⟩
  | .hbm, ⟨20, _⟩ => ⟨S_, .i32⟩
  | .hbm, ⟨21, _⟩ => ⟨S73, .i32⟩
  | .hbm, ⟨22, _⟩ => ⟨S73, .i32⟩
  | .hbm, ⟨23, _⟩ => ⟨S73, .i32⟩
  | .hbm, ⟨24, _⟩ => ⟨S73x1, .i32⟩
  | .hbm, ⟨25, _⟩ => ⟨S73x1024x2816, .bf16⟩
  | .hbm, ⟨26, _⟩ => ⟨S73x1024x2816, .f32⟩
  | .hbm, ⟨27, _⟩ => ⟨S_, .i32⟩
  | .hbm, ⟨28, _⟩ => ⟨S73, .i32⟩
  | .hbm, ⟨29, _⟩ => ⟨S73, .i1⟩
  | .hbm, ⟨30, _⟩ => ⟨S_, .i32⟩
  | .hbm, ⟨31, _⟩ => ⟨S73, .i32⟩
  | .hbm, ⟨32, _⟩ => ⟨S73, .i32⟩
  | .hbm, ⟨33, _⟩ => ⟨S73, .i32⟩
  | .hbm, ⟨34, _⟩ => ⟨S73x1, .i32⟩
  | .hbm, ⟨35, _⟩ => ⟨S73x2816x1024, .bf16⟩
  | .hbm, ⟨36, _⟩ => ⟨S73x2816x1024, .f32⟩
  | .hbm, ⟨37, _⟩ => ⟨S73x512x2816, .f32⟩
  | .hbm, ⟨38, _⟩ => ⟨S73x512x2816, .f32⟩
  | .hbm, ⟨39, _⟩ => ⟨S73x512x2816, .f32⟩
  | .hbm, ⟨40, _⟩ => ⟨S_, .f32⟩
  | .hbm, ⟨41, _⟩ => ⟨S73x512x2816, .f32⟩
  | .hbm, ⟨42, _⟩ => ⟨S73x512x2816, .f32⟩
  | .hbm, ⟨43, _⟩ => ⟨S_, .f32⟩
  | .hbm, ⟨44, _⟩ => ⟨S73x512x2816, .f32⟩
  | .hbm, ⟨45, _⟩ => ⟨S73x512x2816, .f32⟩
  | .hbm, ⟨46, _⟩ => ⟨S73x512x2816, .f32⟩
  | .hbm, ⟨47, _⟩ => ⟨S73x512x2816, .f32⟩
  | .hbm, ⟨48, _⟩ => ⟨S73x512x2816, .f32⟩
  | .hbm, ⟨49, _⟩ => ⟨S73x512x1024, .f32⟩
  | .hbm, ⟨50, _⟩ => ⟨S73, .i32⟩
  | .hbm, ⟨51, _⟩ => ⟨S_, .i32⟩
  | .hbm, ⟨52, _⟩ => ⟨S73, .i32⟩
  | .hbm, ⟨53, _⟩ => ⟨S73, .i1⟩
  | .hbm, ⟨54, _⟩ => ⟨S73x1x1, .i1⟩
  | .hbm, ⟨55, _⟩ => ⟨S_, .f32⟩
  | .hbm, ⟨56, _⟩ => ⟨S_, .f32⟩
  | .hbm, ⟨57, _⟩ => ⟨S73x512x1024, .i1⟩
  | .hbm, ⟨58, _⟩ => ⟨S73x512x1024, .f32⟩
  | .hbm, ⟨59, _⟩ => ⟨S73x512x1024, .f32⟩
  | .hbm, ⟨60, _⟩ => ⟨S37376x1024, .f32⟩
  | _, _ => ⟨S37376x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v35 : Ref sig .tc := ⟨.hbm, 59, rfl⟩
abbrev main_v36 : Ref sig .tc := ⟨.hbm, 60, rfl⟩

abbrev nD : Nat := 1
abbrev τ : Topo := Topo.v7x

variable {F : FTy → Type} [FloatOps F]
-- ==== Kernel7.lean ====
abbrev S256x1024 : Shape := ⟨2, ![256, 1024]⟩
abbrev S1024x5152 : Shape := ⟨2, ![1024, 5152]⟩
abbrev S1024x3072 : Shape := ⟨2, ![1024, 3072]⟩
abbrev S_ : Shape := ⟨0, ![]⟩
abbrev S1x3072 : Shape := ⟨2, ![1, 3072]⟩
abbrev S256x3072 : Shape := ⟨2, ![256, 3072]⟩
abbrev S1024x1024 : Shape := ⟨2, ![1024, 1024]⟩
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S1024x5152, .f32⟩
  | .hbm, ⟨2, _⟩ => ⟨S1024x3072, .f32⟩
  | .hbm, ⟨3, _⟩ => ⟨S1024x3072, .bf16⟩
  | .hbm, ⟨4, _⟩ => ⟨S_, .f32⟩
  | .hbm, ⟨5, _⟩ => ⟨S1x3072, .f32⟩
  | .hbm, ⟨6, _⟩ => ⟨S256x3072, .f32⟩
  | .local _ .vmem, ⟨0, _⟩ => ⟨S256x1024, .f32⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S256x1024 : Shape := ⟨2, ![256, 1024]⟩
abbrev S1024x5152 : Shape := ⟨2, ![1024, 5152]⟩
abbrev S256x5152 : Shape := ⟨2, ![256, 5152]⟩
abbrev S256x2048 : Shape := ⟨2, ![256, 2048]⟩
abbrev S256x3072 : Shape := ⟨2, ![256, 3072]⟩
abbrev S256x32 : Shape := ⟨2, ![256, 32]⟩

abbrev nBuf : Space → Nat
  | .hbm => 6
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x5152, .f32⟩
  | .hbm, ⟨2, _⟩ => ⟨S256x5152, .f32⟩
  | .hbm, ⟨3, _⟩ => ⟨S256x2048, .f32⟩
  | .hbm, ⟨4, _⟩ => ⟨S256x3072, .f32⟩
  | .hbm, ⟨5, _⟩ => ⟨S256x32, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel8.lean ====
abbrev S256x1024 : Shape := ⟨2, ![256, 1024]⟩
abbrev S1024x2608 : Shape := ⟨2, ![1024, 2608]⟩
abbrev S1024x2560 : Shape := ⟨2, ![1024, 2560]⟩
abbrev S_ : Shape := ⟨0, ![]⟩
abbrev S1x2560 : Shape := ⟨2, ![1, 2560]⟩
abbrev S256x2560 : Shape := ⟨2, ![256, 2560]⟩
abbrev S1024x512 : Shape := ⟨2, ![1024, 512]⟩
abbrev S1x512 : Shape := ⟨2, ![1, 512]⟩
abbrev S256x512 : Shape := ⟨2, ![256, 512]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S1024x2608, .f32⟩
  | .hbm, ⟨2, _⟩ => ⟨S1024x2560, .f32⟩
  | .hbm, ⟨3, _⟩ => ⟨S1024x2560, .bf16⟩
  | .hbm, ⟨4, _⟩ => ⟨S_, .f32⟩
  | .hbm, ⟨5, _⟩ => ⟨S1x2560, .f32⟩
  | .hbm, ⟨6, _⟩ => ⟨S256x2560, .f32⟩
  | .local _ .vmem, ⟨0, _⟩ => ⟨S256x1024, .f32⟩
  | .local _ .vmem, ⟨1, _⟩ => ⟨S1024x512, .bf16⟩
  | .local _ .vmem, ⟨2, _⟩ => ⟨S1024x512, .bf16⟩
  | .local _ .vmem, ⟨3, _⟩ => ⟨S1x512, .f32⟩
  | .local _ .vmem, ⟨4, _⟩ => ⟨S1x512, .f32⟩
  | .local _ .vmem, ⟨5, _⟩ => ⟨S256x512, .f32⟩
  | .local _ .vmem, ⟨6, _⟩ => ⟨S256x512, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S256x1024 : Shape := ⟨2, ![256, 1024]⟩
abbrev S1024x2608 : Shape := ⟨2, ![1024, 2608]⟩
abbrev S256x2608 : Shape := ⟨2, ![256, 2608]⟩
abbrev S256x2560 : Shape := ⟨2, ![256, 2560]⟩

abbrev nBuf : Space → Nat
  | .hbm => 4
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x2608, .f32⟩
  | .hbm, ⟨2, _⟩ => ⟨S256x2608, .f32⟩
  | .hbm, ⟨3, _⟩ => ⟨S256x2560, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel9.lean ====
abbrev S16384x1024 : Shape := ⟨2, ![16384, 1024]⟩
abbrev S1024x2608 : Shape := ⟨2, ![1024, 2608]⟩
abbrev S1024x1536 : Shape := ⟨2, ![1024, 1536]⟩
abbrev S1536x1024 : Shape := ⟨2, ![1536, 1024]⟩
abbrev S8x1536x2048 : Shape := ⟨3, ![8, 1536, 2048]⟩
abbrev S512x1024 : Shape := ⟨2, ![512, 1024]⟩
abbrev S1024x1024 : Shape := ⟨2, ![1024, 1024]⟩
abbrev S1x512x1024 : Shape := ⟨3, ![1, 512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x2608, .f32⟩
  | .hbm, ⟨2, _⟩ => ⟨S1024x1536, .f32⟩
  | .hbm, ⟨3, _⟩ => ⟨S1536x1024, .f32⟩
  | .hbm, ⟨4, _⟩ => ⟨S1536x1024, .bf16⟩
  | .hbm, ⟨5, _⟩ => ⟨S8x1536x2048, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .f32⟩
  | .local _ .vmem, ⟨3, _⟩ => ⟨S1024x1024, .f32⟩
  | .local _ .vmem, ⟨4, _⟩ => ⟨S1x512x1024, .f32⟩
  | .local _ .vmem, ⟨5, _⟩ => ⟨S1x512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 3], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference9Ideal.lean ====
abbrev S16384x1024 : Shape := ⟨2, ![16384, 1024]⟩
abbrev S1024x2608 : Shape := ⟨2, ![1024, 2608]⟩
abbrev S16384x2608 : Shape := ⟨2, ![16384, 2608]⟩
abbrev S16384x1536 : Shape := ⟨2, ![16384, 1536]⟩
abbrev S16384x48 : Shape := ⟨2, ![16384, 48]⟩
abbrev S8x2048x1536 : Shape := ⟨3, ![8, 2048, 1536]⟩
abbrev S8x1536x2048 : Shape := ⟨3, ![8, 1536, 2048]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2608, .f32⟩
  | .hbm, ⟨2, _⟩ => ⟨S16384x2608, .f32⟩
  | .hbm, ⟨3, _⟩ => ⟨S16384x1024, .f32⟩
  | .hbm, ⟨4, _⟩ => ⟨S16384x1536, .f32⟩
  | .hbm, ⟨5, _⟩ => ⟨S16384x48, .f32⟩
  | .hbm, ⟨6, _⟩ => ⟨S8x2048x1536, .f32⟩
  | .hbm, ⟨7, _⟩ => ⟨S8x1536x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel10.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference10Ideal.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x1024, .f32⟩
  | .hbm, ⟨32, _⟩ => ⟨S16384x1024, .f32⟩
  | .hbm, ⟨33, _⟩ => ⟨S1x1024, .f32⟩
  | .hbm, ⟨34, _⟩ => ⟨S16384x1024, .f32⟩
  | .hbm, ⟨35, _⟩ => ⟨S16384x1024, .f32⟩
  | .hbm, ⟨36, _⟩ => ⟨S1x1024, .f32⟩
  | .hbm, ⟨37, _⟩ => ⟨S16384x1024, .f32⟩
  | .hbm, ⟨38, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel14.lean ====
abbrev S16384x1024 : Shape := ⟨2, ![16384, 1024]⟩
abbrev S1024x5152 : Shape := ⟨2, ![1024, 5152]⟩
abbrev S1024x2048 : Shape := ⟨2, ![1024, 2048]⟩
abbrev S_ : Shape := ⟨0, ![]⟩
abbrev S1x2048 : Shape := ⟨2, ![1, 2048]⟩
abbrev S16384x2048 : Shape := ⟨2, ![16384, 2048]⟩
abbrev S1024x1024 : Shape := ⟨2, ![1024, 1024]⟩
abbrev S1x1024 : Shape := ⟨2, ![1, 1024]⟩

abbrev nBuf : Space → Nat
  | .hbm => 7
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024x5152, .f32⟩
  | .hbm, ⟨2, _⟩ => ⟨S1024x2048, .f32⟩
  | .hbm, ⟨3, _⟩ => ⟨S1024x2048, .bf16⟩
  | .hbm, ⟨4, _⟩ => ⟨S_, .f32⟩
  | .hbm, ⟨5, _⟩ => ⟨S1x2048, .f32⟩
  | .hbm, ⟨6, _⟩ => ⟨S16384x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference14Ideal.lean ====
abbrev S16384x1024 : Shape := ⟨2, ![16384, 1024]⟩
abbrev S1024x5152 : Shape := ⟨2, ![1024, 5152]⟩
abbrev S16384x5152 : Shape := ⟨2, ![16384, 5152]⟩
abbrev S16384x2048 : Shape := ⟨2, ![16384, 2048]⟩
abbrev S16384x3072 : Shape := ⟨2, ![16384, 3072]⟩
abbrev S16384x32 : Shape := ⟨2, ![16384, 32]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5152, .f32⟩
  | .hbm, ⟨2, _⟩ => ⟨S16384x5152, .f32⟩
  | .hbm, ⟨3, _⟩ => ⟨S16384x2048, .f32⟩
  | .hbm, ⟨4, _⟩ => ⟨S16384x3072, .f32⟩
  | .hbm, ⟨5, _⟩ => ⟨S16384x32, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel15.lean ====
abbrev S256x3072 : Shape := ⟨2, ![256, 3072]⟩
abbrev S256x2048 : Shape := ⟨2, ![256, 2048]⟩
abbrev S256x128 : Shape := ⟨2, ![256, 128]⟩
abbrev S32x3x3072 : Shape := ⟨3, ![32, 3, 3072]⟩
abbrev S32x32x64x128 : Shape := ⟨4, ![32, 32, 64, 128]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S1x2048 : Shape := ⟨2, ![1, 2048]⟩
abbrev S_ : Shape := ⟨0, ![]⟩
abbrev S128 : Shape := ⟨1, ![128]⟩
abbrev S128x1 : Shape := ⟨2, ![128, 1]⟩
abbrev S128x2048 : Shape := ⟨2, ![128, 2048]⟩
abbrev S1x128 : Shape := ⟨2, ![1, 128]⟩
abbrev S128x128 : Shape := ⟨2, ![128, 128]⟩
abbrev S32x8x3072 : Shape := ⟨3, ![32, 8, 3072]⟩
abbrev S32x2048x128 : Shape := ⟨3, ![32, 2048, 128]⟩
abbrev S1x3072 : Shape := ⟨2, ![1, 3072]⟩
abbrev S32x64 : Shape := ⟨2, ![32, 64]⟩
abbrev S8x3072 : Shape := ⟨2, ![8, 3072]⟩
abbrev S8x2048 : Shape := ⟨2, ![8, 2048]⟩
abbrev S8x128 : Shape := ⟨2, ![8, 128]⟩
abbrev S1x8x3072 : Shape := ⟨3, ![1, 8, 3072]⟩
abbrev S1x2048x128 : Shape := ⟨3, ![1, 2048, 128]⟩
abbrev S136x3072 : Shape := ⟨2, ![136, 3072]⟩
abbrev S2048x128 : Shape := ⟨2, ![2048, 128]⟩
abbrev S120x3072 : Shape := ⟨2, ![120, 3072]⟩
abbrev S128x3072 : Shape := ⟨2, ![128, 3072]⟩
abbrev S1x512x128 : Shape := ⟨3, ![1, 512, 128]⟩
abbrev S512x128 : Shape := ⟨2, ![512, 128]⟩
abbrev S8x512 : Shape := ⟨2, ![8, 512]⟩
abbrev S128x512 : Shape := ⟨2, ![128, 512]⟩
abbrev S8x1 : Shape := ⟨2, ![8, 1]⟩
abbrev S8x256 : Shape := ⟨2, ![8, 256]⟩
abbrev S1x64x128 : Shape := ⟨3, ![1, 64, 128]⟩
abbrev S64x128 : Shape := ⟨2, ![64, 128]⟩
abbrev S8 : Shape := ⟨1, ![8]⟩
abbrev S1x512 : Shape := ⟨2, ![1, 512]⟩

abbrev nBuf : Space → Nat
  | .hbm => 64
  | .vmem => 25
  | .smem => 0
  | _ => 0

abbrev bufTy : (tb : Table) → Fin (tcTables nBuf tb) → BufTy
  | .hbm, ⟨0, _⟩ => ⟨S256x3072, .f32⟩
  | .hbm, ⟨1, _⟩ => ⟨S256x2048, .f32⟩
  | .hbm, ⟨2, _⟩ => ⟨S256x128, .f32⟩
  | .hbm, ⟨3, _⟩ => ⟨S32x3x3072, .f32⟩
  | .hbm, ⟨4, _⟩ => ⟨S32x32x64x128, .f32⟩
  | .hbm, ⟨5, _⟩ => ⟨S4x3072, .f32⟩
  | .hbm, ⟨6, _⟩ => ⟨S3072, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S2048, .f32⟩
  | .hbm, ⟨11, _⟩ => ⟨S2048, .i32⟩
  | .hbm, ⟨12, _⟩ => ⟨S1x2048, .i32⟩
  | .hbm, ⟨13, _⟩ => ⟨S_, .i32⟩
  | .hbm, ⟨14, _⟩ => ⟨S_, .i32⟩
  | .hbm, ⟨15, _⟩ => ⟨S1x2048, .i32⟩
  | .hbm, ⟨16, _⟩ => ⟨S1x2048, .i32⟩
  | .hbm, ⟨17, _⟩ => ⟨S1x2048, .i32⟩
  | .hbm, ⟨18, _⟩ => ⟨S_, .i32⟩
  | .hbm, ⟨19, _⟩ => ⟨S1x2048, .i32⟩
  | .hbm, ⟨20, _⟩ => ⟨S1x2048, .i1⟩
  | .hbm, ⟨21, _⟩ => ⟨S1x2048, .i32⟩
  | .hbm, ⟨22, _⟩ => ⟨S1x2048, .i32⟩
  | .hbm, ⟨23, _⟩ => ⟨S_, .i32⟩
  | .hbm, ⟨24, _⟩ => ⟨S1x2048, .i32⟩
  | .hbm, ⟨25, _⟩ => ⟨S1x2048, .i1⟩
  | .hbm, ⟨26, _⟩ => ⟨S1x2048, .i1⟩
  | .hbm, ⟨27, _⟩ => ⟨S_, .i32⟩
  | .hbm, ⟨28, _⟩ => ⟨S1x2048, .i32⟩
  | .hbm, ⟨29, _⟩ => ⟨S1x2048, .i32⟩
  | .hbm, ⟨30, _⟩ => ⟨S1x2048, .i32⟩
  | .hbm, ⟨31, _⟩ => ⟨S128, .i32⟩
  | .hbm, ⟨32, _⟩ => ⟨S128x1, .i32⟩
  | .hbm, ⟨33, _⟩ => ⟨S128x2048, .i32⟩
  | .hbm, ⟨34, _⟩ => ⟨S128x2048, .i32⟩
  | .hbm, ⟨35, _⟩ => ⟨S128x2048, .i1⟩
  | .hbm, ⟨36, _⟩ => ⟨S128x2048, .bf16⟩
  | .hbm, ⟨37, _⟩ => ⟨S128, .i32⟩
  | .hbm, ⟨38, _⟩ => ⟨S128x1, .i32⟩
  | .hbm, ⟨39, _⟩ => ⟨S128, .i32⟩
  | .hbm, ⟨40, _⟩ => ⟨S1x128, .i32⟩
  | .hbm, ⟨41, _⟩ => ⟨S128x128, .i32⟩
  | .hbm, ⟨42, _⟩ => ⟨S128x128, .i32⟩
  | .hbm, ⟨43, _⟩ => ⟨S128x128, .i1⟩
  | .hbm, ⟨44, _⟩ => ⟨S128x128, .bf16⟩
  | .hbm, ⟨45, _⟩ => ⟨S_, .i32⟩
  | .hbm, ⟨46, _⟩ => ⟨S_, .f32⟩
  | .hbm, ⟨47, _⟩ => ⟨S32x8x3072, .f32⟩
  | .hbm, ⟨48, _⟩ => ⟨S32x2048x128, .f32⟩
  | .hbm, ⟨49, _⟩ => ⟨S1x3072, .f32⟩
  | .hbm, ⟨50, _⟩ => ⟨S_, .i32⟩
  | .hbm, ⟨51, _⟩ => ⟨S_, .f32⟩
  | .hbm, ⟨52, _⟩ => ⟨S128, .f32⟩
  | .hbm, ⟨53, _⟩ => ⟨S1x128, .f32⟩
  | .hbm, ⟨54, _⟩ => ⟨S_, .i32⟩
  | .hbm, ⟨55, _⟩ => ⟨S_, .f32⟩
  | .hbm, ⟨56, _⟩ => ⟨S128, .f32⟩
  | .hbm, ⟨57, _⟩ => ⟨S1x128, .f32⟩
  | .hbm, ⟨58, _⟩ => ⟨S32x64, .f32⟩
  | .hbm, ⟨59, _⟩ => ⟨S2048, .f32⟩
  | .hbm, ⟨60, _⟩ => ⟨S1x2048, .f32⟩
  | .hbm, ⟨61, _⟩ => ⟨S1x2048, .f32⟩
  | .hbm, ⟨62, _⟩ => ⟨S256x2048, .f32⟩
  | .hbm, ⟨63, _⟩ => ⟨S32x2048x128, .f32⟩
  | .local _ .vmem, ⟨0, _⟩ => ⟨S8x3072, .f32⟩
  | .local _ .vmem, ⟨1, _⟩ => ⟨S8x3072, .f32⟩
  | .local _ .vmem, ⟨2, _⟩ => ⟨S8x2048, .f32⟩
  | .local _ .vmem, ⟨3, _⟩ => ⟨S8x2048, .f32⟩
  | .local _ .vmem, ⟨4, _⟩ => ⟨S8x128, .f32⟩
  | .local _ .vmem, ⟨5, _⟩ => ⟨S8x128, .f32⟩
  | .local _ .vmem, ⟨6, _⟩ => ⟨S1x8x3072, .f32⟩
  | .local _ .vmem, ⟨7, _⟩ => ⟨S1x8x3072, .f32⟩
  | .local _ .vmem, ⟨8, _⟩ => ⟨S1x2048x128, .f32⟩
  | .local _ .vmem, ⟨9, _⟩ => ⟨S1x2048x128, .f32⟩
  | .local _ .vmem, ⟨10, _⟩ => ⟨S4x3072, .f32⟩
  | .local _ .vmem, ⟨11, _⟩ => ⟨S1x3072, .f32⟩
  | .local _ .vmem, ⟨12, _⟩ => ⟨S1x128, .f32⟩
  | .local _ .vmem, ⟨13, _⟩ => ⟨S1x128, .f32⟩
  | .local _ .vmem, ⟨14, _⟩ => ⟨S1x2048, .f32⟩
  | .local _ .vmem, ⟨15, _⟩ => ⟨S1x2048, .f32⟩
  | .local _ .vmem, ⟨16, _⟩ => ⟨S128x2048, .bf16⟩
  | .local _ .vmem, ⟨17, _⟩ => ⟨S128x128, .bf16⟩
  | .local _ .vmem, ⟨18, _⟩ => ⟨S8x2048, .f32⟩
  | .local _ .vmem, ⟨19, _⟩ => ⟨S8x2048, .f32⟩
  | .local _ .vmem, ⟨20, _⟩ => ⟨S1x2048x128, .f32⟩
  | .local _ .vmem, ⟨21, _⟩ => ⟨S1x2048x128, .f32⟩
  | .local _ .vmem, ⟨22, _⟩ => ⟨S136x3072, .f32⟩
  | .local _ .vmem, ⟨23, _⟩ => ⟨S128x128, .f32⟩
  | .local _ .vmem, ⟨24, _⟩ => ⟨S8x2048, .f32⟩
  | _, _ => ⟨S256x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_0 : Ref sig .tc := ⟨.hbm, 45, rfl⟩
abbrev main_call1_v0 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_c_1 : Ref sig .tc := ⟨.hbm, 50, rfl⟩
abbrev main_call2_v0 : Ref sig .tc := ⟨.hbm, 51, rfl⟩
abbrev main_v20 : Ref sig .tc := ⟨.hbm, 52, rfl⟩
abbrev main_v21 : Ref sig .tc := ⟨.hbm, 53, rfl⟩
abbrev main_c_2 : Ref sig .tc := ⟨.hbm, 54, rfl⟩
abbrev main_call3_v0 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28_0 : Ref sig .tc := ⟨.hbm, 62, rfl⟩
abbrev main_v28_1 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S8x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x2048x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== Reference15Ideal.lean ====
abbrev S256x3072 : Shape := ⟨2, ![256, 3072]⟩
abbrev S256x2048 : Shape := ⟨2, ![256, 2048]⟩
abbrev S256x128 : Shape := ⟨2, ![256, 128]⟩
abbrev S32x3x3072 : Shape := ⟨3, ![32, 3, 3072]⟩
abbrev S32x32x64x128 : Shape := ⟨4, ![32, 32, 64, 128]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S32x8x3072 : Shape := ⟨3, ![32, 8, 3072]⟩
abbrev S32x11x3072 : Shape := ⟨3, ![32, 11, 3072]⟩
abbrev S1x3072 : Shape := ⟨2, ![1, 3072]⟩
abbrev S1x1x3072 : Shape := ⟨3, ![1, 1, 3072]⟩
abbrev S_ : Shape := ⟨0, ![]⟩
abbrev S32x8x2048 : Shape := ⟨3, ![32, 8, 2048]⟩
abbrev S32x8x512 : Shape := ⟨3, ![32, 8, 512]⟩
abbrev S256x32 : Shape := ⟨2, ![256, 32]⟩
abbrev S32x8x32 : Shape := ⟨3, ![32, 8, 32]⟩
abbrev S1x1x32 : Shape := ⟨3, ![1, 1, 32]⟩
abbrev S32x8x32x64 : Shape := ⟨4, ![32, 8, 32, 64]⟩
abbrev S32x8x32x1 : Shape := ⟨4, ![32, 8, 32, 1]⟩
abbrev S32x8x4x8x64 : Shape := ⟨5, ![32, 8, 4, 8, 64]⟩
abbrev S32x8x4x8 : Shape := ⟨4, ![32, 8, 4, 8]⟩
abbrev S32x1x4x8 : Shape := ⟨4, ![32, 1, 4, 8]⟩
abbrev S32x8x4x128 : Shape := ⟨4, ![32, 8, 4, 128]⟩
abbrev S32x8x4x8x1 : Shape := ⟨5, ![32, 8, 4, 8, 1]⟩
abbrev S32x4x8x64x128 : Shape := ⟨5, ![32, 4, 8, 64, 128]⟩
abbrev S32x4x8 : Shape := ⟨3, ![32, 4, 8]⟩
abbrev S32x4x8x1x1 : Shape := ⟨5, ![32, 4, 8, 1, 1]⟩
abbrev S32x2048x128 : Shape := ⟨3, ![32, 2048, 128]⟩

abbrev nBuf : Space → Nat
  | .hbm => 105
  | .vmem => 0
  | .smem => 0
  | _ => 0

abbrev bufTy : (tb : Table) → Fin (tcTables nBuf tb) → BufTy
  | .hbm, ⟨0, _⟩ => ⟨S256x3072, .f32⟩
  | .hbm, ⟨1, _⟩ => ⟨S256x2048, .f32⟩
  | .hbm, ⟨2, _⟩ => ⟨S256x128, .f32⟩
  | .hbm, ⟨3, _⟩ => ⟨S32x3x3072, .f32⟩
  | .hbm, ⟨4, _⟩ => ⟨S32x32x64x128, .f32⟩
  | .hbm, ⟨5, _⟩ => ⟨S4x3072, .f32⟩
  | .hbm, ⟨6, _⟩ => ⟨S3072, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S2048, .f32⟩
  | .hbm, ⟨11, _⟩ => ⟨S32x8x3072, .f32⟩
  | .hbm, ⟨12, _⟩ => ⟨S32x11x3072, .f32⟩
  | .hbm, ⟨13, _⟩ => ⟨S32x8x3072, .f32⟩
  | .hbm, ⟨14, _⟩ => ⟨S1x3072, .f32⟩
  | .hbm, ⟨15, _⟩ => ⟨S3072, .f32⟩
  | .hbm, ⟨16, _⟩ => ⟨S1x1x3072, .f32⟩
  | .hbm, ⟨17, _⟩ => ⟨S32x8x3072, .f32⟩
  | .hbm, ⟨18, _⟩ => ⟨S32x8x3072, .f32⟩
  | .hbm, ⟨19, _⟩ => ⟨S1x1x3072, .f32⟩
  | .hbm, ⟨20, _⟩ => ⟨S32x8x3072, .f32⟩
  | .hbm, ⟨21, _⟩ => ⟨S32x8x3072, .f32⟩
  | .hbm, ⟨22, _⟩ => ⟨S32x8x3072, .f32⟩
  | .hbm, ⟨23, _⟩ => ⟨S1x3072, .f32⟩
  | .hbm, ⟨24, _⟩ => ⟨S3072, .f32⟩
  | .hbm, ⟨25, _⟩ => ⟨S1x1x3072, .f32⟩
  | .hbm, ⟨26, _⟩ => ⟨S32x8x3072, .f32⟩
  | .hbm, ⟨27, _⟩ => ⟨S32x8x3072, .f32⟩
  | .hbm, ⟨28, _⟩ => ⟨S32x8x3072, .f32⟩
  | .hbm, ⟨29, _⟩ => ⟨S32x8x3072, .f32⟩
  | .hbm, ⟨30, _⟩ => ⟨S1x3072, .f32⟩
  | .hbm, ⟨31, _⟩ => ⟨S3072, .f32⟩
  | .hbm, ⟨32, _⟩ => ⟨S1x1x3072, .f32⟩
  | .hbm, ⟨33, _⟩ => ⟨S32x8x3072, .f32⟩
  | .hbm, ⟨34, _⟩ => ⟨S32x8x3072, .f32⟩
  | .hbm, ⟨35, _⟩ => ⟨S32x8x3072, .f32⟩
  | .hbm, ⟨36, _⟩ => ⟨S32x8x3072, .f32⟩
  | .hbm, ⟨37, _⟩ => ⟨S1x3072, .f32⟩
  | .hbm, ⟨38, _⟩ => ⟨S3072, .f32⟩
  | .hbm, ⟨39, _⟩ => ⟨S1x1x3072, .f32⟩
  | .hbm, ⟨40, _⟩ => ⟨S32x8x3072, .f32⟩
  | .hbm, ⟨41, _⟩ => ⟨S32x8x3072, .f32⟩
  | .hbm, ⟨42, _⟩ => ⟨S32x8x3072, .f32⟩
  | .hbm, ⟨43, _⟩ => ⟨S32x8x3072, .f32⟩
  | .hbm, ⟨44, _⟩ => ⟨S32x8x3072, .f32⟩
  | .hbm, ⟨45, _⟩ => ⟨S_, .f32⟩
  | .hbm, ⟨46, _⟩ => ⟨S32x8x3072, .f32⟩
  | .hbm, ⟨47, _⟩ => ⟨S32x8x3072, .f32⟩
  | .hbm, ⟨48, _⟩ => ⟨S_, .f32⟩
  | .hbm, ⟨49, _⟩ => ⟨S32x8x3072, .f32⟩
  | .hbm, ⟨50, _⟩ => ⟨S32x8x3072, .f32⟩
  | .hbm, ⟨51, _⟩ => ⟨S32x8x3072, .f32⟩
  | .hbm, ⟨52, _⟩ => ⟨S32x8x2048, .f32⟩
  | .hbm, ⟨53, _⟩ => ⟨S32x8x512, .f32⟩
  | .hbm, ⟨54, _⟩ => ⟨S256x32, .f32⟩
  | .hbm, ⟨55, _⟩ => ⟨S32x8x32, .f32⟩
  | .hbm, ⟨56, _⟩ => ⟨S1x1x32, .f32⟩
  | .hbm, ⟨57, _⟩ => ⟨S32x8x32, .f32⟩
  | .hbm, ⟨58, _⟩ => ⟨S32x8x32, .f32⟩
  | .hbm, ⟨59, _⟩ => ⟨S_, .f32⟩
  | .hbm, ⟨60, _⟩ => ⟨S32x8x32, .f32⟩
  | .hbm, ⟨61, _⟩ => ⟨S32x8x32, .f32⟩
  | .hbm, ⟨62, _⟩ => ⟨S32x8x32, .f32⟩
  | .hbm, ⟨63, _⟩ => ⟨S32x8x32, .f32⟩
  | .hbm, ⟨64, _⟩ => ⟨S32x8x32, .i1⟩
  | .hbm, ⟨65, _⟩ => ⟨S32x8x32, .f32⟩
  | .hbm, ⟨66, _⟩ => ⟨S32x8x32, .f32⟩
  | .hbm, ⟨67, _⟩ => ⟨S32x8x32, .f32⟩
  | .hbm, ⟨68, _⟩ => ⟨S32x8x32, .f32⟩
  | .hbm, ⟨69, _⟩ => ⟨S32x8x32, .f32⟩
  | .hbm, ⟨70, _⟩ => ⟨S32x8x32, .f32⟩
  | .hbm, ⟨71, _⟩ => ⟨S32x8x32, .f32⟩
  | .hbm, ⟨72, _⟩ => ⟨S32x8x32, .f32⟩
  | .hbm, ⟨73, _⟩ => ⟨S32, .f32⟩
  | .hbm, ⟨74, _⟩ => ⟨S32, .f32⟩
  | .hbm, ⟨75, _⟩ => ⟨S32x8x32x64, .f32⟩
  | .hbm, ⟨76, _⟩ => ⟨S32x8x32x1, .f32⟩
  | .hbm, ⟨77, _⟩ => ⟨S32x8x32x64, .f32⟩
  | .hbm, ⟨78, _⟩ => ⟨S32x8x32x64, .f32⟩
  | .hbm, ⟨79, _⟩ => ⟨S32x8x4x8x64, .f32⟩
  | .hbm, ⟨80, _⟩ => ⟨S1x1x32, .f32⟩
  | .hbm, ⟨81, _⟩ => ⟨S32x8x32, .f32⟩
  | .hbm, ⟨82, _⟩ => ⟨S32x8x32, .f32⟩
  | .hbm, ⟨83, _⟩ => ⟨S32x8x4x8, .f32⟩
  | .hbm, ⟨84, _⟩ => ⟨S_, .f32⟩
  | .hbm, ⟨85, _⟩ => ⟨S_, .f32⟩
  | .hbm, ⟨86, _⟩ => ⟨S32x8x4x8, .f32⟩
  | .hbm, ⟨87, _⟩ => ⟨S32x1x4x8, .f32⟩
  | .hbm, ⟨88, _⟩ => ⟨S32x8x4x8, .f32⟩
  | .hbm, ⟨89, _⟩ => ⟨S32x8x4x8, .f32⟩
  | .hbm, ⟨90, _⟩ => ⟨S32x8x4x8, .f32⟩
  | .hbm, ⟨91, _⟩ => ⟨S32x8x4x128, .f32⟩
  | .hbm, ⟨92, _⟩ => ⟨S32x8x4x8x1, .f32⟩
  | .hbm, ⟨93, _⟩ => ⟨S32x8x4x8x64, .f32⟩
  | .hbm, ⟨94, _⟩ => ⟨S32x8x4x8x64, .f32⟩
  | .hbm, ⟨95, _⟩ => ⟨S32x4x8x64x128, .f32⟩
  | .hbm, ⟨96, _⟩ => ⟨S32x4x8x64x128, .f32⟩
  | .hbm, ⟨97, _⟩ => ⟨S32x1x4x8, .f32⟩
  | .hbm, ⟨98, _⟩ => ⟨S32x4x8, .f32⟩
  | .hbm, ⟨99, _⟩ => ⟨S32x4x8, .f32⟩
  | .hbm, ⟨100, _⟩ => ⟨S32x4x8x1x1, .f32⟩
  | .hbm, ⟨101, _⟩ => ⟨S32x4x8x64x128, .f32⟩
  | .hbm, ⟨102, _⟩ => ⟨S32x4x8x64x128, .f32⟩
  | .hbm, ⟨103, _⟩ => ⟨S32x4x8x64x128, .f32⟩
  | .hbm, ⟨104, _⟩ => ⟨S32x2048x128, .f32⟩
  | _, _ => ⟨S256x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_call1_cst : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_call2_call0_cst : Ref sig .tc := ⟨.hbm, 84, rfl⟩
abbrev main_call2_call0_v0 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩

abbrev nD : Nat := 1
abbrev τ : Topo := Topo.v7x

variable {F : FTy → Type} [FloatOps F]
-- ==== Kernel12.lean ====
abbrev S16384x1024 : Shape := ⟨2, ![16384, 1024]⟩
abbrev S1024x5152 : Shape := ⟨2, ![1024, 5152]⟩
abbrev S1024x32 : Shape := ⟨2, ![1024, 32]⟩
abbrev S_ : Shape := ⟨0, ![]⟩
abbrev S1024x128 : Shape := ⟨2, ![1024, 128]⟩
abbrev S1x128 : Shape := ⟨2, ![1, 128]⟩
abbrev S16384x128 : Shape := ⟨2, ![16384, 128]⟩
abbrev S1024x1024 : Shape := ⟨2, ![1024, 1024]⟩

abbrev nBuf : Space → Nat
  | .hbm => 10
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x5152, .f32⟩
  | .hbm, ⟨2, _⟩ => ⟨S1024x32, .f32⟩
  | .hbm, ⟨3, _⟩ => ⟨S_, .i32⟩
  | .hbm, ⟨4, _⟩ => ⟨S_, .f32⟩
  | .hbm, ⟨5, _⟩ => ⟨S1024x128, .f32⟩
  | .hbm, ⟨6, _⟩ => ⟨S1024x128, .bf16⟩
  | .hbm, ⟨7, _⟩ => ⟨S_, .f32⟩
  | .hbm, ⟨8, _⟩ => ⟨S1x128, .f32⟩
  | .hbm, ⟨9, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S1024x128, .bf16⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S16384x1024 : Shape := ⟨2, ![16384, 1024]⟩
abbrev S1024x5152 : Shape := ⟨2, ![1024, 5152]⟩
abbrev S16384x5152 : Shape := ⟨2, ![16384, 5152]⟩
abbrev S16384x2048 : Shape := ⟨2, ![16384, 2048]⟩
abbrev S16384x3072 : Shape := ⟨2, ![16384, 3072]⟩
abbrev S16384x32 : Shape := ⟨2, ![16384, 32]⟩
abbrev S_ : Shape := ⟨0, ![]⟩
abbrev S16384x128 : Shape := ⟨2, ![16384, 128]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5152, .f32⟩
  | .hbm, ⟨2, _⟩ => ⟨S16384x5152, .f32⟩
  | .hbm, ⟨3, _⟩ => ⟨S16384x2048, .f32⟩
  | .hbm, ⟨4, _⟩ => ⟨S16384x3072, .f32⟩
  | .hbm, ⟨5, _⟩ => ⟨S16384x32, .f32⟩
  | .hbm, ⟨6, _⟩ => ⟨S_, .i32⟩
  | .hbm, ⟨7, _⟩ => ⟨S_, .f32⟩
  | .hbm, ⟨8, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel13.lean ====
abbrev S256x1024 : Shape := ⟨2, ![256, 1024]⟩
abbrev S1024x2608 : Shape := ⟨2, ![1024, 2608]⟩
abbrev S1024x48 : Shape := ⟨2, ![1024, 48]⟩
abbrev S_ : Shape := ⟨0, ![]⟩
abbrev S1024x128 : Shape := ⟨2, ![1024, 128]⟩
abbrev S1x128 : Shape := ⟨2, ![1, 128]⟩
abbrev S256x128 : Shape := ⟨2, ![256, 128]⟩

abbrev nBuf : Space → Nat
  | .hbm => 10
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S1024x2608, .f32⟩
  | .hbm, ⟨2, _⟩ => ⟨S1024x48, .f32⟩
  | .hbm, ⟨3, _⟩ => ⟨S_, .i32⟩
  | .hbm, ⟨4, _⟩ => ⟨S_, .f32⟩
  | .hbm, ⟨5, _⟩ => ⟨S1024x128, .f32⟩
  | .hbm, ⟨6, _⟩ => ⟨S1024x128, .bf16⟩
  | .hbm, ⟨7, _⟩ => ⟨S_, .f32⟩
  | .hbm, ⟨8, _⟩ => ⟨S1x128, .f32⟩
  | .hbm, ⟨9, _⟩ => ⟨S256x128, .f32⟩
  | .local _ .vmem, ⟨0, _⟩ => ⟨S256x1024, .f32⟩
  | .local _ .vmem, ⟨1, _⟩ => ⟨S1024x128, .bf16⟩
  | .local _ .vmem, ⟨2, _⟩ => ⟨S1x128, .f32⟩
  | .local _ .vmem, ⟨3, _⟩ => ⟨S256x128, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== Reference13Ideal.lean ====
abbrev S256x1024 : Shape := ⟨2, ![256, 1024]⟩
abbrev S1024x2608 : Shape := ⟨2, ![1024, 2608]⟩
abbrev S256x2608 : Shape := ⟨2, ![256, 2608]⟩
abbrev S256x1536 : Shape := ⟨2, ![256, 1536]⟩
abbrev S256x48 : Shape := ⟨2, ![256, 48]⟩
abbrev S_ : Shape := ⟨0, ![]⟩
abbrev S256x128 : Shape := ⟨2, ![256, 128]⟩

abbrev nBuf : Space → Nat
  | .hbm => 17
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x2608, .f32⟩
  | .hbm, ⟨2, _⟩ => ⟨S256x2608, .f32⟩
  | .hbm, ⟨3, _⟩ => ⟨S256x1024, .f32⟩
  | .hbm, ⟨4, _⟩ => ⟨S256x1536, .f32⟩
  | .hbm, ⟨5, _⟩ => ⟨S256x48, .f32⟩
  | .hbm, ⟨6, _⟩ => ⟨S_, .i32⟩
  | .hbm, ⟨7, _⟩ => ⟨S_, .f32⟩
  | .hbm, ⟨8, _⟩ => ⟨S256x128, .f32⟩
  | .hbm, ⟨9, _⟩ => ⟨S256x128, .f32⟩
  | .hbm, ⟨10, _⟩ => ⟨S256x128, .f32⟩
  | .hbm, ⟨11, _⟩ => ⟨S_, .f32⟩
  | .hbm, ⟨12, _⟩ => ⟨S256x128, .f32⟩
  | .hbm, ⟨13, _⟩ => ⟨S256x128, .f32⟩
  | .hbm, ⟨14, _⟩ => ⟨S_, .f32⟩
  | .hbm, ⟨15, _⟩ => ⟨S256x128, .f32⟩
  | .hbm, ⟨16, _⟩ => ⟨S256x128, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Proof.DenseFfn.lean ====
/- The dense feed-forward block: the kernel adds the hidden units up in eleven tiles and normalises at the last one; this is the reference's one product over all hidden units. -/
module

public import proofs.«01_k».proof.Proof.Gen.Kernel2Ideal.Value
public import proofs.«01_k».proof.Proof.Gen.Reference2Ideal.Read
public import Idealize.ShloMosaic.Lib.Pipeline.ValueKit
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.Ffn

open Cert.Kernel2Ideal Cert.Kernel2Ideal.Gen

variable (m : (ℓ : Loc nD τ sig) → Buf (Elt Ideal) ℓ)

/-- The reference's result as a function of its arguments. -/
abbrev REF (x : FVec Ideal Cert.Reference2Ideal.S16384x1024 .f32) (wg wu : FVec Ideal Cert.Reference2Ideal.S1024x2816 .f32)
    (wd : FVec Ideal Cert.Reference2Ideal.S2816x1024 .f32) (g b : FVec Ideal Cert.Reference2Ideal.S1024 .f32) :
    FVec Ideal Cert.Reference2Ideal.S16384x1024 .f32 :=
  Cert.Reference2Ideal.Read.val_main_v31 (F := Ideal) x wg wu wd g b

/-- Which block each window takes at a grid point. -/
theorem idx : ∀ t : Fin cfg0.N, win0_0.index t = ![t.val / 11, 0]
    ∧ win0_1.index t = ![0, t.val % 11]
    ∧ win0_2.index t = ![0, t.val % 11]
    ∧ win0_3.index t = ![t.val % 11, 0]
    ∧ win0_4.index t = ![0, 0]
    ∧ win0_5.index t = ![0, 0]
    ∧ win0_6.index t = ![t.val / 11, 0] :=
  (by decide +kernel : ∀ t : Fin grid0.N, _)

/-- The tile that fills the accumulator at the start is zero. -/
theorem zero_apply (j) : k0_pay1 (F := Ideal) j = 0 := by pointwise [k0_pay1]

/-- One tile's share of a result: the sum over its hidden units. -/
def part (xb : Vec Ideal S1024x1024 .bf16) (wg wu : Vec Ideal S1024x256 .bf16) (wd : Vec Ideal S256x1024 .bf16)
    (j : S1024x1024.Idx) : EReal :=
  ∑ k : Fin 256, (∑ l : Fin 1024, xb (ix2 (j 0) l) * wg (ix2 l k)) * Ideal.logistic (∑ l : Fin 1024, xb (ix2 (j 0) l) * wg (ix2 l k))
    * (∑ l : Fin 1024, xb (ix2 (j 0) l) * wu (ix2 l k)) * wd (ix2 k (j 1))

/-- What a step leaves in the accumulator: what was there and the tile's share. -/
theorem step_apply (xb : Vec Ideal S1024x1024 .bf16) (wg wu : Vec Ideal S1024x256 .bf16) (acc : Vec Ideal S1024x1024 .f32)
    (wd : Vec Ideal S256x1024 .bf16) (j) :
    k0_pay3 xb wg wu acc wd j = acc j + part xb wg wu wd j := by
  unfold part
  pointwise [k0_pay3]

/-- The rows that the block keeps from its first step are the block's rows at every later one. -/
theorem rows (c : Dev nD) : ∀ (n : ℕ) (hn : n < cfg0.N), (outsAt0 m c n hn).2.2 = k0_pay2 (iblk m c 0 ⟨n, hn⟩) := by
  have hA : ∀ t : Fin cfg0.N, t.val % 11 = 0 → (outsAt0 m c t.val t.isLt).2.2 = k0_pay2 (iblk m c 0 t) := fun t h => by
    rw [outsAt0_A m c t h (by omega)]; frame_out
  have hS : ∀ t : Fin cfg0.N, ¬ t.val % 11 = 0 → (outsAt0 m c t.val t.isLt).2.2
      = (outsAt0 m c (t.val - 1) (Nat.lt_of_le_of_lt (Nat.sub_le _ _) t.isLt)).2.2 := fun t h => by
    by_cases h1 : t.val % 11 = 10
    · rw [outsAt0_C m c t h h1]; rfl
    · rw [outsAt0_B m c t h h1]; rfl
  intro n
  induction n with
  | zero => intro hn; exact hA ⟨0, hn⟩ rfl
  | succ n ih =>
    intro hn
    by_cases h : (n + 1) % 11 = 0
    · exact hA ⟨n + 1, hn⟩ h
    · refine (hS ⟨n + 1, hn⟩ h).trans ((ih (by omega)).trans ?_)
      have hd : (n + 1) / 11 = n / 11 := by omega
      congr 1
      funext y
      blk_ext [iblk, V, idx ⟨n, by omega⟩, idx ⟨n + 1, hn⟩]

/-- The reference's product with the output weights, at the rows of a block. -/
abbrev DOT (c : Dev nD) : FVec Ideal Cert.Reference2Ideal.S16384x1024 .f32 :=
  Cert.Reference2Ideal.Read.val_main_v4 (F := Ideal) (m ((c : Thread nD τ).loc main_arg0)) (m ((c : Thread nD τ).loc main_arg1)) (m ((c : Thread nD τ).loc main_arg2)) (m ((c : Thread nD τ).loc main_arg3))

/-- The rows kept at a step are the rows the step before kept. -/
theorem rows_prev (c : Dev nD) (t : Fin cfg0.N) (h : ¬ t.val % 11 = 0) (hp : t.val - 1 < cfg0.N) :
    k0_pay2 (F := Ideal) (iblk m c 0 ⟨t.val - 1, hp⟩) = k0_pay2 (iblk m c 0 t) := by
  have hd : t.val / 11 = (t.val - 1) / 11 := by omega
  congr 1
  funext y
  blk_ext [iblk, V, idx t, idx ⟨t.val - 1, hp⟩]

/-- The accumulator at the last step of a block holds the reference's product. -/
theorem acc_last (c : Dev nD) (t : Fin cfg0.N) (h : t.val % 11 = 10) (ht : t.val / 11 < 16) (j : S1024x1024.Idx) :
    (outsAt0 m c t.val t.isLt).2.1 j
      = DOT m c (ix2 ⟨t.val / 11 * 1024 + (j 0).val, by have : (j 0).val < 1024 := (j 0).isLt; omega⟩ (j 1)) := by
  rw [Pipeline.eq_sum_fin_of_reset_step_apply_of_flush (fun n hn => (outsAt0 m c n hn).2.1) 11 (fun _ => (0 : EReal))
    (fun p j => part (k0_pay2 (iblk m c 0 p)) (iblk m c 1 p) (iblk m c 2 p) (iblk m c 3 p) j)
    (fun p hp j => by
      rw [outsAt0_A m c p hp (by omega)]; frame_out; rw [step_apply, zero_apply])
    (fun p hp j => by
      by_cases h1 : p.val % 11 = 10
      · rw [outsAt0_C m c p hp h1]; frame_out; simp only [read_unread_whole]; rw [step_apply, rows, rows_prev m c p hp]
      · rw [outsAt0_B m c p hp h1]; frame_out; simp only [read_unread_whole]; rw [step_apply, rows, rows_prev m c p hp]) t h j, zero_add]
  unfold part
  pointwise [k0_pay2, DOT, Cert.Reference2Ideal.Read.val_main_v0, Cert.Reference2Ideal.Read.val_main_call0_v0, Cert.Reference2Ideal.Read.val_main_call0_v1, Cert.Reference2Ideal.Read.val_main_call0_cst, Cert.Reference2Ideal.Read.val_main_call0_v2, Cert.Reference2Ideal.Read.val_main_call0_v3, Cert.Reference2Ideal.Read.val_main_call0_cst_0, Cert.Reference2Ideal.Read.val_main_call0_v4, Cert.Reference2Ideal.Read.val_main_call0_v5, Cert.Reference2Ideal.Read.val_main_v1, Cert.Reference2Ideal.Read.val_main_v2, Cert.Reference2Ideal.Read.val_main_v3, Cert.Reference2Ideal.Read.val_main_v4]
  refine Fin.sum_mul_add_congr fun s k hl => ?_
  simp only [Ideal.logistic]
  blk_point [iblk, V, idx ⟨_, Pipeline.run_point_lt_of_flush t h s⟩]

/-- The same, for the whole accumulator. -/
theorem acc_last_eq (c : Dev nD) (t : Fin cfg0.N) (h : t.val % 11 = 10) (ht : t.val / 11 < 16) :
    (outsAt0 m c t.val t.isLt).2.1 = fun j =>
      DOT m c (ix2 ⟨t.val / 11 * 1024 + (j 0).val, by have : (j 0).val < 1024 := (j 0).isLt; omega⟩ (j 1)) :=
  funext fun j => acc_last m c t h ht j

/-- The output is made from the accumulator that the last step leaves. -/
theorem out_last (c : Dev nD) (t : Fin cfg0.N) (h : t.val % 11 = 10) :
    (outsAt0 m c t.val t.isLt).1 = k0_pay4 (iblk m c 0 t) ((outsAt0 m c t.val t.isLt).2.1) (iblk m c 4 t) (iblk m c 5 t) := by
  rw [outsAt0_C m c t (by omega) h]; frame_out

/-- What a block's last step writes back is the reference at the place where the block lies. -/
theorem point (c : Dev nD) (t : Fin cfg0.N) (h : t.val % 11 = 10) (y : S1024x1024.Idx) :
    (outsAt0 m c t.val t.isLt).1 y = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 6).blk t).view.emb y) := by
  have ht : t.val / 11 < 16 := by have := lt_of_lt_of_eq t.isLt N_0; omega
  rw [out_last m c t h, acc_last_eq m c t h ht]
  pointwise [k0_pay4, REF, Cert.Reference2Ideal.Read.val_main_cst, Cert.Reference2Ideal.Read.val_main_v5, Cert.Reference2Ideal.Read.val_main_v6, Cert.Reference2Ideal.Read.val_main_v7, Cert.Reference2Ideal.Read.val_main_cst_0, Cert.Reference2Ideal.Read.val_main_v8, Cert.Reference2Ideal.Read.val_main_v9, Cert.Reference2Ideal.Read.val_main_cst_1, Cert.Reference2Ideal.Read.val_main_v10, Cert.Reference2Ideal.Read.val_main_v11, Cert.Reference2Ideal.Read.val_main_v12, Cert.Reference2Ideal.Read.val_main_v13, Cert.Reference2Ideal.Read.val_main_v14, Cert.Reference2Ideal.Read.val_main_cst_2, Cert.Reference2Ideal.Read.val_main_v15, Cert.Reference2Ideal.Read.val_main_v16, Cert.Reference2Ideal.Read.val_main_cst_3, Cert.Reference2Ideal.Read.val_main_v17, Cert.Reference2Ideal.Read.val_main_v18, Cert.Reference2Ideal.Read.val_main_v19, Cert.Reference2Ideal.Read.val_main_v20, Cert.Reference2Ideal.Read.val_main_cst_4, Cert.Reference2Ideal.Read.val_main_v21, Cert.Reference2Ideal.Read.val_main_v22, Cert.Reference2Ideal.Read.val_main_v23, Cert.Reference2Ideal.Read.val_main_v24, Cert.Reference2Ideal.Read.val_main_v25, Cert.Reference2Ideal.Read.val_main_v26, Cert.Reference2Ideal.Read.val_main_v27, Cert.Reference2Ideal.Read.val_main_v28, Cert.Reference2Ideal.Read.val_main_v29, Cert.Reference2Ideal.Read.val_main_v30, Cert.Reference2Ideal.Read.val_main_v31]
  blk_point [iblk, V, idx t]

/-- The result array after the run is the reference's. -/
theorem final (c : Dev nD) : (dats m 0 c).arrAt 6 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  exact point m c t ((flush0_6 t).mp hf) y

end Cert.Kernel2Ideal.Ffn

end
-- ==== Proof.DenseFfnClaim.lean ====
/- Kernel and reference end with the same result, from equal arguments. -/
module

public import proofs.«01_k».proof.Defs
public import proofs.«01_k».proof.Proof.DenseFfn

@[expose] public section

set_option maxRecDepth 16384

noncomputable section

namespace Cert.Proof

open Idealize.ShloMosaic Idealize.ShloMosaic.TcCoe Idealize.SL.Sem

/-- From equal arguments the kernel ends with the reference's result. -/
theorem algebraic2 : algebraic_Kernel2Ideal_Reference2Ideal := by
  intro m ρ m' ρ' _ hagree
  have res0 : ∀ c : Dev Cert.Kernel2Ideal.nD, Cert.Reference2Ideal.Read.val_main_v31 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5))
      = (Cert.Kernel2Ideal.Gen.dats m 0 c).arrAt 6 Cert.Kernel2Ideal.cfg0.N := fun c => by
    rw [(hagree c).1, (hagree c).2.1, (hagree c).2.2.1, (hagree c).2.2.2.1, (hagree c).2.2.2.2.1, (hagree c).2.2.2.2.2]
    exact (Cert.Kernel2Ideal.Ffn.final m c).symm
  exact ⟨fun c => (Cert.Kernel2Ideal.Gen.dats m 0 c).arrAt 6 Cert.Kernel2Ideal.cfg0.N,
    Cert.Kernel2Ideal.Value.run_blocks m ρ,
    (θ_run _ _ _).mono (fun _ h c => ⟨((h c).1).trans ((Cert.Reference2Ideal.Read.val_main_v31_eq m' c).trans (res0 c)), (h c).2.1, (h c).2.2.1, (h c).2.2.2.1, (h c).2.2.2.2.1, (h c).2.2.2.2.2.1, (h c).2.2.2.2.2.2⟩)
      (Cert.Reference2Ideal.Value.run (F := Ideal) m' ρ')⟩

end Cert.Proof

end
-- ==== Proof.ExpertsFrame.lean ====
/- The experts' call runs at every table of experts: over the reals. -/
module

public import proofs.«01_k».proof.Proof.Gen.Kernel6Ideal.Flash.Runs
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.Kernel6Ideal.Route

open Cert.Kernel6Ideal Cert.Kernel6Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The proof's resource algebra: that of the staging cells. -/
abbrev EP : Emb (UR sig nD τ) 𝕄 := emb₁

/-- The words that steer the call: the expert of every block of rows, each one of the eight, and the number of blocks in use. -/
abbrev Tab : Type := {p : (S73.Idx → BitVec 32) × (S1.Idx → BitVec 32) // ∀ x, (p.1 x).toNat < 8}

variable (ch : Tab)

/-- The experts of the blocks. -/
abbrev experts (ch : Tab) : S73.Idx → BitVec 32 := ch.1.1
/-- The number of blocks in use. -/
abbrev used (ch : Tab) : S1.Idx → BitVec 32 := ch.1.2

/-- The two tables as the launch holds them. -/
def tabs (ch : Tab) : pre0.Contents (Elt Ideal) := fun | ⟨0, _⟩ => experts ch | ⟨1, _⟩ => used ch | ⟨_ + 2, h⟩ => absurd h (by simp)

/-- The launch memory holds these tables. -/
def Pinned (m : (ℓ : Loc nD τ sig) → Buf (Elt Ideal) ℓ) : Prop :=
  (∀ c : Dev nD, m ((c : Thread nD τ).loc main_arg1) = experts ch)
  ∧ (∀ c : Dev nD, m ((c : Thread nD τ).loc main_arg2) = used ch)

/-- The column tile that a weight window takes is one of the eleven: the point's own, or the last one. -/
theorem tile_le : ∀ (b : BitVec 1) (j : Fin 11), (Scalar.select b (BitVec.ofNat 32 j.val) 10#32 : BitVec 32).toNat ≤ 10 := by decide

/-- The block of a gate weight lies inside the array. -/
theorem inb1 (i : grid0.Coords) (a) : (cc0_transform_1 k0_off1_inb numel1_S1 inb_S1_S1_0 (tabs ch) i a + 1) * S1x1024x256.size a ≤ S8x1024x2816.size a := by
  unfold cc0_transform_1
  have he : ((tabs ch).at 0 (Rect.unit (s := S73) ![(Scalar.indexCast (BitVec.ofNat 32 (i 0).val) : Index).toNat] S1.size (k0_off1_inb i)) numel1_S1 : BitVec 32).toNat < 8 := ch.2 _
  have hj := fun b => tile_le b (i 1)
  fin_cases a
  · show (_ + 1) * 1 ≤ 8
    exact Nat.le_trans (Nat.mul_one _).le he
  · show (0 + 1) * 1024 ≤ 1024
    omega
  · exact Nat.le_trans (Nat.mul_le_mul_right 256 (Nat.succ_le_succ (hj _))) (show (10 + 1) * 256 ≤ 2816 by decide)

/-- The block of an up weight lies inside the array. -/
theorem inb2 (i : grid0.Coords) (a) : (cc0_transform_2 k0_off1_inb numel1_S1 inb_S1_S1_0 (tabs ch) i a + 1) * S1x1024x256.size a ≤ S8x1024x2816.size a :=
  inb1 ch i a

/-- The block of a down weight lies inside the array. -/
theorem inb3 (i : grid0.Coords) (a) : (cc0_transform_3 k0_off1_inb numel1_S1 inb_S1_S1_0 (tabs ch) i a + 1) * S1x256x1024.size a ≤ S8x2816x1024.size a := by
  unfold cc0_transform_3
  have he : ((tabs ch).at 0 (Rect.unit (s := S73) ![(Scalar.indexCast (BitVec.ofNat 32 (i 0).val) : Index).toNat] S1.size (k0_off1_inb i)) numel1_S1 : BitVec 32).toNat < 8 := ch.2 _
  have hj := fun b => tile_le b (i 1)
  fin_cases a
  · show (_ + 1) * 1 ≤ 8
    exact Nat.le_trans (Nat.mul_one _).le he
  · exact Nat.le_trans (Nat.mul_le_mul_right 256 (Nat.succ_le_succ (hj _))) (show (10 + 1) * 256 ≤ 2816 by decide)
  · show (0 + 1) * 1024 ≤ 1024
    omega

/-- Every block that the pipeline moves lies inside its array, at whole words. -/
theorem ok_pfN : ok0 (F := Ideal) (tabs ch) :=
  ⟨fun i => ⟨inb1 ch i, .inr (Affine.block_words_dvd (s := S8x1024x2816) (p := EltTy.packing .bf16) (by decide) (by decide))⟩,
   fun i => ⟨inb2 ch i, .inr (Affine.block_words_dvd (s := S8x1024x2816) (p := EltTy.packing .bf16) (by decide) (by decide))⟩,
   fun i => ⟨inb3 ch i, .inr (Affine.block_words_dvd (s := S8x2816x1024) (p := EltTy.packing .bf16) (by decide) (by decide))⟩⟩

/-- The tables are admissible; the pipeline at them. -/
def adm (ch : Tab) : (pcfg0 (F := Ideal)).Adm := ⟨tabs ch, ok_pfN ch⟩
abbrev cfgT (ch : Tab) : Pipeline.Cfg sig Λ₀ := cfg0 (F := Ideal) (adm ch)
abbrev pcs (ch : Tab) : Fin 1 → Pipeline.Cfg sig Λ₀ := Pipeline.pin (pcfgs (F := Ideal)) fun _ => adm ch

variable (m : (ℓ : Loc nD τ sig) → Buf (Elt Ideal) ℓ) (ρ : Dev nD → PrngReg)

abbrev crd (t : Fin (cfgT ch).N) : (cfgT ch).grid.Coords := (cfgT ch).grid.coords t

abbrev ms0_0 (t : Fin (cfgT ch).N) : Memref sig .tc .vmem S512x1024 .f32 := spec0_0.stage ((cfgT ch).slots t (0 : Fin 5))
abbrev hs0_0 (t : Fin (cfgT ch).N) : (ms0_0 ch t).IsWhole := hstage0_0 (((cfgT ch).slots t (0 : Fin 5)).cast nbuf0_0)
abbrev ms0_1 (t : Fin (cfgT ch).N) : Memref sig .tc .vmem S1x1024x256 .bf16 := spec0_1.stage ((cfgT ch).slots t (1 : Fin 5))
abbrev hs0_1 (t : Fin (cfgT ch).N) : (ms0_1 ch t).IsWhole := hstage0_1 (((cfgT ch).slots t (1 : Fin 5)).cast nbuf0_1)
abbrev ms0_2 (t : Fin (cfgT ch).N) : Memref sig .tc .vmem S1x1024x256 .bf16 := spec0_2.stage ((cfgT ch).slots t (2 : Fin 5))
abbrev hs0_2 (t : Fin (cfgT ch).N) : (ms0_2 ch t).IsWhole := hstage0_2 (((cfgT ch).slots t (2 : Fin 5)).cast nbuf0_2)
abbrev ms0_3 (t : Fin (cfgT ch).N) : Memref sig .tc .vmem S1x256x1024 .bf16 := spec0_3.stage ((cfgT ch).slots t (3 : Fin 5))
abbrev hs0_3 (t : Fin (cfgT ch).N) : (ms0_3 ch t).IsWhole := hstage0_3 (((cfgT ch).slots t (3 : Fin 5)).cast nbuf0_3)
abbrev ms0_4 (t : Fin (cfgT ch).N) : Memref sig .tc .vmem S512x1024 .f32 := spec0_4.stage ((cfgT ch).slots t (4 : Fin 5))
abbrev hs0_4 (t : Fin (cfgT ch).N) : (ms0_4 ch t).IsWhole := hstage0_4 (((cfgT ch).slots t (4 : Fin 5)).cast nbuf0_4)

def iblk (c : Dev nD) (w : Fin (cfgT ch).W) (t : Fin (cfgT ch).N) : (((cfgT ch).win w).xblock (crd ch t)).Idx → Elt Ideal ((cfgT ch).win w).elt :=
  (((cfgT ch).win w).blk t).view.read (Elt Ideal) ((s₀ m ρ).mem (((cfgT ch).win w).arr.view.loc (c : Thread nD τ)))

abbrev P0_0 (t : Fin (cfgT ch).N) : Prop := (Scalar.cmpi .ne (Scalar.extui (Scalar.andi (Scalar.cmpi .slt (BitVec.ofNat 32 ((crd ch t) 0).val) (View.readAt (Elt Ideal) (tbM0_1).view (Rect.unit (s := S1) ![0] S1.size inb_S1_S1_0).toLoadRect (used ch) (Shape.Idx.first (numel1_S1.symm ▸ Nat.one_pos)))) (Scalar.cmpi .eq (BitVec.ofNat 32 ((crd ch t) 1).val) 0#32))) 0#32) = 1#1
abbrev P0_1 (t : Fin (cfgT ch).N) : Prop := (Scalar.cmpi .ne (Scalar.extui (Scalar.cmpi .slt (BitVec.ofNat 32 ((crd ch t) 0).val) (View.readAt (Elt Ideal) (tbM0_1).view (Rect.unit (s := S1) ![0] S1.size inb_S1_S1_0).toLoadRect (used ch) (Shape.Idx.first (numel1_S1.symm ▸ Nat.one_pos))))) 0#32) = 1#1
abbrev P0_2 (t : Fin (cfgT ch).N) : Prop := k0_cond3 (crd ch t) (View.readAt (Elt Ideal) (tbM0_1).view (Rect.unit (s := S1) ![0] S1.size inb_S1_S1_0).toLoadRect (used ch) (Shape.Idx.first (numel1_S1.symm ▸ Nat.one_pos))) = 1#1
abbrev P0_3 (t : Fin (cfgT ch).N) : Prop := k0_cond4 (crd ch t) (View.readAt (Elt Ideal) (tbM0_1).view (Rect.unit (s := S1) ![0] S1.size inb_S1_S1_0).toLoadRect (used ch) (Shape.Idx.first (numel1_S1.symm ▸ Nat.one_pos))) = 1#1

/-- The word of the second table. -/
abbrev nu (ch : Tab) : BitVec 32 := (View.readAt (Elt Ideal) (tbM0_1).view (Rect.unit (s := S1) ![0] S1.size inb_S1_S1_0).toLoadRect (used ch) (Shape.Idx.first (numel1_S1.symm ▸ Nat.one_pos)))

/-- Whether the scratch buffers hold nothing determined before position `n`: at the start, and for good if no block is in use. -/
def unset (n : ℕ) : Bool := decide (n = 0) || !(Scalar.cmpi .slt 0#32 (nu ch) == 1#1)

theorem first_form : ∀ (b : BitVec 1) (j : Fin 11), (Scalar.cmpi .ne (Scalar.extui (Scalar.andi b (Scalar.cmpi .eq (BitVec.ofNat 32 j.val) 0#32)) : BitVec 32) 0#32 = 1#1) ↔ (b = 1#1 ∧ j.val = 0) := by decide
theorem used_form : ∀ b : BitVec 1, (Scalar.cmpi .ne (Scalar.extui b : BitVec 32) 0#32 = 1#1) ↔ b = 1#1 := by decide
theorem last_form : ∀ (b : BitVec 1) (j : Fin 11), (Scalar.cmpi .ne (Scalar.extui (Scalar.andi b (Scalar.cmpi .eq (BitVec.ofNat 32 j.val) 10#32)) : BitVec 32) 0#32 = 1#1) ↔ (b = 1#1 ∧ j.val = 10) := by decide
theorem zero_form : ∀ (b : BitVec 1) (j : Fin 11), (Scalar.cmpi .ne (Scalar.extui (Scalar.andi (Scalar.xori b 1#1) (Scalar.cmpi .eq (BitVec.ofNat 32 j.val) 10#32)) : BitVec 32) 0#32 = 1#1) ↔ (b ≠ 1#1 ∧ j.val = 10) := by decide

/-- Whether the point's block is in use. -/
abbrev inUse (t : Fin (cfgT ch).N) : BitVec 1 := Scalar.cmpi .slt (BitVec.ofNat 32 ((crd ch t) 0).val) (nu ch)

theorem P0_iff (t : Fin (cfgT ch).N) : P0_0 ch t ↔ (inUse ch t = 1#1 ∧ ((crd ch t) 1).val = 0) := first_form _ ((crd ch t) 1)
theorem P1_iff (t : Fin (cfgT ch).N) : P0_1 ch t ↔ inUse ch t = 1#1 := used_form _
theorem P2_iff (t : Fin (cfgT ch).N) : P0_2 ch t ↔ (inUse ch t = 1#1 ∧ ((crd ch t) 1).val = 10) := last_form _ ((crd ch t) 1)
theorem P3_iff (t : Fin (cfgT ch).N) : P0_3 ch t ↔ (inUse ch t ≠ 1#1 ∧ ((crd ch t) 1).val = 10) := zero_form _ ((crd ch t) 1)

/-- A table of zeros. -/
def zeros : Tab := ⟨(fun _ => 0#32, fun _ => 0#32), fun _ => show (0#32 : BitVec 32).toNat < 8 by decide⟩

theorem flush_zeros : ∀ t : Fin (cfgT zeros).N, ((cfgT zeros).win (4 : Fin 5)).flush t = decide (((crd zeros t) 1).val = 10) := by decide +kernel

/-- The result's block is written back after the last column tile. -/
theorem flush_eq (t : Fin (cfgT ch).N) : ((cfgT ch).win (4 : Fin 5)).flush t = decide (((crd ch t) 1).val = 10) := flush_zeros t

/-- The result's buffer is left alone before the last column tile, and only there. -/
theorem idle_eq (t : Fin (cfgT ch).N) : (cfgT ch).idle (4 : Fin 5) ((cfgT ch).grid.coords t) = !decide (((crd ch t) 1).val = 10) := by
  have e : (cfgT ch).idle (4 : Fin 5) ((cfgT ch).grid.coords t) = (!(k0_cond3 (crd ch t) (nu ch) == 1#1) && !(k0_cond4 (crd ch t) (nu ch) == 1#1)) := rfl
  have h2 : k0_cond3 (crd ch t) (nu ch) = 1#1 ↔ (inUse ch t = 1#1 ∧ ((crd ch t) 1).val = 10) := P2_iff ch t
  have h3 : k0_cond4 (crd ch t) (nu ch) = 1#1 ↔ (inUse ch t ≠ 1#1 ∧ ((crd ch t) 1).val = 10) := P3_iff ch t
  rw [e]
  by_cases hj : ((crd ch t) 1).val = 10
  · by_cases hb : inUse ch t = 1#1
    · rw [h2.2 ⟨hb, hj⟩, decide_eq_true hj]; rfl
    · rw [h3.2 ⟨hb, hj⟩, decide_eq_true hj]; simp
  · have n2 : ¬ k0_cond3 (crd ch t) (nu ch) = 1#1 := fun h => hj (h2.1 h).2
    have n3 : ¬ k0_cond4 (crd ch t) (nu ch) = 1#1 := fun h => hj (h3.1 h).2
    rw [decide_eq_false hj, beq_eq_false_iff_ne.2 n2, beq_eq_false_iff_ne.2 n3]; rfl

/-- Before every point the result's buffer holds nothing that is still to be written back. -/
theorem fresh_eq (t : Fin (cfgT ch).N) : (cfgT ch).fresh (4 : Fin 5) t.val = true :=
  Pipeline.Cfg.fresh_tab (cfgT ch) (4 : Fin 5) (fun _ => true) rfl (fun t => by
    rw [flush_eq, idle_eq]; cases decide (((crd ch t) 1).val = 10) <;> rfl) t.val (Nat.le_of_lt t.isLt)

/-- If some block is in use, the first one is. -/
theorem some_used (k : Fin 73) (v : BitVec 32) (h : Scalar.cmpi .slt (BitVec.ofNat 32 k.val) v = 1#1) : Scalar.cmpi .slt 0#32 v = 1#1 := by
  have e : ∀ a : BitVec 32, Scalar.cmpi .slt a v = BitVec.ofBool (a.slt v) := fun _ => rfl
  have h1 : ∀ c : Bool, BitVec.ofBool c = 1#1 ↔ c = true := by decide
  rw [e, h1] at h ⊢
  rw [BitVec.slt_iff_toInt_lt] at h ⊢
  have hk : ∀ k : Fin 73, (0 : Int) ≤ (BitVec.ofNat 32 k.val).toInt := by decide
  have h0 : (0#32 : BitVec 32).toInt = 0 := by decide
  have := hk k
  omega

theorem unset_succ_used (t : Fin (cfgT ch).N) (h : inUse ch t = 1#1) : unset ch (t.val + 1) = false := by
  have h0 := some_used ((crd ch t) 0) (nu ch) h
  unfold unset
  rw [h0]; simp

/-- The first point is that of the first block and the first column tile. -/
theorem crd_zero : ((grid0.coords ⟨0, by decide⟩) 0).val = 0 ∧ ((grid0.coords ⟨0, by decide⟩) 1).val = 0 := by decide +kernel

theorem unset_used (t : Fin (cfgT ch).N) (h : inUse ch t = 1#1) (hj : ((crd ch t) 1).val ≠ 0) : unset ch t.val = false := by
  have h0 := some_used ((crd ch t) 0) (nu ch) h
  have ht : t.val ≠ 0 := fun h => hj (by
    have e : t = ⟨0, t.pos⟩ := Fin.ext h
    rw [e]; exact crd_zero.2)
  unfold unset
  rw [h0]; simp [ht]

theorem unset_unused (t : Fin (cfgT ch).N) (h : inUse ch t ≠ 1#1) : unset ch (t.val + 1) = unset ch t.val := by
  unfold unset
  by_cases ht : t.val = 0
  · have hn : ¬ Scalar.cmpi .slt 0#32 (nu ch) = 1#1 := fun e => h (by
      have e' : t = ⟨0, t.pos⟩ := Fin.ext ht
      have hz : ((crd ch t) 0).val = 0 := by rw [e']; exact crd_zero.1
      show Scalar.cmpi .slt (BitVec.ofNat 32 ((crd ch t) 0).val) (nu ch) = 1#1
      rw [hz]; exact e)
    rw [beq_eq_false_iff_ne.2 hn]; simp
  · simp [ht]

theorem conds_A (t : Fin (cfgT ch).N) : P0_0 ch t → P0_0 ch t ∧ P0_1 ch t ∧ ¬P0_2 ch t ∧ ¬P0_3 ch t ∧ True := fun q0 =>
  ⟨q0, (P1_iff ch t).2 ((P0_iff ch t).1 q0).1, fun h => absurd (((P2_iff ch t).1 h).2.symm.trans ((P0_iff ch t).1 q0).2) (by decide), fun h => ((P3_iff ch t).1 h).1 ((P0_iff ch t).1 q0).1, trivial⟩
theorem conds_B (t : Fin (cfgT ch).N) : ¬P0_0 ch t → P0_1 ch t → ¬P0_2 ch t → ¬P0_0 ch t ∧ P0_1 ch t ∧ ¬P0_2 ch t ∧ ¬P0_3 ch t ∧ True := fun q0 q1 q2 =>
  ⟨q0, q1, q2, fun h => ((P3_iff ch t).1 h).1 ((P1_iff ch t).1 q1), trivial⟩
theorem conds_C (t : Fin (cfgT ch).N) : ¬P0_0 ch t → P0_1 ch t → P0_2 ch t → ¬P0_0 ch t ∧ P0_1 ch t ∧ P0_2 ch t ∧ ¬P0_3 ch t ∧ True := fun q0 q1 q2 =>
  ⟨q0, q1, q2, fun h => ((P3_iff ch t).1 h).1 ((P1_iff ch t).1 q1), trivial⟩
theorem conds_D (t : Fin (cfgT ch).N) : ¬P0_0 ch t → ¬P0_1 ch t → ¬P0_3 ch t → ¬P0_0 ch t ∧ ¬P0_1 ch t ∧ ¬P0_2 ch t ∧ ¬P0_3 ch t ∧ True := fun q0 q1 q2 =>
  ⟨q0, q1, fun h => q1 ((P1_iff ch t).2 ((P2_iff ch t).1 h).1), q2, trivial⟩
theorem conds_E (t : Fin (cfgT ch).N) : ¬P0_0 ch t → ¬P0_1 ch t → P0_3 ch t → ¬P0_0 ch t ∧ ¬P0_1 ch t ∧ ¬P0_2 ch t ∧ P0_3 ch t ∧ True := fun q0 q1 q2 =>
  ⟨q0, q1, fun h => q1 ((P1_iff ch t).2 ((P2_iff ch t).1 h).1), q2, trivial⟩
theorem sched_A (t : Fin (cfgT ch).N) : P0_0 ch t → (cfgT ch).idle (4 : Fin 5) ((cfgT ch).grid.coords t) = true ∧ ((cfgT ch).win (4 : Fin 5)).flush t = false ∧ (cfgT ch).fresh (4 : Fin 5) t.val = true ∧ unset ch (t.val + 1) = false ∧ unset ch (t.val + 1) = false := fun q0 => by
  have hj : ¬ ((crd ch t) 1).val = 10 := fun h => absurd (h.symm.trans ((P0_iff ch t).1 q0).2) (by decide)
  have hi : (cfgT ch).idle (4 : Fin 5) ((cfgT ch).grid.coords t) = true := by rw [idle_eq, decide_eq_false hj]; rfl
  have hf : ((cfgT ch).win (4 : Fin 5)).flush t = false := by rw [flush_eq, decide_eq_false hj]
  have u := unset_succ_used ch t ((P0_iff ch t).1 q0).1
  exact ⟨hi, hf, fresh_eq ch t, u, u⟩
theorem sched_B (t : Fin (cfgT ch).N) : ¬P0_0 ch t → P0_1 ch t → ¬P0_2 ch t → (cfgT ch).idle (4 : Fin 5) ((cfgT ch).grid.coords t) = true ∧ ((cfgT ch).win (4 : Fin 5)).flush t = false ∧ (cfgT ch).fresh (4 : Fin 5) t.val = true ∧ unset ch t.val = false ∧ unset ch (t.val + 1) = false ∧ unset ch t.val = false ∧ unset ch (t.val + 1) = false := fun q0 q1 q2 => by
  have hj : ¬ ((crd ch t) 1).val = 10 := fun h => q2 ((P2_iff ch t).2 ⟨(P1_iff ch t).1 q1, h⟩)
  have hi : (cfgT ch).idle (4 : Fin 5) ((cfgT ch).grid.coords t) = true := by rw [idle_eq, decide_eq_false hj]; rfl
  have hf : ((cfgT ch).win (4 : Fin 5)).flush t = false := by rw [flush_eq, decide_eq_false hj]
  have u1 := unset_succ_used ch t ((P1_iff ch t).1 q1)
  have u0 := unset_used ch t ((P1_iff ch t).1 q1) fun h => q0 ((P0_iff ch t).2 ⟨(P1_iff ch t).1 q1, h⟩)
  exact ⟨hi, hf, fresh_eq ch t, u0, u1, u0, u1⟩
theorem sched_C (t : Fin (cfgT ch).N) : ¬P0_0 ch t → P0_1 ch t → P0_2 ch t → (cfgT ch).idle (4 : Fin 5) ((cfgT ch).grid.coords t) = false ∧ ((cfgT ch).win (4 : Fin 5)).flush t = true ∧ (cfgT ch).fresh (4 : Fin 5) t.val = true ∧ unset ch t.val = false ∧ unset ch (t.val + 1) = false ∧ unset ch t.val = false ∧ unset ch (t.val + 1) = false := fun q0 q1 q2 => by
  have hj : ((crd ch t) 1).val = 10 := ((P2_iff ch t).1 q2).2
  have hi : (cfgT ch).idle (4 : Fin 5) ((cfgT ch).grid.coords t) = false := by rw [idle_eq, decide_eq_true hj]; rfl
  have hf : ((cfgT ch).win (4 : Fin 5)).flush t = true := by rw [flush_eq, decide_eq_true hj]
  have u1 := unset_succ_used ch t ((P1_iff ch t).1 q1)
  have u0 := unset_used ch t ((P1_iff ch t).1 q1) fun h => q0 ((P0_iff ch t).2 ⟨(P1_iff ch t).1 q1, h⟩)
  exact ⟨hi, hf, fresh_eq ch t, u0, u1, u0, u1⟩
theorem sched_D (t : Fin (cfgT ch).N) : ¬P0_0 ch t → ¬P0_1 ch t → ¬P0_3 ch t → (cfgT ch).idle (4 : Fin 5) ((cfgT ch).grid.coords t) = true ∧ ((cfgT ch).win (4 : Fin 5)).flush t = false ∧ (cfgT ch).fresh (4 : Fin 5) t.val = true ∧ unset ch (t.val + 1) = unset ch t.val := fun q0 q1 q2 => by
  have hj : ¬ ((crd ch t) 1).val = 10 := fun h => q2 ((P3_iff ch t).2 ⟨fun e => q1 ((P1_iff ch t).2 e), h⟩)
  have hi : (cfgT ch).idle (4 : Fin 5) ((cfgT ch).grid.coords t) = true := by rw [idle_eq, decide_eq_false hj]; rfl
  have hf : ((cfgT ch).win (4 : Fin 5)).flush t = false := by rw [flush_eq, decide_eq_false hj]
  exact ⟨hi, hf, fresh_eq ch t, unset_unused ch t fun e => q1 ((P1_iff ch t).2 e)⟩
theorem sched_E (t : Fin (cfgT ch).N) : ¬P0_0 ch t → ¬P0_1 ch t → P0_3 ch t → (cfgT ch).idle (4 : Fin 5) ((cfgT ch).grid.coords t) = false ∧ ((cfgT ch).win (4 : Fin 5)).flush t = true ∧ (cfgT ch).fresh (4 : Fin 5) t.val = true ∧ unset ch (t.val + 1) = unset ch t.val := fun q0 q1 q2 => by
  have hj : ((crd ch t) 1).val = 10 := ((P3_iff ch t).1 q2).2
  have hi : (cfgT ch).idle (4 : Fin 5) ((cfgT ch).grid.coords t) = false := by rw [idle_eq, decide_eq_true hj]; rfl
  have hf : ((cfgT ch).win (4 : Fin 5)).flush t = true := by rw [flush_eq, decide_eq_true hj]
  exact ⟨hi, hf, fresh_eq ch t, unset_unused ch t fun e => q1 ((P1_iff ch t).2 e)⟩

def turn (c : Dev nD) (t : Fin (cfgT ch).N) (prev : (S512x1024.Idx → Elt Ideal .f32) × Buf (Elt Ideal) ((c : Thread nD τ).loc cc0_scratch0) × Buf (Elt Ideal) ((c : Thread nD τ).loc cc0_scratch1)) : (S512x1024.Idx → Elt Ideal .f32) × Buf (Elt Ideal) ((c : Thread nD τ).loc cc0_scratch0) × Buf (Elt Ideal) ((c : Thread nD τ).loc cc0_scratch1) :=
  if q0 : P0_0 ch t then
    ((if (cfgT ch).fresh (4 : Fin 5) t.val then default else prev.1), (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) (conds_A ch t q0).1 (conds_A ch t q0).2.1 (conds_A ch t q0).2.2.1 (conds_A ch t q0).2.2.2.1).1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) (conds_A ch t q0).1 (conds_A ch t q0).2.1 (conds_A ch t q0).2.2.1 (conds_A ch t q0).2.2.2.1).2.1)
  else
    if q1 : P0_1 ch t then
      if q2 : P0_2 ch t then
        (out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) prev.2.1 prev.2.2 (conds_C ch t q0 q1 q2).1 (conds_C ch t q0 q1 q2).2.1 (conds_C ch t q0 q1 q2).2.2.1 (conds_C ch t q0 q1 q2).2.2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) prev.2.1 prev.2.2 (conds_C ch t q0 q1 q2).1 (conds_C ch t q0 q1 q2).2.1 (conds_C ch t q0 q1 q2).2.2.1 (conds_C ch t q0 q1 q2).2.2.2.1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) prev.2.1 prev.2.2 (conds_C ch t q0 q1 q2).1 (conds_C ch t q0 q1 q2).2.1 (conds_C ch t q0 q1 q2).2.2.1 (conds_C ch t q0 q1 q2).2.2.2.1).2.2.1)
      else
        ((if (cfgT ch).fresh (4 : Fin 5) t.val then default else prev.1), (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) prev.2.1 prev.2.2 (conds_B ch t q0 q1 q2).1 (conds_B ch t q0 q1 q2).2.1 (conds_B ch t q0 q1 q2).2.2.1 (conds_B ch t q0 q1 q2).2.2.2.1).1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) prev.2.1 prev.2.2 (conds_B ch t q0 q1 q2).1 (conds_B ch t q0 q1 q2).2.1 (conds_B ch t q0 q1 q2).2.2.1 (conds_B ch t q0 q1 q2).2.2.2.1).2.1)
    else
      if q2 : P0_3 ch t then
        (out0_E_4 c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) prev.2.1 prev.2.2 (conds_E ch t q0 q1 q2).1 (conds_E ch t q0 q1 q2).2.1 (conds_E ch t q0 q1 q2).2.2.1 (conds_E ch t q0 q1 q2).2.2.2.1, (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) prev.2.1 prev.2.2 (conds_E ch t q0 q1 q2).1 (conds_E ch t q0 q1 q2).2.1 (conds_E ch t q0 q1 q2).2.2.1 (conds_E ch t q0 q1 q2).2.2.2.1).2.1, (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) prev.2.1 prev.2.2 (conds_E ch t q0 q1 q2).1 (conds_E ch t q0 q1 q2).2.1 (conds_E ch t q0 q1 q2).2.2.1 (conds_E ch t q0 q1 q2).2.2.2.1).2.2.1)
      else
        ((if (cfgT ch).fresh (4 : Fin 5) t.val then default else prev.1), (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) prev.2.1 prev.2.2 (conds_D ch t q0 q1 q2).1 (conds_D ch t q0 q1 q2).2.1 (conds_D ch t q0 q1 q2).2.2.1 (conds_D ch t q0 q1 q2).2.2.2.1).1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) prev.2.1 prev.2.2 (conds_D ch t q0 q1 q2).1 (conds_D ch t q0 q1 q2).2.1 (conds_D ch t q0 q1 q2).2.2.1 (conds_D ch t q0 q1 q2).2.2.2.1).2.1)

def held (c : Dev nD) : (n : ℕ) → n < (cfgT ch).N → (S512x1024.Idx → Elt Ideal .f32) × Buf (Elt Ideal) ((c : Thread nD τ).loc cc0_scratch0) × Buf (Elt Ideal) ((c : Thread nD τ).loc cc0_scratch1)
  | 0, h => turn ch m ρ c ⟨0, h⟩ (default, default, default)
  | n + 1, h => turn ch m ρ c ⟨n + 1, h⟩ (held c n (Nat.lt_of_succ_lt h))

def prior (c : Dev nD) (t : Fin (cfgT ch).N) : (S512x1024.Idx → Elt Ideal .f32) × Buf (Elt Ideal) ((c : Thread nD τ).loc cc0_scratch0) × Buf (Elt Ideal) ((c : Thread nD τ).loc cc0_scratch1) :=
  if h : t.val = 0 then (default, default, default) else held ch m ρ c (t.val - 1) (by omega)

theorem held_eq (c : Dev nD) (t : Fin (cfgT ch).N) : held ch m ρ c t.val t.isLt = turn ch m ρ c t (prior ch m ρ c t) := by
  obtain ⟨n, hn⟩ := t
  cases n with
  | zero => rfl
  | succ n => unfold prior; simp only [Nat.add_one_ne_zero, dif_neg, not_false_eq_true]; rfl

theorem turn_A (c : Dev nD) (t : Fin (cfgT ch).N) (prev : (S512x1024.Idx → Elt Ideal .f32) × Buf (Elt Ideal) ((c : Thread nD τ).loc cc0_scratch0) × Buf (Elt Ideal) ((c : Thread nD τ).loc cc0_scratch1)) (q0 : P0_0 ch t) :
    turn ch m ρ c t prev = ((if (cfgT ch).fresh (4 : Fin 5) t.val then default else prev.1), (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) (conds_A ch t q0).1 (conds_A ch t q0).2.1 (conds_A ch t q0).2.2.1 (conds_A ch t q0).2.2.2.1).1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) (conds_A ch t q0).1 (conds_A ch t q0).2.1 (conds_A ch t q0).2.2.1 (conds_A ch t q0).2.2.2.1).2.1) := by
  unfold turn; simp only [dif_pos q0]

theorem turn_B (c : Dev nD) (t : Fin (cfgT ch).N) (prev : (S512x1024.Idx → Elt Ideal .f32) × Buf (Elt Ideal) ((c : Thread nD τ).loc cc0_scratch0) × Buf (Elt Ideal) ((c : Thread nD τ).loc cc0_scratch1)) (q0 : ¬P0_0 ch t) (q1 : P0_1 ch t) (q2 : ¬P0_2 ch t) :
    turn ch m ρ c t prev = ((if (cfgT ch).fresh (4 : Fin 5) t.val then default else prev.1), (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) prev.2.1 prev.2.2 (conds_B ch t q0 q1 q2).1 (conds_B ch t q0 q1 q2).2.1 (conds_B ch t q0 q1 q2).2.2.1 (conds_B ch t q0 q1 q2).2.2.2.1).1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) prev.2.1 prev.2.2 (conds_B ch t q0 q1 q2).1 (conds_B ch t q0 q1 q2).2.1 (conds_B ch t q0 q1 q2).2.2.1 (conds_B ch t q0 q1 q2).2.2.2.1).2.1) := by
  unfold turn; simp only [dif_neg q0, dif_pos q1, dif_neg q2]

theorem turn_C (c : Dev nD) (t : Fin (cfgT ch).N) (prev : (S512x1024.Idx → Elt Ideal .f32) × Buf (Elt Ideal) ((c : Thread nD τ).loc cc0_scratch0) × Buf (Elt Ideal) ((c : Thread nD τ).loc cc0_scratch1)) (q0 : ¬P0_0 ch t) (q1 : P0_1 ch t) (q2 : P0_2 ch t) :
    turn ch m ρ c t prev = (out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) prev.2.1 prev.2.2 (conds_C ch t q0 q1 q2).1 (conds_C ch t q0 q1 q2).2.1 (conds_C ch t q0 q1 q2).2.2.1 (conds_C ch t q0 q1 q2).2.2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) prev.2.1 prev.2.2 (conds_C ch t q0 q1 q2).1 (conds_C ch t q0 q1 q2).2.1 (conds_C ch t q0 q1 q2).2.2.1 (conds_C ch t q0 q1 q2).2.2.2.1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) prev.2.1 prev.2.2 (conds_C ch t q0 q1 q2).1 (conds_C ch t q0 q1 q2).2.1 (conds_C ch t q0 q1 q2).2.2.1 (conds_C ch t q0 q1 q2).2.2.2.1).2.2.1) := by
  unfold turn; simp only [dif_neg q0, dif_pos q1, dif_pos q2]

theorem turn_D (c : Dev nD) (t : Fin (cfgT ch).N) (prev : (S512x1024.Idx → Elt Ideal .f32) × Buf (Elt Ideal) ((c : Thread nD τ).loc cc0_scratch0) × Buf (Elt Ideal) ((c : Thread nD τ).loc cc0_scratch1)) (q0 : ¬P0_0 ch t) (q1 : ¬P0_1 ch t) (q2 : ¬P0_3 ch t) :
    turn ch m ρ c t prev = ((if (cfgT ch).fresh (4 : Fin 5) t.val then default else prev.1), (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) prev.2.1 prev.2.2 (conds_D ch t q0 q1 q2).1 (conds_D ch t q0 q1 q2).2.1 (conds_D ch t q0 q1 q2).2.2.1 (conds_D ch t q0 q1 q2).2.2.2.1).1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) prev.2.1 prev.2.2 (conds_D ch t q0 q1 q2).1 (conds_D ch t q0 q1 q2).2.1 (conds_D ch t q0 q1 q2).2.2.1 (conds_D ch t q0 q1 q2).2.2.2.1).2.1) := by
  unfold turn; simp only [dif_neg q0, dif_neg q1, dif_neg q2]

theorem turn_E (c : Dev nD) (t : Fin (cfgT ch).N) (prev : (S512x1024.Idx → Elt Ideal .f32) × Buf (Elt Ideal) ((c : Thread nD τ).loc cc0_scratch0) × Buf (Elt Ideal) ((c : Thread nD τ).loc cc0_scratch1)) (q0 : ¬P0_0 ch t) (q1 : ¬P0_1 ch t) (q2 : P0_3 ch t) :
    turn ch m ρ c t prev = (out0_E_4 c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) prev.2.1 prev.2.2 (conds_E ch t q0 q1 q2).1 (conds_E ch t q0 q1 q2).2.1 (conds_E ch t q0 q1 q2).2.2.1 (conds_E ch t q0 q1 q2).2.2.2.1, (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) prev.2.1 prev.2.2 (conds_E ch t q0 q1 q2).1 (conds_E ch t q0 q1 q2).2.1 (conds_E ch t q0 q1 q2).2.2.1 (conds_E ch t q0 q1 q2).2.2.2.1).2.1, (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) prev.2.1 prev.2.2 (conds_E ch t q0 q1 q2).1 (conds_E ch t q0 q1 q2).2.1 (conds_E ch t q0 q1 q2).2.2.1 (conds_E ch t q0 q1 q2).2.2.2.1).2.2.1) := by
  unfold turn; simp only [dif_neg q0, dif_neg q1, dif_pos q2]

def priorT (c : Dev nD) (t : Fin ((cfgT ch).N + 1)) : (S512x1024.Idx → Elt Ideal .f32) × Buf (Elt Ideal) ((c : Thread nD τ).loc cc0_scratch0) × Buf (Elt Ideal) ((c : Thread nD τ).loc cc0_scratch1) :=
  if h : t.val = 0 then (default, default, default) else held ch m ρ c (t.val - 1) (by omega)

theorem priorT_castSucc (c : Dev nD) (t : Fin (cfgT ch).N) : priorT ch m ρ c t.castSucc = prior ch m ρ c t := by
  unfold priorT prior; simp only [Fin.val_castSucc]
theorem priorT_succ (c : Dev nD) (t : Fin (cfgT ch).N) : priorT ch m ρ c t.succ = held ch m ρ c t.val t.isLt := by
  unfold priorT; simp only [Fin.val_succ, Nat.add_one_ne_zero, ↓reduceDIte, Nat.add_one_sub_one]

def Phi (m : (ℓ : Loc nD τ sig) → Buf (Elt Ideal) ℓ) (ρ : Dev nD → PrngReg) (c : Dev nD) (t : Fin ((cfgT ch).N + 1)) : sProp 𝕄 :=
  iprop((∃ a, ⌜unset ch t.val = false → a = (priorT ch m ρ c t).2.1⌝ ∗ (scM0_0.view.loc (c : Thread nD τ) ↦{fullShare} a)) ∗ (∃ a, ⌜unset ch t.val = false → a = (priorT ch m ρ c t).2.2⌝ ∗ (scM0_1.view.loc (c : Thread nD τ) ↦{fullShare} a)) ∗ (tbM0_0.view.loc (c : Thread nD τ) ↦{fullShare.right} experts ch) ∗ (tbM0_1.view.loc (c : Thread nD τ) ↦{fullShare.right} used ch))

def dats (_ : Fin 1) (c : Dev nD) : Dat τ (Elt Ideal) Unit ℕ (UR sig nD τ) ℕ (cfgT ch) c where
  A w := (s₀ m ρ).mem (((cfgT ch).win w).arr.view.loc (c : Thread nD τ))
  after w t := match w with
    | ⟨0, _⟩ => iblk ch m ρ c (0 : Fin 5) t
    | ⟨1, _⟩ => iblk ch m ρ c (1 : Fin 5) t
    | ⟨2, _⟩ => iblk ch m ρ c (2 : Fin 5) t
    | ⟨3, _⟩ => iblk ch m ρ c (3 : Fin 5) t
    | ⟨4, _⟩ => (held ch m ρ c t.val t.isLt).1
  Φ t := Phi ch m ρ c t
  q _ := fullShare
  owed _ := 0

theorem after0_0 (c : Dev nD) (t : Fin (cfgT ch).N) : (dats ch m ρ 0 c).after (0 : Fin 5) t = iblk ch m ρ c (0 : Fin 5) t := rfl
theorem after0_1 (c : Dev nD) (t : Fin (cfgT ch).N) : (dats ch m ρ 0 c).after (1 : Fin 5) t = iblk ch m ρ c (1 : Fin 5) t := rfl
theorem after0_2 (c : Dev nD) (t : Fin (cfgT ch).N) : (dats ch m ρ 0 c).after (2 : Fin 5) t = iblk ch m ρ c (2 : Fin 5) t := rfl
theorem after0_3 (c : Dev nD) (t : Fin (cfgT ch).N) : (dats ch m ρ 0 c).after (3 : Fin 5) t = iblk ch m ρ c (3 : Fin 5) t := rfl
theorem after0_4 (c : Dev nD) (t : Fin (cfgT ch).N) : (dats ch m ρ 0 c).after (4 : Fin 5) t = (held ch m ρ c t.val t.isLt).1 := rfl

theorem before0_0 (c : Dev nD) (t : Fin (cfgT ch).N) (d) : (dats ch m ρ 0 c).before (0 : Fin 5) t d = iblk ch m ρ c (0 : Fin 5) t :=
  ((dats ch m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

theorem before0_1 (c : Dev nD) (t : Fin (cfgT ch).N) (d) : (dats ch m ρ 0 c).before (1 : Fin 5) t d = iblk ch m ρ c (1 : Fin 5) t :=
  ((dats ch m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

theorem before0_2 (c : Dev nD) (t : Fin (cfgT ch).N) (d) : (dats ch m ρ 0 c).before (2 : Fin 5) t d = iblk ch m ρ c (2 : Fin 5) t :=
  ((dats ch m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

theorem before0_3 (c : Dev nD) (t : Fin (cfgT ch).N) (d) : (dats ch m ρ 0 c).before (3 : Fin 5) t d = iblk ch m ρ c (3 : Fin 5) t :=
  ((dats ch m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

theorem hcarry0_4 (c : Dev nD) : ∀ (t : Fin (cfgT ch).N) (ht : t.val ≠ 0), (cfgT ch).idle (4 : Fin 5) ((cfgT ch).grid.coords t) = true → (cfgT ch).fresh (4 : Fin 5) t.val = false →
    (dats ch m ρ 0 c).after (4 : Fin 5) t = (dats ch m ρ 0 c).after (4 : Fin 5) ⟨t.val - 1, by omega⟩ := by
  intro t ht hi hf
  rw [after0_4, after0_4, held_eq]
  by_cases q0 : P0_0 ch t
  · rw [turn_A ch m ρ c t _ q0]
    simp only [hf, Bool.false_eq_true, ↓reduceIte]
    unfold prior; rw [dif_neg ht]
  · by_cases q1 : P0_1 ch t
    · by_cases q2 : P0_2 ch t
      · obtain ⟨i4, -, -, -, -, -, -⟩ := sched_C ch t q0 q1 q2
        rw [i4] at hi; exact absurd hi (by decide)
      · rw [turn_B ch m ρ c t _ q0 q1 q2]
        simp only [hf, Bool.false_eq_true, ↓reduceIte]
        unfold prior; rw [dif_neg ht]
    · by_cases q2 : P0_3 ch t
      · obtain ⟨i4, -, -, -⟩ := sched_E ch t q0 q1 q2
        rw [i4] at hi; exact absurd hi (by decide)
      · rw [turn_D ch m ρ c t _ q0 q1 q2]
        simp only [hf, Bool.false_eq_true, ↓reduceIte]
        unfold prior; rw [dif_neg ht]

theorem before0_4 (c : Dev nD) (t : Fin (cfgT ch).N) (d) :
    (dats ch m ρ 0 c).before (4 : Fin 5) t d = if (cfgT ch).fresh (4 : Fin 5) t.val then d else (prior ch m ρ c t).1 := by
  rw [(dats ch m ρ 0 c).before_out_traj (4 : Fin 5) rfl (fun _ _ => rfl) (hcarry0_4 ch m ρ c) t.val t rfl d]
  by_cases hf : (cfgT ch).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prior; rw [dif_neg h0]

abbrev bodyAt0 (t : Fin (cfgT ch).N) : Prog (TpuEff nD τ sig (Elt Ideal) Λ₀ .tc) PUnit :=
  cc0_moe_ffn (crd ch t) (Memref.whole main_arg1) (Memref.isWhole_whole _) (Memref.whole main_arg2) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (Memref.whole cc0_scratch0) (Memref.isWhole_whole _) (Memref.whole cc0_scratch1) (Memref.isWhole_whole _)

set_option maxHeartbeats 4000000 in
theorem sound_body (hp : Pinned ch m) (c : Dev nD) (t : Fin (cfgT ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgT ch).W =>
                match (cfgT ch).idle w ((cfgT ch).grid.coords t) with
                | true =>
                  match ((cfgT ch).win w).flush t with
                  | false => iprop(∃ d, owns (c : Thread nD τ) (((cfgT ch).win w).stage ((cfgT ch).slots t w)) fullShare ((dats ch m ρ 0 c).before w t d))
                  | true => owns (c : Thread nD τ) (((cfgT ch).win w).stage ((cfgT ch).slots t w)) fullShare ((dats ch m ρ 0 c).after w t)
                | false => owns (c : Thread nD τ) (((cfgT ch).win w).stage ((cfgT ch).slots t w)) fullShare ((dats ch m ρ 0 c).after w t)) := by
  rw [bigSep_W0]
  by_cases q0 : P0_0 ch t
  · obtain ⟨i4, f4, fr4, sfn0, sfn1⟩ := sched_A ch t q0
    have F0 := conds_A ch t q0
    have hc0 := F0.1; have F1 := F0.2
    have hc1 := F1.1; have F2 := F1.2
    have k0_h3 := F2.1; have F3 := F2.2
    have k0_h4 := F3.1; have F4 := F3.2
    clear F0 F1 F2 F3 F4
    rewrite [i4]
    simp only [before0_0, before0_1, before0_2, before0_3, before0_4, after0_0, after0_1, after0_2, after0_3, after0_4, f4]
    simp only [fr4, Bool.false_eq_true, ↓reduceIte]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    try rewrite [held_eq, turn_A ch m ρ c t _ q0]
    unfold Phi; simp only [priorT_castSucc, priorT_succ, held_eq, turn_A ch m ρ c t _ q0, Fin.val_castSucc, Fin.val_succ]
    iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩⟩
    iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) hc0 hc1 k0_h3 k0_h4).2.2 _ a0 a1 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexact H4
    isplitl [HS0]; · iexact HS0
    isplitl [HS1]; · iexact HS1
    iintro ⟨H0, H1, H2, H3, HT0, HT1, H4, HS0, HS1⟩
    isplitl [HS0 HS1 HT0 HT1]
    · isplitl [HS0]
      · iexists _; isplitr; swap
        · iexact HS0
        · ipureintro; intro hn; first | rfl | exact absurd hn (by first | (rw [sfn0]; decide) | decide)
      isplitl [HS1]
      · iexists _; isplitr; swap
        · iexact HS1
        · ipureintro; intro hn; first | rfl | exact absurd hn (by first | (rw [sfn1]; decide) | decide)
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    first | (iexists d4; iexact H4) | iexact H4
  · by_cases q1 : P0_1 ch t
    · by_cases q2 : P0_2 ch t
      · obtain ⟨i4, f4, fr4, sf0, sfn0, sf1, sfn1⟩ := sched_C ch t q0 q1 q2
        have F0 := conds_C ch t q0 q1 q2
        have hc0 := F0.1; have F1 := F0.2
        have hc1 := F1.1; have F2 := F1.2
        have k0_h3 := F2.1; have F3 := F2.2
        have k0_h4 := F3.1; have F4 := F3.2
        clear F0 F1 F2 F3 F4
        rewrite [i4]
        simp only [before0_0, before0_1, before0_2, before0_3, before0_4, after0_0, after0_1, after0_2, after0_3, after0_4, f4]
        simp only [fr4, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [held_eq, turn_C ch m ρ c t _ q0 q1 q2]
        unfold Phi; simp only [priorT_castSucc, priorT_succ, held_eq, turn_C ch m ρ c t _ q0 q1 q2, Fin.val_castSucc, Fin.val_succ]
        simp only [exists_held sf0, exists_held sf1]
        iintro ⟨⟨HS0, HS1, HT0, HT1⟩, Ho, ⟨%d0, H0⟩, ⟨%d1, H1⟩, ⟨%d2, H2⟩, ⟨%d3, H3⟩, ⟨%d4, H4⟩⟩
        iapply ((kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) _ _ hc0 hc1 k0_h3 k0_h4).2.2.2 _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexists _; iexact H4
        isplitl [HS0]; · iexact HS0
        isplitl [HS1]; · iexact HS1
        iintro ⟨H0, H1, H2, H3, HT0, HT1, ⟨%e4, H4⟩, HS0, HS1⟩
        isplitl [HS0 HS1 HT0 HT1]
        · isplitl [HS0]
          · iexists _; isplitr; swap
            · iexact HS0
            · ipureintro; intro hn; first | rfl | exact absurd hn (by first | (rw [sfn0]; decide) | decide)
          isplitl [HS1]
          · iexists _; isplitr; swap
            · iexact HS1
            · ipureintro; intro hn; first | rfl | exact absurd hn (by first | (rw [sfn1]; decide) | decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        unfold owns; iexists _; isplitr; swap
        · iexact H4
        · ipureintro; exact View.read_writes_of_cover _ _ _ _ _ (cover0_C_4 c _ _ _ _ _ _ _ _ _ _ _ _ _ _ _ _ _ _ _ _ _ _ _)
      · obtain ⟨i4, f4, fr4, sf0, sfn0, sf1, sfn1⟩ := sched_B ch t q0 q1 q2
        have F0 := conds_B ch t q0 q1 q2
        have hc0 := F0.1; have F1 := F0.2
        have hc1 := F1.1; have F2 := F1.2
        have k0_h3 := F2.1; have F3 := F2.2
        have k0_h4 := F3.1; have F4 := F3.2
        clear F0 F1 F2 F3 F4
        rewrite [i4]
        simp only [before0_0, before0_1, before0_2, before0_3, before0_4, after0_0, after0_1, after0_2, after0_3, after0_4, f4]
        simp only [fr4, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [held_eq, turn_B ch m ρ c t _ q0 q1 q2]
        unfold Phi; simp only [priorT_castSucc, priorT_succ, held_eq, turn_B ch m ρ c t _ q0 q1 q2, Fin.val_castSucc, Fin.val_succ]
        simp only [exists_held sf0, exists_held sf1]
        iintro ⟨⟨HS0, HS1, HT0, HT1⟩, Ho, ⟨%d0, H0⟩, ⟨%d1, H1⟩, ⟨%d2, H2⟩, ⟨%d3, H3⟩, ⟨%d4, H4⟩⟩
        iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) _ _ hc0 hc1 k0_h3 k0_h4).2.2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexact H4
        isplitl [HS0]; · iexact HS0
        isplitl [HS1]; · iexact HS1
        iintro ⟨H0, H1, H2, H3, HT0, HT1, H4, HS0, HS1⟩
        isplitl [HS0 HS1 HT0 HT1]
        · isplitl [HS0]
          · iexists _; isplitr; swap
            · iexact HS0
            · ipureintro; intro hn; first | rfl | exact absurd hn (by first | (rw [sfn0]; decide) | decide)
          isplitl [HS1]
          · iexists _; isplitr; swap
            · iexact HS1
            · ipureintro; intro hn; first | rfl | exact absurd hn (by first | (rw [sfn1]; decide) | decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        first | (iexists d4; iexact H4) | iexact H4
    · by_cases q2 : P0_3 ch t
      · obtain ⟨i4, f4, fr4, hs⟩ := sched_E ch t q0 q1 q2
        have F0 := conds_E ch t q0 q1 q2
        have hc0 := F0.1; have F1 := F0.2
        have hc1 := F1.1; have F2 := F1.2
        have k0_h3 := F2.1; have F3 := F2.2
        have k0_h4 := F3.1; have F4 := F3.2
        clear F0 F1 F2 F3 F4
        rewrite [i4]
        simp only [before0_0, before0_1, before0_2, before0_3, before0_4, after0_0, after0_1, after0_2, after0_3, after0_4, f4]
        simp only [fr4, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [held_eq, turn_E ch m ρ c t _ q0 q1 q2]
        unfold Phi; simp only [priorT_castSucc, priorT_succ, held_eq, turn_E ch m ρ c t _ q0 q1 q2, Fin.val_castSucc, Fin.val_succ]
        iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩⟩
        iapply ((kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) a0 a1 hc0 hc1 k0_h3 k0_h4).2.2.2 _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexists _; iexact H4
        isplitl [HS0]; · iexact HS0
        isplitl [HS1]; · iexact HS1
        iintro ⟨H0, H1, H2, H3, HT0, HT1, ⟨%e4, H4⟩, HS0, HS1⟩
        isplitl [HS0 HS1 HT0 HT1]
        · isplitl [HS0]
          · iexists _; isplitr; swap
            · iexact HS0
            · ipureintro; intro hn; rw [ha0 (hs.symm.trans hn), ha1 (hs.symm.trans hn)]
          isplitl [HS1]
          · iexists _; isplitr; swap
            · iexact HS1
            · ipureintro; intro hn; rw [ha0 (hs.symm.trans hn), ha1 (hs.symm.trans hn)]
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        unfold owns; iexists _; isplitr; swap
        · iexact H4
        · ipureintro; exact (View.read_writes_of_cover _ _ _ _ _ (cover0_E_4 c _ _ _ _ _ _ _ _ _ _ _ _ _ _ _ _ _ _ _ _ _ _ _)).trans rfl
      · obtain ⟨i4, f4, fr4, hs⟩ := sched_D ch t q0 q1 q2
        have F0 := conds_D ch t q0 q1 q2
        have hc0 := F0.1; have F1 := F0.2
        have hc1 := F1.1; have F2 := F1.2
        have k0_h3 := F2.1; have F3 := F2.2
        have k0_h4 := F3.1; have F4 := F3.2
        clear F0 F1 F2 F3 F4
        rewrite [i4]
        simp only [before0_0, before0_1, before0_2, before0_3, before0_4, after0_0, after0_1, after0_2, after0_3, after0_4, f4]
        simp only [fr4, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [held_eq, turn_D ch m ρ c t _ q0 q1 q2]
        unfold Phi; simp only [priorT_castSucc, priorT_succ, held_eq, turn_D ch m ρ c t _ q0 q1 q2, Fin.val_castSucc, Fin.val_succ]
        iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩⟩
        iapply ((kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) a0 a1 hc0 hc1 k0_h3 k0_h4).2.2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexact H4
        isplitl [HS0]; · iexact HS0
        isplitl [HS1]; · iexact HS1
        iintro ⟨H0, H1, H2, H3, HT0, HT1, H4, HS0, HS1⟩
        isplitl [HS0 HS1 HT0 HT1]
        · isplitl [HS0]
          · iexists _; isplitr; swap
            · iexact HS0
            · ipureintro; intro hn; rw [ha0 (hs.symm.trans hn), ha1 (hs.symm.trans hn)]
          isplitl [HS1]
          · iexists _; isplitr; swap
            · iexact HS1
            · ipureintro; intro hn; rw [ha0 (hs.symm.trans hn), ha1 (hs.symm.trans hn)]
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        first | (iexists d4; iexact H4) | iexact H4

theorem body_obligation (hp : Pinned ch m) (c : Dev nD) : BodyObligation (dats ch m ρ 0 c) (defs₀ (F := Ideal)) Variants.none () Set.univ := fun t => by
  rw [bigSep_W0]
  exact sound_body ch m ρ hp c t

def u₀ : UR sig nD τ :=
  initOf (Pipeline.cells (pcs ch) ((launch0 (F := Ideal)).cellOf_inj fun _ => adm ch))
    (Pipeline.launchToks (pcs ch) ((launch0 (F := Ideal)).cellOf_inj fun _ => adm ch))

theorem share_eq (c : Dev nD) (w : Fin (cfgT ch).W) : (dats ch m ρ 0 c).share w = fullShare := by unfold Dat.share; split <;> rfl

theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, ⟨%a0, HS0⟩, ⟨%a1, HS1⟩⟩
  isplitl [HS0]
  · iexists a0; isplitr; swap
    · iexact HS0
    · ipureintro; intro h; exact absurd (h.symm.trans (show unset ch 0 = true from rfl)) Bool.false_ne_true
  isplitl [HS1]
  · iexists a1; isplitr; swap
    · iexact HS1
    · ipureintro; intro h; exact absurd (h.symm.trans (show unset ch 0 = true from rfl)) Bool.false_ne_true
  isplitl [HT0]
  · iexact HT0
  iexact HT1

theorem phiN_exit (c : Dev nD) : (dats ch m ρ 0 c).Φ (Fin.last (cfgT ch).N) ⊢ iprop(BI.emp ∗ Pipeline.scopedRest spec0 c) := by
  rw [scopedRest0_eq, show (dats ch m ρ 0 c).Φ (Fin.last (cfgT ch).N) = Phi ch m ρ c (Fin.last _) from rfl]
  unfold Phi
  iintro ⟨⟨%a0, -, HS0⟩, ⟨%a1, -, HS1⟩, -, -⟩
  isplitr; · iempintro
  isplitl [HS0]
  · iexists a0; iexact HS0
  iexists a1; iexact HS1

def QC : PUnit × MemSt nD τ sig (Elt Ideal) → Prop := fun r =>
  ∀ c : Dev nD, (∀ w : Fin (cfgT ch).W, r.2.mem (((cfgT ch).win w).arr.view.loc (c : Thread nD τ)) = (dats ch m ρ 0 c).arrAt w (cfgT ch).N)
    ∧ ∀ j, r.2.mem ((c : Thread nD τ).loc (pre0.ref j)) = (adm ch).1 j

theorem V_pre (hp : Pinned ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in
theorem run_main_quiescent (hp : Pinned ch m) : θ_run (defs (F := Ideal)) (onTc (τ := τ) (main (F := Ideal))) (s₀ m ρ) (fun r => QC ch m ρ r ∧ r.2.sem = fun _ => 0) :=
  Pipeline.θ_run_region_noSem_pf_quiescent pcfgs (fun _ => adm ch) (dats ch m ρ) () ((launch0 (F := Ideal)).cellOf_inj fun _ => adm ch) (0 : Fin 1)
    (launch0 (F := Ideal)).win.to₀ (launch0 (F := Ideal)).pre EP defs₀ Variants.none m ρ main
    (hbody := fun c => (body_obligation ch m ρ hp c).loose) (hne := (launch0 (F := Ideal)).block_pos)
    (harr := (launch0 (F := Ideal)).arr_whole) (hstage := (launch0 (F := Ideal)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Ideal)).win.arr_inj c (launch0 (F := Ideal)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

theorem run_main (hp : Pinned ch m) : θ_run (defs (F := Ideal)) (onTc (τ := τ) (main (F := Ideal))) (s₀ m ρ) (QC ch m ρ) :=
  (θ_run defs _ _).mono (fun _ h => h.1) (run_main_quiescent ch m ρ hp)

theorem unchanged (hp : Pinned ch m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 (0 : Fin 5)).trans ((dats ch m ρ 0 c).arrAt_in (0 : Fin 5) rfl _), ((h c).2 0).trans (hp.1 c).symm, ((h c).2 1).trans (hp.2 c).symm, ((h c).1 (1 : Fin 5)).trans ((dats ch m ρ 0 c).arrAt_in (1 : Fin 5) rfl _), ((h c).1 (2 : Fin 5)).trans ((dats ch m ρ 0 c).arrAt_in (2 : Fin 5) rfl _), ((h c).1 (3 : Fin 5)).trans ((dats ch m ρ 0 c).arrAt_in (3 : Fin 5) rfl _)⟩) (run_main ch m ρ hp)

theorem frame (hp : Pinned ch m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged ch m ρ hp) ((θ_run defs _ _).mono (fun _ h => h.2) (run_main_quiescent ch m ρ hp))

end Cert.Kernel6Ideal.Route

end
-- ==== Proof.Experts.lean ====
/- The experts' feed-forward part: the kernel sends each block of rows through the expert its table names, adding the hidden units up in eleven tiles, and writes zeros for a block not in use; this is the reference. -/
module

public import proofs.«01_k».proof.Proof.ExpertsFrame
public import proofs.«01_k».proof.Proof.Gen.Reference6Ideal.Read
public import Idealize.ShloMosaic.Lib.Pipeline.ValueKit
public import Idealize.ShloMosaic.Lib.Claim
public import Idealize.ShloMosaic.Lib.Pipeline.ReadBack
public import Idealize.ShloMosaic.Lib.VecWindow

@[expose] public section

set_option maxRecDepth 16384

noncomputable section

open Idealize.ShloMosaic Idealize.ShloMosaic.TcCoe Idealize.SL.Sem
open Idealize.ShloMosaic.Pipeline (Dat)
open scoped BigOperators

namespace Cert.Kernel6Ideal.Route

open Cert.Kernel6Ideal Cert.Kernel6Ideal.Gen

variable (ch : Tab) (m : (ℓ : Loc nD τ sig) → Buf (Elt Ideal) ℓ) (ρ : Dev nD → PrngReg)

/-- The grid has eleven column tiles for each of the 73 blocks. -/
theorem coords : ∀ t : Fin grid0.N, ((grid0.coords t) 0).val = t.val / 11 ∧ ((grid0.coords t) 1).val = t.val % 11 := by decide +kernel

theorem crd0 (t : Fin (cfgT ch).N) : ((crd ch t) 0).val = t.val / 11 := (coords t).1
theorem crd1 (t : Fin (cfgT ch).N) : ((crd ch t) 1).val = t.val % 11 := (coords t).2

/-- The expert of a block. -/
def expert (b : Fin 73) : Fin 8 := ⟨(experts ch (ix1 b)).toNat, ch.2 _⟩

/-- The number of blocks in use, the one word of its table. -/
theorem nu_eq : nu ch = used ch (ix1 0) := by
  show used ch _ = used ch _
  congr 1
  funext a
  fin_cases a
  exact Subsingleton.elim (α := Fin 1) _ _

theorem bound (t : Fin (cfgT ch).N) : t.val < 803 := t.isLt

/-- The table's word that a point reads. -/
theorem word (i : grid0.Coords) : ((tabs ch).at 0 (Rect.unit (s := S73) ![(Scalar.indexCast (BitVec.ofNat 32 (i 0).val) : Index).toNat] S1.size (k0_off1_inb i)) numel1_S1 : BitVec 32)
    = experts ch (ix1 (i 0)) := by
  show experts ch _ = experts ch _
  congr 1
  funext a
  refine Fin.ext ?_
  have h : ∀ k : Fin 73, (Scalar.indexCast (BitVec.ofNat 32 k.val) : Index).toNat = k.val := by decide
  fin_cases a
  exact h (i 0)

theorem index1 (t : Fin (cfgT ch).N) (h : inUse ch t = 1#1) : ((cfgT ch).win (1 : Fin 5)).index t = ![(experts ch (ix1 ((crd ch t) 0))).toNat, 0, ((crd ch t) 1).val] := by
  show cc0_transform_1 k0_off1_inb numel1_S1 inb_S1_S1_0 (tabs ch) (crd ch t) = _
  unfold cc0_transform_1
  have hj : ∀ j : Fin 11, (BitVec.ofNat 32 j.val).toNat = j.val := by decide
  have hs : (Scalar.select (inUse ch t) (BitVec.ofNat 32 ((crd ch t) 1).val) 10#32 : BitVec 32).toNat = ((crd ch t) 1).val := by
    rw [h]; exact hj ((crd ch t) 1)
  funext a
  fin_cases a
  · exact congrArg BitVec.toNat (word ch (crd ch t))
  · rfl
  · exact hs

theorem index2 (t : Fin (cfgT ch).N) (h : inUse ch t = 1#1) : ((cfgT ch).win (2 : Fin 5)).index t = ![(experts ch (ix1 ((crd ch t) 0))).toNat, 0, ((crd ch t) 1).val] := by
  show cc0_transform_2 k0_off1_inb numel1_S1 inb_S1_S1_0 (tabs ch) (crd ch t) = _
  unfold cc0_transform_2
  have hj : ∀ j : Fin 11, (BitVec.ofNat 32 j.val).toNat = j.val := by decide
  have hs : (Scalar.select (inUse ch t) (BitVec.ofNat 32 ((crd ch t) 1).val) 10#32 : BitVec 32).toNat = ((crd ch t) 1).val := by
    rw [h]; exact hj ((crd ch t) 1)
  funext a
  fin_cases a
  · exact congrArg BitVec.toNat (word ch (crd ch t))
  · rfl
  · exact hs

theorem index3 (t : Fin (cfgT ch).N) (h : inUse ch t = 1#1) : ((cfgT ch).win (3 : Fin 5)).index t = ![(experts ch (ix1 ((crd ch t) 0))).toNat, ((crd ch t) 1).val, 0] := by
  show cc0_transform_3 k0_off1_inb numel1_S1 inb_S1_S1_0 (tabs ch) (crd ch t) = _
  unfold cc0_transform_3
  have hj : ∀ j : Fin 11, (BitVec.ofNat 32 j.val).toNat = j.val := by decide
  have hs : (Scalar.select (inUse ch t) (BitVec.ofNat 32 ((crd ch t) 1).val) 10#32 : BitVec 32).toNat = ((crd ch t) 1).val := by
    rw [h]; exact hj ((crd ch t) 1)
  funext a
  fin_cases a
  · exact congrArg BitVec.toNat (word ch (crd ch t))
  · exact hs
  · rfl

theorem index0 (t : Fin (cfgT ch).N) : ((cfgT ch).win (0 : Fin 5)).index t = ![((crd ch t) 0).val, 0] := by
  have hj : ∀ j : Fin 73, (BitVec.ofNat 32 j.val).toNat = j.val := by decide
  funext a
  fin_cases a
  · exact hj ((crd ch t) 0)
  · rfl

theorem index4 (t : Fin (cfgT ch).N) : ((cfgT ch).win (4 : Fin 5)).index t = ![((crd ch t) 0).val, 0] := by
  have hj : ∀ j : Fin 73, (BitVec.ofNat 32 j.val).toNat = j.val := by decide
  funext a
  fin_cases a
  · exact hj ((crd ch t) 0)
  · rfl

/-- The rows of the block at a point. -/
theorem rows_at (c : Dev nD) (t : Fin (cfgT ch).N) (b : Fin 73) (hb : ((crd ch t) 0).val = b.val) (i : Fin 512) (j : Fin 1024) :
    iblk ch m ρ c (0 : Fin 5) t (ix2 i j) = m ((c : Thread nD τ).loc main_arg0) (ix2 ⟨b.val * 512 + i.val, by omega⟩ j) := by
  show m ((c : Thread nD τ).loc main_arg0) _ = m ((c : Thread nD τ).loc main_arg0) _
  congr 1
  funext a
  refine Fin.ext ?_
  refine (((cfgT ch).win (0 : Fin 5)).rect_emb_val t (ix2 i j) a).trans ?_
  rw [index0]
  fin_cases a
  · exact congrArg (· * 512 + i.val) hb
  · exact Nat.zero_add _

/-- The gate weights of the tile at a point. -/
theorem gate_at (c : Dev nD) (t : Fin (cfgT ch).N) (h : inUse ch t = 1#1) (b : Fin 73) (hb : (crd ch t) 0 = b) (f : Fin 11) (hf : (crd ch t) 1 = f) (i : Fin 1024) (j : Fin 256) :
    iblk ch m ρ c (1 : Fin 5) t (ix3 (0 : Fin 1) i j) = m ((c : Thread nD τ).loc main_arg3) (ix3 (expert ch b) i ⟨f.val * 256 + j.val, by have h1 : f.val < 11 := f.isLt; omega⟩) := by
  show m ((c : Thread nD τ).loc main_arg3) _ = m ((c : Thread nD τ).loc main_arg3) _
  congr 1
  funext a
  refine Fin.ext ?_
  refine (((cfgT ch).win (1 : Fin 5)).rect_emb_val t (ix3 (0 : Fin 1) i j) a).trans ?_
  rw [index1 ch t h, hb, hf]
  fin_cases a
  · show (experts ch (ix1 b)).toNat * 1 + 0 = (experts ch (ix1 b)).toNat
    omega
  · show 0 * 1024 + i.val = i.val
    omega
  · rfl

/-- The up weights of the tile at a point. -/
theorem up_at (c : Dev nD) (t : Fin (cfgT ch).N) (h : inUse ch t = 1#1) (b : Fin 73) (hb : (crd ch t) 0 = b) (f : Fin 11) (hf : (crd ch t) 1 = f) (i : Fin 1024) (j : Fin 256) :
    iblk ch m ρ c (2 : Fin 5) t (ix3 (0 : Fin 1) i j) = m ((c : Thread nD τ).loc main_arg4) (ix3 (expert ch b) i ⟨f.val * 256 + j.val, by have h1 : f.val < 11 := f.isLt; omega⟩) := by
  show m ((c : Thread nD τ).loc main_arg4) _ = m ((c : Thread nD τ).loc main_arg4) _
  congr 1
  funext a
  refine Fin.ext ?_
  refine (((cfgT ch).win (2 : Fin 5)).rect_emb_val t (ix3 (0 : Fin 1) i j) a).trans ?_
  rw [index2 ch t h, hb, hf]
  fin_cases a
  · show (experts ch (ix1 b)).toNat * 1 + 0 = (experts ch (ix1 b)).toNat
    omega
  · show 0 * 1024 + i.val = i.val
    omega
  · rfl

/-- The down weights of the tile at a point. -/
theorem down_at (c : Dev nD) (t : Fin (cfgT ch).N) (h : inUse ch t = 1#1) (b : Fin 73) (hb : (crd ch t) 0 = b) (f : Fin 11) (hf : (crd ch t) 1 = f) (i : Fin 256) (j : Fin 1024) :
    iblk ch m ρ c (3 : Fin 5) t (ix3 (0 : Fin 1) i j) = m ((c : Thread nD τ).loc main_arg5) (ix3 (expert ch b) ⟨f.val * 256 + i.val, by have h1 : f.val < 11 := f.isLt; omega⟩ j) := by
  show m ((c : Thread nD τ).loc main_arg5) _ = m ((c : Thread nD τ).loc main_arg5) _
  congr 1
  funext a
  refine Fin.ext ?_
  refine (((cfgT ch).win (3 : Fin 5)).rect_emb_val t (ix3 (0 : Fin 1) i j) a).trans ?_
  rw [index3 ch t h, hb, hf]
  fin_cases a
  · show (experts ch (ix1 b)).toNat * 1 + 0 = (experts ch (ix1 b)).toNat
    omega
  · rfl
  · show 0 * 1024 + j.val = j.val
    omega

/-- The tiles that fill the accumulator and an unused block are zero. -/
theorem zero_apply (j) : k0_pay1 (F := Ideal) j = 0 := by pointwise [k0_pay1]
theorem blank_apply (j) : k0_pay4 (F := Ideal) j = 0 := by pointwise [k0_pay4]

/-- The rows as kept. -/
theorem keep_apply (x : Vec Ideal S512x1024 .f32) (j) : k0_pay2 (F := Ideal) x j = x j := by pointwise [k0_pay2]

/-- One tile's share of a result: the sum over its hidden units. -/
def part (xb : Vec Ideal S512x1024 .bf16) (wg wu : Vec Ideal S1x1024x256 .bf16) (wd : Vec Ideal S1x256x1024 .bf16)
    (j : S512x1024.Idx) : EReal :=
  ∑ k : Fin 256, (∑ l : Fin 1024, xb (ix2 (j 0) l) * wg (ix3 0 l k)) * Ideal.logistic (∑ l : Fin 1024, xb (ix2 (j 0) l) * wg (ix3 0 l k))
    * (∑ l : Fin 1024, xb (ix2 (j 0) l) * wu (ix3 0 l k)) * wd (ix3 0 k (j 1))

/-- What a step leaves in the accumulator: what was there and the tile's share. -/
theorem step_apply (xb : Vec Ideal S512x1024 .bf16) (wg wu : Vec Ideal S1x1024x256 .bf16) (acc : Vec Ideal S512x1024 .f32)
    (wd : Vec Ideal S1x256x1024 .bf16) (j) :
    k0_pay3 xb wg wu acc wd j = acc j + part xb wg wu wd j := by
  unfold part
  pointwise [k0_pay3]

/-- The rows that a block keeps from its first step. -/
def kept (c : Dev nD) (b : Fin 73) : Vec Ideal S512x1024 .bf16 := fun i =>
  m ((c : Thread nD τ).loc main_arg0) (ix2 ⟨b.val * 512 + (i 0).val, by have h1 : (i 0).val < 512 := (i 0).isLt; omega⟩ (i 1))

theorem kept_at (c : Dev nD) (t : Fin (cfgT ch).N) (b : Fin 73) (hb : ((crd ch t) 0).val = b.val) : k0_pay2 (F := Ideal) (iblk ch m ρ c (0 : Fin 5) t) = kept m c b := by
  funext i
  rw [keep_apply]
  have e : i = ix2 (i 0) (i 1) := by funext a; fin_cases a <;> rfl
  rw [e]
  exact rows_at ch m ρ c t b hb (i 0) (i 1)

/-- One tile's share of a result, from the arrays. -/
def tile (c : Dev nD) (b : Fin 73) (f : Fin 11) (j : S512x1024.Idx) : EReal :=
  ∑ k : Fin 256, (∑ l : Fin 1024, kept m c b (ix2 (j 0) l) * m ((c : Thread nD τ).loc main_arg3) (ix3 (expert ch b) l ⟨f.val * 256 + k.val, by have h1 : f.val < 11 := f.isLt; omega⟩))
    * Ideal.logistic (∑ l : Fin 1024, kept m c b (ix2 (j 0) l) * m ((c : Thread nD τ).loc main_arg3) (ix3 (expert ch b) l ⟨f.val * 256 + k.val, by have h1 : f.val < 11 := f.isLt; omega⟩))
    * (∑ l : Fin 1024, kept m c b (ix2 (j 0) l) * m ((c : Thread nD τ).loc main_arg4) (ix3 (expert ch b) l ⟨f.val * 256 + k.val, by have h1 : f.val < 11 := f.isLt; omega⟩))
    * m ((c : Thread nD τ).loc main_arg5) (ix3 (expert ch b) ⟨f.val * 256 + k.val, by have h1 : f.val < 11 := f.isLt; omega⟩ (j 1))

theorem part_at (c : Dev nD) (t : Fin (cfgT ch).N) (h : inUse ch t = 1#1) (b : Fin 73) (hb : (crd ch t) 0 = b) (f : Fin 11) (hf : (crd ch t) 1 = f) (j : S512x1024.Idx) :
    part (kept m c b) (iblk ch m ρ c (1 : Fin 5) t) (iblk ch m ρ c (2 : Fin 5) t) (iblk ch m ρ c (3 : Fin 5) t) j = tile ch m c b f j := by
  unfold part tile
  refine Finset.sum_congr rfl fun k _ => ?_
  have e1 : ∀ l : Fin 1024, kept m c b (ix2 (j 0) l) * iblk ch m ρ c (1 : Fin 5) t (ix3 (0 : Fin 1) l k) = kept m c b (ix2 (j 0) l) * m ((c : Thread nD τ).loc main_arg3) (ix3 (expert ch b) l ⟨f.val * 256 + k.val, by have h1 : f.val < 11 := f.isLt; omega⟩) :=
    fun l => congrArg _ (gate_at ch m ρ c t h b hb f hf l k)
  have e2 : ∀ l : Fin 1024, kept m c b (ix2 (j 0) l) * iblk ch m ρ c (2 : Fin 5) t (ix3 (0 : Fin 1) l k) = kept m c b (ix2 (j 0) l) * m ((c : Thread nD τ).loc main_arg4) (ix3 (expert ch b) l ⟨f.val * 256 + k.val, by have h1 : f.val < 11 := f.isLt; omega⟩) :=
    fun l => congrArg _ (up_at ch m ρ c t h b hb f hf l k)
  have e3 := down_at ch m ρ c t h b hb f hf k (j 1)
  have s1 := Finset.sum_congr (s₁ := Finset.univ) rfl fun l _ => e1 l
  have s2 := Finset.sum_congr (s₁ := Finset.univ) rfl fun l _ => e2 l
  exact congrArg₂ (· * ·) (congrArg₂ (· * ·) (congrArg₂ (· * ·) s1 (congrArg Ideal.logistic s1)) s2) e3

/-- The accumulator, at an index. -/
def acc (c : Dev nD) (p : (S512x1024.Idx → Elt Ideal .f32) × Buf (Elt Ideal) ((c : Thread nD τ).loc cc0_scratch0) × Buf (Elt Ideal) ((c : Thread nD τ).loc cc0_scratch1)) (j : S512x1024.Idx) : EReal := p.2.1 j

/-- The rows kept. -/
def rows (c : Dev nD) (p : (S512x1024.Idx → Elt Ideal .f32) × Buf (Elt Ideal) ((c : Thread nD τ).loc cc0_scratch0) × Buf (Elt Ideal) ((c : Thread nD τ).loc cc0_scratch1)) : Vec Ideal S512x1024 .bf16 := p.2.2

/-- A whole buffer reads as what it holds. -/
theorem load_acc (x : S512x1024.Idx → Elt Ideal .f32) : View.read (Elt Ideal) (View.whole cc0_scratch0) x = x := rfl
theorem load_rows (x : S512x1024.Idx → Elt Ideal .bf16) : View.read (Elt Ideal) (View.whole cc0_scratch1) x = x := rfl

/-- What a whole buffer holds after a store through it all. -/
theorem store_acc (f) (x : S512x1024.Idx → Elt Ideal .f32) :
    (View.whole cc0_scratch0).writes (Elt Ideal) f [⟨Rect.unit ![0, 0] ![512, 1024] inb_S512x1024_S512x1024_0_0, x⟩] = x :=
  (load_acc _).symm.trans (View.read_writes_full (View.whole cc0_scratch0) f inb_S512x1024_S512x1024_0_0 x [])
theorem store_rows (f) (x : S512x1024.Idx → Elt Ideal .bf16) :
    (View.whole cc0_scratch1).writes (Elt Ideal) f [⟨Rect.unit ![0, 0] ![512, 1024] inb_S512x1024_S512x1024_0_0, x⟩] = x :=
  (load_rows _).symm.trans (View.read_writes_full (View.whole cc0_scratch1) f inb_S512x1024_S512x1024_0_0 x [])
theorem store_acc_twice (f) (x y : S512x1024.Idx → Elt Ideal .f32) :
    (View.whole cc0_scratch0).writes (Elt Ideal) f [⟨Rect.unit ![0, 0] ![512, 1024] inb_S512x1024_S512x1024_0_0, x⟩, ⟨Rect.unit ![0, 0] ![512, 1024] inb_S512x1024_S512x1024_0_0, y⟩] = x :=
  (load_acc _).symm.trans (View.read_writes_full (View.whole cc0_scratch0) f inb_S512x1024_S512x1024_0_0 x [_])

theorem rows_first (c : Dev nD) (t : Fin (cfgT ch).N) (p) (q0 : P0_0 ch t) : rows c (turn ch m ρ c t p) = k0_pay2 (iblk ch m ρ c (0 : Fin 5) t) := by
  rw [turn_A ch m ρ c t p q0]
  unfold rows
  frame_out
  rw [View.read_rep]
  exact store_rows _ _

theorem acc_first (c : Dev nD) (t : Fin (cfgT ch).N) (p) (q0 : P0_0 ch t) (j) : acc c (turn ch m ρ c t p) j = k0_pay3 (k0_pay2 (iblk ch m ρ c (0 : Fin 5) t)) (iblk ch m ρ c (1 : Fin 5) t) (iblk ch m ρ c (2 : Fin 5) t) (k0_pay1 (F := Ideal)) (iblk ch m ρ c (3 : Fin 5) t) j := by
  rw [turn_A ch m ρ c t p q0]
  unfold acc
  frame_out
  simp only [View.read_rep]
  exact congrFun (store_acc_twice _ _ _) j

theorem rows_later (c : Dev nD) (t : Fin (cfgT ch).N) (p) (q0 : ¬P0_0 ch t) (q1 : P0_1 ch t) : rows c (turn ch m ρ c t p) = rows c p := by
  by_cases q2 : P0_2 ch t
  · rw [turn_C ch m ρ c t p q0 q1 q2]
    unfold rows
    frame_out
  · rw [turn_B ch m ρ c t p q0 q1 q2]
    unfold rows
    frame_out

theorem acc_later (c : Dev nD) (t : Fin (cfgT ch).N) (p) (q0 : ¬P0_0 ch t) (q1 : P0_1 ch t) (j) : acc c (turn ch m ρ c t p) j = k0_pay3 (rows c p) (iblk ch m ρ c (1 : Fin 5) t) (iblk ch m ρ c (2 : Fin 5) t) (acc c p) (iblk ch m ρ c (3 : Fin 5) t) j := by
  by_cases q2 : P0_2 ch t
  · rw [turn_C ch m ρ c t p q0 q1 q2]
    unfold acc rows
    frame_out
    simp only [View.read_rep]
    exact congrFun (store_acc _ _) j
  · rw [turn_B ch m ρ c t p q0 q1 q2]
    unfold acc rows
    frame_out
    simp only [View.read_rep]
    exact congrFun (store_acc _ _) j

/-- The last step of a block in use leaves the accumulator in the result's block. -/
theorem out_used (c : Dev nD) (t : Fin (cfgT ch).N) (p) (q0 : ¬P0_0 ch t) (q1 : P0_1 ch t) (q2 : P0_2 ch t) (j) : ((turn ch m ρ c t p).1 j : EReal) = acc c (turn ch m ρ c t p) j := by
  rw [turn_C ch m ρ c t p q0 q1 q2]
  unfold acc
  frame_out
  exact (congrFun (store_acc _ _) j).symm

/-- The last step of a block not in use leaves zeros there. -/
theorem out_unused (c : Dev nD) (t : Fin (cfgT ch).N) (p) (q0 : ¬P0_0 ch t) (q1 : ¬P0_1 ch t) (q3 : P0_3 ch t) (j) : ((turn ch m ρ c t p).1 j : EReal) = 0 := by
  rw [turn_E ch m ρ c t p q0 q1 q3]
  frame_out
  exact blank_apply j

/-- Whole matrices taken from a stack of eight, one for each of the 73 blocks. -/
abbrev pick (A B : ℕ) (wf : GatherDims.WF ⟨3, ![8, A, B]⟩ ⟨2, ![73, 1]⟩ ⟨3, ![73, A, B]⟩ [1, 2] [0] [] [0] [] 1 ![1, A, B]) :
    GatherDims ⟨3, ![8, A, B]⟩ ⟨2, ![73, 1]⟩ ⟨3, ![73, A, B]⟩ where
  offsetDims := [1, 2]
  collapsedSliceDims := [0]
  operandBatchingDims := []
  startIndicesBatchingDims := []
  startIndexMap := [0]
  indexVectorDim := 1
  sliceSizes := ![1, A, B]
  wf := wf

/-- The matrix taken is the one that the index names. -/
theorem pick_apply {α : Type} (A B : ℕ) (wf) (x : (⟨3, ![8, A, B]⟩ : Shape).Idx → α) (ind : IVec ⟨2, ![73, 1]⟩ 32) (b : Fin 73) (i : Fin A) (j : Fin B) (e : Fin 8)
    (he : ind (ix2 b (0 : Fin 1)) = BitVec.ofNat 32 e.val) : Host.gather (pick A B wf) x ind (ix3 b i j) = x (ix3 e i j) := by
  unfold Host.gather
  congr 1
  funext a
  refine Fin.ext ?_
  show (pick A B wf).start (ix3 b i j) ind a + (pick A B wf).batchCoord (ix3 b i j) a + (pick A B wf).offCoord (ix3 b i j) a = _
  rw [GatherDims.batchCoord_eq_zero _ _ _ (fun h => by simp at h), Nat.add_zero]
  have hc : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases hc with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (pick A B wf).startIndexMap from List.mem_singleton.mpr rfl)]
    have hs : (pick A B wf).siIdx (ix3 b i j) ⟨List.idxOf (0 : Fin 3) (pick A B wf).startIndexMap, List.idxOf_lt_length_iff.2 (List.mem_singleton.mpr rfl)⟩ = ix2 b (0 : Fin 1) := by
      funext k
      refine Fin.ext ?_
      match k with
      | ⟨0, _⟩ => rfl
      | ⟨1, _⟩ => rfl
    rw [hs, he]
    have hw : ∀ e : Fin 8, min (BitVec.ofNat 32 e.val).toInt.toNat (8 - 1) = e.val := by decide
    exact hw e
  · have hk : (1 : Fin 3) ∈ (pick A B wf).sKept := (GatherDims.mem_sKept _ _).2 ⟨fun h => by simp at h, fun h => by simp at h⟩
    unfold GatherDims.start GatherDims.offCoord
    rw [dif_neg (fun h => by simp at h), dif_pos hk, Nat.zero_add]
    rfl
  · have hk : (2 : Fin 3) ∈ (pick A B wf).sKept := (GatherDims.mem_sKept _ _).2 ⟨fun h => by simp at h, fun h => by simp at h⟩
    unfold GatherDims.start GatherDims.offCoord
    rw [dif_neg (fun h => by simp at h), dif_pos hk, Nat.zero_add]
    rfl

/-- An index in range is taken as it stands. -/
theorem wrapped (v : BitVec 32) (h : v.toNat < 8) : Scalar.select (IntOp.cmpi .slt v 0#32) (IntOp.addi v 8#32) v = BitVec.ofNat 32 v.toNat := by
  have hw : ∀ e : Fin 8, Scalar.select (IntOp.cmpi .slt (BitVec.ofNat 32 e.val) 0#32) (IntOp.addi (BitVec.ofNat 32 e.val) 8#32) (BitVec.ofNat 32 e.val) = BitVec.ofNat 32 e.val := by decide
  have e : v = BitVec.ofNat 32 v.toNat := by simp
  have := hw ⟨v.toNat, h⟩
  rw [← e] at this ⊢
  exact this

section Reference

open Cert.Reference6Ideal.Read

variable (x0 : FVec Ideal Cert.Reference6Ideal.S37376x1024 .f32) (x2 : IVec S1 32)
  (x3 x4 : FVec Ideal Cert.Reference6Ideal.S8x1024x2816 .bf16) (x5 : FVec Ideal Cert.Reference6Ideal.S8x2816x1024 .bf16)

theorem ref_gate (b : Fin 73) (i : Fin 1024) (j : Fin 2816) : val_main_v8 (F := Ideal) (experts ch) x3 (ix3 b i j) = x3 (ix3 (expert ch b) i j) := by
  have e : val_main_v8 (F := Ideal) (experts ch) x3 (ix3 b i j) = val_main_v7 (F := Ideal) (experts ch) x3 (ix3 b i j) := rfl
  rw [e]
  exact pick_apply 1024 2816 _ x3 (val_main_v6 (F := Ideal) (experts ch)) b i j (expert ch b)
    (by rw [val_main_v6_apply, val_main_v5_apply, val_main_v2_apply, val_main_v4_apply, val_main_v1_apply, val_main_v3_apply, val_main_c_apply, val_main_c_0_apply, show idx_main_v6 (ix2 b (0 : Fin 1)) = ix1 b by funext a; fin_cases a; rfl]; exact wrapped (experts ch (ix1 b)) (ch.2 _))

theorem ref_up (b : Fin 73) (i : Fin 1024) (j : Fin 2816) : val_main_v16 (F := Ideal) (experts ch) x4 (ix3 b i j) = x4 (ix3 (expert ch b) i j) := by
  have e : val_main_v16 (F := Ideal) (experts ch) x4 (ix3 b i j) = val_main_v15 (F := Ideal) (experts ch) x4 (ix3 b i j) := rfl
  rw [e]
  exact pick_apply 1024 2816 _ x4 (val_main_v14 (F := Ideal) (experts ch)) b i j (expert ch b)
    (by rw [val_main_v14_apply, val_main_v13_apply, val_main_v10_apply, val_main_v12_apply, val_main_v9_apply, val_main_v11_apply, val_main_c_1_apply, val_main_c_2_apply, show idx_main_v14 (ix2 b (0 : Fin 1)) = ix1 b by funext a; fin_cases a; rfl]; exact wrapped (experts ch (ix1 b)) (ch.2 _))

theorem ref_down (b : Fin 73) (i : Fin 2816) (j : Fin 1024) : val_main_v24 (F := Ideal) (experts ch) x5 (ix3 b i j) = x5 (ix3 (expert ch b) i j) := by
  have e : val_main_v24 (F := Ideal) (experts ch) x5 (ix3 b i j) = val_main_v23 (F := Ideal) (experts ch) x5 (ix3 b i j) := rfl
  rw [e]
  exact pick_apply 2816 1024 _ x5 (val_main_v22 (F := Ideal) (experts ch)) b i j (expert ch b)
    (by rw [val_main_v22_apply, val_main_v21_apply, val_main_v18_apply, val_main_v20_apply, val_main_v17_apply, val_main_v19_apply, val_main_c_3_apply, val_main_c_4_apply, show idx_main_v22 (ix2 b (0 : Fin 1)) = ix1 b by funext a; fin_cases a; rfl]; exact wrapped (experts ch (ix1 b)) (ch.2 _))

theorem ref_rows (b : Fin 73) (i : Fin 512) (j : Fin 1024) : val_main_v0 (F := Ideal) x0 (ix3 b i j) = x0 (ix2 ⟨b.val * 512 + i.val, by omega⟩ j) := by
  rw [val_main_v0_apply]
  congr 1
  funext a
  refine Fin.ext ?_
  fin_cases a
  · show ((b.val * 512 + i.val) * 1024 + j.val) / 1024 = b.val * 512 + i.val
    omega
  · show ((b.val * 512 + i.val) * 1024 + j.val) % 1024 = j.val
    omega

/-- The reference's gate and up products. -/
theorem ref_gate_dot (b : Fin 73) (i : Fin 512) (k : Fin 2816) : val_main_v25 (F := Ideal) x0 (experts ch) x3 (ix3 b i k)
    = ∑ l : Fin 1024, x0 (ix2 ⟨b.val * 512 + i.val, by omega⟩ l) * x3 (ix3 (expert ch b) l k) := by
  rw [val_main_v25_apply]
  exact Finset.sum_congr rfl fun l _ => congrArg₂ (· * ·) ((congrArg (val_main_v0 (F := Ideal) x0) (show lidx_main_v25 (ix3 b i k) l = ix3 b i l by funext a; fin_cases a <;> rfl)).trans (ref_rows x0 b i l)) ((congrArg (val_main_v8 (F := Ideal) (experts ch) x3) (show ridx_main_v25 (ix3 b i k) l = ix3 b l k by funext a; fin_cases a <;> rfl)).trans (ref_gate ch x3 b l k))
theorem ref_up_dot (b : Fin 73) (i : Fin 512) (k : Fin 2816) : val_main_v27 (F := Ideal) x0 (experts ch) x4 (ix3 b i k)
    = ∑ l : Fin 1024, x0 (ix2 ⟨b.val * 512 + i.val, by omega⟩ l) * x4 (ix3 (expert ch b) l k) := by
  rw [val_main_v27_apply]
  exact Finset.sum_congr rfl fun l _ => congrArg₂ (· * ·) ((congrArg (val_main_v0 (F := Ideal) x0) (show lidx_main_v27 (ix3 b i k) l = ix3 b i l by funext a; fin_cases a <;> rfl)).trans (ref_rows x0 b i l)) ((congrArg (val_main_v16 (F := Ideal) (experts ch) x4) (show ridx_main_v27 (ix3 b i k) l = ix3 b l k by funext a; fin_cases a <;> rfl)).trans (ref_up ch x4 b l k))

/-- The reference's hidden units. -/
theorem ref_hidden (b : Fin 73) (i : Fin 512) (k : Fin 2816) : val_main_v28 (F := Ideal) x0 (experts ch) x3 x4 (ix3 b i k)
    = (∑ l : Fin 1024, x0 (ix2 ⟨b.val * 512 + i.val, by omega⟩ l) * x3 (ix3 (expert ch b) l k))
      * Ideal.logistic (∑ l : Fin 1024, x0 (ix2 ⟨b.val * 512 + i.val, by omega⟩ l) * x3 (ix3 (expert ch b) l k))
      * (∑ l : Fin 1024, x0 (ix2 ⟨b.val * 512 + i.val, by omega⟩ l) * x4 (ix3 (expert ch b) l k)) := by
  rw [← ref_gate_dot, ← ref_up_dot]
  pointwise [val_main_v28, val_main_v26, val_main_call0_v0, val_main_call0_v1, val_main_call0_cst, val_main_call0_v2, val_main_call0_v3, val_main_call0_cst_0, val_main_call0_v4, val_main_call0_v5]
  simp only [Ideal.logistic]

/-- The reference's product with the down weights, tile after tile. -/
theorem ref_dot (c : Dev nD) (b : Fin 73) (j : S512x1024.Idx) :
    val_main_v29 (F := Ideal) (m ((c : Thread nD τ).loc main_arg0)) (experts ch) (m ((c : Thread nD τ).loc main_arg3)) (m ((c : Thread nD τ).loc main_arg4)) (m ((c : Thread nD τ).loc main_arg5)) (ix3 b (j 0) (j 1))
      = ∑ f : Fin 11, tile ch m c b f j := by
  rw [val_main_v29_apply]
  unfold tile
  refine (Fin.sum_mul_add_congr fun f k hl => ?_).symm
  refine congrArg₂ (· * ·) ?_ ?_
  · refine Eq.symm ((congrArg (val_main_v28 (F := Ideal) (m ((c : Thread nD τ).loc main_arg0)) (experts ch) (m ((c : Thread nD τ).loc main_arg3)) (m ((c : Thread nD τ).loc main_arg4)))
      (show lidx_main_v29 (ix3 b (j 0) (j 1)) _ = ix3 b (j 0) ⟨f.val * 256 + k.val, by omega⟩ by funext a; fin_cases a <;> rfl)).trans ?_)
    exact ref_hidden ch _ _ _ b (j 0) _
  · refine Eq.symm ((congrArg (val_main_v24 (F := Ideal) (experts ch) (m ((c : Thread nD τ).loc main_arg5)))
      (show ridx_main_v29 (ix3 b (j 0) (j 1)) _ = ix3 b ⟨f.val * 256 + k.val, by omega⟩ (j 1) by funext a; fin_cases a <;> rfl)).trans ?_)
    exact ref_down ch _ b _ (j 1)

/-- The reference: the product where the block is in use, and zero elsewhere. -/
theorem ref_out (c : Dev nD) (b : Fin 73) (j : S512x1024.Idx) :
    val_main_v36 (F := Ideal) (m ((c : Thread nD τ).loc main_arg0)) (experts ch) (used ch) (m ((c : Thread nD τ).loc main_arg3)) (m ((c : Thread nD τ).loc main_arg4)) (m ((c : Thread nD τ).loc main_arg5))
        (ix2 ⟨b.val * 512 + (j 0).val, by have h1 : (j 0).val < 512 := (j 0).isLt; omega⟩ (j 1))
      = Scalar.select (Scalar.cmpi .slt (BitVec.ofNat 32 b.val) (nu ch)) (∑ f : Fin 11, tile ch m c b f j) 0 := by
  have h0 : (j 0).val < 512 := (j 0).isLt
  have h1 : (j 1).val < 1024 := (j 1).isLt
  rw [← ref_dot]
  have e : idx_main_v36 (ix2 ⟨b.val * 512 + (j 0).val, by omega⟩ (j 1)) = ix3 b (j 0) (j 1) := by
    funext a
    refine Fin.ext ?_
    fin_cases a
    · show ((b.val * 512 + (j 0).val) * 1024 + (j 1).val) / 524288 = b.val
      omega
    · show ((b.val * 512 + (j 0).val) * 1024 + (j 1).val) / 1024 % 512 = (j 0).val
      omega
    · show ((b.val * 512 + (j 0).val) * 1024 + (j 1).val) % 1024 = (j 1).val
      omega
  have e1 : val_main_call1_v1 (F := Ideal) (used ch) (ix3 b (j 0) (j 1)) = Scalar.cmpi .slt (BitVec.ofNat 32 b.val) (nu ch) := by
    rw [val_main_call1_v1_apply, val_main_v34_apply, val_main_v33_apply, val_main_v32_apply, nu_eq]
    have e3 : ∀ i, val_main_v31 (F := Ideal) (used ch) i = used ch (ix1 0) := fun i => by
      unfold val_main_v31
      exact shapeCast_apply _ _ i (ix1 0) (by rfl)
    rw [e3]
    rfl
  have e2 : val_main_call1_v2 (F := Ideal) (ix3 b (j 0) (j 1)) = (0 : EReal) := by
    pointwise [val_main_call1_v2, val_main_call1_v0, val_main_cst]
    show constant (F := Ideal) Cert.Reference6Ideal.S_ FTy.f32 0#32 _ = (0 : EReal)
    pointwise
  refine (val_main_v36_apply _ _ _ _ _ _ _).trans ((congrArg (val_main_v35 (F := Ideal) (m ((c : Thread nD τ).loc main_arg0)) (experts ch) (used ch) (m ((c : Thread nD τ).loc main_arg3)) (m ((c : Thread nD τ).loc main_arg4)) (m ((c : Thread nD τ).loc main_arg5))) e).trans ((val_main_v35_apply _ _ _ _ _ _ _).trans ?_))
  exact congrArg₂ (fun (q : BitVec 1) (z : EReal) => Scalar.select q (val_main_v29 (F := Ideal) (m ((c : Thread nD τ).loc main_arg0)) (experts ch) (m ((c : Thread nD τ).loc main_arg3)) (m ((c : Thread nD τ).loc main_arg4)) (m ((c : Thread nD τ).loc main_arg5)) (ix3 b (j 0) (j 1))) z) e1 e2

end Reference

/-- In a block in use, each step keeps the rows and adds its tile. -/
theorem held_run (c : Dev nD) (b : Fin 73) (hu : Scalar.cmpi .slt (BitVec.ofNat 32 b.val) (nu ch) = 1#1) : ∀ (s : ℕ) (hs : s < 11) (hn : 11 * b.val + s < (cfgT ch).N),
    rows c (held ch m ρ c (11 * b.val + s) hn) = kept m c b ∧ ∀ j, acc c (held ch m ρ c (11 * b.val + s) hn) j = ∑ r : Fin (s + 1), tile ch m c b ⟨r.val, by omega⟩ j := by
  have hc0 : ∀ (s : ℕ) (hs : s < 11) (hn : 11 * b.val + s < (cfgT ch).N), (crd ch ⟨11 * b.val + s, hn⟩) 0 = b := fun s hs hn =>
    Fin.ext ((crd0 ch ⟨_, hn⟩).trans (show (11 * b.val + s) / 11 = b.val by omega))
  have hc1 : ∀ (s : ℕ) (hs : s < 11) (hn : 11 * b.val + s < (cfgT ch).N), (crd ch ⟨11 * b.val + s, hn⟩) 1 = (⟨s, hs⟩ : Fin 11) := fun s hs hn =>
    Fin.ext ((crd1 ch ⟨_, hn⟩).trans (show (11 * b.val + s) % 11 = s by omega))
  have hin : ∀ (s : ℕ) (hs : s < 11) (hn : 11 * b.val + s < (cfgT ch).N), inUse ch ⟨11 * b.val + s, hn⟩ = 1#1 := fun s hs hn => by
    show Scalar.cmpi .slt (BitVec.ofNat 32 ((crd ch ⟨11 * b.val + s, hn⟩) 0).val) (nu ch) = 1#1
    rw [hc0 s hs hn]; exact hu
  intro s
  induction s with
  | zero =>
    intro hs hn
    have q0 : P0_0 ch ⟨11 * b.val + 0, hn⟩ := (P0_iff ch _).2 ⟨hin 0 hs hn, congrArg Fin.val (hc1 0 hs hn)⟩
    have eh := held_eq ch m ρ c ⟨11 * b.val + 0, hn⟩
    refine ⟨(congrArg (rows c) eh).trans ((rows_first ch m ρ c _ _ q0).trans (kept_at ch m ρ c _ b (congrArg Fin.val (hc0 0 hs hn)))), fun j => ?_⟩
    refine (congrFun (congrArg (acc c) eh) j).trans ((acc_first ch m ρ c _ _ q0 j).trans ?_)
    rw [step_apply, zero_apply, zero_add, kept_at ch m ρ c _ b (congrArg Fin.val (hc0 0 hs hn)), part_at ch m ρ c _ (hin 0 hs hn) b (hc0 0 hs hn) _ (hc1 0 hs hn) j]
    exact (Fin.sum_univ_one (fun r : Fin 1 => tile ch m c b ⟨r.val, by omega⟩ j)).symm
  | succ s ih =>
    intro hs hn
    have hp := ih (by omega) (by omega)
    have q0 : ¬P0_0 ch ⟨11 * b.val + (s + 1), hn⟩ := fun q => by
      have h := ((P0_iff ch _).1 q).2
      rw [hc1 (s + 1) hs hn] at h
      exact absurd h (Nat.succ_ne_zero s)
    have q1 : P0_1 ch ⟨11 * b.val + (s + 1), hn⟩ := (P1_iff ch _).2 (hin (s + 1) hs hn)
    have ep : prior ch m ρ c ⟨11 * b.val + (s + 1), hn⟩ = held ch m ρ c (11 * b.val + s) (by omega) := by
      unfold prior
      rw [dif_neg (show ¬(11 * b.val + (s + 1) = 0) by omega)]
      rfl
    have eh := held_eq ch m ρ c ⟨11 * b.val + (s + 1), hn⟩
    rw [ep] at eh
    refine ⟨(congrArg (rows c) eh).trans ((rows_later ch m ρ c _ _ q0 q1).trans hp.1), fun j => ?_⟩
    refine (congrFun (congrArg (acc c) eh) j).trans ((acc_later ch m ρ c _ _ q0 q1 j).trans ?_)
    rw [step_apply, hp.1, part_at ch m ρ c _ (hin (s + 1) hs hn) b (hc0 (s + 1) hs hn) _ (hc1 (s + 1) hs hn) j, hp.2 j]
    exact (Fin.sum_univ_castSucc (fun r : Fin (s + 1 + 1) => tile ch m c b ⟨r.val, by omega⟩ j)).symm

/-- The reference's result as a function of its arguments. -/
abbrev REF (c : Dev nD) : FVec Ideal Cert.Reference6Ideal.S37376x1024 .f32 :=
  Cert.Reference6Ideal.Read.val_main_v36 (F := Ideal) (m ((c : Thread nD τ).loc main_arg0)) (experts ch) (used ch) (m ((c : Thread nD τ).loc main_arg3)) (m ((c : Thread nD τ).loc main_arg4)) (m ((c : Thread nD τ).loc main_arg5))

/-- What a block's last step leaves in the result's block. -/
theorem point (c : Dev nD) (t : Fin (cfgT ch).N) (hl : ((crd ch t) 1).val = 10) (y : S512x1024.Idx) :
    ((held ch m ρ c t.val t.isLt).1 y : EReal) = REF ch m c (ix2 ⟨((crd ch t) 0).val * 512 + (y 0).val, by have h1 : (y 0).val < 512 := (y 0).isLt; have h2 : ((crd ch t) 0).val < 73 := ((crd ch t) 0).isLt; omega⟩ (y 1)) := by
  refine Eq.trans ?_ (ref_out ch m c ((crd ch t) 0) y).symm
  have eh := held_eq ch m ρ c t
  have q0 : ¬P0_0 ch t := fun q => absurd (hl.symm.trans ((P0_iff ch t).1 q).2) (by decide)
  by_cases hu : inUse ch t = 1#1
  · have q1 : P0_1 ch t := (P1_iff ch t).2 hu
    have q2 : P0_2 ch t := (P2_iff ch t).2 ⟨hu, hl⟩
    have et : t.val = 11 * ((crd ch t) 0).val + 10 := by
      have h0 := crd0 ch t
      have h1 := crd1 ch t
      rw [hl] at h1
      omega
    have hr := (held_run ch m ρ c ((crd ch t) 0) hu 10 (by omega) (by rw [← et]; exact t.isLt)).2 y
    have e1 : held ch m ρ c t.val t.isLt = held ch m ρ c (11 * ((crd ch t) 0).val + 10) (by rw [← et]; exact t.isLt) := by congr 1
    rw [show Scalar.cmpi .slt (BitVec.ofNat 32 ((crd ch t) 0).val) (nu ch) = 1#1 from hu]
    refine Eq.trans ?_ hr
    rw [← e1, eh]
    exact out_used ch m ρ c t _ q0 q1 q2 y
  · have q1 : ¬P0_1 ch t := fun q => hu ((P1_iff ch t).1 q)
    have q3 : P0_3 ch t := (P3_iff ch t).2 ⟨hu, hl⟩
    have hz : ∀ v : BitVec 1, v ≠ 1#1 → v = 0#1 := by decide
    rw [show Scalar.cmpi .slt (BitVec.ofNat 32 ((crd ch t) 0).val) (nu ch) = 0#1 from hz _ hu, eh]
    exact out_unused ch m ρ c t _ q0 q1 q3 y

theorem covers_zeros : ((cfgT zeros).win (4 : Fin 5)).Covers := by decide +kernel

/-- Every row of the result lies in a block that is written back. -/
theorem covers : ((cfgT ch).win (4 : Fin 5)).Covers := covers_zeros

/-- The result array after the run is the reference's. -/
theorem final (c : Dev nD) : (dats ch m ρ 0 c).arrAt (4 : Fin 5) (cfgT ch).N = REF ch m c := by
  refine (dats ch m ρ 0 c).arrAt_eq_of_covers (4 : Fin 5) _ (covers ch) fun t hf y => ?_
  have hl : ((crd ch t) 1).val = 10 := of_decide_eq_true ((flush_eq ch t).symm.trans hf)
  refine Eq.trans (point ch m ρ c t hl y) (congrArg (REF ch m c) (funext fun a => Fin.ext ?_))
  refine Eq.symm ((((cfgT ch).win (4 : Fin 5)).rect_emb_val t y a).trans ?_)
  rw [index4]
  fin_cases a
  · rfl
  · exact Nat.zero_add _

end Cert.Kernel6Ideal.Route

end
-- ==== Proof.ExpertsFrameBits.lean ====
/- The experts' call runs at every table of experts: over the machine's numbers. -/
module

public import proofs.«01_k».proof.Proof.Gen.Kernel6.Flash.Runs
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384

noncomputable section

namespace Cert.Kernel6.Route

open Cert.Kernel6 Cert.Kernel6.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The proof's resource algebra: that of the staging cells. -/
abbrev EP : Emb (UR sig nD τ) 𝕄 := emb₁

/-- The words that steer the call: the expert of every block of rows, each one of the eight, and the number of blocks in use. -/
abbrev Tab : Type := {p : (S73.Idx → BitVec 32) × (S1.Idx → BitVec 32) // ∀ x, (p.1 x).toNat < 8}

variable (ch : Tab)

/-- The experts of the blocks. -/
abbrev experts (ch : Tab) : S73.Idx → BitVec 32 := ch.1.1
/-- The number of blocks in use. -/
abbrev used (ch : Tab) : S1.Idx → BitVec 32 := ch.1.2

/-- The two tables as the launch holds them. -/
def tabs (ch : Tab) : pre0.Contents (Elt Bits) := fun | ⟨0, _⟩ => experts ch | ⟨1, _⟩ => used ch | ⟨_ + 2, h⟩ => absurd h (by simp)

/-- The launch memory holds these tables. -/
def Pinned (m : (ℓ : Loc nD τ sig) → Buf (Elt Bits) ℓ) : Prop :=
  (∀ c : Dev nD, m ((c : Thread nD τ).loc main_arg1) = experts ch)
  ∧ (∀ c : Dev nD, m ((c : Thread nD τ).loc main_arg2) = used ch)

/-- The column tile that a weight window takes is one of the eleven: the point's own, or the last one. -/
theorem tile_le : ∀ (b : BitVec 1) (j : Fin 11), (Scalar.select b (BitVec.ofNat 32 j.val) 10#32 : BitVec 32).toNat ≤ 10 := by decide

/-- The block of a gate weight lies inside the array. -/
theorem inb1 (i : grid0.Coords) (a) : (cc0_transform_1 k0_off1_inb numel1_S1 inb_S1_S1_0 (tabs ch) i a + 1) * S1x1024x256.size a ≤ S8x1024x2816.size a := by
  unfold cc0_transform_1
  have he : ((tabs ch).at 0 (Rect.unit (s := S73) ![(Scalar.indexCast (BitVec.ofNat 32 (i 0).val) : Index).toNat] S1.size (k0_off1_inb i)) numel1_S1 : BitVec 32).toNat < 8 := ch.2 _
  have hj := fun b => tile_le b (i 1)
  fin_cases a
  · show (_ + 1) * 1 ≤ 8
    exact Nat.le_trans (Nat.mul_one _).le he
  · show (0 + 1) * 1024 ≤ 1024
    omega
  · exact Nat.le_trans (Nat.mul_le_mul_right 256 (Nat.succ_le_succ (hj _))) (show (10 + 1) * 256 ≤ 2816 by decide)

/-- The block of an up weight lies inside the array. -/
theorem inb2 (i : grid0.Coords) (a) : (cc0_transform_2 k0_off1_inb numel1_S1 inb_S1_S1_0 (tabs ch) i a + 1) * S1x1024x256.size a ≤ S8x1024x2816.size a :=
  inb1 ch i a

/-- The block of a down weight lies inside the array. -/
theorem inb3 (i : grid0.Coords) (a) : (cc0_transform_3 k0_off1_inb numel1_S1 inb_S1_S1_0 (tabs ch) i a + 1) * S1x256x1024.size a ≤ S8x2816x1024.size a := by
  unfold cc0_transform_3
  have he : ((tabs ch).at 0 (Rect.unit (s := S73) ![(Scalar.indexCast (BitVec.ofNat 32 (i 0).val) : Index).toNat] S1.size (k0_off1_inb i)) numel1_S1 : BitVec 32).toNat < 8 := ch.2 _
  have hj := fun b => tile_le b (i 1)
  fin_cases a
  · show (_ + 1) * 1 ≤ 8
    exact Nat.le_trans (Nat.mul_one _).le he
  · exact Nat.le_trans (Nat.mul_le_mul_right 256 (Nat.succ_le_succ (hj _))) (show (10 + 1) * 256 ≤ 2816 by decide)
  · show (0 + 1) * 1024 ≤ 1024
    omega

/-- Every block that the pipeline moves lies inside its array, at whole words. -/
theorem ok_pfN : ok0 (F := Bits) (tabs ch) :=
  ⟨fun i => ⟨inb1 ch i, .inr (Affine.block_words_dvd (s := S8x1024x2816) (p := EltTy.packing .bf16) (by decide) (by decide))⟩,
   fun i => ⟨inb2 ch i, .inr (Affine.block_words_dvd (s := S8x1024x2816) (p := EltTy.packing .bf16) (by decide) (by decide))⟩,
   fun i => ⟨inb3 ch i, .inr (Affine.block_words_dvd (s := S8x2816x1024) (p := EltTy.packing .bf16) (by decide) (by decide))⟩⟩

/-- The tables are admissible; the pipeline at them. -/
def adm (ch : Tab) : (pcfg0 (F := Bits)).Adm := ⟨tabs ch, ok_pfN ch⟩
abbrev cfgT (ch : Tab) : Pipeline.Cfg sig Λ₀ := cfg0 (F := Bits) (adm ch)
abbrev pcs (ch : Tab) : Fin 1 → Pipeline.Cfg sig Λ₀ := Pipeline.pin (pcfgs (F := Bits)) fun _ => adm ch

variable (m : (ℓ : Loc nD τ sig) → Buf (Elt Bits) ℓ) (ρ : Dev nD → PrngReg)

abbrev crd (t : Fin (cfgT ch).N) : (cfgT ch).grid.Coords := (cfgT ch).grid.coords t

abbrev ms0_0 (t : Fin (cfgT ch).N) : Memref sig .tc .vmem S512x1024 .f32 := spec0_0.stage ((cfgT ch).slots t (0 : Fin 5))
abbrev hs0_0 (t : Fin (cfgT ch).N) : (ms0_0 ch t).IsWhole := hstage0_0 (((cfgT ch).slots t (0 : Fin 5)).cast nbuf0_0)
abbrev ms0_1 (t : Fin (cfgT ch).N) : Memref sig .tc .vmem S1x1024x256 .bf16 := spec0_1.stage ((cfgT ch).slots t (1 : Fin 5))
abbrev hs0_1 (t : Fin (cfgT ch).N) : (ms0_1 ch t).IsWhole := hstage0_1 (((cfgT ch).slots t (1 : Fin 5)).cast nbuf0_1)
abbrev ms0_2 (t : Fin (cfgT ch).N) : Memref sig .tc .vmem S1x1024x256 .bf16 := spec0_2.stage ((cfgT ch).slots t (2 : Fin 5))
abbrev hs0_2 (t : Fin (cfgT ch).N) : (ms0_2 ch t).IsWhole := hstage0_2 (((cfgT ch).slots t (2 : Fin 5)).cast nbuf0_2)
abbrev ms0_3 (t : Fin (cfgT ch).N) : Memref sig .tc .vmem S1x256x1024 .bf16 := spec0_3.stage ((cfgT ch).slots t (3 : Fin 5))
abbrev hs0_3 (t : Fin (cfgT ch).N) : (ms0_3 ch t).IsWhole := hstage0_3 (((cfgT ch).slots t (3 : Fin 5)).cast nbuf0_3)
abbrev ms0_4 (t : Fin (cfgT ch).N) : Memref sig .tc .vmem S512x1024 .f32 := spec0_4.stage ((cfgT ch).slots t (4 : Fin 5))
abbrev hs0_4 (t : Fin (cfgT ch).N) : (ms0_4 ch t).IsWhole := hstage0_4 (((cfgT ch).slots t (4 : Fin 5)).cast nbuf0_4)

def iblk (c : Dev nD) (w : Fin (cfgT ch).W) (t : Fin (cfgT ch).N) : (((cfgT ch).win w).xblock (crd ch t)).Idx → Elt Bits ((cfgT ch).win w).elt :=
  (((cfgT ch).win w).blk t).view.read (Elt Bits) ((s₀ m ρ).mem (((cfgT ch).win w).arr.view.loc (c : Thread nD τ)))

abbrev P0_0 (t : Fin (cfgT ch).N) : Prop := (Scalar.cmpi .ne (Scalar.extui (Scalar.andi (Scalar.cmpi .slt (BitVec.ofNat 32 ((crd ch t) 0).val) (View.readAt (Elt Bits) (tbM0_1).view (Rect.unit (s := S1) ![0] S1.size inb_S1_S1_0).toLoadRect (used ch) (Shape.Idx.first (numel1_S1.symm ▸ Nat.one_pos)))) (Scalar.cmpi .eq (BitVec.ofNat 32 ((crd ch t) 1).val) 0#32))) 0#32) = 1#1
abbrev P0_1 (t : Fin (cfgT ch).N) : Prop := (Scalar.cmpi .ne (Scalar.extui (Scalar.cmpi .slt (BitVec.ofNat 32 ((crd ch t) 0).val) (View.readAt (Elt Bits) (tbM0_1).view (Rect.unit (s := S1) ![0] S1.size inb_S1_S1_0).toLoadRect (used ch) (Shape.Idx.first (numel1_S1.symm ▸ Nat.one_pos))))) 0#32) = 1#1
abbrev P0_2 (t : Fin (cfgT ch).N) : Prop := k0_cond3 (crd ch t) (View.readAt (Elt Bits) (tbM0_1).view (Rect.unit (s := S1) ![0] S1.size inb_S1_S1_0).toLoadRect (used ch) (Shape.Idx.first (numel1_S1.symm ▸ Nat.one_pos))) = 1#1
abbrev P0_3 (t : Fin (cfgT ch).N) : Prop := k0_cond4 (crd ch t) (View.readAt (Elt Bits) (tbM0_1).view (Rect.unit (s := S1) ![0] S1.size inb_S1_S1_0).toLoadRect (used ch) (Shape.Idx.first (numel1_S1.symm ▸ Nat.one_pos))) = 1#1

/-- The word of the second table. -/
abbrev nu (ch : Tab) : BitVec 32 := (View.readAt (Elt Bits) (tbM0_1).view (Rect.unit (s := S1) ![0] S1.size inb_S1_S1_0).toLoadRect (used ch) (Shape.Idx.first (numel1_S1.symm ▸ Nat.one_pos)))

/-- Whether the scratch buffers hold nothing determined before position `n`: at the start, and for good if no block is in use. -/
def unset (n : ℕ) : Bool := decide (n = 0) || !(Scalar.cmpi .slt 0#32 (nu ch) == 1#1)

theorem first_form : ∀ (b : BitVec 1) (j : Fin 11), (Scalar.cmpi .ne (Scalar.extui (Scalar.andi b (Scalar.cmpi .eq (BitVec.ofNat 32 j.val) 0#32)) : BitVec 32) 0#32 = 1#1) ↔ (b = 1#1 ∧ j.val = 0) := by decide
theorem used_form : ∀ b : BitVec 1, (Scalar.cmpi .ne (Scalar.extui b : BitVec 32) 0#32 = 1#1) ↔ b = 1#1 := by decide
theorem last_form : ∀ (b : BitVec 1) (j : Fin 11), (Scalar.cmpi .ne (Scalar.extui (Scalar.andi b (Scalar.cmpi .eq (BitVec.ofNat 32 j.val) 10#32)) : BitVec 32) 0#32 = 1#1) ↔ (b = 1#1 ∧ j.val = 10) := by decide
theorem zero_form : ∀ (b : BitVec 1) (j : Fin 11), (Scalar.cmpi .ne (Scalar.extui (Scalar.andi (Scalar.xori b 1#1) (Scalar.cmpi .eq (BitVec.ofNat 32 j.val) 10#32)) : BitVec 32) 0#32 = 1#1) ↔ (b ≠ 1#1 ∧ j.val = 10) := by decide

/-- Whether the point's block is in use. -/
abbrev inUse (t : Fin (cfgT ch).N) : BitVec 1 := Scalar.cmpi .slt (BitVec.ofNat 32 ((crd ch t) 0).val) (nu ch)

theorem P0_iff (t : Fin (cfgT ch).N) : P0_0 ch t ↔ (inUse ch t = 1#1 ∧ ((crd ch t) 1).val = 0) := first_form _ ((crd ch t) 1)
theorem P1_iff (t : Fin (cfgT ch).N) : P0_1 ch t ↔ inUse ch t = 1#1 := used_form _
theorem P2_iff (t : Fin (cfgT ch).N) : P0_2 ch t ↔ (inUse ch t = 1#1 ∧ ((crd ch t) 1).val = 10) := last_form _ ((crd ch t) 1)
theorem P3_iff (t : Fin (cfgT ch).N) : P0_3 ch t ↔ (inUse ch t ≠ 1#1 ∧ ((crd ch t) 1).val = 10) := zero_form _ ((crd ch t) 1)

/-- A table of zeros. -/
def zeros : Tab := ⟨(fun _ => 0#32, fun _ => 0#32), fun _ => show (0#32 : BitVec 32).toNat < 8 by decide⟩

theorem flush_zeros : ∀ t : Fin (cfgT zeros).N, ((cfgT zeros).win (4 : Fin 5)).flush t = decide (((crd zeros t) 1).val = 10) := by decide +kernel

/-- The result's block is written back after the last column tile. -/
theorem flush_eq (t : Fin (cfgT ch).N) : ((cfgT ch).win (4 : Fin 5)).flush t = decide (((crd ch t) 1).val = 10) := flush_zeros t

/-- The result's buffer is left alone before the last column tile, and only there. -/
theorem idle_eq (t : Fin (cfgT ch).N) : (cfgT ch).idle (4 : Fin 5) ((cfgT ch).grid.coords t) = !decide (((crd ch t) 1).val = 10) := by
  have e : (cfgT ch).idle (4 : Fin 5) ((cfgT ch).grid.coords t) = (!(k0_cond3 (crd ch t) (nu ch) == 1#1) && !(k0_cond4 (crd ch t) (nu ch) == 1#1)) := rfl
  have h2 : k0_cond3 (crd ch t) (nu ch) = 1#1 ↔ (inUse ch t = 1#1 ∧ ((crd ch t) 1).val = 10) := P2_iff ch t
  have h3 : k0_cond4 (crd ch t) (nu ch) = 1#1 ↔ (inUse ch t ≠ 1#1 ∧ ((crd ch t) 1).val = 10) := P3_iff ch t
  rw [e]
  by_cases hj : ((crd ch t) 1).val = 10
  · by_cases hb : inUse ch t = 1#1
    · rw [h2.2 ⟨hb, hj⟩, decide_eq_true hj]; rfl
    · rw [h3.2 ⟨hb, hj⟩, decide_eq_true hj]; simp
  · have n2 : ¬ k0_cond3 (crd ch t) (nu ch) = 1#1 := fun h => hj (h2.1 h).2
    have n3 : ¬ k0_cond4 (crd ch t) (nu ch) = 1#1 := fun h => hj (h3.1 h).2
    rw [decide_eq_false hj, beq_eq_false_iff_ne.2 n2, beq_eq_false_iff_ne.2 n3]; rfl

/-- Before every point the result's buffer holds nothing that is still to be written back. -/
theorem fresh_eq (t : Fin (cfgT ch).N) : (cfgT ch).fresh (4 : Fin 5) t.val = true :=
  Pipeline.Cfg.fresh_tab (cfgT ch) (4 : Fin 5) (fun _ => true) rfl (fun t => by
    rw [flush_eq, idle_eq]; cases decide (((crd ch t) 1).val = 10) <;> rfl) t.val (Nat.le_of_lt t.isLt)

/-- If some block is in use, the first one is. -/
theorem some_used (k : Fin 73) (v : BitVec 32) (h : Scalar.cmpi .slt (BitVec.ofNat 32 k.val) v = 1#1) : Scalar.cmpi .slt 0#32 v = 1#1 := by
  have e : ∀ a : BitVec 32, Scalar.cmpi .slt a v = BitVec.ofBool (a.slt v) := fun _ => rfl
  have h1 : ∀ c : Bool, BitVec.ofBool c = 1#1 ↔ c = true := by decide
  rw [e, h1] at h ⊢
  rw [BitVec.slt_iff_toInt_lt] at h ⊢
  have hk : ∀ k : Fin 73, (0 : Int) ≤ (BitVec.ofNat 32 k.val).toInt := by decide
  have h0 : (0#32 : BitVec 32).toInt = 0 := by decide
  have := hk k
  omega

theorem unset_succ_used (t : Fin (cfgT ch).N) (h : inUse ch t = 1#1) : unset ch (t.val + 1) = false := by
  have h0 := some_used ((crd ch t) 0) (nu ch) h
  unfold unset
  rw [h0]; simp

/-- The first point is that of the first block and the first column tile. -/
theorem crd_zero : ((grid0.coords ⟨0, by decide⟩) 0).val = 0 ∧ ((grid0.coords ⟨0, by decide⟩) 1).val = 0 := by decide +kernel

theorem unset_used (t : Fin (cfgT ch).N) (h : inUse ch t = 1#1) (hj : ((crd ch t) 1).val ≠ 0) : unset ch t.val = false := by
  have h0 := some_used ((crd ch t) 0) (nu ch) h
  have ht : t.val ≠ 0 := fun h => hj (by
    have e : t = ⟨0, t.pos⟩ := Fin.ext h
    rw [e]; exact crd_zero.2)
  unfold unset
  rw [h0]; simp [ht]

theorem unset_unused (t : Fin (cfgT ch).N) (h : inUse ch t ≠ 1#1) : unset ch (t.val + 1) = unset ch t.val := by
  unfold unset
  by_cases ht : t.val = 0
  · have hn : ¬ Scalar.cmpi .slt 0#32 (nu ch) = 1#1 := fun e => h (by
      have e' : t = ⟨0, t.pos⟩ := Fin.ext ht
      have hz : ((crd ch t) 0).val = 0 := by rw [e']; exact crd_zero.1
      show Scalar.cmpi .slt (BitVec.ofNat 32 ((crd ch t) 0).val) (nu ch) = 1#1
      rw [hz]; exact e)
    rw [beq_eq_false_iff_ne.2 hn]; simp
  · simp [ht]

theorem conds_A (t : Fin (cfgT ch).N) : P0_0 ch t → P0_0 ch t ∧ P0_1 ch t ∧ ¬P0_2 ch t ∧ ¬P0_3 ch t ∧ True := fun q0 =>
  ⟨q0, (P1_iff ch t).2 ((P0_iff ch t).1 q0).1, fun h => absurd (((P2_iff ch t).1 h).2.symm.trans ((P0_iff ch t).1 q0).2) (by decide), fun h => ((P3_iff ch t).1 h).1 ((P0_iff ch t).1 q0).1, trivial⟩
theorem conds_B (t : Fin (cfgT ch).N) : ¬P0_0 ch t → P0_1 ch t → ¬P0_2 ch t → ¬P0_0 ch t ∧ P0_1 ch t ∧ ¬P0_2 ch t ∧ ¬P0_3 ch t ∧ True := fun q0 q1 q2 =>
  ⟨q0, q1, q2, fun h => ((P3_iff ch t).1 h).1 ((P1_iff ch t).1 q1), trivial⟩
theorem conds_C (t : Fin (cfgT ch).N) : ¬P0_0 ch t → P0_1 ch t → P0_2 ch t → ¬P0_0 ch t ∧ P0_1 ch t ∧ P0_2 ch t ∧ ¬P0_3 ch t ∧ True := fun q0 q1 q2 =>
  ⟨q0, q1, q2, fun h => ((P3_iff ch t).1 h).1 ((P1_iff ch t).1 q1), trivial⟩
theorem conds_D (t : Fin (cfgT ch).N) : ¬P0_0 ch t → ¬P0_1 ch t → ¬P0_3 ch t → ¬P0_0 ch t ∧ ¬P0_1 ch t ∧ ¬P0_2 ch t ∧ ¬P0_3 ch t ∧ True := fun q0 q1 q2 =>
  ⟨q0, q1, fun h => q1 ((P1_iff ch t).2 ((P2_iff ch t).1 h).1), q2, trivial⟩
theorem conds_E (t : Fin (cfgT ch).N) : ¬P0_0 ch t → ¬P0_1 ch t → P0_3 ch t → ¬P0_0 ch t ∧ ¬P0_1 ch t ∧ ¬P0_2 ch t ∧ P0_3 ch t ∧ True := fun q0 q1 q2 =>
  ⟨q0, q1, fun h => q1 ((P1_iff ch t).2 ((P2_iff ch t).1 h).1), q2, trivial⟩
theorem sched_A (t : Fin (cfgT ch).N) : P0_0 ch t → (cfgT ch).idle (4 : Fin 5) ((cfgT ch).grid.coords t) = true ∧ ((cfgT ch).win (4 : Fin 5)).flush t = false ∧ (cfgT ch).fresh (4 : Fin 5) t.val = true ∧ unset ch (t.val + 1) = false ∧ unset ch (t.val + 1) = false := fun q0 => by
  have hj : ¬ ((crd ch t) 1).val = 10 := fun h => absurd (h.symm.trans ((P0_iff ch t).1 q0).2) (by decide)
  have hi : (cfgT ch).idle (4 : Fin 5) ((cfgT ch).grid.coords t) = true := by rw [idle_eq, decide_eq_false hj]; rfl
  have hf : ((cfgT ch).win (4 : Fin 5)).flush t = false := by rw [flush_eq, decide_eq_false hj]
  have u := unset_succ_used ch t ((P0_iff ch t).1 q0).1
  exact ⟨hi, hf, fresh_eq ch t, u, u⟩
theorem sched_B (t : Fin (cfgT ch).N) : ¬P0_0 ch t → P0_1 ch t → ¬P0_2 ch t → (cfgT ch).idle (4 : Fin 5) ((cfgT ch).grid.coords t) = true ∧ ((cfgT ch).win (4 : Fin 5)).flush t = false ∧ (cfgT ch).fresh (4 : Fin 5) t.val = true ∧ unset ch t.val = false ∧ unset ch (t.val + 1) = false ∧ unset ch t.val = false ∧ unset ch (t.val + 1) = false := fun q0 q1 q2 => by
  have hj : ¬ ((crd ch t) 1).val = 10 := fun h => q2 ((P2_iff ch t).2 ⟨(P1_iff ch t).1 q1, h⟩)
  have hi : (cfgT ch).idle (4 : Fin 5) ((cfgT ch).grid.coords t) = true := by rw [idle_eq, decide_eq_false hj]; rfl
  have hf : ((cfgT ch).win (4 : Fin 5)).flush t = false := by rw [flush_eq, decide_eq_false hj]
  have u1 := unset_succ_used ch t ((P1_iff ch t).1 q1)
  have u0 := unset_used ch t ((P1_iff ch t).1 q1) fun h => q0 ((P0_iff ch t).2 ⟨(P1_iff ch t).1 q1, h⟩)
  exact ⟨hi, hf, fresh_eq ch t, u0, u1, u0, u1⟩
theorem sched_C (t : Fin (cfgT ch).N) : ¬P0_0 ch t → P0_1 ch t → P0_2 ch t → (cfgT ch).idle (4 : Fin 5) ((cfgT ch).grid.coords t) = false ∧ ((cfgT ch).win (4 : Fin 5)).flush t = true ∧ (cfgT ch).fresh (4 : Fin 5) t.val = true ∧ unset ch t.val = false ∧ unset ch (t.val + 1) = false ∧ unset ch t.val = false ∧ unset ch (t.val + 1) = false := fun q0 q1 q2 => by
  have hj : ((crd ch t) 1).val = 10 := ((P2_iff ch t).1 q2).2
  have hi : (cfgT ch).idle (4 : Fin 5) ((cfgT ch).grid.coords t) = false := by rw [idle_eq, decide_eq_true hj]; rfl
  have hf : ((cfgT ch).win (4 : Fin 5)).flush t = true := by rw [flush_eq, decide_eq_true hj]
  have u1 := unset_succ_used ch t ((P1_iff ch t).1 q1)
  have u0 := unset_used ch t ((P1_iff ch t).1 q1) fun h => q0 ((P0_iff ch t).2 ⟨(P1_iff ch t).1 q1, h⟩)
  exact ⟨hi, hf, fresh_eq ch t, u0, u1, u0, u1⟩
theorem sched_D (t : Fin (cfgT ch).N) : ¬P0_0 ch t → ¬P0_1 ch t → ¬P0_3 ch t → (cfgT ch).idle (4 : Fin 5) ((cfgT ch).grid.coords t) = true ∧ ((cfgT ch).win (4 : Fin 5)).flush t = false ∧ (cfgT ch).fresh (4 : Fin 5) t.val = true ∧ unset ch (t.val + 1) = unset ch t.val := fun q0 q1 q2 => by
  have hj : ¬ ((crd ch t) 1).val = 10 := fun h => q2 ((P3_iff ch t).2 ⟨fun e => q1 ((P1_iff ch t).2 e), h⟩)
  have hi : (cfgT ch).idle (4 : Fin 5) ((cfgT ch).grid.coords t) = true := by rw [idle_eq, decide_eq_false hj]; rfl
  have hf : ((cfgT ch).win (4 : Fin 5)).flush t = false := by rw [flush_eq, decide_eq_false hj]
  exact ⟨hi, hf, fresh_eq ch t, unset_unused ch t fun e => q1 ((P1_iff ch t).2 e)⟩
theorem sched_E (t : Fin (cfgT ch).N) : ¬P0_0 ch t → ¬P0_1 ch t → P0_3 ch t → (cfgT ch).idle (4 : Fin 5) ((cfgT ch).grid.coords t) = false ∧ ((cfgT ch).win (4 : Fin 5)).flush t = true ∧ (cfgT ch).fresh (4 : Fin 5) t.val = true ∧ unset ch (t.val + 1) = unset ch t.val := fun q0 q1 q2 => by
  have hj : ((crd ch t) 1).val = 10 := ((P3_iff ch t).1 q2).2
  have hi : (cfgT ch).idle (4 : Fin 5) ((cfgT ch).grid.coords t) = false := by rw [idle_eq, decide_eq_true hj]; rfl
  have hf : ((cfgT ch).win (4 : Fin 5)).flush t = true := by rw [flush_eq, decide_eq_true hj]
  exact ⟨hi, hf, fresh_eq ch t, unset_unused ch t fun e => q1 ((P1_iff ch t).2 e)⟩

def turn (c : Dev nD) (t : Fin (cfgT ch).N) (prev : (S512x1024.Idx → Elt Bits .f32) × Buf (Elt Bits) ((c : Thread nD τ).loc cc0_scratch0) × Buf (Elt Bits) ((c : Thread nD τ).loc cc0_scratch1)) : (S512x1024.Idx → Elt Bits .f32) × Buf (Elt Bits) ((c : Thread nD τ).loc cc0_scratch0) × Buf (Elt Bits) ((c : Thread nD τ).loc cc0_scratch1) :=
  if q0 : P0_0 ch t then
    ((if (cfgT ch).fresh (4 : Fin 5) t.val then default else prev.1), (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) (conds_A ch t q0).1 (conds_A ch t q0).2.1 (conds_A ch t q0).2.2.1 (conds_A ch t q0).2.2.2.1).1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) (conds_A ch t q0).1 (conds_A ch t q0).2.1 (conds_A ch t q0).2.2.1 (conds_A ch t q0).2.2.2.1).2.1)
  else
    if q1 : P0_1 ch t then
      if q2 : P0_2 ch t then
        (out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) prev.2.1 prev.2.2 (conds_C ch t q0 q1 q2).1 (conds_C ch t q0 q1 q2).2.1 (conds_C ch t q0 q1 q2).2.2.1 (conds_C ch t q0 q1 q2).2.2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) prev.2.1 prev.2.2 (conds_C ch t q0 q1 q2).1 (conds_C ch t q0 q1 q2).2.1 (conds_C ch t q0 q1 q2).2.2.1 (conds_C ch t q0 q1 q2).2.2.2.1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) prev.2.1 prev.2.2 (conds_C ch t q0 q1 q2).1 (conds_C ch t q0 q1 q2).2.1 (conds_C ch t q0 q1 q2).2.2.1 (conds_C ch t q0 q1 q2).2.2.2.1).2.2.1)
      else
        ((if (cfgT ch).fresh (4 : Fin 5) t.val then default else prev.1), (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) prev.2.1 prev.2.2 (conds_B ch t q0 q1 q2).1 (conds_B ch t q0 q1 q2).2.1 (conds_B ch t q0 q1 q2).2.2.1 (conds_B ch t q0 q1 q2).2.2.2.1).1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) prev.2.1 prev.2.2 (conds_B ch t q0 q1 q2).1 (conds_B ch t q0 q1 q2).2.1 (conds_B ch t q0 q1 q2).2.2.1 (conds_B ch t q0 q1 q2).2.2.2.1).2.1)
    else
      if q2 : P0_3 ch t then
        (out0_E_4 c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) prev.2.1 prev.2.2 (conds_E ch t q0 q1 q2).1 (conds_E ch t q0 q1 q2).2.1 (conds_E ch t q0 q1 q2).2.2.1 (conds_E ch t q0 q1 q2).2.2.2.1, (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) prev.2.1 prev.2.2 (conds_E ch t q0 q1 q2).1 (conds_E ch t q0 q1 q2).2.1 (conds_E ch t q0 q1 q2).2.2.1 (conds_E ch t q0 q1 q2).2.2.2.1).2.1, (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) prev.2.1 prev.2.2 (conds_E ch t q0 q1 q2).1 (conds_E ch t q0 q1 q2).2.1 (conds_E ch t q0 q1 q2).2.2.1 (conds_E ch t q0 q1 q2).2.2.2.1).2.2.1)
      else
        ((if (cfgT ch).fresh (4 : Fin 5) t.val then default else prev.1), (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) prev.2.1 prev.2.2 (conds_D ch t q0 q1 q2).1 (conds_D ch t q0 q1 q2).2.1 (conds_D ch t q0 q1 q2).2.2.1 (conds_D ch t q0 q1 q2).2.2.2.1).1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) prev.2.1 prev.2.2 (conds_D ch t q0 q1 q2).1 (conds_D ch t q0 q1 q2).2.1 (conds_D ch t q0 q1 q2).2.2.1 (conds_D ch t q0 q1 q2).2.2.2.1).2.1)

def held (c : Dev nD) : (n : ℕ) → n < (cfgT ch).N → (S512x1024.Idx → Elt Bits .f32) × Buf (Elt Bits) ((c : Thread nD τ).loc cc0_scratch0) × Buf (Elt Bits) ((c : Thread nD τ).loc cc0_scratch1)
  | 0, h => turn ch m ρ c ⟨0, h⟩ (default, default, default)
  | n + 1, h => turn ch m ρ c ⟨n + 1, h⟩ (held c n (Nat.lt_of_succ_lt h))

def prior (c : Dev nD) (t : Fin (cfgT ch).N) : (S512x1024.Idx → Elt Bits .f32) × Buf (Elt Bits) ((c : Thread nD τ).loc cc0_scratch0) × Buf (Elt Bits) ((c : Thread nD τ).loc cc0_scratch1) :=
  if h : t.val = 0 then (default, default, default) else held ch m ρ c (t.val - 1) (by omega)

theorem held_eq (c : Dev nD) (t : Fin (cfgT ch).N) : held ch m ρ c t.val t.isLt = turn ch m ρ c t (prior ch m ρ c t) := by
  obtain ⟨n, hn⟩ := t
  cases n with
  | zero => rfl
  | succ n => unfold prior; simp only [Nat.add_one_ne_zero, dif_neg, not_false_eq_true]; rfl

theorem turn_A (c : Dev nD) (t : Fin (cfgT ch).N) (prev : (S512x1024.Idx → Elt Bits .f32) × Buf (Elt Bits) ((c : Thread nD τ).loc cc0_scratch0) × Buf (Elt Bits) ((c : Thread nD τ).loc cc0_scratch1)) (q0 : P0_0 ch t) :
    turn ch m ρ c t prev = ((if (cfgT ch).fresh (4 : Fin 5) t.val then default else prev.1), (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) (conds_A ch t q0).1 (conds_A ch t q0).2.1 (conds_A ch t q0).2.2.1 (conds_A ch t q0).2.2.2.1).1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) (conds_A ch t q0).1 (conds_A ch t q0).2.1 (conds_A ch t q0).2.2.1 (conds_A ch t q0).2.2.2.1).2.1) := by
  unfold turn; simp only [dif_pos q0]

theorem turn_B (c : Dev nD) (t : Fin (cfgT ch).N) (prev : (S512x1024.Idx → Elt Bits .f32) × Buf (Elt Bits) ((c : Thread nD τ).loc cc0_scratch0) × Buf (Elt Bits) ((c : Thread nD τ).loc cc0_scratch1)) (q0 : ¬P0_0 ch t) (q1 : P0_1 ch t) (q2 : ¬P0_2 ch t) :
    turn ch m ρ c t prev = ((if (cfgT ch).fresh (4 : Fin 5) t.val then default else prev.1), (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) prev.2.1 prev.2.2 (conds_B ch t q0 q1 q2).1 (conds_B ch t q0 q1 q2).2.1 (conds_B ch t q0 q1 q2).2.2.1 (conds_B ch t q0 q1 q2).2.2.2.1).1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) prev.2.1 prev.2.2 (conds_B ch t q0 q1 q2).1 (conds_B ch t q0 q1 q2).2.1 (conds_B ch t q0 q1 q2).2.2.1 (conds_B ch t q0 q1 q2).2.2.2.1).2.1) := by
  unfold turn; simp only [dif_neg q0, dif_pos q1, dif_neg q2]

theorem turn_C (c : Dev nD) (t : Fin (cfgT ch).N) (prev : (S512x1024.Idx → Elt Bits .f32) × Buf (Elt Bits) ((c : Thread nD τ).loc cc0_scratch0) × Buf (Elt Bits) ((c : Thread nD τ).loc cc0_scratch1)) (q0 : ¬P0_0 ch t) (q1 : P0_1 ch t) (q2 : P0_2 ch t) :
    turn ch m ρ c t prev = (out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) prev.2.1 prev.2.2 (conds_C ch t q0 q1 q2).1 (conds_C ch t q0 q1 q2).2.1 (conds_C ch t q0 q1 q2).2.2.1 (conds_C ch t q0 q1 q2).2.2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) prev.2.1 prev.2.2 (conds_C ch t q0 q1 q2).1 (conds_C ch t q0 q1 q2).2.1 (conds_C ch t q0 q1 q2).2.2.1 (conds_C ch t q0 q1 q2).2.2.2.1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) prev.2.1 prev.2.2 (conds_C ch t q0 q1 q2).1 (conds_C ch t q0 q1 q2).2.1 (conds_C ch t q0 q1 q2).2.2.1 (conds_C ch t q0 q1 q2).2.2.2.1).2.2.1) := by
  unfold turn; simp only [dif_neg q0, dif_pos q1, dif_pos q2]

theorem turn_D (c : Dev nD) (t : Fin (cfgT ch).N) (prev : (S512x1024.Idx → Elt Bits .f32) × Buf (Elt Bits) ((c : Thread nD τ).loc cc0_scratch0) × Buf (Elt Bits) ((c : Thread nD τ).loc cc0_scratch1)) (q0 : ¬P0_0 ch t) (q1 : ¬P0_1 ch t) (q2 : ¬P0_3 ch t) :
    turn ch m ρ c t prev = ((if (cfgT ch).fresh (4 : Fin 5) t.val then default else prev.1), (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) prev.2.1 prev.2.2 (conds_D ch t q0 q1 q2).1 (conds_D ch t q0 q1 q2).2.1 (conds_D ch t q0 q1 q2).2.2.1 (conds_D ch t q0 q1 q2).2.2.2.1).1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) prev.2.1 prev.2.2 (conds_D ch t q0 q1 q2).1 (conds_D ch t q0 q1 q2).2.1 (conds_D ch t q0 q1 q2).2.2.1 (conds_D ch t q0 q1 q2).2.2.2.1).2.1) := by
  unfold turn; simp only [dif_neg q0, dif_neg q1, dif_neg q2]

theorem turn_E (c : Dev nD) (t : Fin (cfgT ch).N) (prev : (S512x1024.Idx → Elt Bits .f32) × Buf (Elt Bits) ((c : Thread nD τ).loc cc0_scratch0) × Buf (Elt Bits) ((c : Thread nD τ).loc cc0_scratch1)) (q0 : ¬P0_0 ch t) (q1 : ¬P0_1 ch t) (q2 : P0_3 ch t) :
    turn ch m ρ c t prev = (out0_E_4 c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) prev.2.1 prev.2.2 (conds_E ch t q0 q1 q2).1 (conds_E ch t q0 q1 q2).2.1 (conds_E ch t q0 q1 q2).2.2.1 (conds_E ch t q0 q1 q2).2.2.2.1, (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) prev.2.1 prev.2.2 (conds_E ch t q0 q1 q2).1 (conds_E ch t q0 q1 q2).2.1 (conds_E ch t q0 q1 q2).2.2.1 (conds_E ch t q0 q1 q2).2.2.2.1).2.1, (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) prev.2.1 prev.2.2 (conds_E ch t q0 q1 q2).1 (conds_E ch t q0 q1 q2).2.1 (conds_E ch t q0 q1 q2).2.2.1 (conds_E ch t q0 q1 q2).2.2.2.1).2.2.1) := by
  unfold turn; simp only [dif_neg q0, dif_neg q1, dif_pos q2]

def priorT (c : Dev nD) (t : Fin ((cfgT ch).N + 1)) : (S512x1024.Idx → Elt Bits .f32) × Buf (Elt Bits) ((c : Thread nD τ).loc cc0_scratch0) × Buf (Elt Bits) ((c : Thread nD τ).loc cc0_scratch1) :=
  if h : t.val = 0 then (default, default, default) else held ch m ρ c (t.val - 1) (by omega)

theorem priorT_castSucc (c : Dev nD) (t : Fin (cfgT ch).N) : priorT ch m ρ c t.castSucc = prior ch m ρ c t := by
  unfold priorT prior; simp only [Fin.val_castSucc]
theorem priorT_succ (c : Dev nD) (t : Fin (cfgT ch).N) : priorT ch m ρ c t.succ = held ch m ρ c t.val t.isLt := by
  unfold priorT; simp only [Fin.val_succ, Nat.add_one_ne_zero, ↓reduceDIte, Nat.add_one_sub_one]

def Phi (m : (ℓ : Loc nD τ sig) → Buf (Elt Bits) ℓ) (ρ : Dev nD → PrngReg) (c : Dev nD) (t : Fin ((cfgT ch).N + 1)) : sProp 𝕄 :=
  iprop((∃ a, ⌜unset ch t.val = false → a = (priorT ch m ρ c t).2.1⌝ ∗ (scM0_0.view.loc (c : Thread nD τ) ↦{fullShare} a)) ∗ (∃ a, ⌜unset ch t.val = false → a = (priorT ch m ρ c t).2.2⌝ ∗ (scM0_1.view.loc (c : Thread nD τ) ↦{fullShare} a)) ∗ (tbM0_0.view.loc (c : Thread nD τ) ↦{fullShare.right} experts ch) ∗ (tbM0_1.view.loc (c : Thread nD τ) ↦{fullShare.right} used ch))

def dats (_ : Fin 1) (c : Dev nD) : Dat τ (Elt Bits) Unit ℕ (UR sig nD τ) ℕ (cfgT ch) c where
  A w := (s₀ m ρ).mem (((cfgT ch).win w).arr.view.loc (c : Thread nD τ))
  after w t := match w with
    | ⟨0, _⟩ => iblk ch m ρ c (0 : Fin 5) t
    | ⟨1, _⟩ => iblk ch m ρ c (1 : Fin 5) t
    | ⟨2, _⟩ => iblk ch m ρ c (2 : Fin 5) t
    | ⟨3, _⟩ => iblk ch m ρ c (3 : Fin 5) t
    | ⟨4, _⟩ => (held ch m ρ c t.val t.isLt).1
  Φ t := Phi ch m ρ c t
  q _ := fullShare
  owed _ := 0

theorem after0_0 (c : Dev nD) (t : Fin (cfgT ch).N) : (dats ch m ρ 0 c).after (0 : Fin 5) t = iblk ch m ρ c (0 : Fin 5) t := rfl
theorem after0_1 (c : Dev nD) (t : Fin (cfgT ch).N) : (dats ch m ρ 0 c).after (1 : Fin 5) t = iblk ch m ρ c (1 : Fin 5) t := rfl
theorem after0_2 (c : Dev nD) (t : Fin (cfgT ch).N) : (dats ch m ρ 0 c).after (2 : Fin 5) t = iblk ch m ρ c (2 : Fin 5) t := rfl
theorem after0_3 (c : Dev nD) (t : Fin (cfgT ch).N) : (dats ch m ρ 0 c).after (3 : Fin 5) t = iblk ch m ρ c (3 : Fin 5) t := rfl
theorem after0_4 (c : Dev nD) (t : Fin (cfgT ch).N) : (dats ch m ρ 0 c).after (4 : Fin 5) t = (held ch m ρ c t.val t.isLt).1 := rfl

theorem before0_0 (c : Dev nD) (t : Fin (cfgT ch).N) (d) : (dats ch m ρ 0 c).before (0 : Fin 5) t d = iblk ch m ρ c (0 : Fin 5) t :=
  ((dats ch m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

theorem before0_1 (c : Dev nD) (t : Fin (cfgT ch).N) (d) : (dats ch m ρ 0 c).before (1 : Fin 5) t d = iblk ch m ρ c (1 : Fin 5) t :=
  ((dats ch m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

theorem before0_2 (c : Dev nD) (t : Fin (cfgT ch).N) (d) : (dats ch m ρ 0 c).before (2 : Fin 5) t d = iblk ch m ρ c (2 : Fin 5) t :=
  ((dats ch m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

theorem before0_3 (c : Dev nD) (t : Fin (cfgT ch).N) (d) : (dats ch m ρ 0 c).before (3 : Fin 5) t d = iblk ch m ρ c (3 : Fin 5) t :=
  ((dats ch m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

theorem hcarry0_4 (c : Dev nD) : ∀ (t : Fin (cfgT ch).N) (ht : t.val ≠ 0), (cfgT ch).idle (4 : Fin 5) ((cfgT ch).grid.coords t) = true → (cfgT ch).fresh (4 : Fin 5) t.val = false →
    (dats ch m ρ 0 c).after (4 : Fin 5) t = (dats ch m ρ 0 c).after (4 : Fin 5) ⟨t.val - 1, by omega⟩ := by
  intro t ht hi hf
  rw [after0_4, after0_4, held_eq]
  by_cases q0 : P0_0 ch t
  · rw [turn_A ch m ρ c t _ q0]
    simp only [hf, Bool.false_eq_true, ↓reduceIte]
    unfold prior; rw [dif_neg ht]
  · by_cases q1 : P0_1 ch t
    · by_cases q2 : P0_2 ch t
      · obtain ⟨i4, -, -, -, -, -, -⟩ := sched_C ch t q0 q1 q2
        rw [i4] at hi; exact absurd hi (by decide)
      · rw [turn_B ch m ρ c t _ q0 q1 q2]
        simp only [hf, Bool.false_eq_true, ↓reduceIte]
        unfold prior; rw [dif_neg ht]
    · by_cases q2 : P0_3 ch t
      · obtain ⟨i4, -, -, -⟩ := sched_E ch t q0 q1 q2
        rw [i4] at hi; exact absurd hi (by decide)
      · rw [turn_D ch m ρ c t _ q0 q1 q2]
        simp only [hf, Bool.false_eq_true, ↓reduceIte]
        unfold prior; rw [dif_neg ht]

theorem before0_4 (c : Dev nD) (t : Fin (cfgT ch).N) (d) :
    (dats ch m ρ 0 c).before (4 : Fin 5) t d = if (cfgT ch).fresh (4 : Fin 5) t.val then d else (prior ch m ρ c t).1 := by
  rw [(dats ch m ρ 0 c).before_out_traj (4 : Fin 5) rfl (fun _ _ => rfl) (hcarry0_4 ch m ρ c) t.val t rfl d]
  by_cases hf : (cfgT ch).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prior; rw [dif_neg h0]

abbrev bodyAt0 (t : Fin (cfgT ch).N) : Prog (TpuEff nD τ sig (Elt Bits) Λ₀ .tc) PUnit :=
  cc0_moe_ffn (crd ch t) (Memref.whole main_arg1) (Memref.isWhole_whole _) (Memref.whole main_arg2) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (Memref.whole cc0_scratch0) (Memref.isWhole_whole _) (Memref.whole cc0_scratch1) (Memref.isWhole_whole _)

set_option maxHeartbeats 4000000 in
theorem sound_body (hp : Pinned ch m) (c : Dev nD) (t : Fin (cfgT ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := Bits)) Variants.none c none) Set.univ (bodyAt0 ch t) fun _ =>
          iprop((dats ch m ρ 0 c).Φ t.succ ∗ (dats ch m ρ 0 c).owesAt () t.succ
            ∗ bigSep Finset.univ fun w : Fin (cfgT ch).W =>
                match (cfgT ch).idle w ((cfgT ch).grid.coords t) with
                | true =>
                  match ((cfgT ch).win w).flush t with
                  | false => iprop(∃ d, owns (c : Thread nD τ) (((cfgT ch).win w).stage ((cfgT ch).slots t w)) fullShare ((dats ch m ρ 0 c).before w t d))
                  | true => owns (c : Thread nD τ) (((cfgT ch).win w).stage ((cfgT ch).slots t w)) fullShare ((dats ch m ρ 0 c).after w t)
                | false => owns (c : Thread nD τ) (((cfgT ch).win w).stage ((cfgT ch).slots t w)) fullShare ((dats ch m ρ 0 c).after w t)) := by
  rw [bigSep_W0]
  by_cases q0 : P0_0 ch t
  · obtain ⟨i4, f4, fr4, sfn0, sfn1⟩ := sched_A ch t q0
    have F0 := conds_A ch t q0
    have hc0 := F0.1; have F1 := F0.2
    have hc1 := F1.1; have F2 := F1.2
    have k0_h3 := F2.1; have F3 := F2.2
    have k0_h4 := F3.1; have F4 := F3.2
    clear F0 F1 F2 F3 F4
    rewrite [i4]
    simp only [before0_0, before0_1, before0_2, before0_3, before0_4, after0_0, after0_1, after0_2, after0_3, after0_4, f4]
    simp only [fr4, Bool.false_eq_true, ↓reduceIte]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    try rewrite [held_eq, turn_A ch m ρ c t _ q0]
    unfold Phi; simp only [priorT_castSucc, priorT_succ, held_eq, turn_A ch m ρ c t _ q0, Fin.val_castSucc, Fin.val_succ]
    iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩⟩
    iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) hc0 hc1 k0_h3 k0_h4).2.2 _ a0 a1 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexact H4
    isplitl [HS0]; · iexact HS0
    isplitl [HS1]; · iexact HS1
    iintro ⟨H0, H1, H2, H3, HT0, HT1, H4, HS0, HS1⟩
    isplitl [HS0 HS1 HT0 HT1]
    · isplitl [HS0]
      · iexists _; isplitr; swap
        · iexact HS0
        · ipureintro; intro hn; first | rfl | exact absurd hn (by first | (rw [sfn0]; decide) | decide)
      isplitl [HS1]
      · iexists _; isplitr; swap
        · iexact HS1
        · ipureintro; intro hn; first | rfl | exact absurd hn (by first | (rw [sfn1]; decide) | decide)
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    first | (iexists d4; iexact H4) | iexact H4
  · by_cases q1 : P0_1 ch t
    · by_cases q2 : P0_2 ch t
      · obtain ⟨i4, f4, fr4, sf0, sfn0, sf1, sfn1⟩ := sched_C ch t q0 q1 q2
        have F0 := conds_C ch t q0 q1 q2
        have hc0 := F0.1; have F1 := F0.2
        have hc1 := F1.1; have F2 := F1.2
        have k0_h3 := F2.1; have F3 := F2.2
        have k0_h4 := F3.1; have F4 := F3.2
        clear F0 F1 F2 F3 F4
        rewrite [i4]
        simp only [before0_0, before0_1, before0_2, before0_3, before0_4, after0_0, after0_1, after0_2, after0_3, after0_4, f4]
        simp only [fr4, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [held_eq, turn_C ch m ρ c t _ q0 q1 q2]
        unfold Phi; simp only [priorT_castSucc, priorT_succ, held_eq, turn_C ch m ρ c t _ q0 q1 q2, Fin.val_castSucc, Fin.val_succ]
        simp only [exists_held sf0, exists_held sf1]
        iintro ⟨⟨HS0, HS1, HT0, HT1⟩, Ho, ⟨%d0, H0⟩, ⟨%d1, H1⟩, ⟨%d2, H2⟩, ⟨%d3, H3⟩, ⟨%d4, H4⟩⟩
        iapply ((kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) _ _ hc0 hc1 k0_h3 k0_h4).2.2.2 _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexists _; iexact H4
        isplitl [HS0]; · iexact HS0
        isplitl [HS1]; · iexact HS1
        iintro ⟨H0, H1, H2, H3, HT0, HT1, ⟨%e4, H4⟩, HS0, HS1⟩
        isplitl [HS0 HS1 HT0 HT1]
        · isplitl [HS0]
          · iexists _; isplitr; swap
            · iexact HS0
            · ipureintro; intro hn; first | rfl | exact absurd hn (by first | (rw [sfn0]; decide) | decide)
          isplitl [HS1]
          · iexists _; isplitr; swap
            · iexact HS1
            · ipureintro; intro hn; first | rfl | exact absurd hn (by first | (rw [sfn1]; decide) | decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        unfold owns; iexists _; isplitr; swap
        · iexact H4
        · ipureintro; exact View.read_writes_of_cover _ _ _ _ _ (cover0_C_4 c _ _ _ _ _ _ _ _ _ _ _ _ _ _ _ _ _ _ _ _ _ _ _)
      · obtain ⟨i4, f4, fr4, sf0, sfn0, sf1, sfn1⟩ := sched_B ch t q0 q1 q2
        have F0 := conds_B ch t q0 q1 q2
        have hc0 := F0.1; have F1 := F0.2
        have hc1 := F1.1; have F2 := F1.2
        have k0_h3 := F2.1; have F3 := F2.2
        have k0_h4 := F3.1; have F4 := F3.2
        clear F0 F1 F2 F3 F4
        rewrite [i4]
        simp only [before0_0, before0_1, before0_2, before0_3, before0_4, after0_0, after0_1, after0_2, after0_3, after0_4, f4]
        simp only [fr4, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [held_eq, turn_B ch m ρ c t _ q0 q1 q2]
        unfold Phi; simp only [priorT_castSucc, priorT_succ, held_eq, turn_B ch m ρ c t _ q0 q1 q2, Fin.val_castSucc, Fin.val_succ]
        simp only [exists_held sf0, exists_held sf1]
        iintro ⟨⟨HS0, HS1, HT0, HT1⟩, Ho, ⟨%d0, H0⟩, ⟨%d1, H1⟩, ⟨%d2, H2⟩, ⟨%d3, H3⟩, ⟨%d4, H4⟩⟩
        iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) _ _ hc0 hc1 k0_h3 k0_h4).2.2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexact H4
        isplitl [HS0]; · iexact HS0
        isplitl [HS1]; · iexact HS1
        iintro ⟨H0, H1, H2, H3, HT0, HT1, H4, HS0, HS1⟩
        isplitl [HS0 HS1 HT0 HT1]
        · isplitl [HS0]
          · iexists _; isplitr; swap
            · iexact HS0
            · ipureintro; intro hn; first | rfl | exact absurd hn (by first | (rw [sfn0]; decide) | decide)
          isplitl [HS1]
          · iexists _; isplitr; swap
            · iexact HS1
            · ipureintro; intro hn; first | rfl | exact absurd hn (by first | (rw [sfn1]; decide) | decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        first | (iexists d4; iexact H4) | iexact H4
    · by_cases q2 : P0_3 ch t
      · obtain ⟨i4, f4, fr4, hs⟩ := sched_E ch t q0 q1 q2
        have F0 := conds_E ch t q0 q1 q2
        have hc0 := F0.1; have F1 := F0.2
        have hc1 := F1.1; have F2 := F1.2
        have k0_h3 := F2.1; have F3 := F2.2
        have k0_h4 := F3.1; have F4 := F3.2
        clear F0 F1 F2 F3 F4
        rewrite [i4]
        simp only [before0_0, before0_1, before0_2, before0_3, before0_4, after0_0, after0_1, after0_2, after0_3, after0_4, f4]
        simp only [fr4, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [held_eq, turn_E ch m ρ c t _ q0 q1 q2]
        unfold Phi; simp only [priorT_castSucc, priorT_succ, held_eq, turn_E ch m ρ c t _ q0 q1 q2, Fin.val_castSucc, Fin.val_succ]
        iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩⟩
        iapply ((kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) a0 a1 hc0 hc1 k0_h3 k0_h4).2.2.2 _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexists _; iexact H4
        isplitl [HS0]; · iexact HS0
        isplitl [HS1]; · iexact HS1
        iintro ⟨H0, H1, H2, H3, HT0, HT1, ⟨%e4, H4⟩, HS0, HS1⟩
        isplitl [HS0 HS1 HT0 HT1]
        · isplitl [HS0]
          · iexists _; isplitr; swap
            · iexact HS0
            · ipureintro; intro hn; rw [ha0 (hs.symm.trans hn), ha1 (hs.symm.trans hn)]
          isplitl [HS1]
          · iexists _; isplitr; swap
            · iexact HS1
            · ipureintro; intro hn; rw [ha0 (hs.symm.trans hn), ha1 (hs.symm.trans hn)]
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        unfold owns; iexists _; isplitr; swap
        · iexact H4
        · ipureintro; exact (View.read_writes_of_cover _ _ _ _ _ (cover0_E_4 c _ _ _ _ _ _ _ _ _ _ _ _ _ _ _ _ _ _ _ _ _ _ _)).trans rfl
      · obtain ⟨i4, f4, fr4, hs⟩ := sched_D ch t q0 q1 q2
        have F0 := conds_D ch t q0 q1 q2
        have hc0 := F0.1; have F1 := F0.2
        have hc1 := F1.1; have F2 := F1.2
        have k0_h3 := F2.1; have F3 := F2.2
        have k0_h4 := F3.1; have F4 := F3.2
        clear F0 F1 F2 F3 F4
        rewrite [i4]
        simp only [before0_0, before0_1, before0_2, before0_3, before0_4, after0_0, after0_1, after0_2, after0_3, after0_4, f4]
        simp only [fr4, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [held_eq, turn_D ch m ρ c t _ q0 q1 q2]
        unfold Phi; simp only [priorT_castSucc, priorT_succ, held_eq, turn_D ch m ρ c t _ q0 q1 q2, Fin.val_castSucc, Fin.val_succ]
        iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩⟩
        iapply ((kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (experts ch) (used ch) (iblk ch m ρ c (0 : Fin 5) t) (iblk ch m ρ c (1 : Fin 5) t) (iblk ch m ρ c (2 : Fin 5) t) (iblk ch m ρ c (3 : Fin 5) t) a0 a1 hc0 hc1 k0_h3 k0_h4).2.2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexact H4
        isplitl [HS0]; · iexact HS0
        isplitl [HS1]; · iexact HS1
        iintro ⟨H0, H1, H2, H3, HT0, HT1, H4, HS0, HS1⟩
        isplitl [HS0 HS1 HT0 HT1]
        · isplitl [HS0]
          · iexists _; isplitr; swap
            · iexact HS0
            · ipureintro; intro hn; rw [ha0 (hs.symm.trans hn), ha1 (hs.symm.trans hn)]
          isplitl [HS1]
          · iexists _; isplitr; swap
            · iexact HS1
            · ipureintro; intro hn; rw [ha0 (hs.symm.trans hn), ha1 (hs.symm.trans hn)]
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        first | (iexists d4; iexact H4) | iexact H4

theorem body_obligation (hp : Pinned ch m) (c : Dev nD) : BodyObligation (dats ch m ρ 0 c) (defs₀ (F := Bits)) Variants.none () Set.univ := fun t => by
  rw [bigSep_W0]
  exact sound_body ch m ρ hp c t

def u₀ : UR sig nD τ :=
  initOf (Pipeline.cells (pcs ch) ((launch0 (F := Bits)).cellOf_inj fun _ => adm ch))
    (Pipeline.launchToks (pcs ch) ((launch0 (F := Bits)).cellOf_inj fun _ => adm ch))

theorem share_eq (c : Dev nD) (w : Fin (cfgT ch).W) : (dats ch m ρ 0 c).share w = fullShare := by unfold Dat.share; split <;> rfl

theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, ⟨%a0, HS0⟩, ⟨%a1, HS1⟩⟩
  isplitl [HS0]
  · iexists a0; isplitr; swap
    · iexact HS0
    · ipureintro; intro h; exact absurd (h.symm.trans (show unset ch 0 = true from rfl)) Bool.false_ne_true
  isplitl [HS1]
  · iexists a1; isplitr; swap
    · iexact HS1
    · ipureintro; intro h; exact absurd (h.symm.trans (show unset ch 0 = true from rfl)) Bool.false_ne_true
  isplitl [HT0]
  · iexact HT0
  iexact HT1

theorem phiN_exit (c : Dev nD) : (dats ch m ρ 0 c).Φ (Fin.last (cfgT ch).N) ⊢ iprop(BI.emp ∗ Pipeline.scopedRest spec0 c) := by
  rw [scopedRest0_eq, show (dats ch m ρ 0 c).Φ (Fin.last (cfgT ch).N) = Phi ch m ρ c (Fin.last _) from rfl]
  unfold Phi
  iintro ⟨⟨%a0, -, HS0⟩, ⟨%a1, -, HS1⟩, -, -⟩
  isplitr; · iempintro
  isplitl [HS0]
  · iexists a0; iexact HS0
  iexists a1; iexact HS1

def QC : PUnit × MemSt nD τ sig (Elt Bits) → Prop := fun r =>
  ∀ c : Dev nD, (∀ w : Fin (cfgT ch).W, r.2.mem (((cfgT ch).win w).arr.view.loc (c : Thread nD τ)) = (dats ch m ρ 0 c).arrAt w (cfgT ch).N)
    ∧ ∀ j, r.2.mem ((c : Thread nD τ).loc (pre0.ref j)) = (adm ch).1 j

theorem V_pre (hp : Pinned ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in
theorem run_main_quiescent (hp : Pinned ch m) : θ_run (defs (F := Bits)) (onTc (τ := τ) (main (F := Bits))) (s₀ m ρ) (fun r => QC ch m ρ r ∧ r.2.sem = fun _ => 0) :=
  Pipeline.θ_run_region_noSem_pf_quiescent pcfgs (fun _ => adm ch) (dats ch m ρ) () ((launch0 (F := Bits)).cellOf_inj fun _ => adm ch) (0 : Fin 1)
    (launch0 (F := Bits)).win.to₀ (launch0 (F := Bits)).pre EP defs₀ Variants.none m ρ main
    (hbody := fun c => (body_obligation ch m ρ hp c).loose) (hne := (launch0 (F := Bits)).block_pos)
    (harr := (launch0 (F := Bits)).arr_whole) (hstage := (launch0 (F := Bits)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Bits)).win.arr_inj c (launch0 (F := Bits)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

theorem run_main (hp : Pinned ch m) : θ_run (defs (F := Bits)) (onTc (τ := τ) (main (F := Bits))) (s₀ m ρ) (QC ch m ρ) :=
  (θ_run defs _ _).mono (fun _ h => h.1) (run_main_quiescent ch m ρ hp)

theorem unchanged (hp : Pinned ch m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 (0 : Fin 5)).trans ((dats ch m ρ 0 c).arrAt_in (0 : Fin 5) rfl _), ((h c).2 0).trans (hp.1 c).symm, ((h c).2 1).trans (hp.2 c).symm, ((h c).1 (1 : Fin 5)).trans ((dats ch m ρ 0 c).arrAt_in (1 : Fin 5) rfl _), ((h c).1 (2 : Fin 5)).trans ((dats ch m ρ 0 c).arrAt_in (2 : Fin 5) rfl _), ((h c).1 (3 : Fin 5)).trans ((dats ch m ρ 0 c).arrAt_in (3 : Fin 5) rfl _)⟩) (run_main ch m ρ hp)

theorem frame (hp : Pinned ch m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged ch m ρ hp) ((θ_run defs _ _).mono (fun _ h => h.2) (run_main_quiescent ch m ρ hp))

end Cert.Kernel6.Route

end
-- ==== Proof.ExpertsClaim.lean ====
/- The experts' call: the tables that the precondition admits, the frames, and the value: kernel and reference end with the same result. -/
module

public import proofs.«01_k».proof.Defs
public import proofs.«01_k».proof.Proof.Experts
public import proofs.«01_k».proof.Proof.ExpertsFrameBits
public import proofs.«01_k».proof.Proof.Gen.Pre_experts_named

@[expose] public section

set_option maxRecDepth 16384

noncomputable section

namespace Cert.Proof

open Idealize.ShloMosaic Idealize.ShloMosaic.TcCoe Idealize.SL.Sem

/-- A word that is at least zero and less than eight, as the precondition says it. -/
theorem named (w : BitVec 32) (h : IntOp.andi (IntOp.cmpi .sge w 0#32) (IntOp.cmpi .slt w 8#32) = 1#1) : w.toNat < 8 := by
  have hb : ∀ p q : Bool, BitVec.ofBool p &&& BitVec.ofBool q = 1#1 → p = true ∧ q = true := by decide
  obtain ⟨h1, h2⟩ := hb _ _ (show BitVec.ofBool ((0#32).sle w) &&& BitVec.ofBool (w.slt 8#32) = 1#1 from h)
  have e0 : (0#32).toInt = 0 := by decide
  have e8 : (8#32).toInt = 8 := by decide
  have i1 := of_decide_eq_true h1
  have i2 := of_decide_eq_true h2
  rw [e0] at i1
  rw [e8] at i2
  rw [BitVec.toInt_eq_toNat_cond] at i1 i2
  split at i1 <;> omega

/-- The expert and the count tables of a launch that meets the precondition. -/
def tables (m : (ℓ : Loc Cert.Kernel6Ideal.nD Cert.Kernel6Ideal.τ Cert.Kernel6Ideal.sig) → Buf (Elt Ideal) ℓ) (h : Pre_Kernel6Ideal m) : Cert.Kernel6Ideal.Route.Tab :=
  ⟨(m (((0 : Dev Cert.Kernel6Ideal.nD) : Thread Cert.Kernel6Ideal.nD Cert.Kernel6Ideal.τ).loc Cert.Kernel6Ideal.main_arg1), m (((0 : Dev Cert.Kernel6Ideal.nD) : Thread Cert.Kernel6Ideal.nD Cert.Kernel6Ideal.τ).loc Cert.Kernel6Ideal.main_arg2)), fun x => named _ (by
    have hp := congrFun (h 0) x
    revert hp
    pointwise [Cert.Pre_experts_named.fn]
    exact id)⟩

theorem pinned (m : (ℓ : Loc Cert.Kernel6Ideal.nD Cert.Kernel6Ideal.τ Cert.Kernel6Ideal.sig) → Buf (Elt Ideal) ℓ) (h : Pre_Kernel6Ideal m) : Cert.Kernel6Ideal.Route.Pinned (tables m h) m :=
  ⟨fun c => by obtain rfl : c = (0 : Dev Cert.Kernel6Ideal.nD) := Subsingleton.elim (α := Fin 1) _ _; rfl,
    fun c => by obtain rfl : c = (0 : Dev Cert.Kernel6Ideal.nD) := Subsingleton.elim (α := Fin 1) _ _; rfl⟩

/-- The expert and the count tables of a launch that meets the precondition. -/
def tablesBits (m : (ℓ : Loc Cert.Kernel6.nD Cert.Kernel6.τ Cert.Kernel6.sig) → Buf (Elt Bits) ℓ) (h : Pre_Kernel6 m) : Cert.Kernel6.Route.Tab :=
  ⟨(m (((0 : Dev Cert.Kernel6.nD) : Thread Cert.Kernel6.nD Cert.Kernel6.τ).loc Cert.Kernel6.main_arg1), m (((0 : Dev Cert.Kernel6.nD) : Thread Cert.Kernel6.nD Cert.Kernel6.τ).loc Cert.Kernel6.main_arg2)), fun x => named _ (by
    have hp := congrFun (h 0) x
    revert hp
    pointwise [Cert.Pre_experts_named.fn]
    exact id)⟩

theorem pinnedBits (m : (ℓ : Loc Cert.Kernel6.nD Cert.Kernel6.τ Cert.Kernel6.sig) → Buf (Elt Bits) ℓ) (h : Pre_Kernel6 m) : Cert.Kernel6.Route.Pinned (tablesBits m h) m :=
  ⟨fun c => by obtain rfl : c = (0 : Dev Cert.Kernel6.nD) := Subsingleton.elim (α := Fin 1) _ _; rfl,
    fun c => by obtain rfl : c = (0 : Dev Cert.Kernel6.nD) := Subsingleton.elim (α := Fin 1) _ _; rfl⟩

/-- The kernel runs, leaves its arguments as they were and its counters at zero. -/
theorem experts_frame : quiescent_Kernel6 := fun m ρ h => Cert.Kernel6.Route.frame (tablesBits m h) m ρ (pinnedBits m h)

/-- So does the kernel on extended reals. -/
theorem experts_ideal_frame : quiescent_Kernel6Ideal := fun m ρ h => Cert.Kernel6Ideal.Route.frame (tables m h) m ρ (pinned m h)

/-- From equal arguments the kernel ends with the reference's result. -/
theorem algebraic6 : algebraic_Kernel6Ideal_Reference6Ideal := by
  intro m ρ m' ρ' hpre hagree
  have hp := pinned m hpre
  have res : ∀ c : Dev Cert.Kernel6Ideal.nD, Cert.Reference6Ideal.Read.val_main_v36 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg5))
      = Cert.Kernel6Ideal.Route.REF (tables m hpre) m c := fun c => by
    rw [(hagree c).1, (hagree c).2.1, (hagree c).2.2.1, (hagree c).2.2.2.1, (hagree c).2.2.2.2.1, (hagree c).2.2.2.2.2, hp.1 c, hp.2 c]
  exact ⟨fun c => Cert.Kernel6Ideal.Route.REF (tables m hpre) m c,
    (θ_run _ _ _).mono (fun _ h c => ⟨((h.1 c).1 (4 : Fin 5)).trans (Cert.Kernel6Ideal.Route.final (tables m hpre) m ρ c), h.2 c⟩)
      (θ_run_and (Cert.Kernel6Ideal.Route.run_main (tables m hpre) m ρ hp) (Cert.Kernel6Ideal.Route.unchanged (tables m hpre) m ρ hp)),
    (θ_run _ _ _).mono (fun _ h c => ⟨((h c).1).trans ((Cert.Reference6Ideal.Read.val_main_v36_eq _ _ _ _ _ _).trans (res c)), (h c).2⟩)
      (Cert.Reference6Ideal.Value.run (F := Ideal) m' ρ')⟩

end Cert.Proof

end
-- ==== Proof.GateInput.lean ====
/- The gated block's input half: projection, gelu, split and layer norm of the kernel are the reference's. -/
module

public import proofs.«01_k».proof.Proof.Gen.Kernel5Ideal.Value
public import proofs.«01_k».proof.Proof.Gen.Reference5Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel5Ideal.Gate

open Cert.Kernel5Ideal Cert.Kernel5Ideal.Gen

variable (m : (ℓ : Loc nD τ sig) → Buf (Elt Ideal) ℓ)

/-- The reference's first result, the half that is kept as it is. -/
abbrev REFu (x : FVec Ideal Cert.Reference5Ideal.S256x1024 .f32) (w : FVec Ideal Cert.Reference5Ideal.S1024x2048 .f32)
    (b : FVec Ideal Cert.Reference5Ideal.S2048 .f32) : FVec Ideal Cert.Reference5Ideal.S256x1024 .f32 :=
  Cert.Reference5Ideal.Read.val_main_v17 (F := Ideal) x w b

/-- The reference's second result, the half that is normalised. -/
abbrev REFv (x : FVec Ideal Cert.Reference5Ideal.S256x1024 .f32) (w : FVec Ideal Cert.Reference5Ideal.S1024x2048 .f32)
    (b : FVec Ideal Cert.Reference5Ideal.S2048 .f32) (lg lb : FVec Ideal Cert.Reference5Ideal.S1024 .f32) :
    FVec Ideal Cert.Reference5Ideal.S256x1024 .f32 :=
  Cert.Reference5Ideal.Read.val_main_v42 (F := Ideal) x w b lg lb

/-- Which block each window takes at the one grid point. -/
theorem idx : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![t.val, 0]
    ∧ win0_6.index t = ![t.val, 0] :=
  (by decide +kernel : ∀ t : Fin grid0.N, _)

/-- One half moved across the two factors beside it. -/
theorem half_assoc (x y : EReal) : Ideal.ofBits FTy.f32 0x3F000000#32 * x * y = x * (Ideal.ofBits FTy.f32 0x3F000000#32 * y) := by
  rw [mul_comm (Ideal.ofBits FTy.f32 0x3F000000#32) x, mul_assoc]

/-- What is stored in the first result is the reference's. -/
theorem point_u (c : Dev nD) (t : Fin cfg0.N) (y) :
    k0_pay3 (iblk m c 0 t) (iblk m c 1 t) (iblk m c 2 t) y
      = REFu (m ((c : Thread nD τ).loc main_arg0)) (m ((c : Thread nD τ).loc main_arg1)) (m ((c : Thread nD τ).loc main_arg2)) (((cfg0.win 5).blk t).view.emb y) := by
  pointwise [k0_pay3, k0_pay2, REFu, Cert.Reference5Ideal.Read.val_main_v0, Cert.Reference5Ideal.Read.val_main_v1, Cert.Reference5Ideal.Read.val_main_v2, Cert.Reference5Ideal.Read.val_main_v3, Cert.Reference5Ideal.Read.val_main_v4, Cert.Reference5Ideal.Read.val_main_v5, Cert.Reference5Ideal.Read.val_main_cst, Cert.Reference5Ideal.Read.val_main_v6, Cert.Reference5Ideal.Read.val_main_v7, Cert.Reference5Ideal.Read.val_main_v8, Cert.Reference5Ideal.Read.val_main_cst_0, Cert.Reference5Ideal.Read.val_main_v9, Cert.Reference5Ideal.Read.val_main_v10, Cert.Reference5Ideal.Read.val_main_v11, Cert.Reference5Ideal.Read.val_main_cst_1, Cert.Reference5Ideal.Read.val_main_v12, Cert.Reference5Ideal.Read.val_main_v13, Cert.Reference5Ideal.Read.val_main_cst_2, Cert.Reference5Ideal.Read.val_main_v14, Cert.Reference5Ideal.Read.val_main_v15, Cert.Reference5Ideal.Read.val_main_v16, Cert.Reference5Ideal.Read.val_main_v17, Cert.Reference5Ideal.Read.val_main_v18, Cert.Reference5Ideal.Read.val_main_cst_3, Cert.Reference5Ideal.Read.val_main_v19, Cert.Reference5Ideal.Read.val_main_v20, Cert.Reference5Ideal.Read.val_main_cst_4, Cert.Reference5Ideal.Read.val_main_v21, Cert.Reference5Ideal.Read.val_main_v22, Cert.Reference5Ideal.Read.val_main_v23, Cert.Reference5Ideal.Read.val_main_v24, Cert.Reference5Ideal.Read.val_main_v25, Cert.Reference5Ideal.Read.val_main_cst_5, Cert.Reference5Ideal.Read.val_main_v26, Cert.Reference5Ideal.Read.val_main_v27, Cert.Reference5Ideal.Read.val_main_cst_6, Cert.Reference5Ideal.Read.val_main_v28, Cert.Reference5Ideal.Read.val_main_v29, Cert.Reference5Ideal.Read.val_main_v30, Cert.Reference5Ideal.Read.val_main_v31, Cert.Reference5Ideal.Read.val_main_cst_7, Cert.Reference5Ideal.Read.val_main_v32, Cert.Reference5Ideal.Read.val_main_v33, Cert.Reference5Ideal.Read.val_main_v34, Cert.Reference5Ideal.Read.val_main_v35, Cert.Reference5Ideal.Read.val_main_v36, Cert.Reference5Ideal.Read.val_main_v37, Cert.Reference5Ideal.Read.val_main_v38, Cert.Reference5Ideal.Read.val_main_v39, Cert.Reference5Ideal.Read.val_main_v40, Cert.Reference5Ideal.Read.val_main_v41, Cert.Reference5Ideal.Read.val_main_v42]
  simp only [half_assoc]
  blk_point [iblk, V, idx t]

/-- The first result array after the run is the reference's. -/
theorem final_u (c : Dev nD) : (dats m 0 c).arrAt 5 (cfgs 0).N = REFu (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp; rw [after0_5]; frame_out
  exact point_u m c t y

/-- What is stored in the second result is the reference's. -/
theorem point_v (c : Dev nD) (t : Fin cfg0.N) (y) :
    k0_pay1 (k0_pay4 (iblk m c 3 t)) (k0_pay5 (iblk m c 4 t)) (k0_pay6 (iblk m c 0 t) (iblk m c 1 t) (iblk m c 2 t))
      (k0_pay7 (iblk m c 0 t) (iblk m c 1 t) (iblk m c 2 t)) y
      = REFv (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  pointwise [k0_pay1, k0_pay4, k0_pay5, k0_pay6, k0_pay7, k0_pay2, REFv, Cert.Reference5Ideal.Read.val_main_v0, Cert.Reference5Ideal.Read.val_main_v1, Cert.Reference5Ideal.Read.val_main_v2, Cert.Reference5Ideal.Read.val_main_v3, Cert.Reference5Ideal.Read.val_main_v4, Cert.Reference5Ideal.Read.val_main_v5, Cert.Reference5Ideal.Read.val_main_cst, Cert.Reference5Ideal.Read.val_main_v6, Cert.Reference5Ideal.Read.val_main_v7, Cert.Reference5Ideal.Read.val_main_v8, Cert.Reference5Ideal.Read.val_main_cst_0, Cert.Reference5Ideal.Read.val_main_v9, Cert.Reference5Ideal.Read.val_main_v10, Cert.Reference5Ideal.Read.val_main_v11, Cert.Reference5Ideal.Read.val_main_cst_1, Cert.Reference5Ideal.Read.val_main_v12, Cert.Reference5Ideal.Read.val_main_v13, Cert.Reference5Ideal.Read.val_main_cst_2, Cert.Reference5Ideal.Read.val_main_v14, Cert.Reference5Ideal.Read.val_main_v15, Cert.Reference5Ideal.Read.val_main_v16, Cert.Reference5Ideal.Read.val_main_v17, Cert.Reference5Ideal.Read.val_main_v18, Cert.Reference5Ideal.Read.val_main_cst_3, Cert.Reference5Ideal.Read.val_main_v19, Cert.Reference5Ideal.Read.val_main_v20, Cert.Reference5Ideal.Read.val_main_cst_4, Cert.Reference5Ideal.Read.val_main_v21, Cert.Reference5Ideal.Read.val_main_v22, Cert.Reference5Ideal.Read.val_main_v23, Cert.Reference5Ideal.Read.val_main_v24, Cert.Reference5Ideal.Read.val_main_v25, Cert.Reference5Ideal.Read.val_main_cst_5, Cert.Reference5Ideal.Read.val_main_v26, Cert.Reference5Ideal.Read.val_main_v27, Cert.Reference5Ideal.Read.val_main_cst_6, Cert.Reference5Ideal.Read.val_main_v28, Cert.Reference5Ideal.Read.val_main_v29, Cert.Reference5Ideal.Read.val_main_v30, Cert.Reference5Ideal.Read.val_main_v31, Cert.Reference5Ideal.Read.val_main_cst_7, Cert.Reference5Ideal.Read.val_main_v32, Cert.Reference5Ideal.Read.val_main_v33, Cert.Reference5Ideal.Read.val_main_v34, Cert.Reference5Ideal.Read.val_main_v35, Cert.Reference5Ideal.Read.val_main_v36, Cert.Reference5Ideal.Read.val_main_v37, Cert.Reference5Ideal.Read.val_main_v38, Cert.Reference5Ideal.Read.val_main_v39, Cert.Reference5Ideal.Read.val_main_v40, Cert.Reference5Ideal.Read.val_main_v41, Cert.Reference5Ideal.Read.val_main_v42]
  simp only [half_assoc]
  blk_point [iblk, V, idx t]

/-- The second result array after the run is the reference's. -/
theorem final_v (c : Dev nD) : (dats m 0 c).arrAt 6 (cfgs 0).N = REFv (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp; rw [after0_6]; frame_out
  exact point_v m c t y

end Cert.Kernel5Ideal.Gate

end
-- ==== Proof.GateInputClaim.lean ====
/- Kernel and reference end with the same results, from equal arguments. -/
module

public import proofs.«01_k».proof.Defs
public import proofs.«01_k».proof.Proof.GateInput

@[expose] public section

set_option maxRecDepth 16384

noncomputable section

namespace Cert.Proof

open Idealize.ShloMosaic Idealize.ShloMosaic.TcCoe Idealize.SL.Sem

/-- From equal arguments the kernel ends with the reference's results. -/
theorem algebraic5 : algebraic_Kernel5Ideal_Reference5Ideal := by
  intro m ρ m' ρ' _ hagree
  have res0 : ∀ c : Dev Cert.Kernel5Ideal.nD, Cert.Reference5Ideal.Read.val_main_v17 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2))
      = (Cert.Kernel5Ideal.Gen.dats m 0 c).arrAt 5 Cert.Kernel5Ideal.cfg0.N := fun c => by
    rw [(hagree c).1, (hagree c).2.1, (hagree c).2.2.1]
    exact (Cert.Kernel5Ideal.Gate.final_u m c).symm
  have res1 : ∀ c : Dev Cert.Kernel5Ideal.nD, Cert.Reference5Ideal.Read.val_main_v42 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4))
      = (Cert.Kernel5Ideal.Gen.dats m 0 c).arrAt 6 Cert.Kernel5Ideal.cfg0.N := fun c => by
    rw [(hagree c).1, (hagree c).2.1, (hagree c).2.2.1, (hagree c).2.2.2.1, (hagree c).2.2.2.2]
    exact (Cert.Kernel5Ideal.Gate.final_v m c).symm
  exact ⟨fun c => (Cert.Kernel5Ideal.Gen.dats m 0 c).arrAt 5 Cert.Kernel5Ideal.cfg0.N, fun c => (Cert.Kernel5Ideal.Gen.dats m 0 c).arrAt 6 Cert.Kernel5Ideal.cfg0.N,
    Cert.Kernel5Ideal.Value.run_blocks m ρ,
    (θ_run _ _ _).mono (fun _ h c => ⟨((h c).1).trans ((Cert.Reference5Ideal.Read.val_main_v17_eq _ _ _).trans (res0 c)), ((h c).2.1).trans ((Cert.Reference5Ideal.Read.val_main_v42_eq m' c).trans (res1 c)), (h c).2.2.1, (h c).2.2.2.1, (h c).2.2.2.2.1, (h c).2.2.2.2.2.1, (h c).2.2.2.2.2.2⟩)
      (Cert.Reference5Ideal.Value.run (F := Ideal) m' ρ')⟩

end Cert.Proof

end
-- ==== Proof.OutProjection.lean ====
/- The output projection: product, residual and layer norm of the kernel are the reference's. -/
module

public import proofs.«01_k».proof.Proof.Gen.Kernel4Ideal.Value
public import proofs.«01_k».proof.Proof.Gen.Reference4Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel4Ideal.OutProj

open Cert.Kernel4Ideal Cert.Kernel4Ideal.Gen

variable (m : (ℓ : Loc nD τ sig) → Buf (Elt Ideal) ℓ)

/-- The reference's result as a function of its arguments. -/
abbrev REF (y : FVec Ideal Cert.Reference4Ideal.S16384x2048 .bf16) (x : FVec Ideal Cert.Reference4Ideal.S16384x1024 .f32)
    (w : FVec Ideal Cert.Reference4Ideal.S2048x1024 .f32) (g b : FVec Ideal Cert.Reference4Ideal.S1024 .f32) :
    FVec Ideal Cert.Reference4Ideal.S16384x1024 .f32 :=
  Cert.Reference4Ideal.Read.val_main_v28 (F := Ideal) y x w g b

/-- Which block each window takes at a grid point. -/
theorem idx : ∀ t : Fin cfg0.N, win0_0.index t = ![t.val, 0]
    ∧ win0_1.index t = ![t.val, 0]
    ∧ win0_2.index t = ![0, 0]
    ∧ win0_3.index t = ![0, 0]
    ∧ win0_4.index t = ![0, 0]
    ∧ win0_5.index t = ![t.val, 0] :=
  (by decide +kernel : ∀ t : Fin grid0.N, _)

/-- What a grid point stores is the reference at the place where the block lies. -/
theorem point (c : Dev nD) (t : Fin cfg0.N) (y) :
    k0_pay1 (iblk m c 0 t) (iblk m c 2 t) (iblk m c 1 t) (iblk m c 3 t) (iblk m c 4 t) y
      = REF (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 5).blk t).view.emb y) := by
  pointwise [k0_pay1, REF, Cert.Reference4Ideal.Read.val_main_cst, Cert.Reference4Ideal.Read.val_main_v0, Cert.Reference4Ideal.Read.val_main_v1, Cert.Reference4Ideal.Read.val_main_v2, Cert.Reference4Ideal.Read.val_main_v3, Cert.Reference4Ideal.Read.val_main_v4, Cert.Reference4Ideal.Read.val_main_cst_0, Cert.Reference4Ideal.Read.val_main_v5, Cert.Reference4Ideal.Read.val_main_v6, Cert.Reference4Ideal.Read.val_main_cst_1, Cert.Reference4Ideal.Read.val_main_v7, Cert.Reference4Ideal.Read.val_main_v8, Cert.Reference4Ideal.Read.val_main_v9, Cert.Reference4Ideal.Read.val_main_v10, Cert.Reference4Ideal.Read.val_main_v11, Cert.Reference4Ideal.Read.val_main_cst_2, Cert.Reference4Ideal.Read.val_main_v12, Cert.Reference4Ideal.Read.val_main_v13, Cert.Reference4Ideal.Read.val_main_cst_3, Cert.Reference4Ideal.Read.val_main_v14, Cert.Reference4Ideal.Read.val_main_v15, Cert.Reference4Ideal.Read.val_main_v16, Cert.Reference4Ideal.Read.val_main_v17, Cert.Reference4Ideal.Read.val_main_cst_4, Cert.Reference4Ideal.Read.val_main_v18, Cert.Reference4Ideal.Read.val_main_v19, Cert.Reference4Ideal.Read.val_main_v20, Cert.Reference4Ideal.Read.val_main_v21, Cert.Reference4Ideal.Read.val_main_v22, Cert.Reference4Ideal.Read.val_main_v23, Cert.Reference4Ideal.Read.val_main_v24, Cert.Reference4Ideal.Read.val_main_v25, Cert.Reference4Ideal.Read.val_main_v26, Cert.Reference4Ideal.Read.val_main_v27, Cert.Reference4Ideal.Read.val_main_v28]
  blk_point [iblk, V, idx t]

/-- The result array after the run is the reference's. -/
theorem final (c : Dev nD) : (dats m 0 c).arrAt 5 (cfgs 0).N
    = REF (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t hf y => ?_
  blk_simp; rw [after0_5]; frame_out
  exact point m c t y

end Cert.Kernel4Ideal.OutProj

end
-- ==== Proof.OutProjectionClaim.lean ====
/- Kernel and reference end with the same result, from equal arguments. -/
module

public import proofs.«01_k».proof.Defs
public import proofs.«01_k».proof.Proof.OutProjection

@[expose] public section

set_option maxRecDepth 16384

noncomputable section

namespace Cert.Proof

open Idealize.ShloMosaic Idealize.ShloMosaic.TcCoe Idealize.SL.Sem

/-- From equal arguments the kernel ends with the reference's result. -/
theorem algebraic4 : algebraic_Kernel4Ideal_Reference4Ideal := by
  intro m ρ m' ρ' _ hagree
  have res0 : ∀ c : Dev Cert.Kernel4Ideal.nD, Cert.Reference4Ideal.Read.val_main_v28 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4))
      = (Cert.Kernel4Ideal.Gen.dats m 0 c).arrAt 5 Cert.Kernel4Ideal.cfg0.N := fun c => by
    rw [(hagree c).1, (hagree c).2.1, (hagree c).2.2.1, (hagree c).2.2.2.1, (hagree c).2.2.2.2]
    exact (Cert.Kernel4Ideal.OutProj.final m c).symm
  exact ⟨fun c => (Cert.Kernel4Ideal.Gen.dats m 0 c).arrAt 5 Cert.Kernel4Ideal.cfg0.N,
    Cert.Kernel4Ideal.Value.run_blocks m ρ,
    (θ_run _ _ _).mono (fun _ h c => ⟨((h c).1).trans ((Cert.Reference4Ideal.Read.val_main_v28_eq _ _ _ _ _).trans (res0 c)), (h c).2.1, (h c).2.2.1, (h c).2.2.2.1, (h c).2.2.2.2.1, (h c).2.2.2.2.2⟩)
      (Cert.Reference4Ideal.Value.run (F := Ideal) m' ρ')⟩

end Cert.Proof

end
-- ==== Proof.Projection.lean ====
/- The projection to the mixed channels: the tiled product of the kernel is the reference's product, cut to its middle columns. -/
module

public import proofs.«01_k».proof.Proof.Gen.Kernel3Ideal.Value
public import proofs.«01_k».proof.Proof.Gen.Reference3Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel3Ideal.Proj

open Cert.Kernel3Ideal Cert.Kernel3Ideal.Gen

variable (m : (ℓ : Loc nD τ sig) → Buf (Elt Ideal) ℓ)

/-- The reference's result as a function of its two arguments. -/
abbrev REF (x : FVec Ideal Cert.Reference3Ideal.S16384x1024 .f32) (w : FVec Ideal Cert.Reference3Ideal.S1024x5152 .f32) :
    FVec Ideal Cert.Reference3Ideal.S16384x3072 .f32 :=
  Cert.Reference3Ideal.Read.val_main_v2 (F := Ideal) x w

/-- Which block each window takes at a grid point. -/
theorem idx : ∀ t : Fin cfg0.N, win0_0.index t = ![t.val / 3, 0]
    ∧ win0_1.index t = ![0, t.val % 3]
    ∧ win0_2.index t = ![0, t.val % 3]
    ∧ win0_3.index t = ![t.val / 3, t.val % 3] :=
  (by decide +kernel : ∀ t : Fin grid0.N, _)

/-- The row that the kernel adds to its product is zero. -/
theorem bias (c : Dev nD) (t : Fin cfg0.N) (x) : iblk m c 2 t x = (0 : EReal) := by
  unfold iblk
  entry_read
  blk_simp
  pointwise

/-- What a grid point stores is the reference at the place where the block lies. -/
theorem point (c : Dev nD) (t : Fin cfg0.N) (y) :
    k0_pay1 (iblk m c 0 t) (iblk m c 1 t) (iblk m c 2 t) y
      = REF (m ((c : Thread nD τ).loc main_arg0)) (m ((c : Thread nD τ).loc main_arg1)) (((cfg0.win 3).blk t).view.emb y) := by
  pointwise [k0_pay1, REF, Cert.Reference3Ideal.Read.val_main_v2, Cert.Reference3Ideal.Read.val_main_v0]
  rw [bias, add_zero]
  blk_point [iblk, V, idx t]

/-- The result array after the run is the reference's. -/
theorem final (c : Dev nD) : (dats m 0 c).arrAt 3 (cfgs 0).N
    = REF (m ((c : Thread nD τ).loc main_arg0)) (m ((c : Thread nD τ).loc main_arg1)) := by
  refine (dats m 0 c).arrAt_eq_of_covers 3 _ (by decide +kernel) fun t hf y => ?_
  blk_simp; rw [after0_3]; frame_out
  exact point m c t y

end Cert.Kernel3Ideal.Proj

end
-- ==== Proof.ProjectionClaim.lean ====
/- Kernel and reference end with the same result, from equal arguments. -/
module

public import proofs.«01_k».proof.Defs
public import proofs.«01_k».proof.Proof.Projection

@[expose] public section

set_option maxRecDepth 16384

noncomputable section

namespace Cert.Proof

open Idealize.ShloMosaic Idealize.ShloMosaic.TcCoe Idealize.SL.Sem

/-- From equal arguments the kernel ends with the reference's result. -/
theorem algebraic3 : algebraic_Kernel3Ideal_Reference3Ideal := by
  intro m ρ m' ρ' _ hagree
  have res0 : ∀ c : Dev Cert.Kernel3Ideal.nD, Cert.Reference3Ideal.Read.val_main_v2 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1))
      = (Cert.Kernel3Ideal.Gen.dats m 0 c).arrAt 3 Cert.Kernel3Ideal.cfg0.N := fun c => by
    rw [(hagree c).1, (hagree c).2]
    exact (Cert.Kernel3Ideal.Proj.final m c).symm
  exact ⟨fun c => (Cert.Kernel3Ideal.Gen.dats m 0 c).arrAt 3 Cert.Kernel3Ideal.cfg0.N,
    Cert.Kernel3Ideal.Value.run_blocks m ρ,
    (θ_run _ _ _).mono (fun _ h c => ⟨((h c).1).trans ((Cert.Reference3Ideal.Read.val_main_v2_eq _ _).trans (res0 c)), (h c).2.1, (h c).2.2⟩)
      (Cert.Reference3Ideal.Value.run (F := Ideal) m' ρ')⟩

end Cert.Proof

end
-- ==== Proof.ScanMath.lean ====
/- The arithmetic that the recurrence needs: steps, running sums, and operands that are kept in several parts. -/
module

public import Idealize.ShloMosaic.Lib.Pipeline.ValueKit
public import Idealize.ShloMosaic.Lib.Claim

@[expose] public section

noncomputable section

namespace Cert.ScanMath

open Idealize.ShloMosaic
open scoped BigOperators

/-- The step length before the bound: the soft maximum of a number and zero. -/
def soft (x : EReal) : EReal := max x 0 + Ideal.log1p (Ideal.exp (0 - max x (-x)))

/-- The sum of the entries up to and including one. -/
def cum (a : Fin 128 → EReal) (i : Fin 128) : EReal := ∑ j, if j ≤ i then a j else 0

theorem exp_nonneg (x : EReal) : 0 ≤ Ideal.exp x := by
  induction x with
  | bot => simp
  | top => simp
  | coe r => simp only [Ideal.exp_coe]; exact_mod_cast (Real.exp_pos r).le

theorem exp_ne_top (x : EReal) (h : x ≠ ⊤) : Ideal.exp x ≠ ⊤ := by
  induction x with
  | bot => simp
  | top => exact absurd rfl h
  | coe r => simp

theorem exp_ne_bot (x : EReal) : Ideal.exp x ≠ ⊥ := fun h => by
  have := exp_nonneg x
  rw [h] at this
  simp at this

theorem log1p_nonneg (x : EReal) (h : 0 ≤ x) : 0 ≤ Ideal.log1p x := by
  induction x with
  | bot => simp at h
  | top =>
    have e : (1 : EReal) + ⊤ = ⊤ := by simp [EReal.add_top_of_ne_bot, ← EReal.coe_one]
    rw [Ideal.log1p, e]
    exact le_top
  | coe r =>
    have hr : 0 ≤ r := by exact_mod_cast h
    have e : (1 : EReal) + (r : EReal) = ((1 + r : ℝ) : EReal) := by push_cast; rfl
    rw [Ideal.log1p, e]
    show 0 ≤ if 1 + r ≤ 0 then (⊥ : EReal) else (Real.log (1 + r) : EReal)
    rw [if_neg (by linarith)]
    exact_mod_cast Real.log_nonneg (by linarith)

theorem log1p_ne_top (x : EReal) (h : x ≠ ⊤) : Ideal.log1p x ≠ ⊤ := by
  induction x with
  | bot => rw [Ideal.log1p, EReal.add_bot]; exact bot_ne_top
  | top => exact absurd rfl h
  | coe r =>
    have e : (1 : EReal) + (r : EReal) = ((1 + r : ℝ) : EReal) := by push_cast; rfl
    rw [Ideal.log1p, e]
    show (if 1 + r ≤ 0 then (⊥ : EReal) else (Real.log (1 + r) : EReal)) ≠ ⊤
    split_ifs
    · exact bot_ne_top
    · exact EReal.coe_ne_top _

theorem soft_nonneg (x : EReal) : 0 ≤ soft x :=
  add_nonneg (le_max_right _ _) (log1p_nonneg _ (exp_nonneg _))

theorem soft_ne_top (x : EReal) (h : x ≠ ⊤) : soft x ≠ ⊤ := by
  unfold soft
  refine (EReal.add_lt_top (fun hm => ?_) (log1p_ne_top _ (exp_ne_top _ fun hs => ?_))).ne
  · rcases max_choice x 0 with e | e <;> rw [e] at hm
    · exact h hm
    · exact EReal.zero_ne_top hm
  · have : max x (-x) ≠ ⊥ := fun hb => by
      rcases max_eq_bot.mp hb with ⟨h1, h2⟩
      rw [h1] at h2
      simp at h2
    induction hx : max x (-x) with
    | bot => exact this hx
    | top => rw [hx] at hs; simp at hs
    | coe r => rw [hx, ← EReal.coe_zero, ← EReal.coe_sub] at hs; exact EReal.coe_ne_top _ hs

/-- What a step adds to the running sum is at most zero. -/
theorem decay_le (x y : EReal) : soft x * (0 - Ideal.exp y) ≤ 0 := by
  rw [zero_sub, mul_neg, EReal.neg_le, neg_zero]
  exact mul_nonneg (soft_nonneg x) (exp_nonneg y)

theorem ne_top_of_le_zero {x : EReal} (h : x ≤ 0) : x ≠ ⊤ := fun e => by
  rw [e] at h; simp at h

theorem cum_le (a : Fin 128 → EReal) (ha : ∀ j, a j ≤ 0) (i : Fin 128) : cum a i ≤ 0 :=
  Finset.sum_nonpos fun j _ => by split_ifs; exacts [ha j, le_rfl]

theorem sum_bot {ι : Type} [Fintype ι] [DecidableEq ι] (f : ι → EReal) (j : ι) (h : f j = ⊥) :
    ∑ x, f x = ⊥ := by
  rw [← Finset.add_sum_erase _ f (Finset.mem_univ j), h, EReal.bot_add]

theorem exists_bot {ι : Type} (s : Finset ι) (f : ι → EReal) (h : ∑ x ∈ s, f x = ⊥) :
    ∃ j, f j = ⊥ := by
  classical
  by_contra hn
  push Not at hn
  revert h
  induction s using Finset.induction_on with
  | empty => simp
  | insert a s ha ih =>
    rw [Finset.sum_insert ha, EReal.add_eq_bot_iff]
    rintro (h | h)
    exacts [hn a h, ih h]

/-- The last running sum is unbounded below wherever an earlier one is. -/
theorem cum_last_bot (a : Fin 128 → EReal) (i : Fin 128) (h : cum a i = ⊥) : cum a 127 = ⊥ := by
  obtain ⟨j, hj⟩ := exists_bot _ _ h
  refine sum_bot _ j ?_
  by_cases hi : j ≤ i
  · rw [if_pos hi] at hj
    rw [if_pos (show j ≤ 127 from Fin.le_last j), hj]
  · rw [if_neg hi] at hj
    exact absurd hj EReal.zero_ne_bot

theorem cum_diff_ne_top (a : Fin 128 → EReal) (ha : ∀ j, a j ≤ 0) (i : Fin 128) :
    cum a 127 - cum a i ≠ ⊤ := fun h => by
  by_cases hb : cum a i = ⊥
  · rw [cum_last_bot a i hb] at h
    simp at h
  · have h1 := ne_top_of_le_zero (cum_le a ha i)
    have h2 := ne_top_of_le_zero (cum_le a ha 127)
    lift cum a i to ℝ using ⟨h1, hb⟩ with r
    induction hl : cum a 127 with
    | bot => rw [hl] at h; simp at h
    | top => exact h2 hl
    | coe s => rw [hl, ← EReal.coe_sub] at h; exact EReal.coe_ne_top _ h

theorem sub_self' {x : EReal} (h1 : x ≠ ⊤) (h2 : x ≠ ⊥) : x - x = 0 := EReal.sub_self h1 h2

theorem mul_ne_top' {x y : EReal} (hx : 0 ≤ x) (hy : 0 ≤ y) (h1 : x ≠ ⊤) (h2 : y ≠ ⊤) : x * y ≠ ⊤ := by
  have b {z : EReal} (h : 0 ≤ z) : z ≠ ⊥ := fun e => by rw [e] at h; simp at h
  lift x to ℝ using ⟨h1, b hx⟩
  lift y to ℝ using ⟨h2, b hy⟩
  rw [← EReal.coe_mul]
  exact EReal.coe_ne_top _

theorem ne_bot_of_nonneg {z : EReal} (h : 0 ≤ z) : z ≠ ⊥ := fun e => by rw [e] at h; simp at h

/-- A number kept as its rounding and two remainders, summed under a mask, is the sum of the number itself. -/
theorem three_parts (a l : Fin 128 → EReal) (i : Fin 128) (ha : ∀ j, a j ≤ 0)
    (hl : ∀ j, l j = if j ≤ i then 1 else 0) :
    ∑ x, l x * a x + ∑ x, l x * (a x - a x) + ∑ x, l x * (a x - a x - (a x - a x)) = cum a i := by
  have e : ∑ x, l x * a x = cum a i := Finset.sum_congr rfl fun x _ => by rw [hl]; split_ifs <;> simp
  rw [e]
  by_cases hb : cum a i = ⊥
  · rw [hb, EReal.bot_add, EReal.bot_add]
  · have hz : ∀ x, l x * (a x - a x) = 0 := fun x => by
      rw [hl]
      split_ifs with h
      · have : a x ≠ ⊥ := fun hx => hb (sum_bot _ x (by rw [if_pos h, hx]))
        rw [sub_self' (ne_top_of_le_zero (ha x)) this, mul_zero]
      · rw [zero_mul]
    have hz2 : ∀ x, l x * (a x - a x - (a x - a x)) = 0 := fun x => by
      have h1 := hz x
      rw [hl] at h1 ⊢
      split_ifs at h1 ⊢ with h
      · rw [one_mul] at h1
        rw [h1, sub_zero, mul_zero]
      · rw [zero_mul]
    rw [Finset.sum_congr rfl fun x _ => hz x, Finset.sum_congr rfl fun x _ => hz2 x]
    simp

/-- A number kept as its rounding and one remainder, spread over its columns by a matrix of zeros and ones. -/
theorem two_parts (v e : Fin 128 → EReal) (k : Fin 128) (h1 : v k ≠ ⊤) (h2 : v k ≠ ⊥)
    (he : ∀ x, e x = if k = x then 1 else 0) :
    ∑ x, v x * e x + ∑ x, (v x - v x) * e x = v k := by
  simp only [he, mul_ite, mul_one, mul_zero, Finset.sum_ite_eq, Finset.mem_univ, if_true, sub_self' h1 h2, add_zero]

/-- The convolution over four rows with its bias, before the gate. -/
def conv (b w0 w1 w2 w3 r0 r1 r2 r3 : EReal) : EReal := b + w0 * r0 + w1 * r1 + w2 * r2 + w3 * r3

/-- The arrays of a call, as functions of their coordinates. -/
structure Inp where
  x : Fin 16384 → Fin 3072 → EReal
  z : Fin 16384 → Fin 2048 → EReal
  d : Fin 16384 → Fin 128 → EReal
  p : Fin 8 → Fin 3 → Fin 3072 → EReal
  h : Fin 8 → Fin 2048 → Fin 128 → EReal
  w : Fin 4 → Fin 3072 → EReal
  b : Fin 3072 → EReal
  db : Fin 32 → EReal
  al : Fin 32 → EReal
  ds : Fin 32 → EReal
  nw : Fin 2048 → EReal

namespace Inp

variable (I : Inp) (s : Fin 8) (c : Fin 16)

/-- The row of the whole array of a row of a chunk. -/
abbrev row (s : Fin 8) (c : Fin 16) (i : Fin 128) : Fin 16384 := ⟨2048 * s.val + 128 * c.val + i.val, by omega⟩

/-- The head of a column. -/
abbrev head (q : Fin 2048) : Fin 32 := ⟨q.val / 64, by omega⟩

/-- A sequence's rows behind the three given before the first. -/
def xp (n : ℕ) (q : Fin 3072) : EReal :=
  if h : n < 3 then I.p s ⟨n, h⟩ q else if h : n - 3 < 2048 then I.x ⟨2048 * s.val + (n - 3), by omega⟩ q else 0

/-- The convolution of a row, before the gate. -/
def cv (i : Fin 128) (q : Fin 3072) : EReal :=
  conv (I.b q) (I.w 0 q) (I.w 1 q) (I.w 2 q) (I.w 3 q) (I.xp s (128 * c.val + i.val) q) (I.xp s (128 * c.val + i.val + 1) q)
    (I.xp s (128 * c.val + i.val + 2) q) (I.xp s (128 * c.val + i.val + 3) q)

/-- The convolved and gated row. -/
def xc (i : Fin 128) (q : Fin 3072) : EReal := I.cv s c i q * Ideal.logistic (I.cv s c i q)

/-- The step length of a row and head. -/
def dt (i : Fin 128) (k : Fin 32) : EReal := soft (I.d (row s c i) ⟨k.val, by omega⟩ + I.db k)

/-- The running sum of a head's decays in a chunk. -/
def ac (k : Fin 32) (i : Fin 128) : EReal := cum (fun j => I.dt s c j k * (0 - Ideal.exp (I.al k))) i

/-- The weight of a row in its chunk's state. -/
def wt (k : Fin 32) (i : Fin 128) : EReal := I.dt s c i k * Ideal.exp (I.ac s c k 127 - I.ac s c k i)

/-- What a chunk adds to the state. -/
def inc (r : Fin 2048) (n : Fin 128) : EReal :=
  ∑ j : Fin 128, I.xc s c j ⟨r.val, by omega⟩ * I.wt s c (head r) j * I.xc s c j ⟨2048 + 128 * (r.val / 512) + n.val, by omega⟩

/-- The state before a chunk. -/
def st : ℕ → Fin 2048 → Fin 128 → EReal
  | 0, r, n => I.h s r n
  | k + 1, r, n => if h : k < 16 then st k r n * Ideal.exp (I.ac s ⟨k, h⟩ (head r) 127) + I.inc s ⟨k, h⟩ r n else 0

/-- The product of an output row and an input row of one group. -/
def cb (q : Fin 2048) (i j : Fin 128) : EReal :=
  ∑ n : Fin 128, I.xc s c i ⟨2560 + 128 * (q.val / 512) + n.val, by omega⟩ * I.xc s c j ⟨2048 + 128 * (q.val / 512) + n.val, by omega⟩

/-- The decay from one row to another, zero above the diagonal. -/
def dec (k : Fin 32) (i j : Fin 128) : EReal := Ideal.exp (if j ≤ i then I.ac s c k i - I.ac s c k j else ⊥)

/-- What a row takes from the rows of its own chunk. -/
def dia (i : Fin 128) (q : Fin 2048) : EReal :=
  ∑ j : Fin 128, I.cb s c q i j * I.dec s c (head q) i j * I.dt s c j (head q) * I.xc s c j ⟨q.val, by omega⟩

/-- What a row takes from the state before its chunk, and from itself. -/
def ssm (i : Fin 128) (q : Fin 2048) : EReal :=
  I.dia s c i q
    + (∑ n : Fin 128, I.xc s c i ⟨2560 + 128 * (q.val / 512) + n.val, by omega⟩ * I.st s c.val q n) * Ideal.exp (I.ac s c (head q) i)
    + I.ds (head q) * I.xc s c i ⟨q.val, by omega⟩

/-- The gated row. -/
def gt (i : Fin 128) (q : Fin 2048) : EReal :=
  I.ssm s c i q * (I.z (row s c i) q * Ideal.logistic (I.z (row s c i) q))

/-- The sum of the squares of a row's group. -/
def sq (i : Fin 128) (g : Fin 4) : EReal :=
  ∑ q : Fin 512, I.gt s c i ⟨512 * g.val + q.val, by omega⟩ * I.gt s c i ⟨512 * g.val + q.val, by omega⟩

/-- The normalised row. -/
def out (i : Fin 128) (q : Fin 2048) : EReal :=
  I.gt s c i q * Ideal.rsqrt (Ideal.div (I.sq s c i ⟨q.val / 512, by omega⟩) (Ideal.ofBits .f32 0x44000000#32) + Ideal.ofBits .f32 0x3727C5AC#32) * I.nw q

end Inp

end Cert.ScanMath
end
-- ==== Proof.ScanBase.lean ====
/- What the recurrence kernel's base values are: step lengths, running sums, weights and the convolution. -/
module

public import proofs.«01_k».proof.Proof.Gen.KernelIdeal.Value
public import proofs.«01_k».proof.Proof.ScanMath

@[expose] public section

set_option maxRecDepth 16384

noncomputable section

namespace Cert.KernelIdeal.Scan

open Idealize.ShloMosaic Idealize.ShloMosaic.TcCoe Idealize.SL.Sem
open Cert.KernelIdeal Cert.KernelIdeal.Gen Cert.KernelIdeal.Value

open Cert.ScanMath

/-- Every row lies in the block. -/
theorem in_rows : ∀ i : Fin 128, IntOp.cmpi .slt (BitVec.ofNat 32 i.val) 128#32 = 1#1 := by decide +kernel

/-- The lanes below thirty-two hold a head. -/
theorem in_heads : ∀ k : Fin 128, k.val < 32 → IntOp.cmpi .slt (BitVec.ofNat 32 k.val) 32#32 = 1#1 := by
  decide +kernel

/-- The step length of a row and head. -/
theorem dt_val (v6 : Vec Ideal S128x128 .f32) (v38 : Vec Ideal S1x128 .f32) (i k : Fin 128)
    (hk : k.val < 32) :
    k0_pay8 v6 v38 (ix2 i k) = soft (v6 (ix2 i k) + v38 (ix2 0 k)) := by
  pointwise [k0_pay8, soft]
  rw [in_rows i, in_heads k hk]
  rfl

/-- What a row adds to the running sum. -/
theorem a_val (v6 : Vec Ideal S128x128 .f32) (v38 v57 : Vec Ideal S1x128 .f32) (i k : Fin 128)
    (hk : k.val < 32) :
    k0_pay9 v6 v38 v57 (ix2 i k) = soft (v6 (ix2 i k) + v38 (ix2 0 k)) * (0 - Ideal.exp (v57 (ix2 0 k))) := by
  pointwise [k0_pay9]
  rw [dt_val v6 v38 i k hk]

/-- The running sum of one head's decays in a chunk. -/
def rsum (v6 : Vec Ideal S128x128 .f32) (v38 v57 : Vec Ideal S1x128 .f32) (k i : Fin 128) : EReal :=
  cum (fun j => soft (v6 (ix2 j k) + v38 (ix2 0 k)) * (0 - Ideal.exp (v57 (ix2 0 k)))) i

/-- The running sums, put together from three products. -/
theorem acum_val (v6 : Vec Ideal S128x128 .f32) (v38 v57 : Vec Ideal S1x128 .f32)
    (l : Vec Ideal S128x128 .bf16) (i k : Fin 128) (hk : k.val < 32)
    (hl : ∀ i j : Fin 128, l (ix2 i j) = if j ≤ i then (1 : EReal) else 0) :
    k0_pay15 (k0_pay12 v6 v38 v57) (k0_pay13 v6 v38 v57) (k0_pay14 v6 v38 v57 l) l l (ix2 i k)
      = rsum v6 v38 v57 k i := by
  pointwise [k0_pay15, k0_pay14, k0_pay13, k0_pay12, k0_pay11, k0_pay10]
  simp only [a_val v6 v38 v57 _ k hk]
  exact three_parts _ _ i (fun j => decay_le _ _) (hl i)

/-- The weight of a row in its chunk's state. -/
def wgt (v6 : Vec Ideal S128x128 .f32) (v38 v57 : Vec Ideal S1x128 .f32) (k i : Fin 128) : EReal :=
  soft (v6 (ix2 i k) + v38 (ix2 0 k)) * Ideal.exp (rsum v6 v38 v57 k 127 - rsum v6 v38 v57 k i)

/-- The weights, spread over the columns of their heads. -/
theorem w_val (v6 : Vec Ideal S128x128 .f32) (v38 v57 : Vec Ideal S1x128 .f32)
    (l : Vec Ideal S128x128 .bf16) (e : Vec Ideal S128x2048 .bf16) (i : Fin 128) (q : Fin 2048) (k : Fin 128)
    (hk : k.val < 32) (hq : q.val / 64 = k.val)
    (hl : ∀ i j : Fin 128, l (ix2 i j) = if j ≤ i then (1 : EReal) else 0)
    (he : ∀ x : Fin 128, e (ix2 x q) = if q.val / 64 = x.val then (1 : EReal) else 0)
    (hf : v6 (ix2 i k) + v38 (ix2 0 k) ≠ (⊤ : EReal)) :
    k0_pay19 (k0_pay8 v6 v38) (k0_pay12 v6 v38 v57) (k0_pay13 v6 v38 v57) (k0_pay14 v6 v38 v57 l) l l e e (ix2 i q)
      = wgt v6 v38 v57 k i := by
  pointwise [k0_pay19]
  refine (two_parts _ _ k ?_ ?_ fun x => ?_).trans ?_
  · rw [dt_val v6 v38 i k hk, acum_val v6 v38 v57 l _ k hk hl, acum_val v6 v38 v57 l _ k hk hl]
    exact mul_ne_top' (soft_nonneg _) (exp_nonneg _) (soft_ne_top _ hf)
      (exp_ne_top _ (cum_diff_ne_top _ (fun j => decay_le _ _) i))
  · rw [dt_val v6 v38 i k hk]
    exact ne_bot_of_nonneg (mul_nonneg (soft_nonneg _) (exp_nonneg _))
  · rw [he, hq]
    simp only [Fin.ext_iff]
  · rw [dt_val v6 v38 i k hk, acum_val v6 v38 v57 l _ k hk hl, acum_val v6 v38 v57 l _ k hk hl]
    rfl

/-- The decays from the start of the chunk, spread over the columns of their heads. -/
theorem ea_val (v6 : Vec Ideal S128x128 .f32) (v38 v57 : Vec Ideal S1x128 .f32)
    (l : Vec Ideal S128x128 .bf16) (e : Vec Ideal S128x2048 .bf16) (i : Fin 128) (q : Fin 2048) (k : Fin 128)
    (hk : k.val < 32) (hq : q.val / 64 = k.val)
    (hl : ∀ i j : Fin 128, l (ix2 i j) = if j ≤ i then (1 : EReal) else 0)
    (he : ∀ x : Fin 128, e (ix2 x q) = if q.val / 64 = x.val then (1 : EReal) else 0) :
    k0_pay23 (k0_pay21 (k0_pay12 v6 v38 v57) (k0_pay13 v6 v38 v57) (k0_pay14 v6 v38 v57 l) l l)
        (k0_pay22 (k0_pay12 v6 v38 v57) (k0_pay13 v6 v38 v57) (k0_pay14 v6 v38 v57 l) l l e) e (ix2 i q)
      = Ideal.exp (rsum v6 v38 v57 k i) := by
  pointwise [k0_pay23, k0_pay22, k0_pay21, k0_pay20, k0_pay18]
  refine (two_parts _ _ k ?_ (exp_ne_bot _) fun x => ?_).trans ?_
  · rw [acum_val v6 v38 v57 l _ k hk hl]
    exact exp_ne_top _ (ne_top_of_le_zero (cum_le _ (fun j => decay_le _ _) i))
  · rw [he, hq]
    simp only [Fin.ext_iff]
  · rw [acum_val v6 v38 v57 l _ k hk hl]

/-- The convolved and gated row. -/
theorem conv_val (b : Vec Ideal S1x3072 .f32) (w0 w1 w2 w3 : Vec Ideal S1x3072 .f32) (r0 r1 r2 r3 : Vec Ideal S128x3072 .f32)
    (i : Fin 128) (q : Fin 3072) :
    k0_pay7 (k0_pay6 b w0 r0 w1 r1 w2 r2) w3 r3 (ix2 i q)
      = conv (b (ix2 0 q)) (w0 (ix2 0 q)) (w1 (ix2 0 q)) (w2 (ix2 0 q)) (w3 (ix2 0 q))
          (r0 (ix2 i q)) (r1 (ix2 i q)) (r2 (ix2 i q)) (r3 (ix2 i q))
        * Ideal.logistic (conv (b (ix2 0 q)) (w0 (ix2 0 q)) (w1 (ix2 0 q)) (w2 (ix2 0 q)) (w3 (ix2 0 q))
          (r0 (ix2 i q)) (r1 (ix2 i q)) (r2 (ix2 i q)) (r3 (ix2 i q))) := by
  pointwise [k0_pay7, k0_pay6, conv]

end Cert.KernelIdeal.Scan
end
-- ==== Proof.ScanHost.lean ====
/- What the recurrence kernel reads from its blocks, in terms of the call's arguments. -/
module

public import proofs.«01_k».proof.Proof.Gen.KernelIdeal.Value
public import Idealize.ShloMosaic.Lib.Pipeline.ValueKit
public import Idealize.ShloMosaic.Lib.Claim
public import Idealize.ShloMosaic.Lib.WordCmp

@[expose] public section

set_option maxRecDepth 16384

noncomputable section

namespace Cert.KernelIdeal.Scan

open Idealize.ShloMosaic Idealize.ShloMosaic.TcCoe Idealize.SL.Sem
open Cert.KernelIdeal Cert.KernelIdeal.Gen Cert.KernelIdeal.Value

variable (m : (ℓ : Loc nD τ sig) → Buf (Elt Ideal) ℓ)

/-- Which block each window takes at a grid point. -/
theorem idx : ∀ t : Fin cfg0.N,
    win0_0.index t = ![t.val, 0] ∧ win0_1.index t = ![t.val, 0] ∧ win0_2.index t = ![t.val, 0]
    ∧ win0_3.index t = ![t.val / 16, 0, 0] ∧ win0_4.index t = ![t.val / 16, 0, 0]
    ∧ win0_5.index t = ![0, 0] ∧ win0_6.index t = ![0, 0] ∧ win0_7.index t = ![0, 0]
    ∧ win0_8.index t = ![0, 0] ∧ win0_9.index t = ![0, 0] ∧ win0_10.index t = ![0, 0]
    ∧ win0_11.index t = ![0, 0] ∧ win0_12.index t = ![0, 0]
    ∧ win0_13.index t = ![t.val, 0] ∧ win0_14.index t = ![t.val / 16, 0, 0] :=
  (by decide +kernel : ∀ t : Fin grid0.N, _)

/-- The head of a column, as the program computes it. -/
theorem head_of : ∀ q : Fin 2048,
    Scalar.select
      (IntOp.andi
        (IntOp.cmpi CmpIPredicate.ne
          (if BitVec.ofNat 32 q.val = 0 then 0 else if (BitVec.ofNat 32 q.val).msb = true then -1 else 1 : BitVec 32)
          (if 64#32 = 0 then 0 else if BitVec.msb 64#32 = true then -1 else 1 : BitVec 32))
        (IntOp.cmpi CmpIPredicate.ne (IntOp.remsi ArithUnit.host (BitVec.ofNat 32 q.val) 64#32) 0#32))
      (IntOp.subi (IntOp.divsi ArithUnit.host (BitVec.ofNat 32 q.val) 64#32) 1#32)
      (IntOp.divsi ArithUnit.host (BitVec.ofNat 32 q.val) 64#32) = BitVec.ofNat 32 (q.val / 64) := by
  decide +kernel

/-- A true bit is one. -/
theorem hot_one : FloatOps.uitofp (F := Ideal) FTy.bf16 (BitVec.ofBool true) = (1 : EReal) := by
  show (((1 : Nat) : ℝ) : EReal) = 1
  simp

/-- A false bit is zero. -/
theorem hot_zero : FloatOps.uitofp (F := Ideal) FTy.bf16 (BitVec.ofBool false) = (0 : EReal) := by
  show (((0 : Nat) : ℝ) : EReal) = 0
  simp

/-- One where two small numbers are the same, zero elsewhere. -/
theorem one_hot (a b : Nat) (ha : a < 2 ^ 32) (hb : b < 2 ^ 32) :
    FloatOps.uitofp (F := Ideal) FTy.bf16 (IntOp.cmpi CmpIPredicate.eq (BitVec.ofNat 32 a) (BitVec.ofNat 32 b))
      = if a = b then (1 : EReal) else 0 := by
  rw [WordCmp.cmpi_eq_ofNat ha hb]
  by_cases h : a = b
  · rw [if_pos h, decide_eq_true h]; exact hot_one
  · rw [if_neg h, decide_eq_false h]; exact hot_zero

/-- One where a row is not above a column, zero elsewhere. -/
theorem tri_hot (a b : Nat) (ha : a < 2 ^ 31) (hb : b < 2 ^ 31) :
    FloatOps.uitofp (F := Ideal) FTy.bf16 (IntOp.cmpi CmpIPredicate.sge (BitVec.ofNat 32 a) (BitVec.ofNat 32 b))
      = if b ≤ a then (1 : EReal) else 0 := by
  rw [WordCmp.cmpi_sge_ofNat ha hb]
  by_cases h : b ≤ a
  · rw [if_pos h, decide_eq_true h]; exact hot_one
  · rw [if_neg h, decide_eq_false h]; exact hot_zero

/-- The matrix of heads and columns. -/
theorem V_v8 (c : Dev nD) (x) : V m c main_v8 x = if (x 1).val / 64 = (x 0).val then (1 : EReal) else 0 := by
  unfold V
  simp only [List.flatten_cons, List.flatten_nil, List.append_nil, List.cons_append, List.nil_append]
  after_results
  simp -implicitDefEqProofs only [StableHlo.TRef.toBuf, StableHlo.TRef.ofBuf, cast_cast, cast_eq]
  pointwise
  refine (congrArg (fun w => FloatOps.uitofp (F := Ideal) FTy.bf16 (IntOp.cmpi CmpIPredicate.eq w (BitVec.ofNat 32 (x 0).val))) (head_of (x 1))).trans ?_
  have h1 : (x 1).val < 2048 := (x 1).2
  have h0 : (x 0).val < 128 := (x 0).2
  exact one_hot _ _ (by omega) (by omega)

/-- The triangle of ones. -/
theorem V_v16 (c : Dev nD) (x) : V m c main_v16 x = if (x 1).val ≤ (x 0).val then (1 : EReal) else 0 := by
  unfold V
  simp only [List.flatten_cons, List.flatten_nil, List.append_nil, List.cons_append, List.nil_append]
  after_results
  pointwise
  have h1 : (x 1).val < 128 := (x 1).2
  have h0 : (x 0).val < 128 := (x 0).2
  exact tri_hot _ _ (by omega) (by omega)

/-- The rows before the first, behind five rows of zeros. -/
theorem V_v17 (c : Dev nD) (b : Fin 8) (i : Fin 3) (q : Fin 3072) : V m c main_v17 (ix3 b ⟨5 + i.val, by omega⟩ q) = m ((c : Thread nD τ).loc main_arg3) (ix3 b i q) := by
  unfold V
  simp only [List.flatten_cons, List.flatten_nil, List.append_nil, List.cons_append, List.nil_append]
  after_results
  simp -implicitDefEqProofs only [StableHlo.TRef.toBuf, StableHlo.TRef.ofBuf, cast_cast, cast_eq]
  pointwise

/-- The first states, one row per head and channel. -/
theorem V_v18 (c : Dev nD) (b : Fin 8) (r : Fin 2048) (n : Fin 128) : V m c main_v18 (ix3 b r n) = m ((c : Thread nD τ).loc main_arg4) (ix4 b ⟨r.val / 64, by omega⟩ ⟨r.val % 64, by omega⟩ n) := by
  unfold V
  simp only [List.flatten_cons, List.flatten_nil, List.append_nil, List.cons_append, List.nil_append]
  after_results
  pointwise

/-- The bias of the convolution. -/
theorem V_v19 (c : Dev nD) (q : Fin 3072) : V m c main_v19 (ix2 0 q) = m ((c : Thread nD τ).loc main_arg6) (ix1 q) := by
  unfold V
  simp only [List.flatten_cons, List.flatten_nil, List.append_nil, List.cons_append, List.nil_append]
  after_results
  pointwise

/-- The bias of the step lengths. -/
theorem V_v21 (c : Dev nD) (k : Fin 128) (hk : k.val < 32) : V m c main_v21 (ix2 0 k) = m ((c : Thread nD τ).loc main_arg7) (ix1 ⟨k.val, hk⟩) := by
  unfold V
  simp only [List.flatten_cons, List.flatten_nil, List.append_nil, List.cons_append, List.nil_append]
  after_results
  simp -implicitDefEqProofs only [StableHlo.TRef.toBuf, StableHlo.TRef.ofBuf, cast_cast, cast_eq]
  pointwise
  exact dif_pos hk

/-- The logarithms of the decay rates. -/
theorem V_v23 (c : Dev nD) (k : Fin 128) (hk : k.val < 32) : V m c main_v23 (ix2 0 k) = m ((c : Thread nD τ).loc main_arg8) (ix1 ⟨k.val, hk⟩) := by
  unfold V
  simp only [List.flatten_cons, List.flatten_nil, List.append_nil, List.cons_append, List.nil_append]
  after_results
  simp -implicitDefEqProofs only [StableHlo.TRef.toBuf, StableHlo.TRef.ofBuf, cast_cast, cast_eq]
  pointwise
  exact dif_pos hk

/-- The weight of the skip connection, per column. -/
theorem V_v26 (c : Dev nD) (q : Fin 2048) : V m c main_v26 (ix2 0 q) = m ((c : Thread nD τ).loc main_arg9) (ix1 ⟨q.val / 64, by omega⟩) := by
  unfold V
  simp only [List.flatten_cons, List.flatten_nil, List.append_nil, List.cons_append, List.nil_append]
  after_results
  pointwise

/-- The weights of the norm. -/
theorem V_v27 (c : Dev nD) (q : Fin 2048) : V m c main_v27 (ix2 0 q) = m ((c : Thread nD τ).loc main_arg10) (ix1 q) := by
  unfold V
  simp only [List.flatten_cons, List.flatten_nil, List.append_nil, List.cons_append, List.nil_append]
  after_results
  pointwise

/-- The row of the whole array at which a chunk's row lies. -/
abbrev row (t : Fin cfg0.N) (i : Fin 128) : Fin 16384 :=
  ⟨128 * t.val + i.val, by have h : t.val < 128 := t.2; omega⟩

/-- The sequence to which a grid point belongs. -/
abbrev seq (t : Fin cfg0.N) : Fin 8 := ⟨t.val / 16, by have h : t.val < 128 := t.2; omega⟩

/-- The projected rows of the chunk. -/
theorem xbc_val (c : Dev nD) (t : Fin cfg0.N) (i : Fin 128) (q : Fin 3072) : iblk m c 0 t (ix2 i q) = m ((c : Thread nD τ).loc main_arg0) (ix2 (row t i) q) := by
  blk_ext [iblk, V, idx t]

/-- The gate of the chunk. -/
theorem z_val (c : Dev nD) (t : Fin cfg0.N) (i : Fin 128) (q : Fin 2048) : iblk m c 1 t (ix2 i q) = m ((c : Thread nD τ).loc main_arg1) (ix2 (row t i) q) := by
  blk_ext [iblk, V, idx t]

/-- The step inputs of the chunk. -/
theorem step_val (c : Dev nD) (t : Fin cfg0.N) (i : Fin 128) (q : Fin 128) : iblk m c 2 t (ix2 i q) = m ((c : Thread nD τ).loc main_arg2) (ix2 (row t i) q) := by
  blk_ext [iblk, V, idx t]

/-- The rows before the sequence. -/
theorem prefix_val (c : Dev nD) (t : Fin cfg0.N) (i : Fin 8) (q : Fin 3072) : iblk m c 3 t (ix3 0 i q) = V m c main_v17 (ix3 (seq t) i q) := by
  blk_ext [iblk, idx t]

/-- The first state of the sequence. -/
theorem h0_val (c : Dev nD) (t : Fin cfg0.N) (i : Fin 2048) (q : Fin 128) : iblk m c 4 t (ix3 0 i q) = V m c main_v18 (ix3 (seq t) i q) := by
  blk_ext [iblk, idx t]

/-- The taps. -/
theorem cw_val (c : Dev nD) (t : Fin cfg0.N) (i : Fin 4) (q : Fin 3072) : iblk m c 5 t (ix2 i q) = m ((c : Thread nD τ).loc main_arg5) (ix2 i q) := by
  blk_ext [iblk, V, idx t]

/-- The bias of the convolution, in the block. -/
theorem cb_val (c : Dev nD) (t : Fin cfg0.N) (q : Fin 3072) : iblk m c 6 t (ix2 0 q) = V m c main_v19 (ix2 0 q) := by
  blk_ext [iblk, idx t]

/-- The bias of the steps, in the block. -/
theorem bias_val (c : Dev nD) (t : Fin cfg0.N) (q : Fin 128) : iblk m c 7 t (ix2 0 q) = V m c main_v21 (ix2 0 q) := by
  blk_ext [iblk, idx t]

/-- The decay rates, in the block. -/
theorem alog_val (c : Dev nD) (t : Fin cfg0.N) (q : Fin 128) : iblk m c 8 t (ix2 0 q) = V m c main_v23 (ix2 0 q) := by
  blk_ext [iblk, idx t]

/-- The skip weights, in the block. -/
theorem skip_val (c : Dev nD) (t : Fin cfg0.N) (q : Fin 2048) : iblk m c 9 t (ix2 0 q) = V m c main_v26 (ix2 0 q) := by
  blk_ext [iblk, idx t]

/-- The norm weights, in the block. -/
theorem nw_val (c : Dev nD) (t : Fin cfg0.N) (q : Fin 2048) : iblk m c 10 t (ix2 0 q) = V m c main_v27 (ix2 0 q) := by
  blk_ext [iblk, idx t]

/-- The matrix that spreads heads over columns. -/
theorem e_val (c : Dev nD) (t : Fin cfg0.N) (k : Fin 128) (q : Fin 2048) :
    iblk m c 11 t (ix2 k q) = if q.val / 64 = k.val then (1 : EReal) else 0 := by
  have h : iblk m c 11 t (ix2 k q) = V m c main_v8 (ix2 k q) := by blk_ext [iblk, idx t]
  rw [h, V_v8]
  rfl

/-- The triangle, in the block. -/
theorem l_val (c : Dev nD) (t : Fin cfg0.N) (i j : Fin 128) :
    iblk m c 12 t (ix2 i j) = if j ≤ i then (1 : EReal) else 0 := by
  have h : iblk m c 12 t (ix2 i j) = V m c main_v16 (ix2 i j) := by blk_ext [iblk, idx t]
  rw [h, V_v16]
  rfl

end Cert.KernelIdeal.Scan
end
-- ==== Proof.ScanState.lean ====
module

public import proofs.«01_k».proof.Proof.ScanBase
public import proofs.«01_k».proof.Proof.ScanHost
public import Idealize.ShloMosaic.Lib.Pipeline.ReadBack

@[expose] public section

set_option maxRecDepth 16384

noncomputable section

namespace Cert.KernelIdeal.Scan

open Idealize.ShloMosaic Idealize.ShloMosaic.TcCoe Idealize.SL.Sem
open Cert.KernelIdeal Cert.KernelIdeal.Gen Cert.KernelIdeal.Value

open Cert.ScanMath
variable (m : (ℓ : Loc nD τ sig) → Buf (Elt Ideal) ℓ)

/-- The call's arrays, by coordinates. -/
def inp (c : Dev nD) : Inp where
  x r q := m ((c : Thread nD τ).loc main_arg0) (ix2 r q)
  z r q := m ((c : Thread nD τ).loc main_arg1) (ix2 r q)
  d r q := m ((c : Thread nD τ).loc main_arg2) (ix2 r q)
  p s i q := m ((c : Thread nD τ).loc main_arg3) (ix3 s i q)
  h s r n := m ((c : Thread nD τ).loc main_arg4) (ix4 s ⟨r.val / 64, by omega⟩ ⟨r.val % 64, by omega⟩ n)
  w i q := m ((c : Thread nD τ).loc main_arg5) (ix2 i q)
  b q := m ((c : Thread nD τ).loc main_arg6) (ix1 q)
  db k := m ((c : Thread nD τ).loc main_arg7) (ix1 k)
  al k := m ((c : Thread nD τ).loc main_arg8) (ix1 k)
  ds k := m ((c : Thread nD τ).loc main_arg9) (ix1 k)
  nw q := m ((c : Thread nD τ).loc main_arg10) (ix1 q)

/-- The chunk of a grid point in its sequence. -/
abbrev chk (t : Fin cfg0.N) : Fin 16 := ⟨t.val % 16, by omega⟩

/-- A grid point's row, counted over the whole array. -/
theorem row_eq (t : Fin cfg0.N) (i : Fin 128) : row t i = Inp.row (seq t) (chk t) i :=
  Fin.ext (by show 128 * t.val + i.val = 2048 * (t.val / 16) + 128 * (t.val % 16) + i.val; omega)

/-- The step lengths of a chunk. -/
theorem dt_pt (c : Dev nD) (t : Fin cfg0.N) (i k : Fin 128) (hk : k.val < 32) :
    k0_pay8 (iblk m c 2 t) (iblk m c 7 t) (ix2 i k) = (inp m c).dt (seq t) (chk t) i ⟨k.val, hk⟩ := by
  rw [dt_val _ _ i k hk, step_val, bias_val, V_v21 m c k hk, row_eq]
  rfl

/-- The running sums of a chunk. -/
theorem rsum_pt (c : Dev nD) (t : Fin cfg0.N) (k i : Fin 128) (hk : k.val < 32) :
    rsum (iblk m c 2 t) (iblk m c 7 t) (iblk m c 8 t) k i = (inp m c).ac (seq t) (chk t) ⟨k.val, hk⟩ i := by
  unfold rsum Inp.ac
  refine congrArg (fun f => cum f i) (funext fun j => ?_)
  rw [step_val, bias_val, alog_val, V_v21 m c k hk, V_v23 m c k hk, row_eq]
  rfl

/-- The running sums, as the kernel puts them together. -/
theorem ac_pt (c : Dev nD) (t : Fin cfg0.N) (i k : Fin 128) (hk : k.val < 32) :
    k0_pay15 (k0_pay12 (iblk m c 2 t) (iblk m c 7 t) (iblk m c 8 t))
        (k0_pay13 (iblk m c 2 t) (iblk m c 7 t) (iblk m c 8 t))
        (k0_pay14 (iblk m c 2 t) (iblk m c 7 t) (iblk m c 8 t) (iblk m c 12 t)) (iblk m c 12 t) (iblk m c 12 t) (ix2 i k)
      = (inp m c).ac (seq t) (chk t) ⟨k.val, hk⟩ i := by
  rw [acum_val _ _ _ _ i k hk (l_val m c t), rsum_pt m c t k i hk]

/-- Every step's input with its bias lies below infinity. -/
def Below (c : Dev nD) : Prop :=
  ∀ (r : Fin 16384) (k : Fin 32), (inp m c).d r ⟨k.val, by omega⟩ + (inp m c).db k ≠ ⊤

/-- The weights of a chunk. -/
theorem wt_pt (c : Dev nD) (hf : Below m c) (t : Fin cfg0.N) (i : Fin 128) (q : Fin 2048) :
    k0_pay19 (k0_pay8 (iblk m c 2 t) (iblk m c 7 t)) (k0_pay12 (iblk m c 2 t) (iblk m c 7 t) (iblk m c 8 t))
        (k0_pay13 (iblk m c 2 t) (iblk m c 7 t) (iblk m c 8 t))
        (k0_pay14 (iblk m c 2 t) (iblk m c 7 t) (iblk m c 8 t) (iblk m c 12 t)) (iblk m c 12 t) (iblk m c 12 t)
        (iblk m c 11 t) (iblk m c 11 t) (ix2 i q)
      = (inp m c).wt (seq t) (chk t) (Inp.head q) i := by
  have hk : q.val / 64 < 32 := by omega
  rw [w_val _ _ _ _ _ i q ⟨q.val / 64, by omega⟩ hk rfl (l_val m c t) (fun x => e_val m c t x q) ?_]
  · unfold wgt
    rw [rsum_pt m c t _ _ hk, rsum_pt m c t _ _ hk, step_val, bias_val, V_v21 m c _ hk, row_eq]
    rfl
  · rw [step_val, bias_val, V_v21 m c _ hk]
    exact hf (row t i) ⟨q.val / 64, hk⟩

/-- The decays from the start of a chunk. -/
theorem ea_pt (c : Dev nD) (t : Fin cfg0.N) (i : Fin 128) (q : Fin 2048) :
    k0_pay23 (k0_pay21 (k0_pay12 (iblk m c 2 t) (iblk m c 7 t) (iblk m c 8 t)) (k0_pay13 (iblk m c 2 t) (iblk m c 7 t) (iblk m c 8 t))
          (k0_pay14 (iblk m c 2 t) (iblk m c 7 t) (iblk m c 8 t) (iblk m c 12 t)) (iblk m c 12 t) (iblk m c 12 t))
        (k0_pay22 (k0_pay12 (iblk m c 2 t) (iblk m c 7 t) (iblk m c 8 t)) (k0_pay13 (iblk m c 2 t) (iblk m c 7 t) (iblk m c 8 t))
          (k0_pay14 (iblk m c 2 t) (iblk m c 7 t) (iblk m c 8 t) (iblk m c 12 t)) (iblk m c 12 t) (iblk m c 12 t) (iblk m c 11 t))
        (iblk m c 11 t) (ix2 i q)
      = Ideal.exp ((inp m c).ac (seq t) (chk t) (Inp.head q) i) := by
  have hk : q.val / 64 < 32 := by omega
  rw [ea_val _ _ _ _ _ i q ⟨q.val / 64, by omega⟩ hk rfl (l_val m c t) (fun x => e_val m c t x q), rsum_pt m c t _ _ hk]

/-- The rows kept in scratch: eight from before, then a chunk. -/
def roll (P : S128x3072.Idx → EReal) (Q : S8x3072.Idx → EReal) (y : S136x3072.Idx) : EReal :=
  if h : (y 0).val < 8 then Q (ix2 ⟨(y 0).val, h⟩ ⟨(y 1).val, (y 1).2⟩)
  else P (ix2 ⟨(y 0).val - 8, by have h : (y 0).val < 136 := (y 0).2; omega⟩ ⟨(y 1).val, (y 1).2⟩)

/-- The two stores into scratch leave the kept rows. -/
theorem roll_val (P : S128x3072.Idx → EReal) (Q : S8x3072.Idx → EReal) (y : S136x3072.Idx) :
    View.canon (Val := Elt Ideal) (e := .bf16)
      [⟨Rect.unit ![8, 0] ![128, 3072] inb_S136x3072_S128x3072_8_0, P⟩,
        ⟨Rect.unit ![0, 0] ![8, 3072] inb_S136x3072_S8x3072_0_0, Q⟩] y = roll P Q y := by
  canon_tiles x h using (by
    have h0 : (y 0).val < 136 := (y 0).2
    have h1 : (y 1).val < 3072 := (y 1).2
    by_cases h : (y 0).val < 8
    · exact ⟨_, List.mem_cons_of_mem _ List.mem_cons_self, (Rect.mem_set_unit (inb := inb_S136x3072_S8x3072_0_0)).mpr fun a => match a with
        | ⟨0, _⟩ => ⟨Nat.zero_le _, h⟩
        | ⟨1, _⟩ => ⟨Nat.zero_le _, h1⟩⟩
    · exact ⟨_, List.mem_cons_self, (Rect.mem_set_unit (inb := inb_S136x3072_S128x3072_8_0)).mpr fun a => match a with
        | ⟨0, _⟩ => ⟨Nat.le_of_not_lt h, h0⟩
        | ⟨1, _⟩ => ⟨Nat.zero_le _, h1⟩⟩)
  · unfold roll
    rw [dif_neg (by omega)]
    blk_ext []
  · unfold roll
    rw [dif_pos (by omega)]
    blk_ext []

/-- A row of a chunk, shifted, read from scratch. -/
theorem roll_read (P : S128x3072.Idx → EReal) (Q : S8x3072.Idx → EReal) (k : ℕ) (hk : k ≤ 8)
    (inb : ∀ a : Fin S136x3072.rank, (![k, 0] : Fin S136x3072.rank → ℕ) a + (![128, 3072] : Fin S136x3072.rank → ℕ) a ≤ S136x3072.size a) (i : Fin 128) (q : Fin 3072) :
    (View.whole (sig := sig) cc0_scratch0).readCov (Val := Elt Ideal)
      [⟨Rect.unit ![8, 0] ![128, 3072] inb_S136x3072_S128x3072_8_0, P⟩,
        ⟨Rect.unit ![0, 0] ![8, 3072] inb_S136x3072_S8x3072_0_0, Q⟩]
      (Rect.unit (s := S136x3072) ![k, 0] ![128, 3072] inb).toLoadRect (ix2 i q) = roll P Q (ix2 ⟨k + i.val, by omega⟩ q) := by
  rw [View.readCov_eq_canon']
  refine (roll_val P Q _).trans (congrArg (roll P Q) (funext fun a => match a with
    | ⟨0, _⟩ => Fin.ext (Rect.idx_unit_val _ _ _ _ _)
    | ⟨1, _⟩ => Fin.ext ((Rect.idx_unit_val _ _ _ _ _).trans (Nat.zero_add _))))

/-- What a grid point leaves of its rows for the next. -/
theorem kept (c : Dev nD) (t : Fin cfg0.N) (i : Fin 128) (q : Fin 3072) :
    (outsAt0 m c t.val t.isLt).2.2 (ix2 ⟨8 + i.val, by omega⟩ q) = iblk m c 0 t (ix2 i q) := by
  by_cases h0 : t.val % 16 = 0
  · rw [outsAt0_A m c t h0 (by omega)]
    frame_open
    simp (disch := decide) only [↓ View.readCov_skip, ↓ View.readCov_cons_toLoadRect, ↓ View.readCov_fill]
    frame_out
    refine (roll_val _ _ _).trans ?_
    unfold roll
    rw [dif_neg (by show ¬ 8 + i.val < 8; omega)]
    pointwise [k0_pay5]
    blk_ext []
  · rw [outsAt0_B m c t h0 (by omega)]
    frame_open
    simp (disch := decide) only [↓ View.readCov_skip, ↓ View.readCov_cons_toLoadRect, ↓ View.readCov_fill]
    frame_out
    refine (roll_val _ _ _).trans ?_
    unfold roll
    rw [dif_neg (by show ¬ 8 + i.val < 8; omega)]
    pointwise [k0_pay5]
    blk_ext []

/-- A sequence's row behind the prefix, from the kept rows of its chunk. -/
theorem xp_roll (c : Dev nD) (t : Fin cfg0.N) (Q : S8x3072.Idx → EReal) (q : Fin 3072)
    (hQ : ∀ k : Fin 3, Q (ix2 ⟨5 + k.val, by omega⟩ q) = (inp m c).xp (seq t) (128 * (chk t).val + k.val) q)
    (k : ℕ) (hk : k ≤ 3) (i : Fin 128) :
    roll (k0_pay5 (iblk m c 0 t)) Q (ix2 ⟨5 + k + i.val, by omega⟩ q)
      = (inp m c).xp (seq t) (128 * (chk t).val + i.val + k) q := by
  unfold roll
  split
  · rename_i h
    have h' : 5 + k + i.val < 8 := h
    have := hQ ⟨k + i.val, by omega⟩
    rw [show 128 * (chk t).val + i.val + k = 128 * (chk t).val + (k + i.val) by omega, ← this]
    exact congrArg Q (by blk_ext [])
  · rename_i h
    have h' : ¬ 5 + k + i.val < 8 := h
    unfold Inp.xp
    rw [dif_neg (by omega), dif_pos (by have := (chk t).2; omega)]
    have := xbc_val m c t ⟨5 + k + i.val - 8, by omega⟩ q
    refine (show k0_pay5 (iblk m c 0 t) (ix2 ⟨5 + k + i.val - 8, by omega⟩ q) = _ by
      pointwise [k0_pay5]
      exact this).trans ?_
    refine congrArg (fun r : Fin 16384 => m ((c : Thread nD τ).loc main_arg0) (ix2 r q)) (Fin.ext ?_)
    show 128 * t.val + (5 + k + i.val - 8) = 2048 * (t.val / 16) + (128 * (t.val % 16) + i.val + k - 3)
    omega

/-- The prefix rows of a sequence. -/
theorem pre_A (c : Dev nD) (t : Fin cfg0.N) (h0 : t.val % 16 = 0) (q : Fin 3072) (k : Fin 3) :
    k0_pay2 (iblk m c 3 t) (ix2 ⟨5 + k.val, by omega⟩ q) = (inp m c).xp (seq t) (128 * (chk t).val + k.val) q := by
  pointwise [k0_pay2]
  rw [prefix_val, V_v17]
  unfold Inp.xp
  rw [dif_pos (by omega)]
  exact congrArg (fun n : Fin 3 => m ((c : Thread nD τ).loc main_arg3) (ix3 (seq t) n q)) (Fin.ext (by show k.val = 128 * (t.val % 16) + k.val; omega))

/-- The rows kept from the chunk before. -/
theorem pre_B (c : Dev nD) (t : Fin cfg0.N) (hw : (Memref.whole (sig := sig) cc0_scratch0).IsWhole) (h0 : ¬ t.val % 16 = 0) (q : Fin 3072) (k : Fin 3) :
    k0_pay4 (View.ld (View.read (Elt Ideal) (View.whole (sig := sig) cc0_scratch0)
        (hw.unread (outsAt0 m c (t.val - 1) (by omega)).2.2))
      (Rect.unit ![128, 0] ![8, 3072] inb_S136x3072_S8x3072_128_0)) (ix2 ⟨5 + k.val, by omega⟩ q)
     = (inp m c).xp (seq t) (128 * (chk t).val + k.val) q := by
  rw [read_unread_whole]
  pointwise [k0_pay4]
  have e := kept m c ⟨t.val - 1, by omega⟩ ⟨125 + k.val, by omega⟩ q
  refine (Eq.trans (by blk_ext []) e).trans ?_
  rw [xbc_val]
  unfold Inp.xp
  rw [dif_neg (by omega), dif_pos (by omega)]
  refine congrArg (fun r : Fin 16384 => m ((c : Thread nD τ).loc main_arg0) (ix2 r q)) (Fin.ext ?_)
  show 128 * (t.val - 1) + (125 + k.val) = 2048 * (t.val / 16) + (128 * (t.val % 16) + k.val - 3)
  omega

/-- The convolved rows, from the rows kept. -/
theorem xc_of (c : Dev nD) (t : Fin cfg0.N) (Q : S8x3072.Idx → EReal)
    (hQ : ∀ (q : Fin 3072) (k : Fin 3), Q (ix2 ⟨5 + k.val, by omega⟩ q) = (inp m c).xp (seq t) (128 * (chk t).val + k.val) q)
    (i : Fin 128) (q : Fin 3072) :
   k0_pay7
      (k0_pay6 (iblk m c 6 t) (View.ld (iblk m c 5 t) (Rect.unit ![0, 0] ![1, 3072] inb_S4x3072_S1x3072_0_0))
        ((View.whole cc0_scratch0).readCov
          [⟨Rect.unit ![8, 0] ![128, 3072] inb_S136x3072_S128x3072_8_0, k0_pay5 (iblk m c 0 t)⟩,
            ⟨Rect.unit ![0, 0] ![8, 3072] inb_S136x3072_S8x3072_0_0, Q⟩]
          (Rect.unit ![5, 0] ![128, 3072] inb_S136x3072_S128x3072_5_0).toLoadRect)
        (View.ld (iblk m c 5 t) (Rect.unit ![1, 0] ![1, 3072] inb_S4x3072_S1x3072_1_0))
        ((View.whole cc0_scratch0).readCov
          [⟨Rect.unit ![8, 0] ![128, 3072] inb_S136x3072_S128x3072_8_0, k0_pay5 (iblk m c 0 t)⟩,
            ⟨Rect.unit ![0, 0] ![8, 3072] inb_S136x3072_S8x3072_0_0, Q⟩]
          (Rect.unit ![6, 0] ![128, 3072] inb_S136x3072_S128x3072_6_0).toLoadRect)
        (View.ld (iblk m c 5 t) (Rect.unit ![2, 0] ![1, 3072] inb_S4x3072_S1x3072_2_0))
        ((View.whole cc0_scratch0).readCov
          [⟨Rect.unit ![8, 0] ![128, 3072] inb_S136x3072_S128x3072_8_0, k0_pay5 (iblk m c 0 t)⟩,
            ⟨Rect.unit ![0, 0] ![8, 3072] inb_S136x3072_S8x3072_0_0, Q⟩]
          (Rect.unit ![7, 0] ![128, 3072] inb_S136x3072_S128x3072_7_0).toLoadRect))
      (View.ld (iblk m c 5 t) (Rect.unit ![3, 0] ![1, 3072] inb_S4x3072_S1x3072_3_0)) (k0_pay5 (iblk m c 0 t)) (ix2 i q)
     = (inp m c).xc (seq t) (chk t) i q := by
  have e : iblk m c 0 t (ix2 i q) = (inp m c).xp (seq t) (128 * (chk t).val + i.val + 3) q := by
    rw [← xp_roll m c t Q q (hQ q) 3 (by omega) i]
    unfold roll
    rw [dif_neg (by show ¬ 5 + 3 + i.val < 8; omega)]
    pointwise [k0_pay5]
    blk_ext []
  rw [conv_val, roll_read _ _ 5 (by omega), roll_read _ _ 6 (by omega), roll_read _ _ 7 (by omega)]
  rw [xp_roll m c t Q q (hQ q) 0 (by omega) i, xp_roll m c t Q q (hQ q) 1 (by omega) i, xp_roll m c t Q q (hQ q) 2 (by omega) i]
  pointwise [k0_pay5]
  rw [e, cb_val, V_v19, cw_val, cw_val, cw_val, cw_val]
  rfl

/-- A state after a chunk, from the state before it and the chunk's values. -/
def hnext (H : S1x2048x128.Idx → EReal) (X : S128x3072.Idx → EReal) (W : S128x2048.Idx → EReal) (AC : S128x128.Idx → EReal)
    (y : S1x2048x128.Idx) : EReal :=
  H y * Ideal.exp (AC (ix2 127 ⟨(y 1).val / 64, by have h : (y 1).val < 2048 := (y 1).2; omega⟩))
    + ∑ j : Fin 128, X (ix2 j ⟨(y 1).val, by have h : (y 1).val < 2048 := (y 1).2; omega⟩) * W (ix2 j ⟨(y 1).val, (y 1).2⟩)
      * X (ix2 j ⟨2048 + 128 * ((y 1).val / 512) + (y 2).val,
          by have h : (y 1).val < 2048 := (y 1).2; have h : (y 2).val < 128 := (y 2).2; omega⟩)

/-- Stores that cover an index hide the older ones there. -/
theorem canon_over {S : Shape} {e : EltTy} (L' : List (View.Piece (Elt Ideal) S e)) (y : S.Idx) :
    ∀ (L : List (View.Piece (Elt Ideal) S e)) (_ : ∃ p ∈ L, y ∈ p.1.set), View.canon (L ++ L') y = View.canon L y
  | [], hc => by obtain ⟨p, hp, _⟩ := hc; exact absurd hp List.not_mem_nil
  | p :: L, hc => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_over L' y L ?_
      obtain ⟨q, hq, hyq⟩ := hc
      rcases List.mem_cons.mp hq with rfl | hq'
      · exact absurd hyq hm
      · exact ⟨q, hq', hyq⟩

/-- Stores that cover an index hide the oldest there. -/
theorem canon_dropLast {S : Shape} {e : EltTy} (L : List (View.Piece (Elt Ideal) S e)) (y : S.Idx) (hc : ∃ p ∈ L.dropLast, y ∈ p.1.set) :
    View.canon L y = View.canon L.dropLast y := by
  by_cases hL : L = []
  · subst hL; rfl
  · conv_lhs => rw [← List.dropLast_append_getLast hL]
    exact canon_over _ y _ hc

/-- The next state, from the values of the chunk. -/
theorem hnext_eq (c : Dev nD) (t : Fin cfg0.N) (H : S1x2048x128.Idx → EReal) (X : S128x3072.Idx → EReal) (W : S128x2048.Idx → EReal)
    (AC : S128x128.Idx → EReal) (r : Fin 2048) (n : Fin 128)
    (hH : H (ix3 0 r n) = (inp m c).st (seq t) (chk t).val r n)
    (hX : ∀ i q, X (ix2 i q) = (inp m c).xc (seq t) (chk t) i q)
    (hW : ∀ i q, W (ix2 i q) = (inp m c).wt (seq t) (chk t) (Inp.head q) i)
    (hA : ∀ i (k : Fin 128) (hk : k.val < 32), AC (ix2 i k) = (inp m c).ac (seq t) (chk t) ⟨k.val, hk⟩ i) :
    hnext H X W AC (ix3 0 r n) = (inp m c).st (seq t) ((chk t).val + 1) r n := by
  unfold Inp.st
  rw [dif_pos (chk t).2]
  refine congrArg₂ (· + ·) (congrArg₂ (· * ·) hH (congrArg Ideal.exp (hA _ _ _))) (Finset.sum_congr rfl fun j _ => ?_)
  exact congrArg₂ (· * ·) (congrArg₂ (· * ·) (hX _ _) (hW _ _)) (hX _ _)

/-- A state after the first chunk of a sequence. -/
theorem state_A (c : Dev nD) (hf : Below m c) (t : Fin cfg0.N) (h0 : t.val % 16 = 0) (r : Fin 2048) (n : Fin 128) :
    (outsAt0 m c t.val t.isLt).2.1 (ix3 0 r n) = (inp m c).st (seq t) ((chk t).val + 1) r n := by
  rw [outsAt0_A m c t h0 (by omega)]
  frame_open
  simp (disch := decide) only [↓ View.readCov_skip, ↓ View.readCov_cons_toLoadRect, ↓ View.readCov_fill]
  frame_out
  unfold k0_pay16
  generalize hX : k0_pay7 (F := Ideal) _ _ _ = XC
  generalize hW : k0_pay19 (F := Ideal) _ _ _ _ _ _ _ _ = W
  generalize hA : k0_pay15 (F := Ideal) _ _ _ _ _ = AC
  refine Eq.trans (b := hnext (k0_pay3 (iblk m c 4 t)) XC W AC (ix3 0 r n)) ?_ (hnext_eq m c t _ _ _ _ r n ?_ ?_ ?_ ?_)
  · clear hX hW hA
    generalize (ix3 (0 : Fin 1) r n : S1x2048x128.Idx) = y
    rw [canon_dropLast _ _ (View.cover_of_tiled _ ![1, 64, 128] (by rfl) y)]
    simp only [List.dropLast]
    canon_tiles x h
    all_goals
      open_payloads
      pointwise [hnext]
      blk_point []
  · have e : (chk t).val = 0 := h0
    pointwise [k0_pay3]
    rw [h0_val, V_v18, h0]
    rfl
  · intro i q
    rw [← hX]
    exact xc_of m c t _ (fun q k => pre_A m c t h0 q k) i q
  · intro i q
    rw [← hW]
    exact wt_pt m c hf t i q
  · intro i k hk
    rw [← hA]
    exact ac_pt m c t i k hk

/-- A state after a later chunk of a sequence. -/
theorem state_B (c : Dev nD) (hf : Below m c) (t : Fin cfg0.N) (h0 : ¬ t.val % 16 = 0) (r : Fin 2048) (n : Fin 128)
    (ih : (outsAt0 m c (t.val - 1) (by omega)).2.1 (ix3 0 r n) = (inp m c).st (seq t) (chk t).val r n) :
    (outsAt0 m c t.val t.isLt).2.1 (ix3 0 r n) = (inp m c).st (seq t) ((chk t).val + 1) r n := by
  rw [outsAt0_B m c t h0 (by omega)]
  frame_open
  simp (disch := decide) only [↓ View.readCov_skip, ↓ View.readCov_cons_toLoadRect, ↓ View.readCov_fill]
  frame_out
  unfold k0_pay16
  generalize hX : k0_pay7 (F := Ideal) _ _ _ = XC
  generalize hW : k0_pay19 (F := Ideal) _ _ _ _ _ _ _ _ = W
  generalize hA : k0_pay15 (F := Ideal) _ _ _ _ _ = AC
  refine Eq.trans (b := hnext (outsAt0 m c (t.val - 1) (by omega)).2.1 XC W AC (ix3 0 r n)) ?_ (hnext_eq m c t _ _ _ _ r n ih ?_ ?_ ?_)
  · clear hX hW hA
    generalize (ix3 (0 : Fin 1) r n : S1x2048x128.Idx) = y
    canon_tiles x h
    all_goals
      open_payloads
      pointwise [hnext]
      blk_point []
  · intro i q
    rw [← hX]
    exact xc_of m c t _ (fun q k => pre_B m c t _ h0 q k) i q
  · intro i q
    rw [← hW]
    exact wt_pt m c hf t i q
  · intro i k hk
    rw [← hA]
    exact ac_pt m c t i k hk

/-- The state after every chunk. -/
theorem state (c : Dev nD) (hf : Below m c) (r : Fin 2048) (n : Fin 128) : ∀ (k : ℕ) (s : Fin 8) (hk : k < 16),
    (outsAt0 m c (16 * s.val + k) (by show _ < 128; omega)).2.1 (ix3 0 r n) = (inp m c).st s (k + 1) r n
  | 0, s, _ => by
    have e := state_A m c hf ⟨16 * s.val + 0, by show _ < 128; omega⟩ (by show (16 * s.val + 0) % 16 = 0; omega) r n
    have e1 : seq (⟨16 * s.val + 0, by show _ < 128; omega⟩ : Fin cfg0.N) = s := Fin.ext (by show (16 * s.val + 0) / 16 = s.val; omega)
    have e2 : (chk (⟨16 * s.val + 0, by show _ < 128; omega⟩ : Fin cfg0.N)).val = 0 := by show (16 * s.val + 0) % 16 = 0; omega
    rw [e1, e2] at e
    exact e
  | k + 1, s, hk => by
    have ih := state c hf r n k s (by omega)
    have e1 : seq (⟨16 * s.val + (k + 1), by show _ < 128; omega⟩ : Fin cfg0.N) = s := Fin.ext (by show (16 * s.val + (k + 1)) / 16 = s.val; omega)
    have e2 : (chk (⟨16 * s.val + (k + 1), by show _ < 128; omega⟩ : Fin cfg0.N)).val = k + 1 := by show (16 * s.val + (k + 1)) % 16 = k + 1; omega
    have e := state_B m c hf ⟨16 * s.val + (k + 1), by show _ < 128; omega⟩ (by show ¬ (16 * s.val + (k + 1)) % 16 = 0; omega) r n
      (by rw [e1, e2]; exact ih)
    rw [e1, e2] at e
    exact e

end Cert.KernelIdeal.Scan
end
-- ==== Proof.ScanRow.lean ====
module

public import proofs.«01_k».proof.Proof.ScanBase
public import proofs.«01_k».proof.Proof.ScanState
public import Idealize.ShloMosaic.Lib.Pipeline.ReadBack
public import Idealize.ShloMosaic.Lib.WordCmp

@[expose] public section

set_option maxRecDepth 16384

noncomputable section

namespace Cert.KernelIdeal.Scan

open Idealize.ShloMosaic Idealize.ShloMosaic.TcCoe Idealize.SL.Sem
open Cert.KernelIdeal Cert.KernelIdeal.Gen Cert.KernelIdeal.Value

open Cert.ScanMath
variable (m : (ℓ : Loc nD τ sig) → Buf (Elt Ideal) ℓ)

/-- The gated row, from a row and its gate. -/
def gated (Y Z : S128x2048.Idx → EReal) (i : Fin 128) (q : Fin 2048) : EReal := Y (ix2 i q) * (Z (ix2 i q) * Ideal.logistic (Z (ix2 i q)))

/-- The normalised row, from a row, its gate and its weights. -/
def normed (Y Z : S128x2048.Idx → EReal) (N : S1x2048.Idx → EReal) (y : S128x2048.Idx) : EReal :=
  gated Y Z ⟨(y 0).val, (y 0).2⟩ ⟨(y 1).val, (y 1).2⟩
    * Ideal.rsqrt (Ideal.div (∑ q : Fin 512,
        gated Y Z ⟨(y 0).val, (y 0).2⟩ ⟨512 * ((y 1).val / 512) + q.val, by have h : (y 1).val < 2048 := (y 1).2; omega⟩
        * gated Y Z ⟨(y 0).val, (y 0).2⟩ ⟨512 * ((y 1).val / 512) + q.val, by have h : (y 1).val < 2048 := (y 1).2; omega⟩)
        (Ideal.ofBits .f32 0x44000000#32) + Ideal.ofBits .f32 0x3727C5AC#32)
    * N (ix2 0 ⟨(y 1).val, (y 1).2⟩)

/-- The four stores of the normalised row. -/
theorem normed_val (Y Z : S128x2048.Idx → EReal) (N : S1x2048.Idx → EReal) (y : S128x2048.Idx) :
    View.canon (Val := Elt Ideal) (e := .bf16)
      [⟨Rect.unit ![0, 1536] ![128, 512] inb_S128x2048_S128x512_0_1536,
          k0_pay1 (F := Ideal) (k0_pay146 (k0_pay140 Y Z)) (k0_pay147 (k0_pay140 Y Z))
            (View.ld (Val := Elt Ideal) (e' := .f32) N (Rect.unit ![0, 1536] ![1, 512] inb_S1x2048_S1x512_0_1536))⟩,
        ⟨Rect.unit ![0, 1024] ![128, 512] inb_S128x2048_S128x512_0_1024,
          k0_pay145 (F := Ideal) (k0_pay143 Y Z) (k0_pay144 Y Z)
            (View.ld (Val := Elt Ideal) (e' := .f32) N (Rect.unit ![0, 1024] ![1, 512] inb_S1x2048_S1x512_0_1024))⟩,
        ⟨Rect.unit ![0, 512] ![128, 512] inb_S128x2048_S128x512_0_512,
          k0_pay142 (F := Ideal) Y Z (View.ld (Val := Elt Ideal) (e' := .f32) N (Rect.unit ![0, 512] ![1, 512] inb_S1x2048_S1x512_0_512))⟩,
        ⟨Rect.unit ![0, 0] ![128, 512] inb_S128x2048_S128x512_0_0,
          k0_pay141 (F := Ideal) Y Z (View.ld (Val := Elt Ideal) (e' := .f32) N (Rect.unit ![0, 0] ![1, 512] inb_S1x2048_S1x512_0_0))⟩] y
      = normed Y Z N y := by
  canon_tiles x h
  all_goals
    open_payloads
    pointwise [normed, gated]
    blk_point []

/-- A row of a chunk, from the state before it and the chunk's values. -/
def ynext (H : S1x2048x128.Idx → EReal) (X : S128x3072.Idx → EReal) (DT AC : S128x128.Idx → EReal) (EA : S128x2048.Idx → EReal)
    (D : S1x2048.Idx → EReal) (i : Fin 128) (q : Fin 2048) : EReal :=
  (∑ j : Fin 128,
      (∑ n : Fin 128, X (ix2 i ⟨2560 + 128 * (q.val / 512) + n.val, by omega⟩) * X (ix2 j ⟨2048 + 128 * (q.val / 512) + n.val, by omega⟩))
      * Ideal.exp (if j.val ≤ i.val then AC (ix2 i ⟨q.val / 64, by omega⟩) - AC (ix2 j ⟨q.val / 64, by omega⟩) else ⊥)
      * DT (ix2 j ⟨q.val / 64, by omega⟩) * X (ix2 j ⟨q.val, by omega⟩))
    + (∑ n : Fin 128, X (ix2 i ⟨2560 + 128 * (q.val / 512) + n.val, by omega⟩) * H (ix3 0 q n)) * EA (ix2 i q)
    + D (ix2 0 q) * X (ix2 i ⟨q.val, by omega⟩)

/-- A choice by the half of a pair's columns. -/
theorem sel_half (n : ℕ) (hn : n < 128) (a b : EReal) :
    Scalar.select (IntOp.cmpi CmpIPredicate.slt (BitVec.ofNat 32 n) 64#32) a b = if n < 64 then a else b := by
  rw [WordCmp.cmpi_slt_ofNat (by omega) (by omega)]
  by_cases h : n < 64
  · rw [if_pos h, decide_eq_true h]; rfl
  · rw [if_neg h, decide_eq_false h]; rfl

/-- A choice by the diagonal. -/
theorem sel_tri (i : ℕ) (hi : i < 128) (j : Fin 128) (a b : EReal) :
    Scalar.select (IntOp.cmpi CmpIPredicate.sge (BitVec.ofNat 32 i) (BitVec.ofNat 32 j.val)) a b
      = if j.val ≤ i then a else b := by
  rw [WordCmp.cmpi_sge_ofNat (by omega) (by omega)]
  by_cases h : j.val ≤ i
  · rw [if_pos h, decide_eq_true h]; rfl
  · rw [if_neg h, decide_eq_false h]; rfl

/-- The word of minus infinity. -/
theorem word_bot : Ideal.ofBits FTy.f32 4286578688#32 = ⊥ := by
  simp [Ideal.ofBits, Ideal.ieee]

/-- A whole read of the rows keeps the place. -/
theorem whole_idx (i : Fin 128) (q : Fin 2048) :
    (Rect.unit (s := S128x2048) ![0, 0] ![128, 2048] inb_S128x2048_S128x2048_0_0).toLoadRect.idx (ix2 i q) = ix2 i q :=
  funext fun a => match a with
    | ⟨0, _⟩ => Fin.ext ((Rect.idx_unit_val _ _ _ _ _).trans (Nat.zero_add _))
    | ⟨1, _⟩ => Fin.ext ((Rect.idx_unit_val _ _ _ _ _).trans (Nat.zero_add _))

/-- A row of a chunk is the one of the mathematics. -/
theorem ynext_eq (c : Dev nD) (t : Fin cfg0.N) (H : S1x2048x128.Idx → EReal) (X : S128x3072.Idx → EReal) (DT AC : S128x128.Idx → EReal)
    (EA : S128x2048.Idx → EReal) (i : Fin 128) (q : Fin 2048)
    (hH : ∀ n, H (ix3 0 q n) = (inp m c).st (seq t) (chk t).val q n)
    (hX : ∀ i q, X (ix2 i q) = (inp m c).xc (seq t) (chk t) i q)
    (hD : ∀ i (k : Fin 128) (hk : k.val < 32), DT (ix2 i k) = (inp m c).dt (seq t) (chk t) i ⟨k.val, hk⟩)
    (hA : ∀ i (k : Fin 128) (hk : k.val < 32), AC (ix2 i k) = (inp m c).ac (seq t) (chk t) ⟨k.val, hk⟩ i)
    (hE : EA (ix2 i q) = Ideal.exp ((inp m c).ac (seq t) (chk t) (Inp.head q) i)) :
    ynext H X DT AC EA (iblk m c 9 t) i q = (inp m c).ssm (seq t) (chk t) i q := by
  have hk : q.val / 64 < 32 := by omega
  unfold ynext Inp.ssm Inp.dia Inp.cb Inp.dec
  simp only [hH, hX]
  rw [hE, skip_val, V_v26]
  simp only [hD _ (⟨q.val / 64, by omega⟩ : Fin 128) hk, hA _ (⟨q.val / 64, by omega⟩ : Fin 128) hk]
  rfl

/-- A normalised row is the one of the mathematics. -/
theorem normed_eq (c : Dev nD) (t : Fin cfg0.N) (Y : S128x2048.Idx → EReal) (i : Fin 128) (q : Fin 2048)
    (hY : ∀ q, Y (ix2 i q) = (inp m c).ssm (seq t) (chk t) i q) :
    normed Y (iblk m c 1 t) (iblk m c 10 t) (ix2 i q) = (inp m c).out (seq t) (chk t) i q := by
  have hg : ∀ q, gated Y (iblk m c 1 t) i q = (inp m c).gt (seq t) (chk t) i q := fun q => by
    unfold gated Inp.gt
    rw [hY, z_val, row_eq]
    rfl
  have hn := (nw_val m c t q).trans (V_v27 m c q)
  unfold normed Inp.out Inp.sq
  exact congrArg₂ (· * ·) (congrArg₂ (· * ·) (hg q) (congrArg (fun x => Ideal.rsqrt (Ideal.div x _ + _))
    (Finset.sum_congr rfl fun k _ => congrArg₂ (· * ·) (hg _) (hg _)))) hn

set_option maxHeartbeats 4000000 in
/-- The rows of the first chunk of a sequence. -/
theorem row_A (c : Dev nD) (hf : Below m c) (t : Fin cfg0.N) (h0 : t.val % 16 = 0) (i : Fin 128) (q : Fin 2048) :
    (outsAt0 m c t.val t.isLt).1 (ix2 i q) = (inp m c).out (seq t) (chk t) i q := by
  rw [outsAt0_A m c t h0 (by omega)]
  frame_open
  simp (disch := decide) only [↓ View.readCov_skip, ↓ View.readCov_cons_toLoadRect, ↓ View.readCov_fill]
  frame_out
  unfold k0_pay16 k0_pay17
  generalize hX : k0_pay7 (F := Ideal) _ _ _ = XC
  generalize hE : k0_pay23 (F := Ideal) _ _ _ = EA
  generalize hA : k0_pay15 (F := Ideal) _ _ _ _ _ = AC
  generalize hD : k0_pay8 (F := Ideal) _ _ = DT
  generalize hY : View.readCov (Val := Elt Ideal) (View.whole (sig := sig) cc0_scratch2) _ _ = YV
  refine (normed_val YV (iblk m c 1 t) (iblk m c 10 t) _).trans (normed_eq m c t YV i q fun q => ?_)
  refine Eq.trans (b := ynext (k0_pay3 (iblk m c 4 t)) XC DT AC EA (iblk m c 9 t) i q) ?_ (ynext_eq m c t _ XC DT AC EA i q ?_ ?_ ?_ ?_ ?_)
  · rw [← hY, View.readCov_eq_canon']
    show View.canon _ _ = _
    rw [whole_idx]
    clear hY hX hE hA hD
    canon_tiles x h
    all_goals
      obtain rfl : i = ⟨(x 0).val, x0_lt⟩ := Fin.ext h0
      have hq : q.val = _ := h1
      open_payloads
      pointwise [ynext]
      simp only [sel_half _ x1_lt, sel_tri _ x0_lt, word_bot]
      by_cases hl : (x 1).val < 64
      · simp only [if_pos hl, Finset.sum_const_zero, add_zero]
        blk_point []
      · simp only [if_neg hl, Finset.sum_const_zero, zero_add]
        blk_point []
  · intro n
    pointwise [k0_pay3]
    rw [h0_val, V_v18, h0]
    rfl
  · intro i q
    rw [← hX]
    exact xc_of m c t _ (fun q k => pre_A m c t h0 q k) i q
  · intro i k hk
    rw [← hD]
    exact dt_pt m c t i k hk
  · intro i k hk
    rw [← hA]
    exact ac_pt m c t i k hk
  · rw [← hE]
    exact ea_pt m c t i q

set_option maxHeartbeats 4000000 in
/-- The rows of a later chunk of a sequence. -/
theorem row_B (c : Dev nD) (hf : Below m c) (t : Fin cfg0.N) (h0 : ¬ t.val % 16 = 0) (i : Fin 128) (q : Fin 2048) :
    (outsAt0 m c t.val t.isLt).1 (ix2 i q) = (inp m c).out (seq t) (chk t) i q := by
  rw [outsAt0_B m c t h0 (by omega)]
  frame_open
  simp (disch := decide) only [↓ View.readCov_skip, ↓ View.readCov_cons_toLoadRect, ↓ View.readCov_fill]
  frame_out
  unfold k0_pay16 k0_pay17
  generalize hX : k0_pay7 (F := Ideal) _ _ _ = XC
  generalize hE : k0_pay23 (F := Ideal) _ _ _ = EA
  generalize hA : k0_pay15 (F := Ideal) _ _ _ _ _ = AC
  generalize hD : k0_pay8 (F := Ideal) _ _ = DT
  generalize hY : View.readCov (Val := Elt Ideal) (View.whole (sig := sig) cc0_scratch2) _ _ = YV
  refine (normed_val YV (iblk m c 1 t) (iblk m c 10 t) _).trans (normed_eq m c t YV i q fun q => ?_)
  refine Eq.trans (b := ynext ((outsAt0 m c (t.val - 1) (by omega)).2.1) XC DT AC EA (iblk m c 9 t) i q) ?_ (ynext_eq m c t _ XC DT AC EA i q ?_ ?_ ?_ ?_ ?_)
  · rw [← hY, View.readCov_eq_canon']
    show View.canon _ _ = _
    rw [whole_idx]
    clear hY hX hE hA hD
    canon_tiles x h
    all_goals
      obtain rfl : i = ⟨(x 0).val, x0_lt⟩ := Fin.ext h0
      have hq : q.val = _ := h1
      open_payloads
      pointwise [ynext]
      simp only [sel_half _ x1_lt, sel_tri _ x0_lt, word_bot]
      by_cases hl : (x 1).val < 64
      · simp only [if_pos hl, Finset.sum_const_zero, add_zero]
        blk_point []
      · simp only [if_neg hl, Finset.sum_const_zero, zero_add]
        blk_point []
  · intro n
    have e := state m c hf q n ((t.val - 1) % 16) ⟨(t.val - 1) / 16, by have ht : t.val < 128 := t.isLt; omega⟩ (by omega)
    simp only [show 16 * ((t.val - 1) / 16) + (t.val - 1) % 16 = t.val - 1 by omega] at e
    rw [e]
    congr 1
    · exact Fin.ext (by show (t.val - 1) / 16 = t.val / 16; omega)
    · show (t.val - 1) % 16 + 1 = t.val % 16; omega
  · intro i q
    rw [← hX]
    exact xc_of m c t _ (fun q k => pre_B m c t _ h0 q k) i q
  · intro i k hk
    rw [← hD]
    exact dt_pt m c t i k hk
  · intro i k hk
    rw [← hA]
    exact ac_pt m c t i k hk
  · rw [← hE]
    exact ea_pt m c t i q

/-- The rows of every chunk. -/
theorem row_val (c : Dev nD) (hf : Below m c) (t : Fin cfg0.N) (i : Fin 128) (q : Fin 2048) :
    (outsAt0 m c t.val t.isLt).1 (ix2 i q) = (inp m c).out (seq t) (chk t) i q := by
  by_cases h0 : t.val % 16 = 0
  · exact row_A m c hf t h0 i q
  · exact row_B m c hf t h0 i q

end Cert.KernelIdeal.Scan
end
-- ==== Proof.ScanRef.lean ====
/- The reference's result, in the same formulas: the convolution, the running sums, the states of the chunks, the rows. -/
module

public import proofs.«01_k».proof.Proof.Gen.ReferenceIdeal.Read
public import proofs.«01_k».proof.Proof.ScanMath
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem
open scoped BigOperators

namespace Cert.ReferenceIdeal.Scan

open Cert.ReferenceIdeal Cert.ReferenceIdeal.Gen Cert.ReferenceIdeal.Read Cert.ScanMath

theorem word_bot : Ideal.ofBits .f32 0xFF800000#32 = ⊥ := by
  simp [Ideal.ofBits, Ideal.ieee]

/-- Adding up a list of all the numbers below a bound, from the left. -/
theorem foldl_add (N : ℕ) (f : Fin N → EReal) (v : EReal) : (List.finRange N).foldl (fun r n => r + f n) v = v + ∑ n, f n := by
  have h : ∀ (l : List (Fin N)) (v : EReal), l.foldl (fun r n => r + f n) v = v + (l.map f).sum := by
    intro l
    induction l with
    | nil => intro v; simp
    | cons a l ih => intro v; rw [List.foldl_cons, ih, List.map_cons, List.sum_cons, add_assoc]
  rw [h, ← List.ofFn_eq_map, List.sum_ofFn]

/-- The window of the running sum. -/
abbrev Win : Shape := ⟨5, ![1, 1, 128, 1, 1]⟩

/-- The positions of the window are the numbers below its height. -/
def winEquiv : Fin 128 ≃ Win.Idx where
  toFun n := ix5 (0 : Fin 1) (0 : Fin 1) n (0 : Fin 1) (0 : Fin 1)
  invFun w := w 2
  left_inv _ := rfl
  right_inv w := funext fun a => by
    fin_cases a
    · exact (Subsingleton.elim (α := Fin 1) _ _)
    · exact (Subsingleton.elim (α := Fin 1) _ _)
    · rfl
    · exact (Subsingleton.elim (α := Fin 1) _ _)
    · exact (Subsingleton.elim (α := Fin 1) _ _)

/-- What a position of the window reads. -/
def window (x : S8x16x128x4x8.Idx → EReal) (s : Fin 8) (c : Fin 16) (i : Fin 128) (g : Fin 4) (k : Fin 8) (v : EReal) (w : Win.Idx) : EReal :=
  if hin : ∀ a : Fin 5, (![0, 0, 127, 0, 0] : Fin 5 → ℕ) a ≤ (ix5 s c i g k a).val * (![1, 1, 1, 1, 1] : Fin 5 → ℕ) a + (w a).val
      ∧ (ix5 s c i g k a).val * (![1, 1, 1, 1, 1] : Fin 5 → ℕ) a + (w a).val - (![0, 0, 127, 0, 0] : Fin 5 → ℕ) a < S8x16x128x4x8.size a
  then x fun a => ⟨(ix5 s c i g k a).val * (![1, 1, 1, 1, 1] : Fin 5 → ℕ) a + (w a).val - (![0, 0, 127, 0, 0] : Fin 5 → ℕ) a, (hin a).2⟩ else v

theorem window_val (x : S8x16x128x4x8.Idx → EReal) (s : Fin 8) (c : Fin 16) (i : Fin 128) (g : Fin 4) (k : Fin 8) (n : Fin 128) :
    window x s c i g k 0 (winEquiv n) = if h : 127 ≤ i.val + n.val then x (ix5 s c ⟨i.val + n.val - 127, by omega⟩ g k) else 0 := by
  unfold window
  by_cases h : 127 ≤ i.val + n.val
  · have hin : ∀ a : Fin 5, (![0, 0, 127, 0, 0] : Fin 5 → ℕ) a ≤ (ix5 s c i g k a).val * (![1, 1, 1, 1, 1] : Fin 5 → ℕ) a + (winEquiv n a).val
        ∧ (ix5 s c i g k a).val * (![1, 1, 1, 1, 1] : Fin 5 → ℕ) a + (winEquiv n a).val - (![0, 0, 127, 0, 0] : Fin 5 → ℕ) a < S8x16x128x4x8.size a := by
      intro a
      fin_cases a
      · show 0 ≤ s.val * 1 + 0 ∧ s.val * 1 + 0 - 0 < 8; omega
      · show 0 ≤ c.val * 1 + 0 ∧ c.val * 1 + 0 - 0 < 16; omega
      · show 127 ≤ i.val * 1 + n.val ∧ i.val * 1 + n.val - 127 < 128; omega
      · show 0 ≤ g.val * 1 + 0 ∧ g.val * 1 + 0 - 0 < 4; omega
      · show 0 ≤ k.val * 1 + 0 ∧ k.val * 1 + 0 - 0 < 8; omega
    rw [dif_pos hin, dif_pos h]
    refine congrArg x (funext fun a => ?_)
    fin_cases a
    · exact Fin.ext (by show s.val * 1 + 0 - 0 = s.val; omega)
    · exact Fin.ext (by show c.val * 1 + 0 - 0 = c.val; omega)
    · exact Fin.ext (by show i.val * 1 + n.val - 127 = i.val + n.val - 127; omega)
    · exact Fin.ext (by show g.val * 1 + 0 - 0 = g.val; omega)
    · exact Fin.ext (by show k.val * 1 + 0 - 0 = k.val; omega)
  · rw [dif_neg h, dif_neg fun hin => ?_]
    have h2 : 127 ≤ i.val * 1 + n.val := (hin 2).1
    omega

/-- The window sum along the rows of a chunk is the running sum. -/
theorem cumsum_val (x : S8x16x128x4x8.Idx → EReal) (z : S_.Idx → EReal) (hz : ∀ y, z y = 0) (s : Fin 8) (c : Fin 16) (i : Fin 128) (g : Fin 4) (k : Fin 8) :
    Host.reduceWindowAdd (F := Ideal) (φ := .f32) ![1, 1, 128, 1, 1] ![1, 1, 1, 1, 1] ![0, 0, 127, 0, 0] ![0, 0, 0, 0, 0] x z
        reduceWindows_S8x16x128x4x8_S8x16x128x4x8_w1s1p0_0_w1s1p0_0_w128s1p127_0_w1s1p0_0_w1s1p0_0 h_S_ (ix5 s c i g k)
      = cum (fun j => x (ix5 s c j g k)) i := by
  show (List.finRange _).foldl _ _ = _
  rw [foldl_add, hz, zero_add]
  refine (Finset.sum_congr rfl fun n _ => (?_ : _ = window x s c i g k 0 (Win.rowMajor.symm n))).trans ?_
  · unfold window
    split_ifs with h1 h2 h2
    · rfl
    · exact absurd h1 h2
    · exact absurd h2 h1
    · rfl
  rw [Equiv.sum_comp Win.rowMajor.symm (window x s c i g k 0), ← Equiv.sum_comp winEquiv, cum]
  refine Eq.trans ?_ (Equiv.sum_comp (Equiv.addLeft (i + 1)) (fun j => if j ≤ i then x (ix5 s c j g k) else 0))
  refine Finset.sum_congr rfl fun n _ => (window_val x s c i g k _).trans ?_
  have hv : (i + 1 + n).val = (i.val + 1 + n.val) % 128 := by rw [Fin.val_add, Fin.val_add]; show ((i.val + 1) % 128 + n.val) % 128 = _; omega
  show (if h : 127 ≤ i.val + n.val then x (ix5 s c ⟨i.val + n.val - 127, _⟩ g k) else 0) = if i + 1 + n ≤ i then x (ix5 s c (i + 1 + n) g k) else 0
  by_cases h : 127 ≤ i.val + n.val
  · rw [dif_pos h, if_pos (Fin.le_def.mpr (by rw [hv]; omega))]
    exact congrArg (fun r => x (ix5 s c r g k)) (Fin.ext (by rw [hv]; show i.val + n.val - 127 = _; omega))
  · rw [dif_neg h, if_neg (fun h' => by have := Fin.le_def.mp h'; rw [hv] at this; omega)]

variable (I : Inp)

/-- The rows. -/
def a0 : FVec Ideal S16384x3072 .f32 := fun y => I.x ⟨(y 0).val, (y 0).2⟩ ⟨(y 1).val, (y 1).2⟩
/-- The gates. -/
def a1 : FVec Ideal S16384x2048 .f32 := fun y => I.z ⟨(y 0).val, (y 0).2⟩ ⟨(y 1).val, (y 1).2⟩
/-- The steps. -/
def a2 : FVec Ideal S16384x128 .f32 := fun y => I.d ⟨(y 0).val, (y 0).2⟩ ⟨(y 1).val, (y 1).2⟩
/-- The prefixes. -/
def a3 : FVec Ideal S8x3x3072 .f32 := fun y => I.p ⟨(y 0).val, (y 0).2⟩ ⟨(y 1).val, (y 1).2⟩ ⟨(y 2).val, (y 2).2⟩
/-- The first states. -/
def a4 : FVec Ideal S8x32x64x128 .f32 := fun y =>
  I.h ⟨(y 0).val, (y 0).2⟩ ⟨64 * (y 1).val + (y 2).val, by have h : (y 1).val < 32 := (y 1).2; have h' : (y 2).val < 64 := (y 2).2; omega⟩ ⟨(y 3).val, (y 3).2⟩
/-- The taps. -/
def a5 : FVec Ideal S4x3072 .f32 := fun y => I.w ⟨(y 0).val, (y 0).2⟩ ⟨(y 1).val, (y 1).2⟩
/-- The bias of the convolution. -/
def a6 : FVec Ideal S3072 .f32 := fun y => I.b ⟨(y 0).val, (y 0).2⟩
/-- The bias of the steps. -/
def a7 : FVec Ideal S32 .f32 := fun y => I.db ⟨(y 0).val, (y 0).2⟩
/-- The decay rates. -/
def a8 : FVec Ideal S32 .f32 := fun y => I.al ⟨(y 0).val, (y 0).2⟩
/-- The skip weights. -/
def a9 : FVec Ideal S32 .f32 := fun y => I.ds ⟨(y 0).val, (y 0).2⟩
/-- The norm weights. -/
def a10 : FVec Ideal S2048 .f32 := fun y => I.nw ⟨(y 0).val, (y 0).2⟩

/-- The rows behind the prefix. -/
theorem xp_val (s : Fin 8) (n : Fin 2051) (q : Fin 3072) : val_main_v1 (F := Ideal) (a0 I) (a3 I) (ix3 s n q) = I.xp s n.val q := by
  pointwise [val_main_v1, val_main_v0]
  unfold Inp.xp
  by_cases h : n.val < 3
  · rw [dif_pos h, dif_pos h]; rfl
  · rw [dif_neg h, dif_neg h, dif_pos (by omega)]
    exact congrArg (fun r => I.x r q) (Fin.ext (by show s.val * 2048 + (n.val - 3) = 2048 * s.val + (n.val - 3); omega))

/-- The convolved and gated rows. -/
theorem xc_val (s : Fin 8) (l : Fin 2048) (q : Fin 3072) (c : Fin 16) (i : Fin 128) (h : l.val = 128 * c.val + i.val) :
    val_main_v32 (F := Ideal) (a0 I) (a3 I) (a5 I) (a6 I) (ix3 s l q) = I.xc s c i q := by
  pointwise [val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_call0_v0, val_main_call0_v1, val_main_call0_cst, val_main_call0_v2, val_main_call0_v3, val_main_call0_cst_0, val_main_call0_v4, val_main_call0_v5, val_main_v32]
  simp only [xp_val]
  unfold Inp.xc Inp.cv conv Ideal.logistic
  rw [show 1 + l.val = 128 * c.val + i.val + 1 by omega, show 2 + l.val = 128 * c.val + i.val + 2 by omega,
    show 3 + l.val = 128 * c.val + i.val + 3 by omega, h]
  simp only [mul_comm (I.xp s _ q)]
  rfl

/-- The step lengths. -/
theorem dt_val (s : Fin 8) (l : Fin 2048) (k : Fin 32) (c : Fin 16) (i : Fin 128) (h : l.val = 128 * c.val + i.val) :
    val_main_v41 (F := Ideal) (a2 I) (a7 I) (ix3 s l k) = I.dt s c i k := by
  pointwise [val_main_v36, val_main_v37, val_main_v38, val_main_v39, val_main_v40, val_main_call1_cst, val_main_call1_v0, val_main_call1_v1, val_main_call1_v2, val_main_call1_v3, val_main_call1_v4, val_main_call1_v5, val_main_call1_v6, val_main_call1_v7, val_main_call1_v8, val_main_call1_v9, val_main_call1_v10, val_main_call1_v11, val_main_v41]
  rw [if_neg (not_not_intro rfl)]
  unfold Inp.dt soft
  have e : a2 I (ix2 ⟨s.val * 2048 + l.val, by omega⟩ ⟨k.val, by omega⟩) = I.d (Inp.row s c i) ⟨k.val, by omega⟩ :=
    congrArg (fun r => I.d r _) (Fin.ext (by show s.val * 2048 + l.val = 2048 * s.val + 128 * c.val + i.val; omega))
  rw [e, zero_sub]
  rfl

theorem xc_at (s : Fin 8) (c : Fin 16) (i : Fin 128) (q : Fin 3072) :
    val_main_v32 (F := Ideal) (a0 I) (a3 I) (a5 I) (a6 I) (ix3 s ⟨c.val * 128 + i.val, by omega⟩ q) = I.xc s c i q :=
  xc_val I s _ q c i (by show c.val * 128 + i.val = _; omega)

theorem dt_at (s : Fin 8) (c : Fin 16) (i : Fin 128) (k : Fin 32) :
    val_main_v41 (F := Ideal) (a2 I) (a7 I) (ix3 s ⟨c.val * 128 + i.val, by omega⟩ k) = I.dt s c i k :=
  dt_val I s _ k c i (by show c.val * 128 + i.val = _; omega)

/-- The running sums of the decays. -/
theorem ac_val (s : Fin 8) (c : Fin 16) (i : Fin 128) (g : Fin 4) (h : Fin 8) (k : Fin 32) (hk : k.val = 8 * g.val + h.val) :
    val_main_v55 (F := Ideal) (a2 I) (a7 I) (a8 I) (ix5 s c i g h) = I.ac s c k i := by
  unfold val_main_v55
  rw [cumsum_val _ _ (fun y => by pointwise [val_main_call2_call0_v0, val_main_call2_call0_cst])]
  unfold Inp.ac
  refine congrArg (fun f => cum f i) (funext fun j => ?_)
  pointwise [val_main_v42, val_main_v43, val_main_v49, val_main_v50, val_main_v51, val_main_v52]
  rw [dt_val I s _ _ c j (by show c.val * 128 + j.val = _; omega), zero_sub]
  have e : (⟨g.val * 8 + h.val, by omega⟩ : Fin 32) = k := Fin.ext (by show g.val * 8 + h.val = _; omega)
  rw [e]
  rfl

/-- The decays between the rows of a chunk. -/
theorem dec_val (s : Fin 8) (c : Fin 16) (i j : Fin 128) (g : Fin 4) (h : Fin 8) (k : Fin 32) (hk : k.val = 8 * g.val + h.val) :
    val_main_v69 (F := Ideal) (a2 I) (a7 I) (a8 I) (ix6 s c i j g h) = I.dec s c k i j := by
  pointwise [val_main_v56, val_main_v57, val_main_v58, val_main_v59, val_main_v60, val_main_v61, val_main_v62, val_main_v63, val_main_v64, val_main_v65, val_main_v66, val_main_v67, val_main_cst, val_main_call3_v0, val_main_call3_v1, val_main_call3_v2, val_main_v68, val_main_v69]
  rw [ac_val I s c i g h k hk, ac_val I s c j g h k hk, Idealize.ShloMosaic.WordCmp.cmpi_sge_ofNat (by omega) (by omega)]
  show Ideal.exp (Scalar.select _ _ (Ideal.ofBits .f32 0xFF800000#32)) = _
  rw [word_bot, Inp.dec]
  by_cases hj : j ≤ i
  · rw [if_pos hj, decide_eq_true (Fin.le_def.mp hj)]; rfl
  · rw [if_neg hj, decide_eq_false (fun h' => hj (Fin.le_def.mpr h'))]; rfl

/-- What a row takes from the rows of its own chunk. -/
theorem dia_val (s : Fin 8) (c : Fin 16) (i : Fin 128) (g : Fin 4) (h : Fin 8) (p : Fin 64) (q : Fin 2048) (hq : q.val = 512 * g.val + 64 * h.val + p.val) :
    val_main_v76 (F := Ideal) (a0 I) (a2 I) (a3 I) (a5 I) (a6 I) (a7 I) (a8 I) (ix6 s c i g h p) = I.dia s c i q := by
  pointwise [val_main_v33, val_main_v34, val_main_v35, val_main_v44, val_main_v45, val_main_v46, val_main_v47, val_main_v48, val_main_v53, val_main_v54, val_main_v70, val_main_v71, val_main_v72, val_main_v73, val_main_v74, val_main_v75, val_main_v76]
  rw [Inp.dia]
  refine Finset.sum_congr rfl fun x _ => ?_
  simp only [xc_at, dt_at]
  rw [dec_val I s c i x g h (Inp.head q) (by show q.val / 64 = _; omega)]
  have e1 : (⟨(g.val * 8 + h.val) * 64 + p.val, by omega⟩ : Fin 3072) = ⟨q.val, by omega⟩ := Fin.ext (by show (g.val * 8 + h.val) * 64 + p.val = q.val; omega)
  have e2 : (⟨g.val * 8 + h.val, by omega⟩ : Fin 32) = Inp.head q := Fin.ext (by show g.val * 8 + h.val = q.val / 64; omega)
  have e3 : ∑ n : Fin 128, I.xc s c x ⟨2048 + (g.val * 128 + n.val), by omega⟩ * I.xc s c i ⟨2560 + (g.val * 128 + n.val), by omega⟩ = I.cb s c q i x := by
    rw [Inp.cb]
    refine Finset.sum_congr rfl fun n _ => ?_
    rw [mul_comm]
    have h1 : (⟨2048 + (g.val * 128 + n.val), by omega⟩ : Fin 3072) = ⟨2048 + 128 * (q.val / 512) + n.val, by omega⟩ := Fin.ext (by show 2048 + (g.val * 128 + n.val) = 2048 + 128 * (q.val / 512) + n.val; omega)
    have h2 : (⟨2560 + (g.val * 128 + n.val), by omega⟩ : Fin 3072) = ⟨2560 + 128 * (q.val / 512) + n.val, by omega⟩ := Fin.ext (by show 2560 + (g.val * 128 + n.val) = 2560 + 128 * (q.val / 512) + n.val; omega)
    rw [h1, h2]
  rw [e1, e2, e3]
  ac_rfl

/-- What a chunk adds to the state. -/
theorem inc_val (s : Fin 8) (c : Fin 16) (g : Fin 4) (h : Fin 8) (p : Fin 64) (n : Fin 128) (q : Fin 2048) (hq : q.val = 512 * g.val + 64 * h.val + p.val) :
    val_main_v84 (F := Ideal) (a0 I) (a2 I) (a3 I) (a5 I) (a6 I) (a7 I) (a8 I) (ix6 s c g h p n) = I.inc s c q n := by
  pointwise [val_main_v33, val_main_v34, val_main_v44, val_main_v45, val_main_v46, val_main_v47, val_main_v48, val_main_v53, val_main_v77, val_main_v78, val_main_v79, val_main_v80, val_main_v81, val_main_v82, val_main_v83, val_main_v84]
  rw [Inp.inc]
  refine Finset.sum_congr rfl fun x _ => ?_
  have hk : (Inp.head q).val = 8 * g.val + h.val := by show q.val / 64 = _; omega
  simp only [xc_at, dt_at]
  rw [ac_val I s c 127 g h _ hk, ac_val I s c x g h _ hk, Inp.wt]
  have e1 : (⟨(g.val * 8 + h.val) * 64 + p.val, by omega⟩ : Fin 3072) = ⟨q.val, by omega⟩ := Fin.ext (by show (g.val * 8 + h.val) * 64 + p.val = q.val; omega)
  have e2 : (⟨g.val * 8 + h.val, by omega⟩ : Fin 32) = Inp.head q := Fin.ext (by show g.val * 8 + h.val = q.val / 64; omega)
  have e3 : (⟨2048 + (g.val * 128 + n.val), by omega⟩ : Fin 3072) = ⟨2048 + 128 * (q.val / 512) + n.val, by omega⟩ := Fin.ext (by show 2048 + (g.val * 128 + n.val) = 2048 + 128 * (q.val / 512) + n.val; omega)
  rw [e1, e2, e3]
  ac_rfl

/-- The decay over a whole chunk. -/
theorem end_val (s : Fin 8) (c : Fin 16) (g : Fin 4) (h : Fin 8) (k : Fin 32) (hk : k.val = 8 * g.val + h.val) :
    val_main_v87 (F := Ideal) (a2 I) (a7 I) (a8 I) (ix4 s c g h) = Ideal.exp (I.ac s c k 127) := by
  pointwise [val_main_v85, val_main_v86, val_main_v87]
  rw [ac_val I s c 127 g h k hk]

theorem st_0 (s : Fin 8) (g : Fin 4) (h : Fin 8) (p : Fin 64) (n : Fin 128) (q : Fin 2048) (hq : q.val = 512 * g.val + 64 * h.val + p.val) :
    val_main_v88 (F := Ideal) (a4 I) (ix5 s g h p n) = I.st s 0 q n := by
  pointwise [val_main_v88]
  show I.h _ _ _ = I.h _ _ _
  exact congrArg (fun r => I.h s r n) (Fin.ext (by show 64 * (g.val * 8 + h.val) + p.val = q.val; omega))

theorem st_step (s : Fin 8) (c : Fin 16) (g : Fin 4) (h : Fin 8) (p : Fin 64) (n : Fin 128) (q : Fin 2048) (hq : q.val = 512 * g.val + 64 * h.val + p.val) :
    I.st s c.val q n * val_main_v87 (F := Ideal) (a2 I) (a7 I) (a8 I) (ix4 s c g h)
      + val_main_v84 (F := Ideal) (a0 I) (a2 I) (a3 I) (a5 I) (a6 I) (a7 I) (a8 I) (ix6 s c g h p n) = I.st s (c.val + 1) q n := by
  rw [end_val I s c g h (Inp.head q) (by show q.val / 64 = _; omega), inc_val I s c g h p n q hq, Inp.st, dif_pos c.isLt]

theorem st_1 (s : Fin 8) (g : Fin 4) (h : Fin 8) (p : Fin 64) (n : Fin 128) (q : Fin 2048) (hq : q.val = 512 * g.val + 64 * h.val + p.val) :
    val_main_v96 (F := Ideal) (a0 I) (a2 I) (a3 I) (a4 I) (a5 I) (a6 I) (a7 I) (a8 I) (ix5 s g h p n) = I.st s 1 q n := by
  pointwise [val_main_v89, val_main_v90, val_main_v91, val_main_v92, val_main_v93, val_main_v94, val_main_v95, val_main_v96]
  rw [st_0 I s g h p n q hq]
  exact st_step I s 0 g h p n q hq

theorem st_2 (s : Fin 8) (g : Fin 4) (h : Fin 8) (p : Fin 64) (n : Fin 128) (q : Fin 2048) (hq : q.val = 512 * g.val + 64 * h.val + p.val) :
    val_main_v104 (F := Ideal) (a0 I) (a2 I) (a3 I) (a4 I) (a5 I) (a6 I) (a7 I) (a8 I) (ix5 s g h p n) = I.st s 2 q n := by
  pointwise [val_main_v97, val_main_v98, val_main_v99, val_main_v100, val_main_v101, val_main_v102, val_main_v103, val_main_v104]
  rw [st_1 I s g h p n q hq]
  exact st_step I s 1 g h p n q hq

theorem st_3 (s : Fin 8) (g : Fin 4) (h : Fin 8) (p : Fin 64) (n : Fin 128) (q : Fin 2048) (hq : q.val = 512 * g.val + 64 * h.val + p.val) :
    val_main_v112 (F := Ideal) (a0 I) (a2 I) (a3 I) (a4 I) (a5 I) (a6 I) (a7 I) (a8 I) (ix5 s g h p n) = I.st s 3 q n := by
  pointwise [val_main_v105, val_main_v106, val_main_v107, val_main_v108, val_main_v109, val_main_v110, val_main_v111, val_main_v112]
  rw [st_2 I s g h p n q hq]
  exact st_step I s 2 g h p n q hq

theorem st_4 (s : Fin 8) (g : Fin 4) (h : Fin 8) (p : Fin 64) (n : Fin 128) (q : Fin 2048) (hq : q.val = 512 * g.val + 64 * h.val + p.val) :
    val_main_v120 (F := Ideal) (a0 I) (a2 I) (a3 I) (a4 I) (a5 I) (a6 I) (a7 I) (a8 I) (ix5 s g h p n) = I.st s 4 q n := by
  pointwise [val_main_v113, val_main_v114, val_main_v115, val_main_v116, val_main_v117, val_main_v118, val_main_v119, val_main_v120]
  rw [st_3 I s g h p n q hq]
  exact st_step I s 3 g h p n q hq

theorem st_5 (s : Fin 8) (g : Fin 4) (h : Fin 8) (p : Fin 64) (n : Fin 128) (q : Fin 2048) (hq : q.val = 512 * g.val + 64 * h.val + p.val) :
    val_main_v128 (F := Ideal) (a0 I) (a2 I) (a3 I) (a4 I) (a5 I) (a6 I) (a7 I) (a8 I) (ix5 s g h p n) = I.st s 5 q n := by
  pointwise [val_main_v121, val_main_v122, val_main_v123, val_main_v124, val_main_v125, val_main_v126, val_main_v127, val_main_v128]
  rw [st_4 I s g h p n q hq]
  exact st_step I s 4 g h p n q hq

theorem st_6 (s : Fin 8) (g : Fin 4) (h : Fin 8) (p : Fin 64) (n : Fin 128) (q : Fin 2048) (hq : q.val = 512 * g.val + 64 * h.val + p.val) :
    val_main_v136 (F := Ideal) (a0 I) (a2 I) (a3 I) (a4 I) (a5 I) (a6 I) (a7 I) (a8 I) (ix5 s g h p n) = I.st s 6 q n := by
  pointwise [val_main_v129, val_main_v130, val_main_v131, val_main_v132, val_main_v133, val_main_v134, val_main_v135, val_main_v136]
  rw [st_5 I s g h p n q hq]
  exact st_step I s 5 g h p n q hq

theorem st_7 (s : Fin 8) (g : Fin 4) (h : Fin 8) (p : Fin 64) (n : Fin 128) (q : Fin 2048) (hq : q.val = 512 * g.val + 64 * h.val + p.val) :
    val_main_v144 (F := Ideal) (a0 I) (a2 I) (a3 I) (a4 I) (a5 I) (a6 I) (a7 I) (a8 I) (ix5 s g h p n) = I.st s 7 q n := by
  pointwise [val_main_v137, val_main_v138, val_main_v139, val_main_v140, val_main_v141, val_main_v142, val_main_v143, val_main_v144]
  rw [st_6 I s g h p n q hq]
  exact st_step I s 6 g h p n q hq

theorem st_8 (s : Fin 8) (g : Fin 4) (h : Fin 8) (p : Fin 64) (n : Fin 128) (q : Fin 2048) (hq : q.val = 512 * g.val + 64 * h.val + p.val) :
    val_main_v152 (F := Ideal) (a0 I) (a2 I) (a3 I) (a4 I) (a5 I) (a6 I) (a7 I) (a8 I) (ix5 s g h p n) = I.st s 8 q n := by
  pointwise [val_main_v145, val_main_v146, val_main_v147, val_main_v148, val_main_v149, val_main_v150, val_main_v151, val_main_v152]
  rw [st_7 I s g h p n q hq]
  exact st_step I s 7 g h p n q hq

theorem st_9 (s : Fin 8) (g : Fin 4) (h : Fin 8) (p : Fin 64) (n : Fin 128) (q : Fin 2048) (hq : q.val = 512 * g.val + 64 * h.val + p.val) :
    val_main_v160 (F := Ideal) (a0 I) (a2 I) (a3 I) (a4 I) (a5 I) (a6 I) (a7 I) (a8 I) (ix5 s g h p n) = I.st s 9 q n := by
  pointwise [val_main_v153, val_main_v154, val_main_v155, val_main_v156, val_main_v157, val_main_v158, val_main_v159, val_main_v160]
  rw [st_8 I s g h p n q hq]
  exact st_step I s 8 g h p n q hq

theorem st_10 (s : Fin 8) (g : Fin 4) (h : Fin 8) (p : Fin 64) (n : Fin 128) (q : Fin 2048) (hq : q.val = 512 * g.val + 64 * h.val + p.val) :
    val_main_v168 (F := Ideal) (a0 I) (a2 I) (a3 I) (a4 I) (a5 I) (a6 I) (a7 I) (a8 I) (ix5 s g h p n) = I.st s 10 q n := by
  pointwise [val_main_v161, val_main_v162, val_main_v163, val_main_v164, val_main_v165, val_main_v166, val_main_v167, val_main_v168]
  rw [st_9 I s g h p n q hq]
  exact st_step I s 9 g h p n q hq

theorem st_11 (s : Fin 8) (g : Fin 4) (h : Fin 8) (p : Fin 64) (n : Fin 128) (q : Fin 2048) (hq : q.val = 512 * g.val + 64 * h.val + p.val) :
    val_main_v176 (F := Ideal) (a0 I) (a2 I) (a3 I) (a4 I) (a5 I) (a6 I) (a7 I) (a8 I) (ix5 s g h p n) = I.st s 11 q n := by
  pointwise [val_main_v169, val_main_v170, val_main_v171, val_main_v172, val_main_v173, val_main_v174, val_main_v175, val_main_v176]
  rw [st_10 I s g h p n q hq]
  exact st_step I s 10 g h p n q hq

theorem st_12 (s : Fin 8) (g : Fin 4) (h : Fin 8) (p : Fin 64) (n : Fin 128) (q : Fin 2048) (hq : q.val = 512 * g.val + 64 * h.val + p.val) :
    val_main_v184 (F := Ideal) (a0 I) (a2 I) (a3 I) (a4 I) (a5 I) (a6 I) (a7 I) (a8 I) (ix5 s g h p n) = I.st s 12 q n := by
  pointwise [val_main_v177, val_main_v178, val_main_v179, val_main_v180, val_main_v181, val_main_v182, val_main_v183, val_main_v184]
  rw [st_11 I s g h p n q hq]
  exact st_step I s 11 g h p n q hq

theorem st_13 (s : Fin 8) (g : Fin 4) (h : Fin 8) (p : Fin 64) (n : Fin 128) (q : Fin 2048) (hq : q.val = 512 * g.val + 64 * h.val + p.val) :
    val_main_v192 (F := Ideal) (a0 I) (a2 I) (a3 I) (a4 I) (a5 I) (a6 I) (a7 I) (a8 I) (ix5 s g h p n) = I.st s 13 q n := by
  pointwise [val_main_v185, val_main_v186, val_main_v187, val_main_v188, val_main_v189, val_main_v190, val_main_v191, val_main_v192]
  rw [st_12 I s g h p n q hq]
  exact st_step I s 12 g h p n q hq

theorem st_14 (s : Fin 8) (g : Fin 4) (h : Fin 8) (p : Fin 64) (n : Fin 128) (q : Fin 2048) (hq : q.val = 512 * g.val + 64 * h.val + p.val) :
    val_main_v200 (F := Ideal) (a0 I) (a2 I) (a3 I) (a4 I) (a5 I) (a6 I) (a7 I) (a8 I) (ix5 s g h p n) = I.st s 14 q n := by
  pointwise [val_main_v193, val_main_v194, val_main_v195, val_main_v196, val_main_v197, val_main_v198, val_main_v199, val_main_v200]
  rw [st_13 I s g h p n q hq]
  exact st_step I s 13 g h p n q hq

theorem st_15 (s : Fin 8) (g : Fin 4) (h : Fin 8) (p : Fin 64) (n : Fin 128) (q : Fin 2048) (hq : q.val = 512 * g.val + 64 * h.val + p.val) :
    val_main_v208 (F := Ideal) (a0 I) (a2 I) (a3 I) (a4 I) (a5 I) (a6 I) (a7 I) (a8 I) (ix5 s g h p n) = I.st s 15 q n := by
  pointwise [val_main_v201, val_main_v202, val_main_v203, val_main_v204, val_main_v205, val_main_v206, val_main_v207, val_main_v208]
  rw [st_14 I s g h p n q hq]
  exact st_step I s 14 g h p n q hq

theorem st_16 (s : Fin 8) (g : Fin 4) (h : Fin 8) (p : Fin 64) (n : Fin 128) (q : Fin 2048) (hq : q.val = 512 * g.val + 64 * h.val + p.val) :
    val_main_v216 (F := Ideal) (a0 I) (a2 I) (a3 I) (a4 I) (a5 I) (a6 I) (a7 I) (a8 I) (ix5 s g h p n) = I.st s 16 q n := by
  pointwise [val_main_v209, val_main_v210, val_main_v211, val_main_v212, val_main_v213, val_main_v214, val_main_v215, val_main_v216]
  rw [st_15 I s g h p n q hq]
  exact st_step I s 15 g h p n q hq

/-- The state before a chunk, the chunks in a row. -/
theorem st_val (s : Fin 8) (c : Fin 16) (g : Fin 4) (h : Fin 8) (p : Fin 64) (n : Fin 128) (q : Fin 2048) (hq : q.val = 512 * g.val + 64 * h.val + p.val) :
    val_main_v233 (F := Ideal) (a0 I) (a2 I) (a3 I) (a4 I) (a5 I) (a6 I) (a7 I) (a8 I) (ix6 s c g h p n) = I.st s c.val q n := by
  pointwise [val_main_v217, val_main_v218, val_main_v219, val_main_v220, val_main_v221, val_main_v222, val_main_v223, val_main_v224, val_main_v225, val_main_v226, val_main_v227, val_main_v228, val_main_v229, val_main_v230, val_main_v231, val_main_v232, val_main_v233]
  obtain ⟨c, hc⟩ := c
  dsimp only
  interval_cases c
  · exact st_0 I s g h p n q hq
  · exact st_1 I s g h p n q hq
  · exact st_2 I s g h p n q hq
  · exact st_3 I s g h p n q hq
  · exact st_4 I s g h p n q hq
  · exact st_5 I s g h p n q hq
  · exact st_6 I s g h p n q hq
  · exact st_7 I s g h p n q hq
  · exact st_8 I s g h p n q hq
  · exact st_9 I s g h p n q hq
  · exact st_10 I s g h p n q hq
  · exact st_11 I s g h p n q hq
  · exact st_12 I s g h p n q hq
  · exact st_13 I s g h p n q hq
  · exact st_14 I s g h p n q hq
  · exact st_15 I s g h p n q hq

/-- The row before the gate. -/
theorem ssm_val (s : Fin 8) (l q : Fin 2048) (c : Fin 16) (i : Fin 128) (h : l.val = 128 * c.val + i.val) :
    val_main_v247 (F := Ideal) (a0 I) (a2 I) (a3 I) (a4 I) (a5 I) (a6 I) (a7 I) (a8 I) (a9 I) (ix3 s l q) = I.ssm s c i q := by
  pointwise [val_main_v33, val_main_v35, val_main_v44, val_main_v54, val_main_v234, val_main_v235, val_main_v236, val_main_v237, val_main_v238, val_main_v239, val_main_v240, val_main_v241, val_main_v242, val_main_v243, val_main_v244, val_main_v245, val_main_v246, val_main_v247]
  have hl1 : (⟨l.val / 128, by omega⟩ : Fin 16) = c := Fin.ext (by show l.val / 128 = _; omega)
  have hl2 : (⟨l.val % 128, by omega⟩ : Fin 128) = i := Fin.ext (by show l.val % 128 = _; omega)
  have hq : q.val = 512 * (q.val / 64 / 8) + 64 * (q.val / 64 % 8) + q.val % 64 := by omega
  simp only [hl1, hl2, xc_val I s l _ c i h]
  rw [dia_val I s c i _ _ _ q hq, ac_val I s c i _ _ (Inp.head q) (by show q.val / 64 = 8 * (q.val / 64 / 8) + q.val / 64 % 8; omega), Inp.ssm]
  have e : ∀ n : Fin 128, (⟨2560 + (q.val / 64 / 8 * 128 + n.val), by omega⟩ : Fin 3072) = ⟨2560 + 128 * (q.val / 512) + n.val, by omega⟩ :=
    fun n => Fin.ext (by show 2560 + (q.val / 64 / 8 * 128 + n.val) = 2560 + 128 * (q.val / 512) + n.val; omega)
  simp only [e, st_val I s c ⟨q.val / 64 / 8, by omega⟩ ⟨q.val / 64 % 8, by omega⟩ ⟨q.val % 64, by omega⟩ _ q hq, mul_comm (I.st s c.val q _)]
  rfl

/-- The gated row. -/
theorem gt_val (s : Fin 8) (l q : Fin 2048) (c : Fin 16) (i : Fin 128) (h : l.val = 128 * c.val + i.val) :
    val_main_v250 (F := Ideal) (a0 I) (a1 I) (a2 I) (a3 I) (a4 I) (a5 I) (a6 I) (a7 I) (a8 I) (a9 I) (ix3 s l q) = I.gt s c i q := by
  pointwise [val_main_v248, val_main_call4_v0, val_main_call4_v1, val_main_call4_cst, val_main_call4_v2, val_main_call4_v3, val_main_call4_cst_0, val_main_call4_v4, val_main_call4_v5, val_main_v249, val_main_v250]
  rw [ssm_val I s l q c i h, Inp.gt]
  have e : a1 I (ix2 ⟨s.val * 2048 + l.val, by omega⟩ q) = I.z (Inp.row s c i) q :=
    congrArg (fun r => I.z r q) (Fin.ext (by show s.val * 2048 + l.val = 2048 * s.val + 128 * c.val + i.val; omega))
  rw [e]
  rfl

/-- The first result. -/
theorem out_val (r : Fin 16384) (q : Fin 2048) (s : Fin 8) (c : Fin 16) (i : Fin 128) (h : r = Inp.row s c i) :
    val_main_v267 (F := Ideal) (a0 I) (a1 I) (a2 I) (a3 I) (a4 I) (a5 I) (a6 I) (a7 I) (a8 I) (a9 I) (a10 I) (ix2 r q) = I.out s c i q := by
  pointwise [val_main_v251, val_main_v252, val_main_cst_0, val_main_v253, val_main_v254, val_main_cst_1, val_main_v255, val_main_v256, val_main_cst_2, val_main_v257, val_main_v258, val_main_v259, val_main_v260, val_main_v261, val_main_v262, val_main_v263, val_main_v264, val_main_v265, val_main_v266, val_main_v267]
  have hr : r.val = 2048 * s.val + 128 * c.val + i.val := by rw [h]
  have e1 : (⟨r.val / 2048, by omega⟩ : Fin 8) = s := Fin.ext (by show r.val / 2048 = _; omega)
  have e2 : ∀ n : Fin 512, (⟨q.val / 512 * 512 + n.val, by omega⟩ : Fin 2048) = ⟨512 * (q.val / 512) + n.val, by omega⟩ :=
    fun n => Fin.ext (by show q.val / 512 * 512 + n.val = 512 * (q.val / 512) + n.val; omega)
  simp only [e1, e2, gt_val I s ⟨r.val % 2048, by omega⟩ _ c i (by show r.val % 2048 = _; omega)]
  rfl

/-- The second result. -/
theorem last_val (s : Fin 8) (q : Fin 2048) (n : Fin 128) :
    val_main_v268 (F := Ideal) (a0 I) (a2 I) (a3 I) (a4 I) (a5 I) (a6 I) (a7 I) (a8 I) (ix3 s q n) = I.st s 16 q n := by
  pointwise [val_main_v268]
  exact st_16 I s _ _ _ n q (by show q.val = 512 * (q.val / 512) + 64 * (q.val / 64 % 8) + q.val % 64; omega)

end Cert.ReferenceIdeal.Scan
end
-- ==== Proof.ScanFinal.lean ====
/- The result arrays of the recurrence are the reference's. -/
module

public import proofs.«01_k».proof.Proof.ScanRow
public import proofs.«01_k».proof.Proof.ScanRef

@[expose] public section

set_option maxRecDepth 16384

noncomputable section

namespace Cert.KernelIdeal.Scan

open Idealize.ShloMosaic Idealize.ShloMosaic.TcCoe Idealize.SL.Sem
open Cert.KernelIdeal Cert.KernelIdeal.Gen Cert.KernelIdeal.Value

open Cert.ScanMath
variable (m : (ℓ : Loc nD τ sig) → Buf (Elt Ideal) ℓ)

theorem arg0_eq (c : Dev nD) : m ((c : Thread nD τ).loc main_arg0) = ReferenceIdeal.Scan.a0 (inp m c) := funext fun y =>
  congrArg (m ((c : Thread nD τ).loc main_arg0)) (funext fun a => by fin_cases a <;> rfl)

theorem arg1_eq (c : Dev nD) : m ((c : Thread nD τ).loc main_arg1) = ReferenceIdeal.Scan.a1 (inp m c) := funext fun y =>
  congrArg (m ((c : Thread nD τ).loc main_arg1)) (funext fun a => by fin_cases a <;> rfl)

theorem arg2_eq (c : Dev nD) : m ((c : Thread nD τ).loc main_arg2) = ReferenceIdeal.Scan.a2 (inp m c) := funext fun y =>
  congrArg (m ((c : Thread nD τ).loc main_arg2)) (funext fun a => by fin_cases a <;> rfl)

theorem arg3_eq (c : Dev nD) : m ((c : Thread nD τ).loc main_arg3) = ReferenceIdeal.Scan.a3 (inp m c) := funext fun y =>
  congrArg (m ((c : Thread nD τ).loc main_arg3)) (funext fun a => by fin_cases a <;> rfl)

theorem arg4_eq (c : Dev nD) : m ((c : Thread nD τ).loc main_arg4) = ReferenceIdeal.Scan.a4 (inp m c) := funext fun y => by
  refine congrArg (m ((c : Thread nD τ).loc main_arg4)) (funext fun a => ?_)
  have h1 : (y 1).val < 32 := (y 1).2
  have h2 : (y 2).val < 64 := (y 2).2
  fin_cases a
  · rfl
  · exact Fin.ext (by show (y 1).val = (64 * (y 1).val + (y 2).val) / 64; omega)
  · exact Fin.ext (by show (y 2).val = (64 * (y 1).val + (y 2).val) % 64; omega)
  · rfl

theorem arg5_eq (c : Dev nD) : m ((c : Thread nD τ).loc main_arg5) = ReferenceIdeal.Scan.a5 (inp m c) := funext fun y =>
  congrArg (m ((c : Thread nD τ).loc main_arg5)) (funext fun a => by fin_cases a <;> rfl)

theorem arg6_eq (c : Dev nD) : m ((c : Thread nD τ).loc main_arg6) = ReferenceIdeal.Scan.a6 (inp m c) := funext fun y =>
  congrArg (m ((c : Thread nD τ).loc main_arg6)) (funext fun a => by fin_cases a <;> rfl)

theorem arg7_eq (c : Dev nD) : m ((c : Thread nD τ).loc main_arg7) = ReferenceIdeal.Scan.a7 (inp m c) := funext fun y =>
  congrArg (m ((c : Thread nD τ).loc main_arg7)) (funext fun a => by fin_cases a <;> rfl)

theorem arg8_eq (c : Dev nD) : m ((c : Thread nD τ).loc main_arg8) = ReferenceIdeal.Scan.a8 (inp m c) := funext fun y =>
  congrArg (m ((c : Thread nD τ).loc main_arg8)) (funext fun a => by fin_cases a <;> rfl)

theorem arg9_eq (c : Dev nD) : m ((c : Thread nD τ).loc main_arg9) = ReferenceIdeal.Scan.a9 (inp m c) := funext fun y =>
  congrArg (m ((c : Thread nD τ).loc main_arg9)) (funext fun a => by fin_cases a <;> rfl)

theorem arg10_eq (c : Dev nD) : m ((c : Thread nD τ).loc main_arg10) = ReferenceIdeal.Scan.a10 (inp m c) := funext fun y =>
  congrArg (m ((c : Thread nD τ).loc main_arg10)) (funext fun a => by fin_cases a <;> rfl)

theorem idx13 : ∀ t : Fin cfg0.N, win0_13.index t = ![t.val, 0] := (by decide +kernel : ∀ t : Fin grid0.N, win0_13.index t = ![t.val, 0])

theorem idx14 : ∀ t : Fin cfg0.N, win0_14.index t = ![t.val / 16, 0, 0] := (by decide +kernel : ∀ t : Fin grid0.N, win0_14.index t = ![t.val / 16, 0, 0])

/-- Where a block of rows lies. -/
theorem emb13 (t : Fin cfg0.N) (i : Fin 128) (q : Fin 2048) :
    ((cfg0.win 13).blk t).view.emb (ix2 i q : S128x2048.Idx) = (ix2 (Inp.row (seq t) (chk t) i) q : S16384x2048.Idx) := by
  refine funext fun a => Fin.ext ?_
  blk_simp
  rw [idx13 t]
  fin_cases a
  · show t.val * 128 + i.val = 2048 * (t.val / 16) + 128 * (t.val % 16) + i.val; omega
  · show 0 * 2048 + q.val = q.val; omega

/-- Where a sequence's state lies. -/
theorem emb14 (t : Fin cfg0.N) (r : Fin 2048) (n : Fin 128) :
    ((cfg0.win 14).blk t).view.emb (ix3 (0 : Fin 1) r n : S1x2048x128.Idx) = (ix3 (seq t) r n : S8x2048x128.Idx) := by
  refine funext fun a => Fin.ext ?_
  blk_simp
  rw [idx14 t]
  fin_cases a
  · show t.val / 16 * 1 + 0 = t.val / 16; omega
  · show 0 * 2048 + r.val = r.val; omega
  · show 0 * 128 + n.val = n.val; omega

/-- A block of rows is the reference's rows at the place where it lies. -/
theorem rows_point (c : Dev nD) (hf : Below m c) (t : Fin cfg0.N) (y : S128x2048.Idx) :
    (outsAt0 m c t.val t.isLt).1 y = ReferenceIdeal.Read.val_main_v267 (F := Ideal) (ReferenceIdeal.Scan.a0 (inp m c)) (ReferenceIdeal.Scan.a1 (inp m c)) (ReferenceIdeal.Scan.a2 (inp m c)) (ReferenceIdeal.Scan.a3 (inp m c)) (ReferenceIdeal.Scan.a4 (inp m c)) (ReferenceIdeal.Scan.a5 (inp m c)) (ReferenceIdeal.Scan.a6 (inp m c)) (ReferenceIdeal.Scan.a7 (inp m c)) (ReferenceIdeal.Scan.a8 (inp m c)) (ReferenceIdeal.Scan.a9 (inp m c)) (ReferenceIdeal.Scan.a10 (inp m c)) (((cfg0.win 13).blk t).view.emb y) := by
  obtain ⟨i, q, rfl⟩ : ∃ (i : Fin 128) (q : Fin 2048), y = ix2 i q := ⟨y 0, y 1, (ix2_eta y).symm⟩
  rw [row_val m c hf, emb13 t i q]
  exact (ReferenceIdeal.Scan.out_val (inp m c) _ q (seq t) (chk t) i rfl).symm

/-- A sequence's state after its last chunk is the reference's at the place where it lies. -/
theorem states_point (c : Dev nD) (hf : Below m c) (t : Fin cfg0.N) (ht : t.val % 16 = 15) (y : S1x2048x128.Idx) :
    (outsAt0 m c t.val t.isLt).2.1 y = ReferenceIdeal.Read.val_main_v268 (F := Ideal) (ReferenceIdeal.Scan.a0 (inp m c)) (ReferenceIdeal.Scan.a2 (inp m c)) (ReferenceIdeal.Scan.a3 (inp m c)) (ReferenceIdeal.Scan.a4 (inp m c)) (ReferenceIdeal.Scan.a5 (inp m c)) (ReferenceIdeal.Scan.a6 (inp m c)) (ReferenceIdeal.Scan.a7 (inp m c)) (ReferenceIdeal.Scan.a8 (inp m c)) (((cfg0.win 14).blk t).view.emb y) := by
  obtain ⟨r, n, rfl⟩ : ∃ (r : Fin 2048) (n : Fin 128), y = ix3 (0 : Fin 1) r n :=
    ⟨y 1, y 2, (ix3_eta y).symm.trans (congrArg (fun z => ix3 z (y 1) (y 2)) (Subsingleton.elim (α := Fin 1) _ _))⟩
  rw [emb14 t r n]
  have h : 16 * (seq t).val + 15 = t.val := by show 16 * (t.val / 16) + 15 = _; omega
  have e := state m c hf r n 15 (seq t) (by omega)
  simp only [h] at e
  rw [e]
  exact (ReferenceIdeal.Scan.last_val (inp m c) (seq t) r n).symm

/-- The rows after the run are the reference's. -/
theorem final_rows (c : Dev nD) (hf : Below m c) : (dats m 0 c).arrAt 13 (cfgs 0).N = ReferenceIdeal.Read.val_main_v267 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [arg0_eq m c, arg1_eq m c, arg2_eq m c, arg3_eq m c, arg4_eq m c, arg5_eq m c, arg6_eq m c, arg7_eq m c, arg8_eq m c, arg9_eq m c, arg10_eq m c]
  refine (dats m 0 c).arrAt_eq_of_covers 13 _ (by decide +kernel) fun t hf' y => ?_
  blk_simp
  rw [after0_13]
  exact rows_point m c hf t y

/-- The states after the run are the reference's. -/
theorem final_states (c : Dev nD) (hf : Below m c) : (dats m 0 c).arrAt 14 (cfgs 0).N = ReferenceIdeal.Read.val_main_v268 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [arg0_eq m c, arg2_eq m c, arg3_eq m c, arg4_eq m c, arg5_eq m c, arg6_eq m c, arg7_eq m c, arg8_eq m c]
  refine (dats m 0 c).arrAt_eq_of_covers 14 _ (by decide +kernel) fun t hf' y => ?_
  blk_simp
  rw [after0_14]
  exact states_point m c hf t ((flush0_14 t).mp hf') y

end Cert.KernelIdeal.Scan

end
-- ==== Proof.ScanClaim.lean ====
/- Kernel and reference end with the same results, from equal arguments. -/
module

public import proofs.«01_k».proof.Defs
public import proofs.«01_k».proof.Proof.ScanFinal
public import proofs.«01_k».proof.Proof.Gen.Pre_steps_finite

@[expose] public section

set_option maxRecDepth 16384

noncomputable section

namespace Cert.Proof

open Idealize.ShloMosaic Idealize.ShloMosaic.TcCoe Idealize.SL.Sem

/-- The precondition says that every step is below infinity before the soft maximum. -/
theorem below [Cert.Pre_steps_finite.Facts] (m : (ℓ : Loc Cert.KernelIdeal.nD Cert.KernelIdeal.τ Cert.KernelIdeal.sig) → Buf (Elt Ideal) ℓ)
    (h : Pre_KernelIdeal_steps_finite m) (c : Dev Cert.KernelIdeal.nD) : Cert.KernelIdeal.Scan.Below m c := fun r k e => by
  have hp := congrFun (h c) (ix2 r k)
  revert hp
  pointwise [Cert.Pre_steps_finite.fn]
  intro hp
  erw [e] at hp
  rw [decide_eq_false not_top_lt] at hp
  exact absurd hp (by decide)

/-- From equal arguments the kernel ends with the reference's results. -/
theorem algebraic : algebraic_KernelIdeal_ReferenceIdeal_pre_steps_finite := by
  intro m ρ m' ρ' hpre hagree
  have res0 : ∀ c : Dev Cert.KernelIdeal.nD, Cert.ReferenceIdeal.Read.val_main_v267 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))
      = (Cert.KernelIdeal.Gen.dats m 0 c).arrAt 13 Cert.KernelIdeal.cfg0.N := fun c => by
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    exact (Cert.KernelIdeal.Scan.final_rows m c (below m hpre c)).symm
  have res1 : ∀ c : Dev Cert.KernelIdeal.nD, Cert.ReferenceIdeal.Read.val_main_v268 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
      = (Cert.KernelIdeal.Gen.dats m 0 c).arrAt 14 Cert.KernelIdeal.cfg0.N := fun c => by
    rw [(hagree c).1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1]
    exact (Cert.KernelIdeal.Scan.final_states m c (below m hpre c)).symm
  exact ⟨fun c => (Cert.KernelIdeal.Gen.dats m 0 c).arrAt 13 Cert.KernelIdeal.cfg0.N,
    fun c => (Cert.KernelIdeal.Gen.dats m 0 c).arrAt 14 Cert.KernelIdeal.cfg0.N,
    Cert.KernelIdeal.Value.run_blocks m ρ,
    (θ_run _ _ _).mono (fun _ h c => ⟨((h c).1).trans ((Cert.ReferenceIdeal.Read.val_main_v267_eq (StableHlo.launchContents m' c)).trans (res0 c)), ((h c).2.1).trans ((Cert.ReferenceIdeal.Read.val_main_v268_eq (StableHlo.launchContents m' c)).trans (res1 c)), (h c).2.2⟩)
      (Cert.ReferenceIdeal.Value.run (F := Ideal) m' ρ')⟩

end Cert.Proof

end
-- ==== Proof.SampleProjection.lean ====
/- The projection to the mixed channels for the sample group's rows. -/
module

public import proofs.«01_k».proof.Proof.Gen.Kernel7Ideal.Value
public import proofs.«01_k».proof.Proof.Gen.Reference7Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel7Ideal.SampleProj

open Cert.Kernel7Ideal Cert.Kernel7Ideal.Gen

variable (m : (ℓ : Loc nD τ sig) → Buf (Elt Ideal) ℓ)

/-- The reference's result as a function of the rows and the weights. -/
abbrev REF (x : FVec Ideal Cert.Reference7Ideal.S256x1024 .f32) (w : FVec Ideal Cert.Reference7Ideal.S1024x5152 .f32) :
    FVec Ideal Cert.Reference7Ideal.S256x3072 .f32 :=
  Cert.Reference7Ideal.Read.val_main_v2 (F := Ideal) x w

/-- The blocks of the four windows at a grid point: a block of rows, one of columns. -/
theorem idx : ∀ t : Fin cfg0.N, win0_0.index t = ![t.val / 3, 0]
    ∧ win0_1.index t = ![0, t.val % 3]
    ∧ win0_2.index t = ![0, t.val % 3]
    ∧ win0_3.index t = ![t.val / 3, t.val % 3] :=
  (by decide +kernel : ∀ t : Fin grid0.N, _)

/-- No bias: the added row holds zeros. -/
theorem bias (c : Dev nD) (t : Fin cfg0.N) (x) : iblk m c 2 t x = (0 : EReal) := by
  unfold iblk
  entry_read
  blk_simp
  pointwise

/-- The stored block is the reference's block. -/
theorem point (c : Dev nD) (t : Fin cfg0.N) (y) :
    k0_pay1 (iblk m c 0 t) (iblk m c 1 t) (iblk m c 2 t) y
      = REF (m ((c : Thread nD τ).loc main_arg0)) (m ((c : Thread nD τ).loc main_arg1)) (((cfg0.win 3).blk t).view.emb y) := by
  pointwise [k0_pay1, REF, Cert.Reference7Ideal.Read.val_main_v2, Cert.Reference7Ideal.Read.val_main_v0]
  rw [bias, add_zero]
  blk_point [iblk, V, idx t]

/-- After the run the result's array is the reference's. -/
theorem final (c : Dev nD) : (dats m 0 c).arrAt 3 (cfgs 0).N
    = REF (m ((c : Thread nD τ).loc main_arg0)) (m ((c : Thread nD τ).loc main_arg1)) := by
  refine (dats m 0 c).arrAt_eq_of_covers 3 _ (by decide +kernel) fun t hf y => ?_
  blk_simp; rw [after0_3]; frame_out
  exact point m c t y

end Cert.Kernel7Ideal.SampleProj

end
-- ==== Proof.SampleProjectionClaim.lean ====
/- Kernel and reference end with the same result, from equal arguments. -/
module

public import proofs.«01_k».proof.Defs
public import proofs.«01_k».proof.Proof.SampleProjection

@[expose] public section

set_option maxRecDepth 16384

noncomputable section

namespace Cert.Proof

open Idealize.ShloMosaic Idealize.ShloMosaic.TcCoe Idealize.SL.Sem

/-- From equal arguments the kernel ends with the reference's result. -/
theorem algebraic7 : algebraic_Kernel7Ideal_Reference7Ideal := by
  intro m ρ m' ρ' _ hagree
  have res0 : ∀ c : Dev Cert.Kernel7Ideal.nD, Cert.Reference7Ideal.Read.val_main_v2 (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1))
      = (Cert.Kernel7Ideal.Gen.dats m 0 c).arrAt 3 Cert.Kernel7Ideal.cfg0.N := fun c => by
    rw [(hagree c).1, (hagree c).2]
    exact (Cert.Kernel7Ideal.SampleProj.final m c).symm
  exact ⟨fun c => (Cert.Kernel7Ideal.Gen.dats m 0 c).arrAt 3 Cert.Kernel7Ideal.cfg0.N,
    Cert.Kernel7Ideal.Value.run_blocks m ρ,
    (θ_run _ _ _).mono (fun _ h c => ⟨((h c).1).trans ((Cert.Reference7Ideal.Read.val_main_v2_eq _ _).trans (res0 c)), (h c).2.1, (h c).2.2⟩)
      (Cert.Reference7Ideal.Value.run (F := Ideal) m' ρ')⟩

end Cert.Proof

end
-- ==== Proof.AttentionProjection.lean ====
/- The attention's projection to queries, keys and values for the sample group's rows. -/
module

public import proofs.«01_k».proof.Proof.Gen.Kernel8Ideal.Value
public import proofs.«01_k».proof.Proof.Gen.Reference8Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel8Ideal.AttnProj

open Cert.Kernel8Ideal Cert.Kernel8Ideal.Gen

variable (m : (ℓ : Loc nD τ sig) → Buf (Elt Ideal) ℓ)

/-- The reference's result as a function of the rows and the weights. -/
abbrev REF (x : FVec Ideal Cert.Reference8Ideal.S256x1024 .f32) (w : FVec Ideal Cert.Reference8Ideal.S1024x2608 .f32) :
    FVec Ideal Cert.Reference8Ideal.S256x2560 .f32 :=
  Cert.Reference8Ideal.Read.val_main_v1 (F := Ideal) x w

/-- The blocks of the four windows at a grid point: a block of rows, one of columns. -/
theorem idx : ∀ t : Fin cfg0.N, win0_0.index t = ![t.val / 5, 0]
    ∧ win0_1.index t = ![0, t.val % 5]
    ∧ win0_2.index t = ![0, t.val % 5]
    ∧ win0_3.index t = ![t.val / 5, t.val % 5] :=
  (by decide +kernel : ∀ t : Fin grid0.N, _)

/-- No bias: the added row holds zeros. -/
theorem bias (c : Dev nD) (t : Fin cfg0.N) (x) : iblk m c 2 t x = (0 : EReal) := by
  unfold iblk
  entry_read
  blk_simp
  pointwise

/-- The stored block is the reference's block. -/
theorem point (c : Dev nD) (t : Fin cfg0.N) (y) :
    k0_pay1 (iblk m c 0 t) (iblk m c 1 t) (iblk m c 2 t) y
      = REF (m ((c : Thread nD τ).loc main_arg0)) (m ((c : Thread nD τ).loc main_arg1)) (((cfg0.win 3).blk t).view.emb y) := by
  pointwise [k0_pay1, REF, Cert.Reference8Ideal.Read.val_main_v1, Cert.Reference8Ideal.Read.val_main_v0]
  rw [bias, add_zero]
  blk_point [iblk, V, idx t]

/-- After the run the result's array is the reference's. -/
theorem final (c : Dev nD) : (dats m 0 c).arrAt 3 (cfgs 0).N
    = REF (m ((c : Thread nD τ).loc main_arg0)) (m ((c : Thread nD τ).loc main_arg1)) := by
  refine (dats m 0 c).arrAt_eq_of_covers 3 _ (by decide +kernel) fun t hf y => ?_
  blk_simp; rw [after0_3]; frame_out
  exact point m c t y

end Cert.Kernel8Ideal.AttnProj

end
-- ==== Proof.AttentionProjectionClaim.lean ====
/- Kernel and reference end with the same result, from equal arguments. -/
module

public import proofs.«01_k».proof.Defs
public import proofs.«01_k».proof.Proof.AttentionProjection

@[expose] public section

set_option maxRecDepth 16384

noncomputable section

namespace Cert.Proof

open Idealize.ShloMosaic Idealize.ShloMosaic.TcCoe Idealize.SL.Sem

/-- From equal arguments the kernel ends with the reference's result. -/
theorem algebraic8 : algebraic_Kernel8Ideal_Reference8Ideal := by
  intro m ρ m' ρ' _ hagree
  have res0 : ∀ c : Dev Cert.Kernel8Ideal.nD, Cert.Reference8Ideal.Read.val_main_v1 (F := Ideal) (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1))
      = (Cert.Kernel8Ideal.Gen.dats m 0 c).arrAt 3 Cert.Kernel8Ideal.cfg0.N := fun c => by
    rw [(hagree c).1, (hagree c).2]
    exact (Cert.Kernel8Ideal.AttnProj.final m c).symm
  exact ⟨fun c => (Cert.Kernel8Ideal.Gen.dats m 0 c).arrAt 3 Cert.Kernel8Ideal.cfg0.N,
    Cert.Kernel8Ideal.Value.run_blocks m ρ,
    (θ_run _ _ _).mono (fun _ h c => ⟨((h c).1).trans ((Cert.Reference8Ideal.Read.val_main_v1_eq _ _).trans (res0 c)), (h c).2.1, (h c).2.2⟩)
      (Cert.Reference8Ideal.Value.run (F := Ideal) m' ρ')⟩

end Cert.Proof

end
-- ==== Proof.AttentionColumns.lean ====
/- The attention's keys and values of the prompt group, a column for every token. -/
module

public import proofs.«01_k».proof.Proof.Gen.Kernel9Ideal.Value
public import proofs.«01_k».proof.Proof.Gen.Reference9Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel9Ideal.AttnCols

open Cert.Kernel9Ideal Cert.Kernel9Ideal.Gen

variable (m : (ℓ : Loc nD τ sig) → Buf (Elt Ideal) ℓ)

/-- The reference's result as a function of the rows and the weights. -/
abbrev REF (x : FVec Ideal Cert.Reference9Ideal.S16384x1024 .f32) (w : FVec Ideal Cert.Reference9Ideal.S1024x2608 .f32) :
    FVec Ideal Cert.Reference9Ideal.S8x1536x2048 .f32 :=
  Cert.Reference9Ideal.Read.val_main_v5 (F := Ideal) x w

/-- The blocks of the three windows: a block of channels, one of rows, and where the two meet. -/
theorem idx : ∀ t : Fin cfg0.N, win0_0.index t = ![t.val % 3, 0]
    ∧ win0_1.index t = ![t.val / 3, 0]
    ∧ win0_2.index t = ![t.val / 6, t.val % 3, t.val / 3 % 2] :=
  (by decide +kernel : ∀ t : Fin grid0.N, _)

/-- The reference's entry, a sum over the row's channels. -/
theorem ref_at (x : FVec Ideal Cert.Reference9Ideal.S16384x1024 .f32) (w : FVec Ideal Cert.Reference9Ideal.S1024x2608 .f32) (i : Cert.Reference9Ideal.S8x1536x2048.Idx)
    (hr : (i 0).val * 2048 + (i 2).val < 16384) (hc : 1024 + (i 1).val < 2608) :
    REF x w i = ∑ k : Fin 1024, w (ix2 k ⟨1024 + (i 1).val, hc⟩) * x (ix2 ⟨(i 0).val * 2048 + (i 2).val, hr⟩ k) := by
  have h1 : (i 1).val < 1536 := (i 1).isLt
  unfold REF
  rw [Cert.Reference9Ideal.Read.val_main_v5_apply, Cert.Reference9Ideal.Read.val_main_v4_apply, Cert.Reference9Ideal.Read.val_main_v2_apply, Cert.Reference9Ideal.Read.val_main_v0_apply]
  refine Finset.sum_congr rfl fun k _ => (mul_comm _ _).trans (congrArg₂ (· * ·) (congrArg w ?_) (congrArg x ?_))
  · funext a
    apply Fin.ext
    match a with
    | ⟨0, _⟩ => rfl
    | ⟨1, _⟩ => show 1024 + (((i 0).val * 2048 + (i 2).val) * 1536 + (i 1).val) % 1536 = 1024 + (i 1).val; omega
  · funext a
    apply Fin.ext
    match a with
    | ⟨0, _⟩ => show (((i 0).val * 2048 + (i 2).val) * 1536 + (i 1).val) / 1536 = (i 0).val * 2048 + (i 2).val; omega
    | ⟨1, _⟩ => rfl

/-- The stored block is the reference's block. -/
theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  have h0 : (((cfg0.win 2).blk t).view.emb y 0).val < 8 := (((cfg0.win 2).blk t).view.emb y 0).isLt
  have h1 : (((cfg0.win 2).blk t).view.emb y 1).val < 1536 := (((cfg0.win 2).blk t).view.emb y 1).isLt
  have h2 : (((cfg0.win 2).blk t).view.emb y 2).val < 2048 := (((cfg0.win 2).blk t).view.emb y 2).isLt
  rw [ref_at _ _ _ (by omega) (by omega)]
  pointwise [k0_pay1]
  blk_point [iblk, V, idx t]

/-- After the run the result's array is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.Kernel9Ideal.AttnCols

end
-- ==== Proof.AttentionColumnsClaim.lean ====
/- Kernel and reference end with the same result, from equal arguments. -/
module

public import proofs.«01_k».proof.Defs
public import proofs.«01_k».proof.Proof.AttentionColumns

@[expose] public section

set_option maxRecDepth 16384

noncomputable section

namespace Cert.Proof

open Idealize.ShloMosaic Idealize.ShloMosaic.TcCoe Idealize.SL.Sem

/-- From equal arguments the kernel ends with the reference's result. -/
theorem algebraic9 : algebraic_Kernel9Ideal_Reference9Ideal := by
  intro m ρ m' ρ' _ hagree
  have res0 : ∀ c : Dev Cert.Kernel9Ideal.nD, Cert.Reference9Ideal.Read.val_main_v5 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1))
      = (Cert.Kernel9Ideal.Gen.dats m 0 c).arrAt 2 Cert.Kernel9Ideal.cfg0.N := fun c => by
    rw [(hagree c).1, (hagree c).2]
    exact (Cert.Kernel9Ideal.AttnCols.final m c).symm
  exact ⟨fun c => (Cert.Kernel9Ideal.Gen.dats m 0 c).arrAt 2 Cert.Kernel9Ideal.cfg0.N,
    Cert.Kernel9Ideal.Value.run_blocks m ρ,
    (θ_run _ _ _).mono (fun _ h c => ⟨((h c).1).trans ((Cert.Reference9Ideal.Read.val_main_v5_eq _ _).trans (res0 c)), (h c).2.1, (h c).2.2⟩)
      (Cert.Reference9Ideal.Value.run (F := Ideal) m' ρ')⟩

end Cert.Proof

end
-- ==== Proof.AttentionOut.lean ====
/- The attention's output projection with its residual and layer norm. -/
module

public import proofs.«01_k».proof.Proof.Gen.Kernel10Ideal.Value
public import proofs.«01_k».proof.Proof.Gen.Reference10Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel10Ideal.AttnOut

open Cert.Kernel10Ideal Cert.Kernel10Ideal.Gen

variable (m : (ℓ : Loc nD τ sig) → Buf (Elt Ideal) ℓ)

/-- The reference's result as a function of its arguments. -/
abbrev REF (y : FVec Ideal Cert.Reference10Ideal.S16384x1024 .f32) (x : FVec Ideal Cert.Reference10Ideal.S16384x1024 .f32)
    (w : FVec Ideal Cert.Reference10Ideal.S1024x1024 .f32) (g b : FVec Ideal Cert.Reference10Ideal.S1024 .f32) :
    FVec Ideal Cert.Reference10Ideal.S16384x1024 .f32 :=
  Cert.Reference10Ideal.Read.val_main_v27 (F := Ideal) y x w g b

/-- Which block each window takes at a grid point. -/
theorem idx : ∀ t : Fin cfg0.N, win0_0.index t = ![t.val, 0]
    ∧ win0_1.index t = ![t.val, 0]
    ∧ win0_2.index t = ![0, 0]
    ∧ win0_3.index t = ![0, 0]
    ∧ win0_4.index t = ![0, 0]
    ∧ win0_5.index t = ![t.val, 0] :=
  (by decide +kernel : ∀ t : Fin grid0.N, _)

/-- What a grid point stores is the reference at the place where the block lies. -/
theorem point (c : Dev nD) (t : Fin cfg0.N) (y) :
    k0_pay1 (iblk m c 0 t) (iblk m c 2 t) (iblk m c 1 t) (iblk m c 3 t) (iblk m c 4 t) y
      = REF (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 5).blk t).view.emb y) := by
  pointwise [k0_pay1, REF, Cert.Reference10Ideal.Read.val_main_cst, Cert.Reference10Ideal.Read.val_main_v0, Cert.Reference10Ideal.Read.val_main_v1, Cert.Reference10Ideal.Read.val_main_v2, Cert.Reference10Ideal.Read.val_main_v3, Cert.Reference10Ideal.Read.val_main_cst_0, Cert.Reference10Ideal.Read.val_main_v4, Cert.Reference10Ideal.Read.val_main_v5, Cert.Reference10Ideal.Read.val_main_cst_1, Cert.Reference10Ideal.Read.val_main_v6, Cert.Reference10Ideal.Read.val_main_v7, Cert.Reference10Ideal.Read.val_main_v8, Cert.Reference10Ideal.Read.val_main_v9, Cert.Reference10Ideal.Read.val_main_v10, Cert.Reference10Ideal.Read.val_main_cst_2, Cert.Reference10Ideal.Read.val_main_v11, Cert.Reference10Ideal.Read.val_main_v12, Cert.Reference10Ideal.Read.val_main_cst_3, Cert.Reference10Ideal.Read.val_main_v13, Cert.Reference10Ideal.Read.val_main_v14, Cert.Reference10Ideal.Read.val_main_v15, Cert.Reference10Ideal.Read.val_main_v16, Cert.Reference10Ideal.Read.val_main_cst_4, Cert.Reference10Ideal.Read.val_main_v17, Cert.Reference10Ideal.Read.val_main_v18, Cert.Reference10Ideal.Read.val_main_v19, Cert.Reference10Ideal.Read.val_main_v20, Cert.Reference10Ideal.Read.val_main_v21, Cert.Reference10Ideal.Read.val_main_v22, Cert.Reference10Ideal.Read.val_main_v23, Cert.Reference10Ideal.Read.val_main_v24, Cert.Reference10Ideal.Read.val_main_v25, Cert.Reference10Ideal.Read.val_main_v26, Cert.Reference10Ideal.Read.val_main_v27]
  blk_point [iblk, V, idx t]

/-- The result array after the run is the reference's. -/
theorem final (c : Dev nD) : (dats m 0 c).arrAt 5 (cfgs 0).N
    = REF (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t hf y => ?_
  blk_simp; rw [after0_5]; frame_out
  exact point m c t y

end Cert.Kernel10Ideal.AttnOut

end
-- ==== Proof.AttentionOutClaim.lean ====
/- Kernel and reference end with the same result, from equal arguments. -/
module

public import proofs.«01_k».proof.Defs
public import proofs.«01_k».proof.Proof.AttentionOut

@[expose] public section

set_option maxRecDepth 16384

noncomputable section

namespace Cert.Proof

open Idealize.ShloMosaic Idealize.ShloMosaic.TcCoe Idealize.SL.Sem

/-- From equal arguments the kernel ends with the reference's result. -/
theorem algebraic10 : algebraic_Kernel10Ideal_Reference10Ideal := by
  intro m ρ m' ρ' _ hagree
  have res0 : ∀ c : Dev Cert.Kernel10Ideal.nD, Cert.Reference10Ideal.Read.val_main_v27 (F := Ideal) (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1)) (m' ((c.tc : Thread Cert.Reference10Ideal.nD Cert.Reference10Ideal.τ).loc Cert.Reference10Ideal.main_arg2)) (m' ((c.tc : Thread Cert.Reference10Ideal.nD Cert.Reference10Ideal.τ).loc Cert.Reference10Ideal.main_arg3)) (m' ((c.tc : Thread Cert.Reference10Ideal.nD Cert.Reference10Ideal.τ).loc Cert.Reference10Ideal.main_arg4))
      = (Cert.Kernel10Ideal.Gen.dats m 0 c).arrAt 5 Cert.Kernel10Ideal.cfg0.N := fun c => by
    rw [(hagree c).1, (hagree c).2.1, (hagree c).2.2.1, (hagree c).2.2.2.1, (hagree c).2.2.2.2]
    exact (Cert.Kernel10Ideal.AttnOut.final m c).symm
  exact ⟨fun c => (Cert.Kernel10Ideal.Gen.dats m 0 c).arrAt 5 Cert.Kernel10Ideal.cfg0.N,
    Cert.Kernel10Ideal.Value.run_blocks m ρ,
    (θ_run _ _ _).mono (fun _ h c => ⟨((h c).1).trans ((Cert.Reference10Ideal.Read.val_main_v27_eq _ _ _ _ _).trans (res0 c)), (h c).2.1, (h c).2.2.1, (h c).2.2.2.1, (h c).2.2.2.2.1, (h c).2.2.2.2.2⟩)
      (Cert.Reference10Ideal.Value.run (F := Ideal) m' ρ')⟩

end Cert.Proof

end
-- ==== Proof.GateProjection.lean ====
/- The projection to the gate's columns. -/
module

public import proofs.«01_k».proof.Proof.Gen.Kernel14Ideal.Value
public import proofs.«01_k».proof.Proof.Gen.Reference14Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel14Ideal.GateProj

open Cert.Kernel14Ideal Cert.Kernel14Ideal.Gen

variable (m : (ℓ : Loc nD τ sig) → Buf (Elt Ideal) ℓ)

/-- The reference's result as a function of the rows and the weights. -/
abbrev REF (x : FVec Ideal Cert.Reference14Ideal.S16384x1024 .f32) (w : FVec Ideal Cert.Reference14Ideal.S1024x5152 .f32) :
    FVec Ideal Cert.Reference14Ideal.S16384x2048 .f32 :=
  Cert.Reference14Ideal.Read.val_main_v1 (F := Ideal) x w

/-- The blocks of the four windows at a grid point: a block of rows, one of columns. -/
theorem idx : ∀ t : Fin cfg0.N, win0_0.index t = ![t.val / 2, 0]
    ∧ win0_1.index t = ![0, t.val % 2]
    ∧ win0_2.index t = ![0, t.val % 2]
    ∧ win0_3.index t = ![t.val / 2, t.val % 2] :=
  (by decide +kernel : ∀ t : Fin grid0.N, _)

/-- No bias: the added row holds zeros. -/
theorem bias (c : Dev nD) (t : Fin cfg0.N) (x) : iblk m c 2 t x = (0 : EReal) := by
  unfold iblk
  entry_read
  blk_simp
  pointwise

/-- The stored block is the reference's block. -/
theorem point (c : Dev nD) (t : Fin cfg0.N) (y) :
    k0_pay1 (iblk m c 0 t) (iblk m c 1 t) (iblk m c 2 t) y
      = REF (m ((c : Thread nD τ).loc main_arg0)) (m ((c : Thread nD τ).loc main_arg1)) (((cfg0.win 3).blk t).view.emb y) := by
  pointwise [k0_pay1, REF, Cert.Reference14Ideal.Read.val_main_v1, Cert.Reference14Ideal.Read.val_main_v0]
  rw [bias, add_zero]
  blk_point [iblk, V, idx t]

/-- After the run the result's array is the reference's. -/
theorem final (c : Dev nD) : (dats m 0 c).arrAt 3 (cfgs 0).N
    = REF (m ((c : Thread nD τ).loc main_arg0)) (m ((c : Thread nD τ).loc main_arg1)) := by
  refine (dats m 0 c).arrAt_eq_of_covers 3 _ (by decide +kernel) fun t hf y => ?_
  blk_simp; rw [after0_3]; frame_out
  exact point m c t y

end Cert.Kernel14Ideal.GateProj

end
-- ==== Proof.GateProjectionClaim.lean ====
/- Kernel and reference end with the same result, from equal arguments. -/
module

public import proofs.«01_k».proof.Defs
public import proofs.«01_k».proof.Proof.GateProjection

@[expose] public section

set_option maxRecDepth 16384

noncomputable section

namespace Cert.Proof

open Idealize.ShloMosaic Idealize.ShloMosaic.TcCoe Idealize.SL.Sem

/-- From equal arguments the kernel ends with the reference's result. -/
theorem algebraic14 : algebraic_Kernel14Ideal_Reference14Ideal := by
  intro m ρ m' ρ' _ hagree
  have res0 : ∀ c : Dev Cert.Kernel14Ideal.nD, Cert.Reference14Ideal.Read.val_main_v1 (F := Ideal) (m' ((c.tc : Thread Cert.Reference14Ideal.nD Cert.Reference14Ideal.τ).loc Cert.Reference14Ideal.main_arg0)) (m' ((c.tc : Thread Cert.Reference14Ideal.nD Cert.Reference14Ideal.τ).loc Cert.Reference14Ideal.main_arg1))
      = (Cert.Kernel14Ideal.Gen.dats m 0 c).arrAt 3 Cert.Kernel14Ideal.cfg0.N := fun c => by
    rw [(hagree c).1, (hagree c).2]
    exact (Cert.Kernel14Ideal.GateProj.final m c).symm
  exact ⟨fun c => (Cert.Kernel14Ideal.Gen.dats m 0 c).arrAt 3 Cert.Kernel14Ideal.cfg0.N,
    Cert.Kernel14Ideal.Value.run_blocks m ρ,
    (θ_run _ _ _).mono (fun _ h c => ⟨((h c).1).trans ((Cert.Reference14Ideal.Read.val_main_v1_eq _ _).trans (res0 c)), (h c).2.1, (h c).2.2⟩)
      (Cert.Reference14Ideal.Value.run (F := Ideal) m' ρ')⟩

end Cert.Proof

end
-- ==== Proof.StepMath.lean ====
/- The recurrence over eight rows: its values, over the rows themselves and over a block of rows that is zero behind them. -/
module

public import proofs.«01_k».proof.Proof.ScanMath

@[expose] public section

noncomputable section

namespace Cert.StepMath

open Idealize.ShloMosaic Cert.ScanMath
open scoped BigOperators

/-- The arrays of a call that the states depend on, as functions of their coordinates. -/
structure Inp where
  x : Fin 256 → Fin 3072 → EReal
  d : Fin 256 → Fin 128 → EReal
  p : Fin 32 → Fin 3 → Fin 3072 → EReal
  h : Fin 32 → Fin 2048 → Fin 128 → EReal
  w : Fin 4 → Fin 3072 → EReal
  b : Fin 3072 → EReal
  db : Fin 32 → EReal
  al : Fin 32 → EReal

namespace Inp

variable (I : Inp) (s : Fin 32)

/-- The row of the whole array of a row of a sequence. -/
abbrev row (s : Fin 32) (i : Fin 8) : Fin 256 := ⟨8 * s.val + i.val, by omega⟩

/-- The head of a column. -/
abbrev head (q : Fin 2048) : Fin 32 := ⟨q.val / 64, by omega⟩

/-- A sequence's rows behind the three given before the first. -/
def xp (n : ℕ) (q : Fin 3072) : EReal :=
  if h : n < 3 then I.p s ⟨n, h⟩ q else if h : n - 3 < 8 then I.x ⟨8 * s.val + (n - 3), by omega⟩ q else 0

/-- The convolution of a row, before the gate. -/
def cv (i : ℕ) (q : Fin 3072) : EReal :=
  conv (I.b q) (I.w 0 q) (I.w 1 q) (I.w 2 q) (I.w 3 q) (I.xp s i q) (I.xp s (i + 1) q) (I.xp s (i + 2) q) (I.xp s (i + 3) q)

/-- The convolved and gated row. -/
def xc (i : Fin 8) (q : Fin 3072) : EReal := I.cv s i.val q * Ideal.logistic (I.cv s i.val q)

/-- The step length of a row and head. -/
def dt (i : Fin 8) (k : Fin 32) : EReal := soft (I.d (row s i) ⟨k.val, by omega⟩ + I.db k)

/-- What a row adds to a head's running sum. -/
def a (k : Fin 32) (i : Fin 8) : EReal := I.dt s i k * (0 - Ideal.exp (I.al k))

/-- The running sum of a head's decays. -/
def ac (k : Fin 32) (i : Fin 8) : EReal := ∑ j : Fin 8, if j ≤ i then I.a s k j else 0

/-- The weight of a row in the state. -/
def wt (k : Fin 32) (i : Fin 8) : EReal := I.dt s i k * Ideal.exp (I.ac s k 7 - I.ac s k i)

/-- The state after the rows. -/
def st (r : Fin 2048) (n : Fin 128) : EReal :=
  I.h s r n * Ideal.exp (I.ac s (head r) 7)
    + ∑ j : Fin 8, I.xc s j ⟨r.val, by omega⟩ * I.wt s (head r) j * I.xc s j ⟨2048 + 128 * (r.val / 512) + n.val, by omega⟩

/-- The rows of the block: those of the sequence, then zeros. -/
def xcB (i : Fin 128) (q : Fin 3072) : EReal := if h : i.val < 8 then I.xc s ⟨i.val, h⟩ q else 0

/-- The step lengths of the block. -/
def dtB (i : Fin 128) (k : Fin 32) : EReal := if h : i.val < 8 then I.dt s ⟨i.val, h⟩ k else 0

/-- What a row of the block adds to a head's running sum. -/
def aB (k : Fin 32) (i : Fin 128) : EReal := I.dtB s i k * (0 - Ideal.exp (I.al k))

/-- The running sum over the block. -/
def acB (k : Fin 32) (i : Fin 128) : EReal := cum (I.aB s k) i

/-- The weights of the block. -/
def wtB (k : Fin 32) (i : Fin 128) : EReal := I.dtB s i k * Ideal.exp (I.acB s k 127 - I.acB s k i)

/-- A sum over a block that is zero behind its eighth row is the sum over the first eight rows. -/
theorem sum_short (f : Fin 128 → EReal) (h : ∀ j : Fin 128, 8 ≤ j.val → f j = 0) : ∑ j, f j = ∑ j : Fin 8, f ⟨j.val, by omega⟩ := by
  refine (Fin.sum_univ_add (a := 8) (b := 120) f).trans ?_
  rw [Finset.sum_eq_zero (s := Finset.univ) (f := fun j : Fin 120 => f (Fin.natAdd 8 j)) (fun j _ => h _ (Nat.le_add_right 8 j.val)), add_zero]
  rfl

theorem dtB_nonneg (i : Fin 128) (k : Fin 32) : 0 ≤ I.dtB s i k := by
  unfold dtB; split_ifs; exacts [soft_nonneg _, le_rfl]

theorem aB_le (k : Fin 32) (i : Fin 128) : I.aB s k i ≤ 0 := by
  unfold aB dtB
  split_ifs
  · exact decay_le _ _
  · rw [zero_mul]

theorem aB_zero (k : Fin 32) (j : Fin 128) (h : 8 ≤ j.val) : I.aB s k j = 0 := by
  unfold aB dtB; rw [dif_neg (by omega), zero_mul]

theorem aB_row (k : Fin 32) (j : Fin 8) : I.aB s k ⟨j.val, by omega⟩ = I.a s k j := by
  unfold aB dtB a; rw [dif_pos j.isLt]

theorem acB_row (k : Fin 32) (i : Fin 8) : I.acB s k ⟨i.val, by omega⟩ = I.ac s k i := by
  unfold acB cum
  rw [sum_short _ fun j h => by rw [I.aB_zero s k j h, ite_self]]
  exact Finset.sum_congr rfl fun j _ => by rw [I.aB_row s k j]; rfl

theorem acB_last (k : Fin 32) : I.acB s k 127 = I.ac s k 7 := by
  unfold acB cum
  rw [sum_short _ fun j h => by rw [I.aB_zero s k j h, ite_self]]
  refine Finset.sum_congr rfl fun j _ => ?_
  rw [I.aB_row s k j, if_pos (show j ≤ 7 from Fin.le_last j)]
  exact if_pos (Fin.le_last (n := 127) _)

theorem wtB_row (k : Fin 32) (i : Fin 8) : I.wtB s k ⟨i.val, by omega⟩ = I.wt s k i := by
  unfold wtB wt
  rw [I.acB_last, I.acB_row]
  unfold dtB
  rw [dif_pos i.isLt]

/-- Every step's input with its bias lies below infinity. -/
def Below : Prop := ∀ (r : Fin 256) (k : Fin 32), I.d r ⟨k.val, by omega⟩ + I.db k ≠ ⊤

theorem dtB_ne_top (hf : I.Below) (k : Fin 32) (i : Fin 128) : I.dtB s i k ≠ ⊤ := by
  unfold dtB; split_ifs; exacts [soft_ne_top _ (hf _ _), EReal.zero_ne_top]

theorem wtB_ne_top (hf : I.Below) (k : Fin 32) (i : Fin 128) : I.wtB s k i ≠ ⊤ :=
  mul_ne_top' (I.dtB_nonneg s i k) (exp_nonneg _) (I.dtB_ne_top s hf k i)
    (exp_ne_top _ (cum_diff_ne_top _ (fun j => I.aB_le s k j) i))

theorem wtB_ne_bot (k : Fin 32) (i : Fin 128) : I.wtB s k i ≠ ⊥ :=
  ne_bot_of_nonneg (mul_nonneg (I.dtB_nonneg s i k) (exp_nonneg _))

/-- The state, summed over the block. -/
theorem st_block (r : Fin 2048) (n : Fin 128) :
    I.h s r n * Ideal.exp (I.acB s (head r) 127)
      + ∑ j : Fin 128, I.xcB s j ⟨r.val, by omega⟩ * I.wtB s (head r) j * I.xcB s j ⟨2048 + 128 * (r.val / 512) + n.val, by omega⟩
    = I.st s r n := by
  unfold st
  rw [I.acB_last, sum_short _ fun j h => by unfold xcB; rw [dif_neg (by omega), zero_mul, zero_mul]]
  refine congrArg₂ (· + ·) rfl (Finset.sum_congr rfl fun j _ => ?_)
  rw [I.wtB_row]
  unfold xcB
  rw [dif_pos j.isLt, dif_pos j.isLt]

end Inp

end Cert.StepMath
end
-- ==== Proof.StepBase.lean ====
/- What the sample group's recurrence kernel computes over its block of rows: step lengths, running sums, weights and the convolution. -/
module

public import proofs.«01_k».proof.Proof.Gen.Kernel15Ideal.Value
public import proofs.«01_k».proof.Proof.StepMath

@[expose] public section

set_option maxRecDepth 16384

noncomputable section

namespace Cert.Kernel15Ideal.Step

open Idealize.ShloMosaic Idealize.ShloMosaic.TcCoe Idealize.SL.Sem
open Cert.Kernel15Ideal Cert.Kernel15Ideal.Gen Cert.Kernel15Ideal.Value

open Cert.ScanMath

/-- The first eight rows hold the sequence. -/
theorem in_rows : ∀ i : Fin 128, IntOp.cmpi .slt (BitVec.ofNat 32 i.val) 8#32 = if i.val < 8 then 1#1 else 0#1 := by decide +kernel

/-- The lanes below thirty-two hold a head. -/
theorem in_heads : ∀ k : Fin 128, k.val < 32 → IntOp.cmpi .slt (BitVec.ofNat 32 k.val) 32#32 = 1#1 := by
  decide +kernel

/-- The rows of the block, counted. -/
abbrev rows : IVec S128x128 32 := iota Kind.tc S128x128 32 [0] iota_S128x128_d0_w32

/-- The lanes of the block, counted. -/
abbrev lanes : IVec S128x128 32 := iota Kind.tc S128x128 32 [1] iota_S128x128_d1_w32

/-- The step length of a row and head, zero behind the eighth row. -/
def stp (d : Vec Ideal S128x128 .f32) (b : Vec Ideal S1x128 .f32) (i k : Fin 128) : EReal :=
  if i.val < 8 then soft (d (ix2 i k) + b (ix2 0 k)) else 0

theorem stp_nonneg (d : Vec Ideal S128x128 .f32) (b : Vec Ideal S1x128 .f32) (i k : Fin 128) : 0 ≤ stp d b i k := by
  unfold stp; split_ifs; exacts [soft_nonneg _, le_rfl]

/-- The step length of a row and head, as the kernel masks it. -/
theorem dt_val (d : Vec Ideal S128x128 .f32) (b : Vec Ideal S1x128 .f32) (i k : Fin 128) (hk : k.val < 32) :
    k0_pay12 rows lanes (k0_pay11 d b) 8#32 (ix2 i k) = stp d b i k := by
  pointwise [k0_pay12, k0_pay11, stp, soft]
  rw [in_rows i, in_heads k hk]
  split_ifs <;> rfl

/-- The running sum of one head's decays. -/
def rsum (d : Vec Ideal S128x128 .f32) (b al : Vec Ideal S1x128 .f32) (k i : Fin 128) : EReal :=
  cum (fun j => stp d b j k * (0 - Ideal.exp (al (ix2 0 k)))) i

theorem stp_decay_le (d : Vec Ideal S128x128 .f32) (b : Vec Ideal S1x128 .f32) (i k : Fin 128) (y : EReal) : stp d b i k * (0 - Ideal.exp y) ≤ 0 := by
  unfold stp
  split_ifs
  · exact decay_le _ _
  · rw [zero_mul]

/-- The running sums, put together from three products. -/
theorem acum_val (d : Vec Ideal S128x128 .f32) (b al : Vec Ideal S1x128 .f32)
    (l : Vec Ideal S128x128 .bf16) (i k : Fin 128) (hk : k.val < 32)
    (hl : ∀ i j : Fin 128, l (ix2 i j) = if j ≤ i then (1 : EReal) else 0) :
    k0_pay13 rows lanes (k0_pay11 d b) 8#32 al l l l (ix2 i k) = rsum d b al k i := by
  pointwise [k0_pay13]
  simp only [dt_val d b _ k hk]
  exact three_parts _ _ i (fun j => stp_decay_le d b j k _) (hl i)

/-- The running sums, turned over. -/
theorem turned_val (d : Vec Ideal S128x128 .f32) (b al : Vec Ideal S1x128 .f32)
    (l : Vec Ideal S128x128 .bf16) (i k : Fin 128) (hk : k.val < 32)
    (hl : ∀ i j : Fin 128, l (ix2 i j) = if j ≤ i then (1 : EReal) else 0) :
    k0_pay14 rows lanes (k0_pay11 d b) 8#32 al l l l (ix2 k i) = rsum d b al k i := by
  rw [← acum_val d b al l i k hk hl]
  pointwise [k0_pay14]

/-- The weight of a row in the state. -/
def wgt (d : Vec Ideal S128x128 .f32) (b al : Vec Ideal S1x128 .f32) (k i : Fin 128) : EReal :=
  stp d b i k * Ideal.exp (rsum d b al k 127 - rsum d b al k i)

/-- The weights, before they are spread. -/
theorem w_val (d : Vec Ideal S128x128 .f32) (b al : Vec Ideal S1x128 .f32)
    (l : Vec Ideal S128x128 .bf16) (i k : Fin 128) (hk : k.val < 32)
    (hl : ∀ i j : Fin 128, l (ix2 i j) = if j ≤ i then (1 : EReal) else 0) :
    k0_pay17 rows lanes (k0_pay11 d b) 8#32 al l l l (ix2 i k) = wgt d b al k i := by
  pointwise [k0_pay17]
  rw [dt_val d b i k hk, acum_val d b al l _ k hk hl, acum_val d b al l _ k hk hl]
  rfl

/-- The rows, weighted by the weights of the heads of their columns. -/
theorem xw_val (X : FVec Ideal S128x3072 .f32) (d : Vec Ideal S128x128 .f32) (b al : Vec Ideal S1x128 .f32)
    (l : Vec Ideal S128x128 .bf16) (e : Vec Ideal S128x2048 .bf16) (i : Fin 128) (q : Fin 2048) (k : Fin 128)
    (hk : k.val < 32) (hq : q.val / 64 = k.val)
    (hl : ∀ i j : Fin 128, l (ix2 i j) = if j ≤ i then (1 : EReal) else 0)
    (he : ∀ x : Fin 128, e (ix2 x q) = if q.val / 64 = x.val then (1 : EReal) else 0)
    (h1 : wgt d b al k i ≠ ⊤) (h2 : wgt d b al k i ≠ ⊥) :
    k0_pay23 X (k0_pay18 rows lanes (k0_pay11 d b) 8#32 al l l l) (k0_pay19 rows lanes (k0_pay11 d b) 8#32 al l l l) e e (ix2 i q)
      = X (ix2 i ⟨q.val, by omega⟩) * wgt d b al k i := by
  pointwise [k0_pay23, k0_pay22, k0_pay19, k0_pay18]
  refine congrArg₂ (· * ·) rfl ((two_parts _ _ k ?_ ?_ fun x => ?_).trans ?_)
  · rw [w_val d b al l i k hk hl]; exact h1
  · rw [w_val d b al l i k hk hl]; exact h2
  · rw [he, hq]
    simp only [Fin.ext_iff]
  · exact w_val d b al l i k hk hl

/-- The convolved and gated row, zero behind the eighth. -/
theorem conv_val (b : Vec Ideal S1x3072 .f32) (w0 w1 w2 w3 : Vec Ideal S1x3072 .f32) (r0 r1 r2 r3 : Vec Ideal S128x3072 .f32)
    (i : Fin 128) (q : Fin 3072) :
    k0_pay10 (k0_pay9 b) w0 r0 w1 r1 w2 r2 w3 r3 (ix2 i q)
      = if i.val < 8 then conv (b (ix2 0 q)) (w0 (ix2 0 q)) (w1 (ix2 0 q)) (w2 (ix2 0 q)) (w3 (ix2 0 q))
          (r0 (ix2 i q)) (r1 (ix2 i q)) (r2 (ix2 i q)) (r3 (ix2 i q))
        * Ideal.logistic (conv (b (ix2 0 q)) (w0 (ix2 0 q)) (w1 (ix2 0 q)) (w2 (ix2 0 q)) (w3 (ix2 0 q))
          (r0 (ix2 i q)) (r1 (ix2 i q)) (r2 (ix2 i q)) (r3 (ix2 i q))) else 0 := by
  pointwise [k0_pay10, k0_pay9, conv]
  rw [in_rows i]
  split_ifs <;> rfl

end Cert.Kernel15Ideal.Step
end
-- ==== Proof.StepHost.lean ====
/- What the sample group's recurrence kernel reads from its blocks, in terms of the call's arguments. -/
module

public import proofs.«01_k».proof.Proof.Gen.Kernel15Ideal.Value
public import proofs.«01_k».proof.Proof.ScanHost
public import Idealize.ShloMosaic.Lib.Pipeline.ValueKit
public import Idealize.ShloMosaic.Lib.Claim
public import Idealize.ShloMosaic.Lib.WordCmp

@[expose] public section

set_option maxRecDepth 16384

noncomputable section

namespace Cert.Kernel15Ideal.Step

open Idealize.ShloMosaic Idealize.ShloMosaic.TcCoe Idealize.SL.Sem
open Cert.Kernel15Ideal Cert.Kernel15Ideal.Gen Cert.Kernel15Ideal.Value
open Cert.KernelIdeal.Scan (head_of one_hot tri_hot)

variable (m : (ℓ : Loc nD τ sig) → Buf (Elt Ideal) ℓ)

/-- Which block each window takes at a grid point. -/
theorem idx : ∀ t : Fin cfg0.N,
    win0_0.index t = ![t.val, 0] ∧ win0_1.index t = ![t.val, 0] ∧ win0_2.index t = ![t.val, 0]
    ∧ win0_3.index t = ![t.val, 0, 0] ∧ win0_4.index t = ![t.val, 0, 0]
    ∧ win0_5.index t = ![0, 0] ∧ win0_6.index t = ![0, 0] ∧ win0_7.index t = ![0, 0]
    ∧ win0_8.index t = ![0, 0] ∧ win0_9.index t = ![0, 0] ∧ win0_10.index t = ![0, 0]
    ∧ win0_11.index t = ![0, 0] ∧ win0_12.index t = ![0, 0]
    ∧ win0_13.index t = ![t.val, 0] ∧ win0_14.index t = ![t.val, 0, 0] :=
  (by decide +kernel : ∀ t : Fin grid0.N, _)

/-- The matrix of heads and columns. -/
theorem V_v8 (c : Dev nD) (x) : V m c main_v8 x = if (x 1).val / 64 = (x 0).val then (1 : EReal) else 0 := by
  unfold V
  simp only [List.flatten_cons, List.flatten_nil, List.append_nil, List.cons_append, List.nil_append]
  after_results
  simp -implicitDefEqProofs only [StableHlo.TRef.toBuf, StableHlo.TRef.ofBuf, cast_cast, cast_eq]
  pointwise
  refine (congrArg (fun w => FloatOps.uitofp (F := Ideal) FTy.bf16 (IntOp.cmpi CmpIPredicate.eq w (BitVec.ofNat 32 (x 0).val))) (head_of (x 1))).trans ?_
  have h1 : (x 1).val < 2048 := (x 1).2
  have h0 : (x 0).val < 128 := (x 0).2
  exact one_hot _ _ (by omega) (by omega)

/-- The triangle of ones. -/
theorem V_v16 (c : Dev nD) (x) : V m c main_v16 x = if (x 1).val ≤ (x 0).val then (1 : EReal) else 0 := by
  unfold V
  simp only [List.flatten_cons, List.flatten_nil, List.append_nil, List.cons_append, List.nil_append]
  after_results
  pointwise
  have h1 : (x 1).val < 128 := (x 1).2
  have h0 : (x 0).val < 128 := (x 0).2
  exact tri_hot _ _ (by omega) (by omega)

/-- The rows before the first, behind five rows of zeros. -/
theorem V_v17 (c : Dev nD) (b : Fin 32) (i : Fin 3) (q : Fin 3072) : V m c main_v17 (ix3 b ⟨5 + i.val, by omega⟩ q) = m ((c : Thread nD τ).loc main_arg3) (ix3 b i q) := by
  unfold V
  simp only [List.flatten_cons, List.flatten_nil, List.append_nil, List.cons_append, List.nil_append]
  after_results
  simp -implicitDefEqProofs only [StableHlo.TRef.toBuf, StableHlo.TRef.ofBuf, cast_cast, cast_eq]
  pointwise

/-- The first states, one row per head and channel. -/
theorem V_v18 (c : Dev nD) (b : Fin 32) (r : Fin 2048) (n : Fin 128) : V m c main_v18 (ix3 b r n) = m ((c : Thread nD τ).loc main_arg4) (ix4 b ⟨r.val / 64, by omega⟩ ⟨r.val % 64, by omega⟩ n) := by
  unfold V
  simp only [List.flatten_cons, List.flatten_nil, List.append_nil, List.cons_append, List.nil_append]
  after_results
  pointwise

/-- The bias of the convolution. -/
theorem V_v19 (c : Dev nD) (q : Fin 3072) : V m c main_v19 (ix2 0 q) = m ((c : Thread nD τ).loc main_arg6) (ix1 q) := by
  unfold V
  simp only [List.flatten_cons, List.flatten_nil, List.append_nil, List.cons_append, List.nil_append]
  after_results
  pointwise

/-- The bias of the step lengths. -/
theorem V_v21 (c : Dev nD) (k : Fin 128) (hk : k.val < 32) : V m c main_v21 (ix2 0 k) = m ((c : Thread nD τ).loc main_arg7) (ix1 ⟨k.val, hk⟩) := by
  unfold V
  simp only [List.flatten_cons, List.flatten_nil, List.append_nil, List.cons_append, List.nil_append]
  after_results
  simp -implicitDefEqProofs only [StableHlo.TRef.toBuf, StableHlo.TRef.ofBuf, cast_cast, cast_eq]
  pointwise
  exact dif_pos hk

/-- The logarithms of the decay rates. -/
theorem V_v23 (c : Dev nD) (k : Fin 128) (hk : k.val < 32) : V m c main_v23 (ix2 0 k) = m ((c : Thread nD τ).loc main_arg8) (ix1 ⟨k.val, hk⟩) := by
  unfold V
  simp only [List.flatten_cons, List.flatten_nil, List.append_nil, List.cons_append, List.nil_append]
  after_results
  simp -implicitDefEqProofs only [StableHlo.TRef.toBuf, StableHlo.TRef.ofBuf, cast_cast, cast_eq]
  pointwise
  exact dif_pos hk

/-- The row of the whole array at which a sequence's row lies. -/
abbrev row (t : Fin cfg0.N) (i : Fin 8) : Fin 256 := ⟨8 * t.val + i.val, by have h : t.val < 32 := t.2; omega⟩

/-- The sequence of a grid point. -/
abbrev seq (t : Fin cfg0.N) : Fin 32 := ⟨t.val, t.2⟩

/-- The projected rows of the sequence. -/
theorem xbc_val (c : Dev nD) (t : Fin cfg0.N) (i : Fin 8) (q : Fin 3072) : iblk m c 0 t (ix2 i q) = m ((c : Thread nD τ).loc main_arg0) (ix2 (row t i) q) := by
  blk_ext [iblk, V, idx t]

/-- The step inputs of the sequence. -/
theorem step_val (c : Dev nD) (t : Fin cfg0.N) (i : Fin 8) (q : Fin 128) : iblk m c 2 t (ix2 i q) = m ((c : Thread nD τ).loc main_arg2) (ix2 (row t i) q) := by
  blk_ext [iblk, V, idx t]

/-- The rows before the sequence. -/
theorem prefix_val (c : Dev nD) (t : Fin cfg0.N) (i : Fin 8) (q : Fin 3072) : iblk m c 3 t (ix3 0 i q) = V m c main_v17 (ix3 (seq t) i q) := by
  blk_ext [iblk, idx t]

/-- The first state of the sequence. -/
theorem h0_val (c : Dev nD) (t : Fin cfg0.N) (i : Fin 2048) (q : Fin 128) : iblk m c 4 t (ix3 0 i q) = V m c main_v18 (ix3 (seq t) i q) := by
  blk_ext [iblk, idx t]

/-- The taps. -/
theorem cw_val (c : Dev nD) (t : Fin cfg0.N) (i : Fin 4) (q : Fin 3072) : iblk m c 5 t (ix2 i q) = m ((c : Thread nD τ).loc main_arg5) (ix2 i q) := by
  blk_ext [iblk, V, idx t]

/-- The bias of the convolution, in the block. -/
theorem cb_val (c : Dev nD) (t : Fin cfg0.N) (q : Fin 3072) : iblk m c 6 t (ix2 0 q) = V m c main_v19 (ix2 0 q) := by
  blk_ext [iblk, idx t]

/-- The bias of the steps, in the block. -/
theorem bias_val (c : Dev nD) (t : Fin cfg0.N) (q : Fin 128) : iblk m c 7 t (ix2 0 q) = V m c main_v21 (ix2 0 q) := by
  blk_ext [iblk, idx t]

/-- The decay rates, in the block. -/
theorem alog_val (c : Dev nD) (t : Fin cfg0.N) (q : Fin 128) : iblk m c 8 t (ix2 0 q) = V m c main_v23 (ix2 0 q) := by
  blk_ext [iblk, idx t]

/-- The matrix that spreads heads over columns. -/
theorem e_val (c : Dev nD) (t : Fin cfg0.N) (k : Fin 128) (q : Fin 2048) :
    iblk m c 11 t (ix2 k q) = if q.val / 64 = k.val then (1 : EReal) else 0 := by
  have h : iblk m c 11 t (ix2 k q) = V m c main_v8 (ix2 k q) := by blk_ext [iblk, idx t]
  rw [h, V_v8]
  rfl

/-- The triangle, in the block. -/
theorem l_val (c : Dev nD) (t : Fin cfg0.N) (i j : Fin 128) :
    iblk m c 12 t (ix2 i j) = if j ≤ i then (1 : EReal) else 0 := by
  have h : iblk m c 12 t (ix2 i j) = V m c main_v16 (ix2 i j) := by blk_ext [iblk, idx t]
  rw [h, V_v16]
  rfl

end Cert.Kernel15Ideal.Step
end
-- ==== Proof.StepState.lean ====
/- The sample group's states after the eight rows of a sequence. -/
module

public import proofs.«01_k».proof.Proof.StepBase
public import proofs.«01_k».proof.Proof.StepHost
public import proofs.«01_k».proof.Proof.ScanState
public import Idealize.ShloMosaic.Lib.Pipeline.ReadBack

@[expose] public section

set_option maxRecDepth 16384

noncomputable section

namespace Cert.Kernel15Ideal.Step

open Idealize.ShloMosaic Idealize.ShloMosaic.TcCoe Idealize.SL.Sem
open Cert.Kernel15Ideal Cert.Kernel15Ideal.Gen Cert.Kernel15Ideal.Value
open Cert.KernelIdeal.Scan (canon_dropLast)

open Cert.StepMath
variable (m : (ℓ : Loc nD τ sig) → Buf (Elt Ideal) ℓ)

/-- The call's arrays, by coordinates. -/
def inp (c : Dev nD) : Inp where
  x r q := m ((c : Thread nD τ).loc main_arg0) (ix2 r q)
  d r q := m ((c : Thread nD τ).loc main_arg2) (ix2 r q)
  p s i q := m ((c : Thread nD τ).loc main_arg3) (ix3 s i q)
  h s r n := m ((c : Thread nD τ).loc main_arg4) (ix4 s ⟨r.val / 64, by omega⟩ ⟨r.val % 64, by omega⟩ n)
  w i q := m ((c : Thread nD τ).loc main_arg5) (ix2 i q)
  b q := m ((c : Thread nD τ).loc main_arg6) (ix1 q)
  db k := m ((c : Thread nD τ).loc main_arg7) (ix1 k)
  al k := m ((c : Thread nD τ).loc main_arg8) (ix1 k)

/-- The block of step inputs, as it lies in scratch. -/
abbrev steps (P : S8x128.Idx → EReal) : S128x128.Idx → EReal :=
  (View.whole (sig := sig) cc0_scratch1).readCov (Val := Elt Ideal)
    [⟨Rect.unit ![0, 0] ![8, 128] inb_S128x128_S8x128_0_0, k0_pay7 (F := Ideal) P⟩,
      ⟨Rect.unit ![0, 0] ![128, 128] inb_S128x128_S128x128_0_0, k0_pay6 (F := Ideal)⟩]
    (Rect.unit (s := S128x128) ![0, 0] ![128, 128] inb_S128x128_S128x128_0_0).toLoadRect

/-- Its first eight rows. -/
theorem steps_val (P : S8x128.Idx → EReal) (i : Fin 8) (k : Fin 128) : steps P (ix2 ⟨i.val, by omega⟩ k) = P (ix2 i k) := by
  unfold steps
  rw [View.readCov_eq_canon']
  have e : (Rect.unit (s := S128x128) ![0, 0] ![128, 128] inb_S128x128_S128x128_0_0).toLoadRect.idx (ix2 (⟨i.val, by omega⟩ : Fin 128) k)
      = (Rect.unit (s := S128x128) ![0, 0] ![8, 128] inb_S128x128_S8x128_0_0).emb (ix2 i k) := by
    funext a
    refine Fin.ext ((Rect.idx_unit_val _ _ _ _ _).trans (Eq.trans ?_ (Rect.idx_unit_val _ _ _ _ _).symm))
    fin_cases a <;> rfl
  refine (congrArg _ e).trans ((View.canon_cons_emb _ _ _ _).trans ?_)
  pointwise [k0_pay7]

/-- The step lengths of the block. -/
theorem stp_pt (c : Dev nD) (t : Fin cfg0.N) (i k : Fin 128) (hk : k.val < 32) :
    stp (steps (iblk m c 2 t)) (iblk m c 7 t) i k = (inp m c).dtB (seq t) i ⟨k.val, hk⟩ := by
  unfold stp Inp.dtB
  by_cases h : i.val < 8
  · rw [if_pos h, dif_pos h, steps_val _ ⟨i.val, h⟩ k, step_val, bias_val, V_v21 m c k hk]
    rfl
  · rw [if_neg h, dif_neg h]

/-- The running sums of the block. -/
theorem rsum_pt (c : Dev nD) (t : Fin cfg0.N) (k i : Fin 128) (hk : k.val < 32) :
    rsum (steps (iblk m c 2 t)) (iblk m c 7 t) (iblk m c 8 t) k i = (inp m c).acB (seq t) ⟨k.val, hk⟩ i := by
  unfold rsum Inp.acB
  refine congrArg (fun f => ScanMath.cum f i) (funext fun j => ?_)
  rw [stp_pt m c t j k hk, alog_val, V_v23 m c k hk]
  rfl

/-- The weights of the block. -/
theorem wgt_pt (c : Dev nD) (t : Fin cfg0.N) (k i : Fin 128) (hk : k.val < 32) :
    wgt (steps (iblk m c 2 t)) (iblk m c 7 t) (iblk m c 8 t) k i = (inp m c).wtB (seq t) ⟨k.val, hk⟩ i := by
  unfold wgt Inp.wtB
  rw [stp_pt m c t i k hk, rsum_pt m c t k _ hk, rsum_pt m c t k _ hk]

/-- The rows before the sequence and its own, as they lie in scratch from a row on. -/
abbrev shifted (P : S8x3072.Idx → EReal) (Q : S1x8x3072.Idx → EReal) (k : ℕ)
    (inb : ∀ a : Fin S136x3072.rank, (![k, 0] : Fin S136x3072.rank → ℕ) a + (![128, 3072] : Fin S136x3072.rank → ℕ) a ≤ S136x3072.size a) :
    S128x3072.Idx → EReal :=
  (View.whole (sig := sig) cc0_scratch0).readCov (Val := Elt Ideal)
    [⟨Rect.unit ![8, 0] ![8, 3072] inb_S136x3072_S8x3072_8_0, k0_pay8 (F := Ideal) P⟩,
      ⟨Rect.unit ![16, 0] ![120, 3072] inb_S136x3072_S120x3072_16_0, k0_pay5 (F := Ideal)⟩,
      ⟨Rect.unit ![0, 0] ![8, 3072] inb_S136x3072_S8x3072_0_0, k0_pay2 (F := Ideal) Q⟩]
    (Rect.unit (s := S136x3072) ![k, 0] ![128, 3072] inb).toLoadRect

/-- A row of the sequence, read from scratch. -/
theorem shifted_own (P : S8x3072.Idx → EReal) (Q : S1x8x3072.Idx → EReal) (k : ℕ) (inb) (i : Fin 128) (q : Fin 3072)
    (n : Fin 8) (hn : k + i.val = 8 + n.val) : shifted P Q k inb (ix2 i q) = P (ix2 n q) := by
  unfold shifted
  rw [View.readCov_eq_canon']
  have e : (Rect.unit (s := S136x3072) ![k, 0] ![128, 3072] inb).toLoadRect.idx (ix2 i q)
      = (Rect.unit (s := S136x3072) ![8, 0] ![8, 3072] inb_S136x3072_S8x3072_8_0).emb (ix2 n q) := by
    funext a
    refine Fin.ext ((Rect.idx_unit_val _ _ _ _ _).trans (Eq.trans ?_ (Rect.idx_unit_val _ _ _ _ _).symm))
    fin_cases a
    · exact hn
    · rfl
  refine (congrArg _ e).trans ((View.canon_cons_emb _ _ _ _).trans ?_)
  pointwise [k0_pay8]

/-- A row before the sequence, read from scratch. -/
theorem shifted_before (P : S8x3072.Idx → EReal) (Q : S1x8x3072.Idx → EReal) (k : ℕ) (inb) (i : Fin 128) (q : Fin 3072)
    (n : Fin 8) (hn : k + i.val = n.val) : shifted P Q k inb (ix2 i q) = Q (ix3 0 n q) := by
  unfold shifted
  rw [View.readCov_eq_canon']
  have e : (Rect.unit (s := S136x3072) ![k, 0] ![128, 3072] inb).toLoadRect.idx (ix2 i q)
      = (Rect.unit (s := S136x3072) ![0, 0] ![8, 3072] inb_S136x3072_S8x3072_0_0).emb (ix2 n q) := by
    funext a
    refine Fin.ext ((Rect.idx_unit_val _ _ _ _ _).trans (Eq.trans ?_ (Rect.idx_unit_val _ _ _ _ _).symm))
    fin_cases a
    · exact hn.trans (Nat.zero_add _).symm
    · rfl
  refine (congrArg _ e).trans ?_
  rw [View.canon_cons_of_not_mem _ _ ?_, View.canon_cons_of_not_mem _ _ ?_, View.canon_cons_emb]
  · pointwise [k0_pay2]
  · intro hm
    have h := ((Rect.mem_set_unit (inb := inb_S136x3072_S120x3072_16_0)).mp hm 0).1
    rw [show ((Rect.unit (s := S136x3072) ![0, 0] ![8, 3072] inb_S136x3072_S8x3072_0_0).emb (ix2 n q) 0).val = 0 + n.val from Rect.idx_unit_val _ _ _ _ _] at h
    have h' : 16 ≤ 0 + n.val := h
    omega
  · intro hm
    have h := ((Rect.mem_set_unit (inb := inb_S136x3072_S8x3072_8_0)).mp hm 0).1
    rw [show ((Rect.unit (s := S136x3072) ![0, 0] ![8, 3072] inb_S136x3072_S8x3072_0_0).emb (ix2 n q) 0).val = 0 + n.val from Rect.idx_unit_val _ _ _ _ _] at h
    have h' : 8 ≤ 0 + n.val := h
    omega

/-- A row of the sequence behind its prefix, read from scratch. -/
theorem xp_pt (c : Dev nD) (t : Fin cfg0.N) (k : ℕ) (inb) (i : Fin 128) (q : Fin 3072) (n : ℕ) (hn : k + i.val = 5 + n) (h : n < 11) :
    shifted (iblk m c 0 t) (iblk m c 3 t) k inb (ix2 i q) = (inp m c).xp (seq t) n q := by
  unfold Inp.xp
  by_cases h3 : n < 3
  · rw [dif_pos h3, shifted_before _ _ k inb i q ⟨5 + n, by omega⟩ hn, prefix_val]
    exact V_v17 m c (seq t) ⟨n, h3⟩ q
  · rw [dif_neg h3, dif_pos (by omega), shifted_own _ _ k inb i q ⟨n - 3, by omega⟩ (by show k + i.val = 8 + (n - 3); omega), xbc_val]
    rfl

/-- The convolved rows of the block. -/
theorem xc_pt (c : Dev nD) (t : Fin cfg0.N) (i : Fin 128) (q : Fin 3072) :
    k0_pay10 (k0_pay9 (iblk m c 6 t))
        (View.ld (iblk m c 5 t) (Rect.unit ![0, 0] ![1, 3072] inb_S4x3072_S1x3072_0_0))
        (shifted (iblk m c 0 t) (iblk m c 3 t) 5 inb_S136x3072_S128x3072_5_0)
        (View.ld (iblk m c 5 t) (Rect.unit ![1, 0] ![1, 3072] inb_S4x3072_S1x3072_1_0))
        (shifted (iblk m c 0 t) (iblk m c 3 t) 6 inb_S136x3072_S128x3072_6_0)
        (View.ld (iblk m c 5 t) (Rect.unit ![2, 0] ![1, 3072] inb_S4x3072_S1x3072_2_0))
        (shifted (iblk m c 0 t) (iblk m c 3 t) 7 inb_S136x3072_S128x3072_7_0)
        (View.ld (iblk m c 5 t) (Rect.unit ![3, 0] ![1, 3072] inb_S4x3072_S1x3072_3_0))
        (shifted (iblk m c 0 t) (iblk m c 3 t) 8 inb_S136x3072_S128x3072_8_0) (ix2 i q)
      = (inp m c).xcB (seq t) i q := by
  rw [conv_val]
  unfold Inp.xcB
  by_cases h : i.val < 8
  · rw [if_pos h, dif_pos h, xp_pt m c t 5 _ i q i.val rfl (by omega), xp_pt m c t 6 _ i q (i.val + 1) (by omega) (by omega),
      xp_pt m c t 7 _ i q (i.val + 2) (by omega) (by omega), xp_pt m c t 8 _ i q (i.val + 3) (by omega) (by omega)]
    pointwise []
    rw [cb_val, V_v19, cw_val, cw_val, cw_val, cw_val]
    rfl
  · rw [if_neg h, dif_neg h]

/-- A state, from the block's weighted rows, its rows and the running sums. -/
def hnext (H : S1x2048x128.Idx → EReal) (X : S128x3072.Idx → EReal) (W : S128x2048.Idx → EReal) (A : S128x128.Idx → EReal)
    (y : S1x2048x128.Idx) : EReal :=
  H y * Ideal.exp (A (ix2 ⟨(y 1).val / 64, by have h : (y 1).val < 2048 := (y 1).2; omega⟩ 127))
    + ∑ j : Fin 128, W (ix2 j ⟨(y 1).val, (y 1).2⟩)
      * X (ix2 j ⟨2048 + 128 * ((y 1).val / 512) + (y 2).val,
          by have h : (y 1).val < 2048 := (y 1).2; have h : (y 2).val < 128 := (y 2).2; omega⟩)

/-- The state of a sequence after its rows. -/
theorem state (c : Dev nD) (hf : (inp m c).Below) (t : Fin cfg0.N) (r : Fin 2048) (n : Fin 128) :
    (outsAt0 m c t).2 (ix3 0 r n) = (inp m c).st (seq t) r n := by
  unfold outsAt0
  dsimp only
  frame_open
  simp (disch := decide) only [↓ View.readCov_skip, ↓ View.readCov_cons_toLoadRect, ↓ View.readCov_fill]
  frame_out
  generalize hD : k0_pay23 (F := Ideal) _ _ _ _ _ = W
  generalize hX : k0_pay10 (F := Ideal) _ _ _ _ _ _ _ _ _ = X
  generalize hA : k0_pay14 (F := Ideal) _ _ _ _ _ _ _ _ = A
  refine Eq.trans (b := hnext (k0_pay3 (iblk m c 4 t)) X W A (ix3 0 r n)) ?_ ?_
  · clear hX hD hA
    generalize (ix3 (0 : Fin 1) r n : S1x2048x128.Idx) = y
    rw [canon_dropLast _ _ (View.cover_of_tiled _ ![1, 64, 128] (by rfl) y)]
    simp only [List.dropLast]
    canon_tiles x h
    all_goals
      open_payloads
      pointwise [hnext]
      blk_point []
  · have hk : r.val / 64 < 32 := by omega
    have ex : ∀ (i : Fin 128) (q : Fin 3072), X (ix2 i q) = (inp m c).xcB (seq t) i q := fun i q => by
      rw [← hX]; exact xc_pt m c t i q
    have ea : A (ix2 ⟨r.val / 64, by omega⟩ 127) = (inp m c).acB (seq t) (Inp.head r) 127 := by
      rw [← hA]
      exact (turned_val (steps (iblk m c 2 t)) _ _ _ 127 ⟨r.val / 64, by omega⟩ hk (l_val m c t)).trans (rsum_pt m c t _ _ hk)
    have ew : ∀ j : Fin 128, W (ix2 j r) = (inp m c).xcB (seq t) j ⟨r.val, by omega⟩ * (inp m c).wtB (seq t) (Inp.head r) j := fun j => by
      have e := wgt_pt m c t ⟨r.val / 64, by omega⟩ j hk
      rw [← hD]
      refine (xw_val _ (steps (iblk m c 2 t)) _ _ _ _ j r ⟨r.val / 64, by omega⟩ hk rfl (l_val m c t) (fun x => e_val m c t x r) ?_ ?_).trans
        (congrArg₂ (· * ·) (xc_pt m c t j _) e)
      · rw [e]; exact (inp m c).wtB_ne_top (seq t) hf _ _
      · rw [e]; exact (inp m c).wtB_ne_bot (seq t) _ _
    rw [← (inp m c).st_block (seq t) r n]
    refine congrArg₂ (· + ·) (congrArg₂ (· * ·) ?_ (congrArg Ideal.exp ea)) (Finset.sum_congr rfl fun j _ => congrArg₂ (· * ·) (ew j) (ex j _))
    pointwise [k0_pay3]
    rw [h0_val, V_v18]
    rfl

end Cert.Kernel15Ideal.Step
end
-- ==== Proof.StepRef.lean ====
/- The reference's states of the sample group, in the same formulas. -/
module

public import proofs.«01_k».proof.Proof.Gen.Reference15Ideal.Read
public import proofs.«01_k».proof.Proof.StepMath
public import proofs.«01_k».proof.Proof.ScanRef
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem
open scoped BigOperators

namespace Cert.Reference15Ideal.Step

open Cert.Reference15Ideal Cert.Reference15Ideal.Gen Cert.Reference15Ideal.Read Cert.StepMath
open Cert.ScanMath (conv soft)
open Cert.ReferenceIdeal.Scan (foldl_add)

/-- The window of the running sum. -/
abbrev Win : Shape := ⟨4, ![1, 8, 1, 1]⟩

/-- The positions of the window are the numbers below its height. -/
def winEquiv : Fin 8 ≃ Win.Idx where
  toFun n := ix4 (0 : Fin 1) n (0 : Fin 1) (0 : Fin 1)
  invFun w := w 1
  left_inv _ := rfl
  right_inv w := funext fun a => by
    fin_cases a
    · exact (Subsingleton.elim (α := Fin 1) _ _)
    · rfl
    · exact (Subsingleton.elim (α := Fin 1) _ _)
    · exact (Subsingleton.elim (α := Fin 1) _ _)

/-- What a position of the window reads. -/
def window (x : S32x8x4x8.Idx → EReal) (s : Fin 32) (i : Fin 8) (g : Fin 4) (k : Fin 8) (v : EReal) (w : Win.Idx) : EReal :=
  if hin : ∀ a : Fin 4, (![0, 7, 0, 0] : Fin 4 → ℕ) a ≤ (ix4 s i g k a).val * (![1, 1, 1, 1] : Fin 4 → ℕ) a + (w a).val
      ∧ (ix4 s i g k a).val * (![1, 1, 1, 1] : Fin 4 → ℕ) a + (w a).val - (![0, 7, 0, 0] : Fin 4 → ℕ) a < S32x8x4x8.size a
  then x fun a => ⟨(ix4 s i g k a).val * (![1, 1, 1, 1] : Fin 4 → ℕ) a + (w a).val - (![0, 7, 0, 0] : Fin 4 → ℕ) a, (hin a).2⟩ else v

theorem window_val (x : S32x8x4x8.Idx → EReal) (s : Fin 32) (i : Fin 8) (g : Fin 4) (k : Fin 8) (n : Fin 8) :
    window x s i g k 0 (winEquiv n) = if h : 7 ≤ i.val + n.val then x (ix4 s ⟨i.val + n.val - 7, by omega⟩ g k) else 0 := by
  unfold window
  by_cases h : 7 ≤ i.val + n.val
  · have hin : ∀ a : Fin 4, (![0, 7, 0, 0] : Fin 4 → ℕ) a ≤ (ix4 s i g k a).val * (![1, 1, 1, 1] : Fin 4 → ℕ) a + (winEquiv n a).val
        ∧ (ix4 s i g k a).val * (![1, 1, 1, 1] : Fin 4 → ℕ) a + (winEquiv n a).val - (![0, 7, 0, 0] : Fin 4 → ℕ) a < S32x8x4x8.size a := by
      intro a
      fin_cases a
      · show 0 ≤ s.val * 1 + 0 ∧ s.val * 1 + 0 - 0 < 32; omega
      · show 7 ≤ i.val * 1 + n.val ∧ i.val * 1 + n.val - 7 < 8; omega
      · show 0 ≤ g.val * 1 + 0 ∧ g.val * 1 + 0 - 0 < 4; omega
      · show 0 ≤ k.val * 1 + 0 ∧ k.val * 1 + 0 - 0 < 8; omega
    rw [dif_pos hin, dif_pos h]
    refine congrArg x (funext fun a => ?_)
    fin_cases a
    · exact Fin.ext (by show s.val * 1 + 0 - 0 = s.val; omega)
    · exact Fin.ext (by show i.val * 1 + n.val - 7 = i.val + n.val - 7; omega)
    · exact Fin.ext (by show g.val * 1 + 0 - 0 = g.val; omega)
    · exact Fin.ext (by show k.val * 1 + 0 - 0 = k.val; omega)
  · rw [dif_neg h, dif_neg fun hin => ?_]
    have h2 : 7 ≤ i.val * 1 + n.val := (hin 1).1
    omega

/-- The window sum along the rows is the running sum. -/
theorem cumsum_val (x : S32x8x4x8.Idx → EReal) (z : S_.Idx → EReal) (hz : ∀ y, z y = 0) (s : Fin 32) (i : Fin 8) (g : Fin 4) (k : Fin 8) :
    Host.reduceWindowAdd (F := Ideal) (φ := .f32) ![1, 8, 1, 1] ![1, 1, 1, 1] ![0, 7, 0, 0] ![0, 0, 0, 0] x z
        reduceWindows_S32x8x4x8_S32x8x4x8_w1s1p0_0_w8s1p7_0_w1s1p0_0_w1s1p0_0 h_S_ (ix4 s i g k)
      = ∑ j : Fin 8, if j ≤ i then x (ix4 s j g k) else 0 := by
  show (List.finRange _).foldl _ _ = _
  rw [foldl_add, hz, zero_add]
  refine (Finset.sum_congr rfl fun n _ => (?_ : _ = window x s i g k 0 (Win.rowMajor.symm n))).trans ?_
  · unfold window
    split_ifs with h1 h2 h2
    · rfl
    · exact absurd h1 h2
    · exact absurd h2 h1
    · rfl
  rw [Equiv.sum_comp Win.rowMajor.symm (window x s i g k 0), ← Equiv.sum_comp winEquiv]
  refine Eq.trans ?_ (Equiv.sum_comp (Equiv.addLeft (i + 1)) (fun j => if j ≤ i then x (ix4 s j g k) else 0))
  refine Finset.sum_congr rfl fun n _ => (window_val x s i g k _).trans ?_
  have hv : (i + 1 + n).val = (i.val + 1 + n.val) % 8 := by rw [Fin.val_add, Fin.val_add]; show ((i.val + 1) % 8 + n.val) % 8 = _; omega
  show (if h : 7 ≤ i.val + n.val then x (ix4 s ⟨i.val + n.val - 7, _⟩ g k) else 0) = if i + 1 + n ≤ i then x (ix4 s (i + 1 + n) g k) else 0
  by_cases h : 7 ≤ i.val + n.val
  · rw [dif_pos h, if_pos (Fin.le_def.mpr (by rw [hv]; omega))]
    exact congrArg (fun r => x (ix4 s r g k)) (Fin.ext (by rw [hv]; show i.val + n.val - 7 = _; omega))
  · rw [dif_neg h, if_neg (fun h' => by have := Fin.le_def.mp h'; rw [hv] at this; omega)]

variable (I : Inp)

/-- The rows. -/
def a0 : FVec Ideal S256x3072 .f32 := fun y => I.x ⟨(y 0).val, (y 0).2⟩ ⟨(y 1).val, (y 1).2⟩
/-- The steps. -/
def a2 : FVec Ideal S256x128 .f32 := fun y => I.d ⟨(y 0).val, (y 0).2⟩ ⟨(y 1).val, (y 1).2⟩
/-- The prefixes. -/
def a3 : FVec Ideal S32x3x3072 .f32 := fun y => I.p ⟨(y 0).val, (y 0).2⟩ ⟨(y 1).val, (y 1).2⟩ ⟨(y 2).val, (y 2).2⟩
/-- The old states. -/
def a4 : FVec Ideal S32x32x64x128 .f32 := fun y =>
  I.h ⟨(y 0).val, (y 0).2⟩ ⟨64 * (y 1).val + (y 2).val, by have h : (y 1).val < 32 := (y 1).2; have h' : (y 2).val < 64 := (y 2).2; omega⟩ ⟨(y 3).val, (y 3).2⟩
/-- The taps. -/
def a5 : FVec Ideal S4x3072 .f32 := fun y => I.w ⟨(y 0).val, (y 0).2⟩ ⟨(y 1).val, (y 1).2⟩
/-- The bias of the convolution. -/
def a6 : FVec Ideal S3072 .f32 := fun y => I.b ⟨(y 0).val, (y 0).2⟩
/-- The bias of the steps. -/
def a7 : FVec Ideal S32 .f32 := fun y => I.db ⟨(y 0).val, (y 0).2⟩
/-- The decay rates. -/
def a8 : FVec Ideal S32 .f32 := fun y => I.al ⟨(y 0).val, (y 0).2⟩

/-- The rows behind the prefix. -/
theorem xp_val (s : Fin 32) (n : Fin 11) (q : Fin 3072) : val_main_v1 (F := Ideal) (a0 I) (a3 I) (ix3 s n q) = I.xp s n.val q := by
  pointwise [val_main_v1, val_main_v0]
  unfold Inp.xp
  by_cases h : n.val < 3
  · rw [dif_pos h, dif_pos h]; rfl
  · rw [dif_neg h, dif_neg h, dif_pos (by omega)]
    exact congrArg (fun r => I.x r q) (Fin.ext (by show s.val * 8 + (n.val - 3) = 8 * s.val + (n.val - 3); omega))

/-- The convolved and gated rows. -/
theorem xc_val (s : Fin 32) (i : Fin 8) (q : Fin 3072) :
    val_main_v32 (F := Ideal) (a0 I) (a3 I) (a5 I) (a6 I) (ix3 s i q) = I.xc s i q := by
  pointwise [val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_call0_v0, val_main_call0_v1, val_main_call0_cst, val_main_call0_v2, val_main_call0_v3, val_main_call0_cst_0, val_main_call0_v4, val_main_call0_v5, val_main_v32]
  simp only [xp_val]
  unfold Inp.xc Inp.cv conv Ideal.logistic
  rw [show 1 + i.val = i.val + 1 by omega, show 2 + i.val = i.val + 2 by omega, show 3 + i.val = i.val + 3 by omega]
  simp only [mul_comm (I.xp s _ q)]
  rfl

/-- The step lengths. -/
theorem dt_val (s : Fin 32) (i : Fin 8) (k : Fin 32) :
    val_main_v40 (F := Ideal) (a2 I) (a7 I) (ix3 s i k) = I.dt s i k := by
  pointwise [val_main_v35, val_main_v36, val_main_v37, val_main_v38, val_main_v39, val_main_call1_cst, val_main_call1_v0, val_main_call1_v1, val_main_call1_v2, val_main_call1_v3, val_main_call1_v4, val_main_call1_v5, val_main_call1_v6, val_main_call1_v7, val_main_call1_v8, val_main_call1_v9, val_main_call1_v10, val_main_call1_v11, val_main_v40]
  rw [if_neg (not_not_intro rfl)]
  unfold Inp.dt soft
  have e : a2 I (ix2 ⟨s.val * 8 + i.val, by omega⟩ ⟨k.val, by omega⟩) = I.d (Inp.row s i) ⟨k.val, by omega⟩ :=
    congrArg (fun r => I.d r _) (Fin.ext (by show s.val * 8 + i.val = 8 * s.val + i.val; omega))
  rw [e, zero_sub]
  rfl

/-- The running sums of the decays. -/
theorem ac_val (s : Fin 32) (i : Fin 8) (g : Fin 4) (h : Fin 8) (k : Fin 32) (hk : k.val = 8 * g.val + h.val) :
    val_main_v52 (F := Ideal) (a2 I) (a7 I) (a8 I) (ix4 s i g h) = I.ac s k i := by
  unfold val_main_v52
  rw [cumsum_val _ _ (fun y => by pointwise [val_main_call2_call0_v0, val_main_call2_call0_cst])]
  unfold Inp.ac
  refine Finset.sum_congr rfl fun j _ => ?_
  refine congrArg (fun v : EReal => if j ≤ i then v else 0) ?_
  pointwise [val_main_v41, val_main_v42, val_main_v48, val_main_v49, val_main_v50, val_main_v51]
  have e : (⟨g.val * 8 + h.val, by omega⟩ : Fin 32) = k := Fin.ext (by show g.val * 8 + h.val = _; omega)
  rw [dt_val I s, e]
  unfold Inp.a
  rw [zero_sub]
  rfl

/-- What the rows add to the state. -/
theorem inc_val (s : Fin 32) (g : Fin 4) (h : Fin 8) (p : Fin 64) (n : Fin 128) (q : Fin 2048) (hq : q.val = 512 * g.val + 64 * h.val + p.val) :
    val_main_v61 (F := Ideal) (a0 I) (a2 I) (a3 I) (a5 I) (a6 I) (a7 I) (a8 I) (ix5 s g h p n)
      = ∑ j : Fin 8, I.xc s j ⟨q.val, by omega⟩ * I.wt s (Inp.head q) j * I.xc s j ⟨2048 + 128 * (q.val / 512) + n.val, by omega⟩ := by
  pointwise [val_main_v33, val_main_v34, val_main_v43, val_main_v44, val_main_v45, val_main_v46, val_main_v47, val_main_v53, val_main_v54, val_main_v55, val_main_v56, val_main_v57, val_main_v58, val_main_v59, val_main_v60, val_main_v61]
  refine Finset.sum_congr rfl fun x _ => ?_
  have hk : (Inp.head q).val = 8 * g.val + h.val := by show q.val / 64 = _; omega
  simp only [xc_val, dt_val]
  rw [ac_val I s 7 g h _ hk, ac_val I s x g h _ hk, Inp.wt]
  have e1 : (⟨(g.val * 8 + h.val) * 64 + p.val, by omega⟩ : Fin 3072) = ⟨q.val, by omega⟩ := Fin.ext (by show (g.val * 8 + h.val) * 64 + p.val = q.val; omega)
  have e2 : (⟨g.val * 8 + h.val, by omega⟩ : Fin 32) = Inp.head q := Fin.ext (by show g.val * 8 + h.val = q.val / 64; omega)
  have e3 : (⟨2048 + (g.val * 128 + n.val), by omega⟩ : Fin 3072) = ⟨2048 + 128 * (q.val / 512) + n.val, by omega⟩ := Fin.ext (by show 2048 + (g.val * 128 + n.val) = 2048 + 128 * (q.val / 512) + n.val; omega)
  rw [e1, e2, e3]
  ac_rfl

/-- The states. -/
theorem last_val (s : Fin 32) (r : Fin 2048) (n : Fin 128) :
    val_main_v70 (F := Ideal) (a0 I) (a2 I) (a3 I) (a4 I) (a5 I) (a6 I) (a7 I) (a8 I) (ix3 s r n) = I.st s r n := by
  have e : val_main_v70 (F := Ideal) (a0 I) (a2 I) (a3 I) (a4 I) (a5 I) (a6 I) (a7 I) (a8 I) (ix3 s r n)
      = val_main_v69 (F := Ideal) (a0 I) (a2 I) (a3 I) (a4 I) (a5 I) (a6 I) (a7 I) (a8 I)
          (ix5 s (⟨r.val / 512, by omega⟩ : Fin 4) (⟨r.val % 512 / 64, by omega⟩ : Fin 8) (⟨r.val % 64, by omega⟩ : Fin 64) n) := by
    rw [val_main_v70_apply]
    refine congrArg _ (funext fun a => ?_)
    fin_cases a
    · exact Fin.ext (by show ((s.val * 2048 + r.val) * 128 + n.val) / 262144 = s.val; omega)
    · exact Fin.ext (by show ((s.val * 2048 + r.val) * 128 + n.val) / 65536 % 4 = r.val / 512; omega)
    · exact Fin.ext (by show ((s.val * 2048 + r.val) * 128 + n.val) / 8192 % 8 = r.val % 512 / 64; omega)
    · exact Fin.ext (by show ((s.val * 2048 + r.val) * 128 + n.val) / 128 % 64 = r.val % 64; omega)
    · exact Fin.ext (by show ((s.val * 2048 + r.val) * 128 + n.val) % 128 = n.val; omega)
  rw [e]
  have hk : (Inp.head r).val = 8 * (r.val / 512) + r.val % 512 / 64 := by show r.val / 64 = _; omega
  pointwise [val_main_v62, val_main_v63, val_main_v64, val_main_v65, val_main_v66, val_main_v67, val_main_v68, val_main_v69]
  rw [ac_val I s 7 _ _ _ hk, inc_val I s _ _ _ n r (by show r.val = 512 * (r.val / 512) + 64 * (r.val % 512 / 64) + r.val % 64; omega), Inp.st]
  refine congrArg₂ (· + ·) (congrArg₂ (· * ·) ?_ rfl) rfl
  exact congrArg (fun v => I.h s v n) (Fin.ext (by show 64 * (r.val / 512 * 8 + r.val % 512 / 64) + r.val % 64 = r.val; omega))

end Cert.Reference15Ideal.Step
end
-- ==== Proof.StepFinal.lean ====
/- The sample group's states are the reference's, from equal arguments. -/
module

public import proofs.«01_k».proof.Defs
public import proofs.«01_k».proof.Proof.StepState
public import proofs.«01_k».proof.Proof.StepRef
public import proofs.«01_k».proof.Proof.Gen.Pre_sample_steps_finite

@[expose] public section

set_option maxRecDepth 16384

noncomputable section

namespace Cert.Kernel15Ideal.Step

open Idealize.ShloMosaic Idealize.ShloMosaic.TcCoe Idealize.SL.Sem
open Cert.Kernel15Ideal Cert.Kernel15Ideal.Gen Cert.Kernel15Ideal.Value

open Cert.StepMath
variable (m : (ℓ : Loc nD τ sig) → Buf (Elt Ideal) ℓ)

theorem arg0_eq (c : Dev nD) : m ((c : Thread nD τ).loc main_arg0) = Reference15Ideal.Step.a0 (inp m c) := funext fun y =>
  congrArg (m ((c : Thread nD τ).loc main_arg0)) (funext fun a => by fin_cases a <;> rfl)

theorem arg2_eq (c : Dev nD) : m ((c : Thread nD τ).loc main_arg2) = Reference15Ideal.Step.a2 (inp m c) := funext fun y =>
  congrArg (m ((c : Thread nD τ).loc main_arg2)) (funext fun a => by fin_cases a <;> rfl)

theorem arg3_eq (c : Dev nD) : m ((c : Thread nD τ).loc main_arg3) = Reference15Ideal.Step.a3 (inp m c) := funext fun y =>
  congrArg (m ((c : Thread nD τ).loc main_arg3)) (funext fun a => by fin_cases a <;> rfl)

theorem arg4_eq (c : Dev nD) : m ((c : Thread nD τ).loc main_arg4) = Reference15Ideal.Step.a4 (inp m c) := funext fun y => by
  refine congrArg (m ((c : Thread nD τ).loc main_arg4)) (funext fun a => ?_)
  have h1 : (y 1).val < 32 := (y 1).2
  have h2 : (y 2).val < 64 := (y 2).2
  fin_cases a
  · rfl
  · exact Fin.ext (by show (y 1).val = (64 * (y 1).val + (y 2).val) / 64; omega)
  · exact Fin.ext (by show (y 2).val = (64 * (y 1).val + (y 2).val) % 64; omega)
  · rfl

theorem arg5_eq (c : Dev nD) : m ((c : Thread nD τ).loc main_arg5) = Reference15Ideal.Step.a5 (inp m c) := funext fun y =>
  congrArg (m ((c : Thread nD τ).loc main_arg5)) (funext fun a => by fin_cases a <;> rfl)

theorem arg6_eq (c : Dev nD) : m ((c : Thread nD τ).loc main_arg6) = Reference15Ideal.Step.a6 (inp m c) := funext fun y =>
  congrArg (m ((c : Thread nD τ).loc main_arg6)) (funext fun a => by fin_cases a <;> rfl)

theorem arg7_eq (c : Dev nD) : m ((c : Thread nD τ).loc main_arg7) = Reference15Ideal.Step.a7 (inp m c) := funext fun y =>
  congrArg (m ((c : Thread nD τ).loc main_arg7)) (funext fun a => by fin_cases a <;> rfl)

theorem arg8_eq (c : Dev nD) : m ((c : Thread nD τ).loc main_arg8) = Reference15Ideal.Step.a8 (inp m c) := funext fun y =>
  congrArg (m ((c : Thread nD τ).loc main_arg8)) (funext fun a => by fin_cases a <;> rfl)

theorem idx14 : ∀ t : Fin cfg0.N, win0_14.index t = ![t.val, 0, 0] := fun t => (idx t).2.2.2.2.2.2.2.2.2.2.2.2.2.2

/-- Where a sequence's state lies. -/
theorem emb14 (t : Fin cfg0.N) (r : Fin 2048) (n : Fin 128) :
    ((cfg0.win 14).blk t).view.emb (ix3 (0 : Fin 1) r n : S1x2048x128.Idx) = (ix3 (seq t) r n : S32x2048x128.Idx) := by
  refine funext fun a => Fin.ext ?_
  blk_simp
  rw [idx14 t]
  fin_cases a
  · show t.val * 1 + 0 = t.val; omega
  · show 0 * 2048 + r.val = r.val; omega
  · show 0 * 128 + n.val = n.val; omega

/-- A sequence's state is the reference's at the place where it lies. -/
theorem states_point (c : Dev nD) (hf : (inp m c).Below) (t : Fin cfg0.N) (y : S1x2048x128.Idx) :
    (outsAt0 m c t).2 y = Reference15Ideal.Read.val_main_v70 (F := Ideal) (Reference15Ideal.Step.a0 (inp m c)) (Reference15Ideal.Step.a2 (inp m c)) (Reference15Ideal.Step.a3 (inp m c)) (Reference15Ideal.Step.a4 (inp m c)) (Reference15Ideal.Step.a5 (inp m c)) (Reference15Ideal.Step.a6 (inp m c)) (Reference15Ideal.Step.a7 (inp m c)) (Reference15Ideal.Step.a8 (inp m c)) (((cfg0.win 14).blk t).view.emb y) := by
  obtain ⟨r, n, rfl⟩ : ∃ (r : Fin 2048) (n : Fin 128), y = ix3 (0 : Fin 1) r n :=
    ⟨y 1, y 2, (ix3_eta y).symm.trans (congrArg (fun z => ix3 z (y 1) (y 2)) (Subsingleton.elim (α := Fin 1) _ _))⟩
  rw [emb14 t r n, state m c hf t r n]
  exact (Reference15Ideal.Step.last_val (inp m c) (seq t) r n).symm

/-- The states after the run are the reference's. -/
theorem final_states (c : Dev nD) (hf : (inp m c).Below) : (dats m 0 c).arrAt 14 (cfgs 0).N = Reference15Ideal.Read.val_main_v70 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [arg0_eq m c, arg2_eq m c, arg3_eq m c, arg4_eq m c, arg5_eq m c, arg6_eq m c, arg7_eq m c, arg8_eq m c]
  refine (dats m 0 c).arrAt_eq_of_covers 14 _ (by decide +kernel) fun t hf' y => ?_
  blk_simp
  rw [after0_14]
  exact states_point m c hf t y

end Cert.Kernel15Ideal.Step

namespace Cert.Proof

open Idealize.ShloMosaic Idealize.ShloMosaic.TcCoe Idealize.SL.Sem

/-- The precondition says that every step of the sample group is below infinity before the soft maximum. -/
theorem sample_below [Cert.Pre_sample_steps_finite.Facts] (m : (ℓ : Loc Cert.Kernel15Ideal.nD Cert.Kernel15Ideal.τ Cert.Kernel15Ideal.sig) → Buf (Elt Ideal) ℓ)
    (h : Pre_Kernel15Ideal_sample_steps_finite m) (c : Dev Cert.Kernel15Ideal.nD) : (Cert.Kernel15Ideal.Step.inp m c).Below := fun r k e => by
  have hp := congrFun (h c) (ix2 r k)
  revert hp
  pointwise [Cert.Pre_sample_steps_finite.fn]
  intro hp
  erw [e] at hp
  rw [decide_eq_false not_top_lt] at hp
  exact absurd hp (by decide)

/-- From equal arguments the kernel ends with the reference's states. -/
theorem algebraic15 : algebraic_Kernel15Ideal_Reference15Ideal_pre_sample_steps_finite := by
  intro m ρ m' ρ' hpre hagree
  have res : ∀ c : Dev Cert.Kernel15Ideal.nD, Cert.Reference15Ideal.Read.val_main_v70 (F := Ideal) (m' ((c.tc : Thread Cert.Reference15Ideal.nD Cert.Reference15Ideal.τ).loc Cert.Reference15Ideal.main_arg0)) (m' ((c.tc : Thread Cert.Reference15Ideal.nD Cert.Reference15Ideal.τ).loc Cert.Reference15Ideal.main_arg2)) (m' ((c.tc : Thread Cert.Reference15Ideal.nD Cert.Reference15Ideal.τ).loc Cert.Reference15Ideal.main_arg3)) (m' ((c.tc : Thread Cert.Reference15Ideal.nD Cert.Reference15Ideal.τ).loc Cert.Reference15Ideal.main_arg4)) (m' ((c.tc : Thread Cert.Reference15Ideal.nD Cert.Reference15Ideal.τ).loc Cert.Reference15Ideal.main_arg5)) (m' ((c.tc : Thread Cert.Reference15Ideal.nD Cert.Reference15Ideal.τ).loc Cert.Reference15Ideal.main_arg6)) (m' ((c.tc : Thread Cert.Reference15Ideal.nD Cert.Reference15Ideal.τ).loc Cert.Reference15Ideal.main_arg7)) (m' ((c.tc : Thread Cert.Reference15Ideal.nD Cert.Reference15Ideal.τ).loc Cert.Reference15Ideal.main_arg8))
      = (Cert.Kernel15Ideal.Gen.dats m 0 c).arrAt 14 Cert.Kernel15Ideal.cfg0.N := fun c => by
    rw [(hagree c).1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1]
    exact (Cert.Kernel15Ideal.Step.final_states m c (sample_below m hpre c)).symm
  exact ⟨fun c => (Cert.Kernel15Ideal.Gen.dats m 0 c).arrAt 14 Cert.Kernel15Ideal.cfg0.N,
    (θ_run _ _ _).mono (fun _ h c => (h c).2) (Cert.Kernel15Ideal.Value.run_blocks m ρ),
    (θ_run _ _ _).mono (fun _ h c => ⟨((h c).1).trans ((Cert.Reference15Ideal.Read.val_main_v70_eq m' c).trans (res c)), (h c).2⟩)
      (Cert.Reference15Ideal.Value.run (F := Ideal) m' ρ')⟩

end Cert.Proof

end
-- ==== Proof.StepProjection.lean ====
/- The projection to the step sizes, padded to a full register. -/
module

public import proofs.«01_k».proof.Proof.Gen.Kernel12Ideal.Value
public import proofs.«01_k».proof.Proof.Gen.Reference12Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel12Ideal.StepProj

open Cert.Kernel12Ideal Cert.Kernel12Ideal.Gen

variable (m : (ℓ : Loc nD τ sig) → Buf (Elt Ideal) ℓ)

/-- The reference's result as a function of the rows and the weights. -/
abbrev REF (x : FVec Ideal Cert.Reference12Ideal.S16384x1024 .f32) (w : FVec Ideal Cert.Reference12Ideal.S1024x5152 .f32) :
    FVec Ideal Cert.Reference12Ideal.S16384x128 .f32 :=
  Cert.Reference12Ideal.Read.val_main_v4 (F := Ideal) x w

/-- The blocks of the four windows at a grid point: a block of rows, one of columns. -/
theorem idx : ∀ t : Fin cfg0.N, win0_0.index t = ![t.val / 1, 0]
    ∧ win0_1.index t = ![0, t.val % 1]
    ∧ win0_2.index t = ![0, t.val % 1]
    ∧ win0_3.index t = ![t.val / 1, t.val % 1] :=
  (by decide +kernel : ∀ t : Fin grid0.N, _)

/-- The word zero is the number zero. -/
theorem zero_word : FloatOps.sitofp (F := Ideal) FTy.f32 0#32 = (0 : EReal) := by
  show (((0#32 : BitVec 32).toInt : ℝ) : EReal) = 0
  norm_num

/-- The weights as the call gets them: columns of zeros behind the call's own. -/
theorem V_w (c : Dev nD) (i : Fin 1024) (q : Fin 128) : V m c main_v2 (ix2 i q)
    = if h : q.val < 32 then m ((c : Thread nD τ).loc main_arg1) (ix2 i ⟨5120 + q.val, by omega⟩) else (0 : EReal) := by
  unfold V
  simp only [List.flatten_cons, List.flatten_nil, List.append_nil, List.cons_append, List.nil_append]
  after_results
  simp -implicitDefEqProofs only [StableHlo.TRef.toBuf, StableHlo.TRef.ofBuf, cast_cast, cast_eq]
  pointwise
  rw [zero_word]

/-- No bias: the added row holds zeros. -/
theorem V_b (c : Dev nD) (x) : V m c main_v3 x = (0 : EReal) := by
  unfold V
  simp only [List.flatten_cons, List.flatten_nil, List.append_nil, List.cons_append, List.nil_append]
  after_results
  pointwise

theorem x_val (c : Dev nD) (t : Fin cfg0.N) (i : Fin 1024) (k : Fin 1024) :
    iblk m c 0 t (ix2 i k) = m ((c : Thread nD τ).loc main_arg0) (ix2 ⟨1024 * t.val + i.val, by have h : t.val < 16 := t.2; omega⟩ k) := by
  blk_ext [iblk, V, idx t]

theorem w_val (c : Dev nD) (t : Fin cfg0.N) (k : Fin 1024) (q : Fin 128) : iblk m c 1 t (ix2 k q) = V m c main_v2 (ix2 k q) := by
  blk_ext [iblk, idx t]

theorem bias (c : Dev nD) (t : Fin cfg0.N) (q : Fin 128) : iblk m c 2 t (ix2 0 q) = (0 : EReal) := by
  refine Eq.trans (b := V m c main_v3 (ix2 0 q)) ?_ (V_b m c _)
  blk_ext [iblk, idx t]

/-- Where a block lies in the result. -/
theorem emb3 (t : Fin cfg0.N) (i : Fin 1024) (q : Fin 128) :
    ((cfg0.win 3).blk t).view.emb (ix2 i q : S1024x128.Idx) = (ix2 ⟨1024 * t.val + i.val, by have h : t.val < 16 := t.2; omega⟩ q : S16384x128.Idx) := by
  refine funext fun a => Fin.ext ?_
  blk_simp
  rw [(idx t).2.2.2]
  fin_cases a
  · show t.val / 1 * 1024 + i.val = 1024 * t.val + i.val; omega
  · show t.val % 1 * 128 + q.val = q.val; omega

/-- The product with the padded weights is the padded product. -/
theorem sum_pad (f : Fin 1024 → EReal) (g : Fin 1024 → EReal) (p : Prop) [Decidable p] (h : p → Fin 1024 → EReal) (hg : ∀ k, g k = if hp : p then h hp k else 0) :
    ∑ k, f k * g k = if hp : p then ∑ k, f k * h hp k else 0 := by
  by_cases hp : p
  · rw [dif_pos hp]
    exact Finset.sum_congr rfl fun k _ => by rw [hg, dif_pos hp]
  · rw [dif_neg hp]
    exact Finset.sum_eq_zero fun k _ => by rw [hg, dif_neg hp, mul_zero]

/-- The stored block is the reference's block. -/
theorem point (c : Dev nD) (t : Fin cfg0.N) (y : S1024x128.Idx) :
    k0_pay1 (iblk m c 0 t) (iblk m c 1 t) (iblk m c 2 t) y
      = REF (m ((c : Thread nD τ).loc main_arg0)) (m ((c : Thread nD τ).loc main_arg1)) (((cfg0.win 3).blk t).view.emb y) := by
  obtain ⟨i, q, rfl⟩ : ∃ (i : Fin 1024) (q : Fin 128), y = ix2 i q := ⟨y 0, y 1, (ix2_eta y).symm⟩
  rw [emb3 t i q]
  pointwise [k0_pay1, REF, Cert.Reference12Ideal.Read.val_main_v0, Cert.Reference12Ideal.Read.val_main_v3, Cert.Reference12Ideal.Read.val_main_call0_v0, Cert.Reference12Ideal.Read.val_main_c, Cert.Reference12Ideal.Read.val_main_v4]
  rw [bias, add_zero]
  simp only [x_val, w_val]
  rw [sum_pad _ _ (q.val < 32) (fun h k => m ((c : Thread nD τ).loc main_arg1) (ix2 k ⟨5120 + q.val, by omega⟩)) fun k => V_w m c k q]
  have ht : t.val < 16 := t.2
  rw [zero_word]
  by_cases hq : q.val < 32
  · rw [dif_pos hq, dif_pos ⟨by omega, hq⟩]
  · rw [dif_neg hq, dif_neg fun h => hq h.2]

/-- After the run the result's array is the reference's. -/
theorem final (c : Dev nD) : (dats m 0 c).arrAt 3 (cfgs 0).N
    = REF (m ((c : Thread nD τ).loc main_arg0)) (m ((c : Thread nD τ).loc main_arg1)) := by
  refine (dats m 0 c).arrAt_eq_of_covers 3 _ (by decide +kernel) fun t hf y => ?_
  blk_simp; rw [after0_3]; frame_out
  exact point m c t y

end Cert.Kernel12Ideal.StepProj

end
-- ==== Proof.StepProjectionClaim.lean ====
/- Kernel and reference end with the same result, from equal arguments. -/
module

public import proofs.«01_k».proof.Defs
public import proofs.«01_k».proof.Proof.StepProjection

@[expose] public section

set_option maxRecDepth 16384

noncomputable section

namespace Cert.Proof

open Idealize.ShloMosaic Idealize.ShloMosaic.TcCoe Idealize.SL.Sem

/-- From equal arguments the kernel ends with the reference's result. -/
theorem algebraic12 : algebraic_Kernel12Ideal_Reference12Ideal := by
  intro m ρ m' ρ' _ hagree
  have res0 : ∀ c : Dev Cert.Kernel12Ideal.nD, Cert.Reference12Ideal.Read.val_main_v4 (F := Ideal) (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg1))
      = (Cert.Kernel12Ideal.Gen.dats m 0 c).arrAt 3 Cert.Kernel12Ideal.cfg0.N := fun c => by
    rw [(hagree c).1, (hagree c).2]
    exact (Cert.Kernel12Ideal.StepProj.final m c).symm
  exact ⟨fun c => (Cert.Kernel12Ideal.Gen.dats m 0 c).arrAt 3 Cert.Kernel12Ideal.cfg0.N,
    Cert.Kernel12Ideal.Value.run_blocks m ρ,
    (θ_run _ _ _).mono (fun _ h c => ⟨((h c).1).trans ((Cert.Reference12Ideal.Read.val_main_v4_eq _ _).trans (res0 c)), (h c).2.1, (h c).2.2⟩)
      (Cert.Reference12Ideal.Value.run (F := Ideal) m' ρ')⟩

end Cert.Proof

end
-- ==== Proof.AttentionGates.lean ====
/- The attention's gates, a projection under the logistic function. -/
module

public import proofs.«01_k».proof.Proof.Gen.Kernel13Ideal.Value
public import proofs.«01_k».proof.Proof.Gen.Reference13Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel13Ideal.AttnGates

open Cert.Kernel13Ideal Cert.Kernel13Ideal.Gen

variable (m : (ℓ : Loc nD τ sig) → Buf (Elt Ideal) ℓ)

/-- The reference's result as a function of the rows and the weights. -/
abbrev REF (x : FVec Ideal Cert.Reference13Ideal.S256x1024 .f32) (w : FVec Ideal Cert.Reference13Ideal.S1024x2608 .f32) :
    FVec Ideal Cert.Reference13Ideal.S256x128 .f32 :=
  Cert.Reference13Ideal.Read.val_main_v10 (F := Ideal) x w

/-- The blocks of the four windows at a grid point: a block of rows, one of columns. -/
theorem idx : ∀ t : Fin cfg0.N, win0_0.index t = ![t.val / 1, 0]
    ∧ win0_1.index t = ![0, t.val % 1]
    ∧ win0_2.index t = ![0, t.val % 1]
    ∧ win0_3.index t = ![t.val / 1, t.val % 1] :=
  (by decide +kernel : ∀ t : Fin grid0.N, _)

/-- The word zero is the number zero. -/
theorem zero_word : FloatOps.sitofp (F := Ideal) FTy.f32 0#32 = (0 : EReal) := by
  show (((0#32 : BitVec 32).toInt : ℝ) : EReal) = 0
  norm_num

/-- The weights as the call gets them: columns of zeros behind the call's own. -/
theorem V_w (c : Dev nD) (i : Fin 1024) (q : Fin 128) : V m c main_v2 (ix2 i q)
    = if h : q.val < 48 then m ((c : Thread nD τ).loc main_arg1) (ix2 i ⟨2560 + q.val, by omega⟩) else (0 : EReal) := by
  unfold V
  simp only [List.flatten_cons, List.flatten_nil, List.append_nil, List.cons_append, List.nil_append]
  after_results
  simp -implicitDefEqProofs only [StableHlo.TRef.toBuf, StableHlo.TRef.ofBuf, cast_cast, cast_eq]
  pointwise
  rw [zero_word]

/-- No bias: the added row holds zeros. -/
theorem V_b (c : Dev nD) (x) : V m c main_v3 x = (0 : EReal) := by
  unfold V
  simp only [List.flatten_cons, List.flatten_nil, List.append_nil, List.cons_append, List.nil_append]
  after_results
  pointwise

theorem x_val (c : Dev nD) (t : Fin cfg0.N) (i : Fin 256) (k : Fin 1024) :
    iblk m c 0 t (ix2 i k) = m ((c : Thread nD τ).loc main_arg0) (ix2 i k) := by
  blk_ext [iblk, V, idx t]

theorem w_val (c : Dev nD) (t : Fin cfg0.N) (k : Fin 1024) (q : Fin 128) : iblk m c 1 t (ix2 k q) = V m c main_v2 (ix2 k q) := by
  blk_ext [iblk, idx t]

theorem bias (c : Dev nD) (t : Fin cfg0.N) (q : Fin 128) : iblk m c 2 t (ix2 0 q) = (0 : EReal) := by
  refine Eq.trans (b := V m c main_v3 (ix2 0 q)) ?_ (V_b m c _)
  blk_ext [iblk, idx t]

/-- Where a block lies in the result. -/
theorem emb3 (t : Fin cfg0.N) (i : Fin 256) (q : Fin 128) :
    ((cfg0.win 3).blk t).view.emb (ix2 i q : S256x128.Idx) = (ix2 i q : S256x128.Idx) := by
  refine funext fun a => Fin.ext ?_
  blk_simp
  rw [(idx t).2.2.2]
  fin_cases a
  · have h : t.val < 1 := t.2; show t.val / 1 * 256 + i.val = i.val; omega
  · show t.val % 1 * 128 + q.val = q.val; omega

/-- The product with the padded weights is the padded product. -/
theorem sum_pad (f : Fin 1024 → EReal) (g : Fin 1024 → EReal) (p : Prop) [Decidable p] (h : p → Fin 1024 → EReal) (hg : ∀ k, g k = if hp : p then h hp k else 0) :
    ∑ k, f k * g k = if hp : p then ∑ k, f k * h hp k else 0 := by
  by_cases hp : p
  · rw [dif_pos hp]
    exact Finset.sum_congr rfl fun k _ => by rw [hg, dif_pos hp]
  · rw [dif_neg hp]
    exact Finset.sum_eq_zero fun k _ => by rw [hg, dif_neg hp, mul_zero]

/-- The stored block is the reference's block. -/
theorem point (c : Dev nD) (t : Fin cfg0.N) (y : S256x128.Idx) :
    k0_pay1 (iblk m c 0 t) (iblk m c 1 t) (iblk m c 2 t) y
      = REF (m ((c : Thread nD τ).loc main_arg0)) (m ((c : Thread nD τ).loc main_arg1)) (((cfg0.win 3).blk t).view.emb y) := by
  obtain ⟨i, q, rfl⟩ : ∃ (i : Fin 256) (q : Fin 128), y = ix2 i q := ⟨y 0, y 1, (ix2_eta y).symm⟩
  rw [emb3 t i q]
  pointwise [k0_pay1, REF, Cert.Reference13Ideal.Read.val_main_v0, Cert.Reference13Ideal.Read.val_main_v3, Cert.Reference13Ideal.Read.val_main_call0_v0, Cert.Reference13Ideal.Read.val_main_c, Cert.Reference13Ideal.Read.val_main_v4, Cert.Reference13Ideal.Read.val_main_v5, Cert.Reference13Ideal.Read.val_main_v6, Cert.Reference13Ideal.Read.val_main_cst, Cert.Reference13Ideal.Read.val_main_v7, Cert.Reference13Ideal.Read.val_main_v8, Cert.Reference13Ideal.Read.val_main_cst_0, Cert.Reference13Ideal.Read.val_main_v9, Cert.Reference13Ideal.Read.val_main_v10]
  rw [bias, add_zero]
  simp only [x_val, w_val]
  rw [sum_pad _ _ (q.val < 48) (fun h k => m ((c : Thread nD τ).loc main_arg1) (ix2 k ⟨2560 + q.val, by omega⟩)) fun k => V_w m c k q]
  unfold Ideal.logistic
  rw [zero_word]

/-- After the run the result's array is the reference's. -/
theorem final (c : Dev nD) : (dats m 0 c).arrAt 3 (cfgs 0).N
    = REF (m ((c : Thread nD τ).loc main_arg0)) (m ((c : Thread nD τ).loc main_arg1)) := by
  refine (dats m 0 c).arrAt_eq_of_covers 3 _ (by decide +kernel) fun t hf y => ?_
  blk_simp; rw [after0_3]; frame_out
  exact point m c t y

end Cert.Kernel13Ideal.AttnGates

end
-- ==== Proof.AttentionGatesClaim.lean ====
/- Kernel and reference end with the same result, from equal arguments. -/
module

public import proofs.«01_k».proof.Defs
public import proofs.«01_k».proof.Proof.AttentionGates

@[expose] public section

set_option maxRecDepth 16384

noncomputable section

namespace Cert.Proof

open Idealize.ShloMosaic Idealize.ShloMosaic.TcCoe Idealize.SL.Sem

/-- From equal arguments the kernel ends with the reference's result. -/
theorem algebraic13 : algebraic_Kernel13Ideal_Reference13Ideal := by
  intro m ρ m' ρ' _ hagree
  have res0 : ∀ c : Dev Cert.Kernel13Ideal.nD, Cert.Reference13Ideal.Read.val_main_v10 (F := Ideal) (m' ((c.tc : Thread Cert.Reference13Ideal.nD Cert.Reference13Ideal.τ).loc Cert.Reference13Ideal.main_arg0)) (m' ((c.tc : Thread Cert.Reference13Ideal.nD Cert.Reference13Ideal.τ).loc Cert.Reference13Ideal.main_arg1))
      = (Cert.Kernel13Ideal.Gen.dats m 0 c).arrAt 3 Cert.Kernel13Ideal.cfg0.N := fun c => by
    rw [(hagree c).1, (hagree c).2]
    exact (Cert.Kernel13Ideal.AttnGates.final m c).symm
  exact ⟨fun c => (Cert.Kernel13Ideal.Gen.dats m 0 c).arrAt 3 Cert.Kernel13Ideal.cfg0.N,
    Cert.Kernel13Ideal.Value.run_blocks m ρ,
    (θ_run _ _ _).mono (fun _ h c => ⟨((h c).1).trans ((Cert.Reference13Ideal.Read.val_main_v10_eq _ _).trans (res0 c)), (h c).2.1, (h c).2.2⟩)
      (Cert.Reference13Ideal.Value.run (F := Ideal) m' ρ')⟩

end Cert.Proof

end
-- ==== Proof.lean ====
/- The certificate: the frames of every program, the value claims, and their conjunction. -/
module

public import proofs.«01_k».proof.Defs
public import proofs.«01_k».proof.Proof.DenseFfnClaim
public import proofs.«01_k».proof.Proof.ExpertsClaim
public import proofs.«01_k».proof.Proof.GateInputClaim
public import proofs.«01_k».proof.Proof.Gen.Kernel
public import proofs.«01_k».proof.Proof.Gen.Kernel.Frame
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel6
public import proofs.«01_k».proof.Proof.Gen.Kernel6Ideal
public import proofs.«01_k».proof.Proof.Gen.KernelIdeal
public import proofs.«01_k».proof.Proof.Gen.KernelIdeal.Frame
public import proofs.«01_k».proof.Proof.Gen.Pre_experts_named
public import proofs.«01_k».proof.Proof.Gen.Pre_steps_finite
public import proofs.«01_k».proof.Proof.Gen.Reference2Ideal
public import proofs.«01_k».proof.Proof.Gen.Reference2Ideal.Run
public import proofs.«01_k».proof.Proof.Gen.Reference3Ideal
public import proofs.«01_k».proof.Proof.Gen.Reference3Ideal.Run
public import proofs.«01_k».proof.Proof.Gen.Reference4Ideal
public import proofs.«01_k».proof.Proof.Gen.Reference4Ideal.Run
public import proofs.«01_k».proof.Proof.Gen.Reference5Ideal
public import proofs.«01_k».proof.Proof.Gen.Reference5Ideal.Run
public import proofs.«01_k».proof.Proof.Gen.Reference6Ideal
public import proofs.«01_k».proof.Proof.Gen.Reference6Ideal.Run
public import proofs.«01_k».proof.Proof.Gen.ReferenceIdeal
public import proofs.«01_k».proof.Proof.Gen.ReferenceIdeal.Run
public import proofs.«01_k».proof.Proof.OutProjectionClaim
public import proofs.«01_k».proof.Proof.ProjectionClaim
public import proofs.«01_k».proof.Proof.ScanClaim
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.SampleProjectionClaim
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.AttentionProjectionClaim
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.AttentionColumnsClaim
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.AttentionOutClaim
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal
public import proofs.«01_k».proof.Proof.Gen.Reference14Ideal.Run
public import proofs.«01_k».proof.Proof.GateProjectionClaim
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Pre_sample_steps_finite
public import proofs.«01_k».proof.Proof.StepFinal
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Gen.Reference12Ideal.Run
public import proofs.«01_k».proof.Proof.StepProjectionClaim
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Gen.Reference13Ideal.Run
public import proofs.«01_k».proof.Proof.AttentionGatesClaim
public import Idealize.ShloMosaic.Adequacy
public import Idealize.ShloMosaic.Init

@[expose] public section

noncomputable section

namespace Cert.Proof

open Idealize.ShloMosaic Idealize.SL.Sem

/-- The reference `ReferenceIdeal` leaves its arguments and every counter as they were. -/
theorem referenceIdeal_frame : quiescent_ReferenceIdeal := fun m ρ _ =>
  (θ_run Cert.ReferenceIdeal.defs _ _).mono (fun r h => ⟨fun c => ⟨(h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2⟩,
    Idealize.ShloMosaic.sem_eq_zero_of_no_sems (by decide) r.2⟩) (Cert.ReferenceIdeal.Value.run (F := Ideal) m ρ)

/-- The reference `Reference2Ideal` leaves its arguments and every counter as they were. -/
theorem reference2Ideal_frame : quiescent_Reference2Ideal := fun m ρ _ =>
  (θ_run Cert.Reference2Ideal.defs _ _).mono (fun r h => ⟨fun c => ⟨(h c).2.1, (h c).2.2.1, (h c).2.2.2.1, (h c).2.2.2.2.1, (h c).2.2.2.2.2.1, (h c).2.2.2.2.2.2⟩,
    Idealize.ShloMosaic.sem_eq_zero_of_no_sems (by decide) r.2⟩) (Cert.Reference2Ideal.Value.run (F := Ideal) m ρ)

/-- The reference `Reference3Ideal` leaves its arguments and every counter as they were. -/
theorem reference3Ideal_frame : quiescent_Reference3Ideal := fun m ρ _ =>
  (θ_run Cert.Reference3Ideal.defs _ _).mono (fun r h => ⟨fun c => ⟨(h c).2.1, (h c).2.2⟩,
    Idealize.ShloMosaic.sem_eq_zero_of_no_sems (by decide) r.2⟩) (Cert.Reference3Ideal.Value.run (F := Ideal) m ρ)

/-- The reference `Reference4Ideal` leaves its arguments and every counter as they were. -/
theorem reference4Ideal_frame : quiescent_Reference4Ideal := fun m ρ _ =>
  (θ_run Cert.Reference4Ideal.defs _ _).mono (fun r h => ⟨fun c => ⟨(h c).2.1, (h c).2.2.1, (h c).2.2.2.1, (h c).2.2.2.2.1, (h c).2.2.2.2.2⟩,
    Idealize.ShloMosaic.sem_eq_zero_of_no_sems (by decide) r.2⟩) (Cert.Reference4Ideal.Value.run (F := Ideal) m ρ)

/-- The reference `Reference5Ideal` leaves its arguments and every counter as they were. -/
theorem reference5Ideal_frame : quiescent_Reference5Ideal := fun m ρ _ =>
  (θ_run Cert.Reference5Ideal.defs _ _).mono (fun r h => ⟨fun c => ⟨(h c).2.2.1, (h c).2.2.2.1, (h c).2.2.2.2.1, (h c).2.2.2.2.2.1, (h c).2.2.2.2.2.2⟩,
    Idealize.ShloMosaic.sem_eq_zero_of_no_sems (by decide) r.2⟩) (Cert.Reference5Ideal.Value.run (F := Ideal) m ρ)

/-- The reference `Reference6Ideal` leaves its arguments and every counter as they were. -/
theorem reference6Ideal_frame : quiescent_Reference6Ideal := fun m ρ _ =>
  (θ_run Cert.Reference6Ideal.defs _ _).mono (fun r h => ⟨fun c => ⟨(h c).2.1, (h c).2.2.1, (h c).2.2.2.1, (h c).2.2.2.2.1, (h c).2.2.2.2.2.1, (h c).2.2.2.2.2.2⟩,
    Idealize.ShloMosaic.sem_eq_zero_of_no_sems (by decide) r.2⟩) (Cert.Reference6Ideal.Value.run (F := Ideal) m ρ)

/-- The reference `Reference7Ideal` leaves its arguments and every counter as they were. -/
theorem reference7Ideal_frame : quiescent_Reference7Ideal := fun m ρ _ =>
  (θ_run Cert.Reference7Ideal.defs _ _).mono (fun r h => ⟨fun c => ⟨(h c).2.1, (h c).2.2⟩,
    Idealize.ShloMosaic.sem_eq_zero_of_no_sems (by decide) r.2⟩) (Cert.Reference7Ideal.Value.run (F := Ideal) m ρ)

/-- The reference `Reference8Ideal` leaves its arguments and every counter as they were. -/
theorem reference8Ideal_frame : quiescent_Reference8Ideal := fun m ρ _ =>
  (θ_run Cert.Reference8Ideal.defs _ _).mono (fun r h => ⟨fun c => ⟨(h c).2.1, (h c).2.2⟩,
    Idealize.ShloMosaic.sem_eq_zero_of_no_sems (by decide) r.2⟩) (Cert.Reference8Ideal.Value.run (F := Ideal) m ρ)

/-- The reference `Reference9Ideal` leaves its arguments and every counter as they were. -/
theorem reference9Ideal_frame : quiescent_Reference9Ideal := fun m ρ _ =>
  (θ_run Cert.Reference9Ideal.defs _ _).mono (fun r h => ⟨fun c => ⟨(h c).2.1, (h c).2.2⟩,
    Idealize.ShloMosaic.sem_eq_zero_of_no_sems (by decide) r.2⟩) (Cert.Reference9Ideal.Value.run (F := Ideal) m ρ)

/-- The reference `Reference10Ideal` leaves its arguments and every counter as they were. -/
theorem reference10Ideal_frame : quiescent_Reference10Ideal := fun m ρ _ =>
  (θ_run Cert.Reference10Ideal.defs _ _).mono (fun r h => ⟨fun c => ⟨(h c).2.1, (h c).2.2.1, (h c).2.2.2.1, (h c).2.2.2.2.1, (h c).2.2.2.2.2⟩,
    Idealize.ShloMosaic.sem_eq_zero_of_no_sems (by decide) r.2⟩) (Cert.Reference10Ideal.Value.run (F := Ideal) m ρ)

/-- The reference `Reference14Ideal` leaves its arguments and every counter as they were. -/
theorem reference14Ideal_frame : quiescent_Reference14Ideal := fun m ρ _ =>
  (θ_run Cert.Reference14Ideal.defs _ _).mono (fun r h => ⟨fun c => ⟨(h c).2.1, (h c).2.2⟩,
    Idealize.ShloMosaic.sem_eq_zero_of_no_sems (by decide) r.2⟩) (Cert.Reference14Ideal.Value.run (F := Ideal) m ρ)

/-- The reference `Reference15Ideal` leaves its arguments and every counter as they were. -/
theorem reference15Ideal_frame : quiescent_Reference15Ideal := fun m ρ _ =>
  (θ_run Cert.Reference15Ideal.defs _ _).mono (fun r h => ⟨fun c => ⟨(h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2⟩,
    Idealize.ShloMosaic.sem_eq_zero_of_no_sems (by decide) r.2⟩) (Cert.Reference15Ideal.Value.run (F := Ideal) m ρ)

/-- The reference `Reference12Ideal` leaves its arguments and every counter as they were. -/
theorem reference12Ideal_frame : quiescent_Reference12Ideal := fun m ρ _ =>
  (θ_run Cert.Reference12Ideal.defs _ _).mono (fun r h => ⟨fun c => ⟨(h c).2.1, (h c).2.2⟩,
    Idealize.ShloMosaic.sem_eq_zero_of_no_sems (by decide) r.2⟩) (Cert.Reference12Ideal.Value.run (F := Ideal) m ρ)

/-- The reference `Reference13Ideal` leaves its arguments and every counter as they were. -/
theorem reference13Ideal_frame : quiescent_Reference13Ideal := fun m ρ _ =>
  (θ_run Cert.Reference13Ideal.defs _ _).mono (fun r h => ⟨fun c => ⟨(h c).2.1, (h c).2.2⟩,
    Idealize.ShloMosaic.sem_eq_zero_of_no_sems (by decide) r.2⟩) (Cert.Reference13Ideal.Value.run (F := Ideal) m ρ)

/-- Every claim about the programs. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Pre_steps_finite.Gen.facts, Cert.Pre_experts_named.Gen.facts, Cert.Pre_sample_steps_finite.Gen.facts,
  fun m ρ _ => Cert.Kernel.Gen.frame m ρ,
  fun m ρ _ => Cert.KernelIdeal.Gen.frame m ρ,
  fun m ρ _ => Cert.KernelIdeal.Gen.frame m ρ,
  referenceIdeal_frame,
  fun m ρ _ => referenceIdeal_frame m ρ trivial,
  fun m ρ _ => Cert.Kernel2.Gen.frame m ρ,
  fun m ρ _ => Cert.Kernel2Ideal.Gen.frame m ρ,
  reference2Ideal_frame,
  fun m ρ _ => Cert.Kernel3.Gen.frame m ρ,
  fun m ρ _ => Cert.Kernel3Ideal.Gen.frame m ρ,
  reference3Ideal_frame,
  fun m ρ _ => Cert.Kernel4.Gen.frame m ρ,
  fun m ρ _ => Cert.Kernel4Ideal.Gen.frame m ρ,
  reference4Ideal_frame,
  fun m ρ _ => Cert.Kernel5.Gen.frame m ρ,
  fun m ρ _ => Cert.Kernel5Ideal.Gen.frame m ρ,
  reference5Ideal_frame,
  experts_frame,
  experts_ideal_frame,
  reference6Ideal_frame,
  fun m ρ _ => reference6Ideal_frame m ρ trivial,
  fun m ρ _ => Cert.Kernel7.Gen.frame m ρ,
  fun m ρ _ => Cert.Kernel7Ideal.Gen.frame m ρ,
  reference7Ideal_frame,
  fun m ρ _ => Cert.Kernel8.Gen.frame m ρ,
  fun m ρ _ => Cert.Kernel8Ideal.Gen.frame m ρ,
  reference8Ideal_frame,
  fun m ρ _ => Cert.Kernel9.Gen.frame m ρ,
  fun m ρ _ => Cert.Kernel9Ideal.Gen.frame m ρ,
  reference9Ideal_frame,
  fun m ρ _ => Cert.Kernel10.Gen.frame m ρ,
  fun m ρ _ => Cert.Kernel10Ideal.Gen.frame m ρ,
  reference10Ideal_frame,
  fun m ρ _ => Cert.Kernel14.Gen.frame m ρ,
  fun m ρ _ => Cert.Kernel14Ideal.Gen.frame m ρ,
  reference14Ideal_frame,
  fun m ρ _ => Cert.Kernel15.Gen.frame m ρ,
  fun m ρ _ => Cert.Kernel15Ideal.Gen.frame m ρ,
  fun m ρ _ => Cert.Kernel15Ideal.Gen.frame m ρ,
  reference15Ideal_frame,
  fun m ρ _ => reference15Ideal_frame m ρ trivial,
  fun m ρ _ => Cert.Kernel12.Gen.frame m ρ,
  fun m ρ _ => Cert.Kernel12Ideal.Gen.frame m ρ,
  reference12Ideal_frame,
  fun m ρ _ => Cert.Kernel13.Gen.frame m ρ,
  fun m ρ _ => Cert.Kernel13Ideal.Gen.frame m ρ,
  reference13Ideal_frame,
  trivial,
  algebraic,
  trivial,
  algebraic2,
  trivial,
  algebraic3,
  trivial,
  algebraic4,
  trivial,
  algebraic5,
  trivial,
  algebraic6,
  trivial,
  algebraic7,
  trivial,
  algebraic8,
  trivial,
  algebraic9,
  trivial,
  algebraic10,
  trivial,
  algebraic14,
  trivial,
  algebraic15,
  trivial,
  algebraic12,
  trivial,
  algebraic13⟩

end Cert.Proof

end
